-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDownSample (m : (ℓ : Loc Cert.FfnDownSample.nD Cert.FfnDownSample.τ Cert.FfnDownSample.sig) → Buf (Elt Bits) ℓ) : Prop :=
  True

def Pre_FfnDownSampleIdeal (m : (ℓ : Loc Cert.FfnDownSampleIdeal.nD Cert.FfnDownSampleIdeal.τ Cert.FfnDownSampleIdeal.sig) → Buf (Elt Ideal) ℓ) : Prop :=
  True

def Pre_FfnDownSampleReferenceIdeal (m : (ℓ : Loc Cert.FfnDownSampleReferenceIdeal.nD Cert.FfnDownSampleReferenceIdeal.τ Cert.FfnDownSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def Pre_FfnUpSample (m : (ℓ : Loc Cert.FfnUpSample.nD Cert.FfnUpSample.τ Cert.FfnUpSample.sig) → Buf (Elt Bits) ℓ) : Prop :=
  True

def Pre_FfnUpSampleIdeal (m : (ℓ : Loc Cert.FfnUpSampleIdeal.nD Cert.FfnUpSampleIdeal.τ Cert.FfnUpSampleIdeal.sig) → Buf (Elt Ideal) ℓ) : Prop :=
  True

def Pre_FfnUpSampleReferenceIdeal (m : (ℓ : Loc Cert.FfnUpSampleReferenceIdeal.nD Cert.FfnUpSampleReferenceIdeal.τ Cert.FfnUpSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4)
      ∧ r.2.mem ((c.tc : Thread Cert.FfnUpReferenceIdeal.nD Cert.FfnUpReferenceIdeal.τ).loc Cert.FfnUpReferenceIdeal.main_arg5) = m ((c.tc : Thread Cert.FfnUpReferenceIdeal.nD Cert.FfnUpReferenceIdeal.τ).loc Cert.FfnUpReferenceIdeal.main_arg5))
      ∧ r.2.sem = fun _ => 0)

def quiescent_FfnDownSample [hFfnDownSample : Cert.FfnDownSample.Facts] : Prop :=
  ∀ (m : (ℓ : Loc Cert.FfnDownSample.nD Cert.FfnDownSample.τ Cert.FfnDownSample.sig) → Buf (Elt Bits) ℓ) (g : Dev Cert.FfnDownSample.nD → PrngReg), Pre_FfnDownSample m →
    θ_run (Cert.FfnDownSample.defs (F := Bits)) (onTc (τ := Cert.FfnDownSample.τ) (Cert.FfnDownSample.main (F := Bits))) ⟨m, fun _ => 0, g⟩ (fun r => (∀ c : Dev Cert.FfnDownSample.nD,
      r.2.mem ((c.tc : Thread Cert.FfnDownSample.nD Cert.FfnDownSample.τ).loc Cert.FfnDownSample.main_arg0) = m ((c.tc : Thread Cert.FfnDownSample.nD Cert.FfnDownSample.τ).loc Cert.FfnDownSample.main_arg0)
      ∧ r.2.mem ((c.tc : Thread Cert.FfnDownSample.nD Cert.FfnDownSample.τ).loc Cert.FfnDownSample.main_arg1) = m ((c.tc : Thread Cert.FfnDownSample.nD Cert.FfnDownSample.τ).loc Cert.FfnDownSample.main_arg1)
      ∧ r.2.mem ((c.tc : Thread Cert.FfnDownSample.nD Cert.FfnDownSample.τ).loc Cert.FfnDownSample.main_arg2) = m ((c.tc : Thread Cert.FfnDownSample.nD Cert.FfnDownSample.τ).loc Cert.FfnDownSample.main_arg2))
      ∧ r.2.sem = fun _ => 0)

def quiescent_FfnDownSampleIdeal [hFfnDownSampleIdeal : Cert.FfnDownSampleIdeal.Facts] : Prop :=
  ∀ (m : (ℓ : Loc Cert.FfnDownSampleIdeal.nD Cert.FfnDownSampleIdeal.τ Cert.FfnDownSampleIdeal.sig) → Buf (Elt Ideal) ℓ) (g : Dev Cert.FfnDownSampleIdeal.nD → PrngReg), Pre_FfnDownSampleIdeal m →
    θ_run (Cert.FfnDownSampleIdeal.defs (F := Ideal)) (onTc (τ := Cert.FfnDownSampleIdeal.τ) (Cert.FfnDownSampleIdeal.main (F := Ideal))) ⟨m, fun _ => 0, g⟩ (fun r => (∀ c : Dev Cert.FfnDownSampleIdeal.nD,
      r.2.mem ((c.tc : Thread Cert.FfnDownSampleIdeal.nD Cert.FfnDownSampleIdeal.τ).loc Cert.FfnDownSampleIdeal.main_arg0) = m ((c.tc : Thread Cert.FfnDownSampleIdeal.nD Cert.FfnDownSampleIdeal.τ).loc Cert.FfnDownSampleIdeal.main_arg0)
      ∧ r.2.mem ((c.tc : Thread Cert.FfnDownSampleIdeal.nD Cert.FfnDownSampleIdeal.τ).loc Cert.FfnDownSampleIdeal.main_arg1) = m ((c.tc : Thread Cert.FfnDownSampleIdeal.nD Cert.FfnDownSampleIdeal.τ).loc Cert.FfnDownSampleIdeal.main_arg1)
      ∧ r.2.mem ((c.tc : Thread Cert.FfnDownSampleIdeal.nD Cert.FfnDownSampleIdeal.τ).loc Cert.FfnDownSampleIdeal.main_arg2) = m ((c.tc : Thread Cert.FfnDownSampleIdeal.nD Cert.FfnDownSampleIdeal.τ).loc Cert.FfnDownSampleIdeal.main_arg2))
      ∧ r.2.sem = fun _ => 0)

def quiescent_FfnDownSampleReferenceIdeal [hFfnDownSampleReferenceIdeal : Cert.FfnDownSampleReferenceIdeal.Facts] : Prop :=
  ∀ (m : (ℓ : Loc Cert.FfnDownSampleReferenceIdeal.nD Cert.FfnDownSampleReferenceIdeal.τ Cert.FfnDownSampleReferenceIdeal.sig) → Buf (Elt Ideal) ℓ) (g : Dev Cert.FfnDownSampleReferenceIdeal.nD → PrngReg), Pre_FfnDownSampleReferenceIdeal m →
    θ_run (Cert.FfnDownSampleReferenceIdeal.defs (F := Ideal)) (onTc (τ := Cert.FfnDownSampleReferenceIdeal.τ) (Cert.FfnDownSampleReferenceIdeal.main (F := Ideal))) ⟨m, fun _ => 0, g⟩ (fun r => (∀ c : Dev Cert.FfnDownSampleReferenceIdeal.nD,
      r.2.mem ((c.tc : Thread Cert.FfnDownSampleReferenceIdeal.nD Cert.FfnDownSampleReferenceIdeal.τ).loc Cert.FfnDownSampleReferenceIdeal.main_arg0) = m ((c.tc : Thread Cert.FfnDownSampleReferenceIdeal.nD Cert.FfnDownSampleReferenceIdeal.τ).loc Cert.FfnDownSampleReferenceIdeal.main_arg0)
      ∧ r.2.mem ((c.tc : Thread Cert.FfnDownSampleReferenceIdeal.nD Cert.FfnDownSampleReferenceIdeal.τ).loc Cert.FfnDownSampleReferenceIdeal.main_arg1) = m ((c.tc : Thread Cert.FfnDownSampleReferenceIdeal.nD Cert.FfnDownSampleReferenceIdeal.τ).loc Cert.FfnDownSampleReferenceIdeal.main_arg1)
      ∧ r.2.mem ((c.tc : Thread Cert.FfnDownSampleReferenceIdeal.nD Cert.FfnDownSampleReferenceIdeal.τ).loc Cert.FfnDownSampleReferenceIdeal.main_arg2) = m ((c.tc : Thread Cert.FfnDownSampleReferenceIdeal.nD Cert.FfnDownSampleReferenceIdeal.τ).loc Cert.FfnDownSampleReferenceIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1)
      ∧ r.2.mem ((c.tc : Thread Cert.InProjSampleReferenceIdeal.nD Cert.InProjSampleReferenceIdeal.τ).loc Cert.InProjSampleReferenceIdeal.main_arg2) = m ((c.tc : Thread Cert.InProjSampleReferenceIdeal.nD Cert.InProjSampleReferenceIdeal.τ).loc Cert.InProjSampleReferenceIdeal.main_arg2))
      ∧ r.2.sem = fun _ => 0)

def quiescent_FfnUpSample [hFfnUpSample : Cert.FfnUpSample.Facts] : Prop :=
  ∀ (m : (ℓ : Loc Cert.FfnUpSample.nD Cert.FfnUpSample.τ Cert.FfnUpSample.sig) → Buf (Elt Bits) ℓ) (g : Dev Cert.FfnUpSample.nD → PrngReg), Pre_FfnUpSample m →
    θ_run (Cert.FfnUpSample.defs (F := Bits)) (onTc (τ := Cert.FfnUpSample.τ) (Cert.FfnUpSample.main (F := Bits))) ⟨m, fun _ => 0, g⟩ (fun r => (∀ c : Dev Cert.FfnUpSample.nD,
      r.2.mem ((c.tc : Thread Cert.FfnUpSample.nD Cert.FfnUpSample.τ).loc Cert.FfnUpSample.main_arg0) = m ((c.tc : Thread Cert.FfnUpSample.nD Cert.FfnUpSample.τ).loc Cert.FfnUpSample.main_arg0)
      ∧ r.2.mem ((c.tc : Thread Cert.FfnUpSample.nD Cert.FfnUpSample.τ).loc Cert.FfnUpSample.main_arg1) = m ((c.tc : Thread Cert.FfnUpSample.nD Cert.FfnUpSample.τ).loc Cert.FfnUpSample.main_arg1)
      ∧ r.2.mem ((c.tc : Thread Cert.FfnUpSample.nD Cert.FfnUpSample.τ).loc Cert.FfnUpSample.main_arg2) = m ((c.tc : Thread Cert.FfnUpSample.nD Cert.FfnUpSample.τ).loc Cert.FfnUpSample.main_arg2)
      ∧ r.2.mem ((c.tc : Thread Cert.FfnUpSample.nD Cert.FfnUpSample.τ).loc Cert.FfnUpSample.main_arg3) = m ((c.tc : Thread Cert.FfnUpSample.nD Cert.FfnUpSample.τ).loc Cert.FfnUpSample.main_arg3)
      ∧ r.2.mem ((c.tc : Thread Cert.FfnUpSample.nD Cert.FfnUpSample.τ).loc Cert.FfnUpSample.main_arg4) = m ((c.tc : Thread Cert.FfnUpSample.nD Cert.FfnUpSample.τ).loc Cert.FfnUpSample.main_arg4)
      ∧ r.2.mem ((c.tc : Thread Cert.FfnUpSample.nD Cert.FfnUpSample.τ).loc Cert.FfnUpSample.main_arg5) = m ((c.tc : Thread Cert.FfnUpSample.nD Cert.FfnUpSample.τ).loc Cert.FfnUpSample.main_arg5))
      ∧ r.2.sem = fun _ => 0)

def quiescent_FfnUpSampleIdeal [hFfnUpSampleIdeal : Cert.FfnUpSampleIdeal.Facts] : Prop :=
  ∀ (m : (ℓ : Loc Cert.FfnUpSampleIdeal.nD Cert.FfnUpSampleIdeal.τ Cert.FfnUpSampleIdeal.sig) → Buf (Elt Ideal) ℓ) (g : Dev Cert.FfnUpSampleIdeal.nD → PrngReg), Pre_FfnUpSampleIdeal m →
    θ_run (Cert.FfnUpSampleIdeal.defs (F := Ideal)) (onTc (τ := Cert.FfnUpSampleIdeal.τ) (Cert.FfnUpSampleIdeal.main (F := Ideal))) ⟨m, fun _ => 0, g⟩ (fun r => (∀ c : Dev Cert.FfnUpSampleIdeal.nD,
      r.2.mem ((c.tc : Thread Cert.FfnUpSampleIdeal.nD Cert.FfnUpSampleIdeal.τ).loc Cert.FfnUpSampleIdeal.main_arg0) = m ((c.tc : Thread Cert.FfnUpSampleIdeal.nD Cert.FfnUpSampleIdeal.τ).loc Cert.FfnUpSampleIdeal.main_arg0)
      ∧ r.2.mem ((c.tc : Thread Cert.FfnUpSampleIdeal.nD Cert.FfnUpSampleIdeal.τ).loc Cert.FfnUpSampleIdeal.main_arg1) = m ((c.tc : Thread Cert.FfnUpSampleIdeal.nD Cert.FfnUpSampleIdeal.τ).loc Cert.FfnUpSampleIdeal.main_arg1)
      ∧ r.2.mem ((c.tc : Thread Cert.FfnUpSampleIdeal.nD Cert.FfnUpSampleIdeal.τ).loc Cert.FfnUpSampleIdeal.main_arg2) = m ((c.tc : Thread Cert.FfnUpSampleIdeal.nD Cert.FfnUpSampleIdeal.τ).loc Cert.FfnUpSampleIdeal.main_arg2)
      ∧ r.2.mem ((c.tc : Thread Cert.FfnUpSampleIdeal.nD Cert.FfnUpSampleIdeal.τ).loc Cert.FfnUpSampleIdeal.main_arg3) = m ((c.tc : Thread Cert.FfnUpSampleIdeal.nD Cert.FfnUpSampleIdeal.τ).loc Cert.FfnUpSampleIdeal.main_arg3)
      ∧ r.2.mem ((c.tc : Thread Cert.FfnUpSampleIdeal.nD Cert.FfnUpSampleIdeal.τ).loc Cert.FfnUpSampleIdeal.main_arg4) = m ((c.tc : Thread Cert.FfnUpSampleIdeal.nD Cert.FfnUpSampleIdeal.τ).loc Cert.FfnUpSampleIdeal.main_arg4)
      ∧ r.2.mem ((c.tc : Thread Cert.FfnUpSampleIdeal.nD Cert.FfnUpSampleIdeal.τ).loc Cert.FfnUpSampleIdeal.main_arg5) = m ((c.tc : Thread Cert.FfnUpSampleIdeal.nD Cert.FfnUpSampleIdeal.τ).loc Cert.FfnUpSampleIdeal.main_arg5))
      ∧ r.2.sem = fun _ => 0)

def quiescent_FfnUpSampleReferenceIdeal [hFfnUpSampleReferenceIdeal : Cert.FfnUpSampleReferenceIdeal.Facts] : Prop :=
  ∀ (m : (ℓ : Loc Cert.FfnUpSampleReferenceIdeal.nD Cert.FfnUpSampleReferenceIdeal.τ Cert.FfnUpSampleReferenceIdeal.sig) → Buf (Elt Ideal) ℓ) (g : Dev Cert.FfnUpSampleReferenceIdeal.nD → PrngReg), Pre_FfnUpSampleReferenceIdeal m →
    θ_run (Cert.FfnUpSampleReferenceIdeal.defs (F := Ideal)) (onTc (τ := Cert.FfnUpSampleReferenceIdeal.τ) (Cert.FfnUpSampleReferenceIdeal.main (F := Ideal))) ⟨m, fun _ => 0, g⟩ (fun r => (∀ c : Dev Cert.FfnUpSampleReferenceIdeal.nD,
      r.2.mem ((c.tc : Thread Cert.FfnUpSampleReferenceIdeal.nD Cert.FfnUpSampleReferenceIdeal.τ).loc Cert.FfnUpSampleReferenceIdeal.main_arg0) = m ((c.tc : Thread Cert.FfnUpSampleReferenceIdeal.nD Cert.FfnUpSampleReferenceIdeal.τ).loc Cert.FfnUpSampleReferenceIdeal.main_arg0)
      ∧ r.2.mem ((c.tc : Thread Cert.FfnUpSampleReferenceIdeal.nD Cert.FfnUpSampleReferenceIdeal.τ).loc Cert.FfnUpSampleReferenceIdeal.main_arg1) = m ((c.tc : Thread Cert.FfnUpSampleReferenceIdeal.nD Cert.FfnUpSampleReferenceIdeal.τ).loc Cert.FfnUpSampleReferenceIdeal.main_arg1)
      ∧ r.2.mem ((c.tc : Thread Cert.FfnUpSampleReferenceIdeal.nD Cert.FfnUpSampleReferenceIdeal.τ).loc Cert.FfnUpSampleReferenceIdeal.main_arg2) = m ((c.tc : Thread Cert.FfnUpSampleReferenceIdeal.nD Cert.FfnUpSampleReferenceIdeal.τ).loc Cert.FfnUpSampleReferenceIdeal.main_arg2)
      ∧ r.2.mem ((c.tc : Thread Cert.FfnUpSampleReferenceIdeal.nD Cert.FfnUpSampleReferenceIdeal.τ).loc Cert.FfnUpSampleReferenceIdeal.main_arg3) = m ((c.tc : Thread Cert.FfnUpSampleReferenceIdeal.nD Cert.FfnUpSampleReferenceIdeal.τ).loc Cert.FfnUpSampleReferenceIdeal.main_arg3)
      ∧ r.2.mem ((c.tc : Thread Cert.FfnUpSampleReferenceIdeal.nD Cert.FfnUpSampleReferenceIdeal.τ).loc Cert.FfnUpSampleReferenceIdeal.main_arg4) = m ((c.tc : Thread Cert.FfnUpSampleReferenceIdeal.nD Cert.FfnUpSampleReferenceIdeal.τ).loc Cert.FfnUpSampleReferenceIdeal.main_arg4)
      ∧ r.2.mem ((c.tc : Thread Cert.FfnUpSampleReferenceIdeal.nD Cert.FfnUpSampleReferenceIdeal.τ).loc Cert.FfnUpSampleReferenceIdeal.main_arg5) = m ((c.tc : Thread Cert.FfnUpSampleReferenceIdeal.nD Cert.FfnUpSampleReferenceIdeal.τ).loc Cert.FfnUpSampleReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v18) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)
      ∧ m' ((c.tc : Thread Cert.FfnUpReferenceIdeal.nD Cert.FfnUpReferenceIdeal.τ).loc Cert.FfnUpReferenceIdeal.main_arg4) = m ((c.tc : Thread Cert.FfnUpIdeal.nD Cert.FfnUpIdeal.τ).loc Cert.FfnUpIdeal.main_arg4)
      ∧ m' ((c.tc : Thread Cert.FfnUpReferenceIdeal.nD Cert.FfnUpReferenceIdeal.τ).loc Cert.FfnUpReferenceIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v6)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v6) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v44) = v0 c
          ∧ r.2.mem ((c.tc : Thread Cert.FfnUpReferenceIdeal.nD Cert.FfnUpReferenceIdeal.τ).loc Cert.FfnUpReferenceIdeal.main_v45) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3)
          ∧ r.2.mem ((c.tc : Thread Cert.FfnUpReferenceIdeal.nD Cert.FfnUpReferenceIdeal.τ).loc Cert.FfnUpReferenceIdeal.main_arg4) = m' ((c.tc : Thread Cert.FfnUpReferenceIdeal.nD Cert.FfnUpReferenceIdeal.τ).loc Cert.FfnUpReferenceIdeal.main_arg4)
          ∧ r.2.mem ((c.tc : Thread Cert.FfnUpReferenceIdeal.nD Cert.FfnUpReferenceIdeal.τ).loc Cert.FfnUpReferenceIdeal.main_arg5) = m' ((c.tc : Thread Cert.FfnUpReferenceIdeal.nD Cert.FfnUpReferenceIdeal.τ).loc Cert.FfnUpReferenceIdeal.main_arg5))

def preserves_FfnDownSample_FfnDownSampleIdeal : Prop :=
  True

def algebraic_FfnDownSampleIdeal_FfnDownSampleReferenceIdeal [hFfnDownSampleIdeal : Cert.FfnDownSampleIdeal.Facts] [hFfnDownSampleReferenceIdeal : Cert.FfnDownSampleReferenceIdeal.Facts] : Prop :=
  ∀ (m : (ℓ : Loc Cert.FfnDownSampleIdeal.nD Cert.FfnDownSampleIdeal.τ Cert.FfnDownSampleIdeal.sig) → Buf (Elt Ideal) ℓ) (g : Dev Cert.FfnDownSampleIdeal.nD → PrngReg)
    (m' : (ℓ : Loc Cert.FfnDownSampleReferenceIdeal.nD Cert.FfnDownSampleReferenceIdeal.τ Cert.FfnDownSampleReferenceIdeal.sig) → Buf (Elt Ideal) ℓ) (g' : Dev Cert.FfnDownSampleReferenceIdeal.nD → PrngReg), Pre_FfnDownSampleIdeal m →
    (∀ c : Dev Cert.FfnDownSampleIdeal.nD,
      m' ((c.tc : Thread Cert.FfnDownSampleReferenceIdeal.nD Cert.FfnDownSampleReferenceIdeal.τ).loc Cert.FfnDownSampleReferenceIdeal.main_arg0) = m ((c.tc : Thread Cert.FfnDownSampleIdeal.nD Cert.FfnDownSampleIdeal.τ).loc Cert.FfnDownSampleIdeal.main_arg0)
      ∧ m' ((c.tc : Thread Cert.FfnDownSampleReferenceIdeal.nD Cert.FfnDownSampleReferenceIdeal.τ).loc Cert.FfnDownSampleReferenceIdeal.main_arg1) = m ((c.tc : Thread Cert.FfnDownSampleIdeal.nD Cert.FfnDownSampleIdeal.τ).loc Cert.FfnDownSampleIdeal.main_arg1)
      ∧ m' ((c.tc : Thread Cert.FfnDownSampleReferenceIdeal.nD Cert.FfnDownSampleReferenceIdeal.τ).loc Cert.FfnDownSampleReferenceIdeal.main_arg2) = m ((c.tc : Thread Cert.FfnDownSampleIdeal.nD Cert.FfnDownSampleIdeal.τ).loc Cert.FfnDownSampleIdeal.main_arg2)) →
    ∃ (v0 : (c : Dev Cert.FfnDownSampleIdeal.nD) → Buf (Elt Ideal) ((c.tc : Thread Cert.FfnDownSampleIdeal.nD Cert.FfnDownSampleIdeal.τ).loc Cert.FfnDownSampleIdeal.main_v1)),
      θ_run (Cert.FfnDownSampleIdeal.defs (F := Ideal)) (onTc (τ := Cert.FfnDownSampleIdeal.τ) (Cert.FfnDownSampleIdeal.main (F := Ideal))) ⟨m, fun _ => 0, g⟩ (fun r => ∀ c : Dev Cert.FfnDownSampleIdeal.nD,
          r.2.mem ((c.tc : Thread Cert.FfnDownSampleIdeal.nD Cert.FfnDownSampleIdeal.τ).loc Cert.FfnDownSampleIdeal.main_v1) = v0 c
          ∧ r.2.mem ((c.tc : Thread Cert.FfnDownSampleIdeal.nD Cert.FfnDownSampleIdeal.τ).loc Cert.FfnDownSampleIdeal.main_arg0) = m ((c.tc : Thread Cert.FfnDownSampleIdeal.nD Cert.FfnDownSampleIdeal.τ).loc Cert.FfnDownSampleIdeal.main_arg0)
          ∧ r.2.mem ((c.tc : Thread Cert.FfnDownSampleIdeal.nD Cert.FfnDownSampleIdeal.τ).loc Cert.FfnDownSampleIdeal.main_arg1) = m ((c.tc : Thread Cert.FfnDownSampleIdeal.nD Cert.FfnDownSampleIdeal.τ).loc Cert.FfnDownSampleIdeal.main_arg1)
          ∧ r.2.mem ((c.tc : Thread Cert.FfnDownSampleIdeal.nD Cert.FfnDownSampleIdeal.τ).loc Cert.FfnDownSampleIdeal.main_arg2) = m ((c.tc : Thread Cert.FfnDownSampleIdeal.nD Cert.FfnDownSampleIdeal.τ).loc Cert.FfnDownSampleIdeal.main_arg2))
      ∧ θ_run (Cert.FfnDownSampleReferenceIdeal.defs (F := Ideal)) (onTc (τ := Cert.FfnDownSampleReferenceIdeal.τ) (Cert.FfnDownSampleReferenceIdeal.main (F := Ideal))) ⟨m', fun _ => 0, g'⟩ (fun r => ∀ c : Dev Cert.FfnDownSampleReferenceIdeal.nD,
          r.2.mem ((c.tc : Thread Cert.FfnDownSampleReferenceIdeal.nD Cert.FfnDownSampleReferenceIdeal.τ).loc Cert.FfnDownSampleReferenceIdeal.main_v2) = v0 c
          ∧ r.2.mem ((c.tc : Thread Cert.FfnDownSampleReferenceIdeal.nD Cert.FfnDownSampleReferenceIdeal.τ).loc Cert.FfnDownSampleReferenceIdeal.main_arg0) = m' ((c.tc : Thread Cert.FfnDownSampleReferenceIdeal.nD Cert.FfnDownSampleReferenceIdeal.τ).loc Cert.FfnDownSampleReferenceIdeal.main_arg0)
          ∧ r.2.mem ((c.tc : Thread Cert.FfnDownSampleReferenceIdeal.nD Cert.FfnDownSampleReferenceIdeal.τ).loc Cert.FfnDownSampleReferenceIdeal.main_arg1) = m' ((c.tc : Thread Cert.FfnDownSampleReferenceIdeal.nD Cert.FfnDownSampleReferenceIdeal.τ).loc Cert.FfnDownSampleReferenceIdeal.main_arg1)
          ∧ r.2.mem ((c.tc : Thread Cert.FfnDownSampleReferenceIdeal.nD Cert.FfnDownSampleReferenceIdeal.τ).loc Cert.FfnDownSampleReferenceIdeal.main_arg2) = m' ((c.tc : Thread Cert.FfnDownSampleReferenceIdeal.nD Cert.FfnDownSampleReferenceIdeal.τ).loc Cert.FfnDownSampleReferenceIdeal.main_arg2))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)
      ∧ m' ((c.tc : Thread Cert.InProjSampleReferenceIdeal.nD Cert.InProjSampleReferenceIdeal.τ).loc Cert.InProjSampleReferenceIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v6)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v6) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v18) = v0 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1)
          ∧ r.2.mem ((c.tc : Thread Cert.InProjSampleReferenceIdeal.nD Cert.InProjSampleReferenceIdeal.τ).loc Cert.InProjSampleReferenceIdeal.main_arg2) = m' ((c.tc : Thread Cert.InProjSampleReferenceIdeal.nD Cert.InProjSampleReferenceIdeal.τ).loc Cert.InProjSampleReferenceIdeal.main_arg2))

def preserves_FfnUpSample_FfnUpSampleIdeal : Prop :=
  True

def algebraic_FfnUpSampleIdeal_FfnUpSampleReferenceIdeal [hFfnUpSampleIdeal : Cert.FfnUpSampleIdeal.Facts] [hFfnUpSampleReferenceIdeal : Cert.FfnUpSampleReferenceIdeal.Facts] : Prop :=
  ∀ (m : (ℓ : Loc Cert.FfnUpSampleIdeal.nD Cert.FfnUpSampleIdeal.τ Cert.FfnUpSampleIdeal.sig) → Buf (Elt Ideal) ℓ) (g : Dev Cert.FfnUpSampleIdeal.nD → PrngReg)
    (m' : (ℓ : Loc Cert.FfnUpSampleReferenceIdeal.nD Cert.FfnUpSampleReferenceIdeal.τ Cert.FfnUpSampleReferenceIdeal.sig) → Buf (Elt Ideal) ℓ) (g' : Dev Cert.FfnUpSampleReferenceIdeal.nD → PrngReg), Pre_FfnUpSampleIdeal m →
    (∀ c : Dev Cert.FfnUpSampleIdeal.nD,
      m' ((c.tc : Thread Cert.FfnUpSampleReferenceIdeal.nD Cert.FfnUpSampleReferenceIdeal.τ).loc Cert.FfnUpSampleReferenceIdeal.main_arg0) = m ((c.tc : Thread Cert.FfnUpSampleIdeal.nD Cert.FfnUpSampleIdeal.τ).loc Cert.FfnUpSampleIdeal.main_arg0)
      ∧ m' ((c.tc : Thread Cert.FfnUpSampleReferenceIdeal.nD Cert.FfnUpSampleReferenceIdeal.τ).loc Cert.FfnUpSampleReferenceIdeal.main_arg1) = m ((c.tc : Thread Cert.FfnUpSampleIdeal.nD Cert.FfnUpSampleIdeal.τ).loc Cert.FfnUpSampleIdeal.main_arg1)
      ∧ m' ((c.tc : Thread Cert.FfnUpSampleReferenceIdeal.nD Cert.FfnUpSampleReferenceIdeal.τ).loc Cert.FfnUpSampleReferenceIdeal.main_arg2) = m ((c.tc : Thread Cert.FfnUpSampleIdeal.nD Cert.FfnUpSampleIdeal.τ).loc Cert.FfnUpSampleIdeal.main_arg2)
      ∧ m' ((c.tc : Thread Cert.FfnUpSampleReferenceIdeal.nD Cert.FfnUpSampleReferenceIdeal.τ).loc Cert.FfnUpSampleReferenceIdeal.main_arg3) = m ((c.tc : Thread Cert.FfnUpSampleIdeal.nD Cert.FfnUpSampleIdeal.τ).loc Cert.FfnUpSampleIdeal.main_arg3)
      ∧ m' ((c.tc : Thread Cert.FfnUpSampleReferenceIdeal.nD Cert.FfnUpSampleReferenceIdeal.τ).loc Cert.FfnUpSampleReferenceIdeal.main_arg4) = m ((c.tc : Thread Cert.FfnUpSampleIdeal.nD Cert.FfnUpSampleIdeal.τ).loc Cert.FfnUpSampleIdeal.main_arg4)
      ∧ m' ((c.tc : Thread Cert.FfnUpSampleReferenceIdeal.nD Cert.FfnUpSampleReferenceIdeal.τ).loc Cert.FfnUpSampleReferenceIdeal.main_arg5) = m ((c.tc : Thread Cert.FfnUpSampleIdeal.nD Cert.FfnUpSampleIdeal.τ).loc Cert.FfnUpSampleIdeal.main_arg5)) →
    ∃ (v0 : (c : Dev Cert.FfnUpSampleIdeal.nD) → Buf (Elt Ideal) ((c.tc : Thread Cert.FfnUpSampleIdeal.nD Cert.FfnUpSampleIdeal.τ).loc Cert.FfnUpSampleIdeal.main_v18_0)) (v1 : (c : Dev Cert.FfnUpSampleIdeal.nD) → Buf (Elt Ideal) ((c.tc : Thread Cert.FfnUpSampleIdeal.nD Cert.FfnUpSampleIdeal.τ).loc Cert.FfnUpSampleIdeal.main_v20)),
      θ_run (Cert.FfnUpSampleIdeal.defs (F := Ideal)) (onTc (τ := Cert.FfnUpSampleIdeal.τ) (Cert.FfnUpSampleIdeal.main (F := Ideal))) ⟨m, fun _ => 0, g⟩ (fun r => ∀ c : Dev Cert.FfnUpSampleIdeal.nD,
          r.2.mem ((c.tc : Thread Cert.FfnUpSampleIdeal.nD Cert.FfnUpSampleIdeal.τ).loc Cert.FfnUpSampleIdeal.main_v18_0) = v0 c
          ∧ r.2.mem ((c.tc : Thread Cert.FfnUpSampleIdeal.nD Cert.FfnUpSampleIdeal.τ).loc Cert.FfnUpSampleIdeal.main_v20) = v1 c
          ∧ r.2.mem ((c.tc : Thread Cert.FfnUpSampleIdeal.nD Cert.FfnUpSampleIdeal.τ).loc Cert.FfnUpSampleIdeal.main_arg0) = m ((c.tc : Thread Cert.FfnUpSampleIdeal.nD Cert.FfnUpSampleIdeal.τ).loc Cert.FfnUpSampleIdeal.main_arg0)
          ∧ r.2.mem ((c.tc : Thread Cert.FfnUpSampleIdeal.nD Cert.FfnUpSampleIdeal.τ).loc Cert.FfnUpSampleIdeal.main_arg1) = m ((c.tc : Thread Cert.FfnUpSampleIdeal.nD Cert.FfnUpSampleIdeal.τ).loc Cert.FfnUpSampleIdeal.main_arg1)
          ∧ r.2.mem ((c.tc : Thread Cert.FfnUpSampleIdeal.nD Cert.FfnUpSampleIdeal.τ).loc Cert.FfnUpSampleIdeal.main_arg2) = m ((c.tc : Thread Cert.FfnUpSampleIdeal.nD Cert.FfnUpSampleIdeal.τ).loc Cert.FfnUpSampleIdeal.main_arg2)
          ∧ r.2.mem ((c.tc : Thread Cert.FfnUpSampleIdeal.nD Cert.FfnUpSampleIdeal.τ).loc Cert.FfnUpSampleIdeal.main_arg3) = m ((c.tc : Thread Cert.FfnUpSampleIdeal.nD Cert.FfnUpSampleIdeal.τ).loc Cert.FfnUpSampleIdeal.main_arg3)
          ∧ r.2.mem ((c.tc : Thread Cert.FfnUpSampleIdeal.nD Cert.FfnUpSampleIdeal.τ).loc Cert.FfnUpSampleIdeal.main_arg4) = m ((c.tc : Thread Cert.FfnUpSampleIdeal.nD Cert.FfnUpSampleIdeal.τ).loc Cert.FfnUpSampleIdeal.main_arg4)
          ∧ r.2.mem ((c.tc : Thread Cert.FfnUpSampleIdeal.nD Cert.FfnUpSampleIdeal.τ).loc Cert.FfnUpSampleIdeal.main_arg5) = m ((c.tc : Thread Cert.FfnUpSampleIdeal.nD Cert.FfnUpSampleIdeal.τ).loc Cert.FfnUpSampleIdeal.main_arg5))
      ∧ θ_run (Cert.FfnUpSampleReferenceIdeal.defs (F := Ideal)) (onTc (τ := Cert.FfnUpSampleReferenceIdeal.τ) (Cert.FfnUpSampleReferenceIdeal.main (F := Ideal))) ⟨m', fun _ => 0, g'⟩ (fun r => ∀ c : Dev Cert.FfnUpSampleReferenceIdeal.nD,
          r.2.mem ((c.tc : Thread Cert.FfnUpSampleReferenceIdeal.nD Cert.FfnUpSampleReferenceIdeal.τ).loc Cert.FfnUpSampleReferenceIdeal.main_v44) = v0 c
          ∧ r.2.mem ((c.tc : Thread Cert.FfnUpSampleReferenceIdeal.nD Cert.FfnUpSampleReferenceIdeal.τ).loc Cert.FfnUpSampleReferenceIdeal.main_v45) = v1 c
          ∧ r.2.mem ((c.tc : Thread Cert.FfnUpSampleReferenceIdeal.nD Cert.FfnUpSampleReferenceIdeal.τ).loc Cert.FfnUpSampleReferenceIdeal.main_arg0) = m' ((c.tc : Thread Cert.FfnUpSampleReferenceIdeal.nD Cert.FfnUpSampleReferenceIdeal.τ).loc Cert.FfnUpSampleReferenceIdeal.main_arg0)
          ∧ r.2.mem ((c.tc : Thread Cert.FfnUpSampleReferenceIdeal.nD Cert.FfnUpSampleReferenceIdeal.τ).loc Cert.FfnUpSampleReferenceIdeal.main_arg1) = m' ((c.tc : Thread Cert.FfnUpSampleReferenceIdeal.nD Cert.FfnUpSampleReferenceIdeal.τ).loc Cert.FfnUpSampleReferenceIdeal.main_arg1)
          ∧ r.2.mem ((c.tc : Thread Cert.FfnUpSampleReferenceIdeal.nD Cert.FfnUpSampleReferenceIdeal.τ).loc Cert.FfnUpSampleReferenceIdeal.main_arg2) = m' ((c.tc : Thread Cert.FfnUpSampleReferenceIdeal.nD Cert.FfnUpSampleReferenceIdeal.τ).loc Cert.FfnUpSampleReferenceIdeal.main_arg2)
          ∧ r.2.mem ((c.tc : Thread Cert.FfnUpSampleReferenceIdeal.nD Cert.FfnUpSampleReferenceIdeal.τ).loc Cert.FfnUpSampleReferenceIdeal.main_arg3) = m' ((c.tc : Thread Cert.FfnUpSampleReferenceIdeal.nD Cert.FfnUpSampleReferenceIdeal.τ).loc Cert.FfnUpSampleReferenceIdeal.main_arg3)
          ∧ r.2.mem ((c.tc : Thread Cert.FfnUpSampleReferenceIdeal.nD Cert.FfnUpSampleReferenceIdeal.τ).loc Cert.FfnUpSampleReferenceIdeal.main_arg4) = m' ((c.tc : Thread Cert.FfnUpSampleReferenceIdeal.nD Cert.FfnUpSampleReferenceIdeal.τ).loc Cert.FfnUpSampleReferenceIdeal.main_arg4)
          ∧ r.2.mem ((c.tc : Thread Cert.FfnUpSampleReferenceIdeal.nD Cert.FfnUpSampleReferenceIdeal.τ).loc Cert.FfnUpSampleReferenceIdeal.main_arg5) = m' ((c.tc : Thread Cert.FfnUpSampleReferenceIdeal.nD Cert.FfnUpSampleReferenceIdeal.τ).loc Cert.FfnUpSampleReferenceIdeal.main_arg5))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjReferenceIdeal : Cert.OutProjReferenceIdeal.Facts) (hFfnDown : Cert.FfnDown.Facts) (hFfnDownIdeal : Cert.FfnDownIdeal.Facts) (hFfnDownReferenceIdeal : Cert.FfnDownReferenceIdeal.Facts) (hInProj : Cert.InProj.Facts) (hInProjIdeal : Cert.InProjIdeal.Facts) (hInProjReferenceIdeal : Cert.InProjReferenceIdeal.Facts) (hFfnUp : Cert.FfnUp.Facts) (hFfnUpIdeal : Cert.FfnUpIdeal.Facts) (hFfnUpReferenceIdeal : Cert.FfnUpReferenceIdeal.Facts) (hFfnDownSample : Cert.FfnDownSample.Facts) (hFfnDownSampleIdeal : Cert.FfnDownSampleIdeal.Facts) (hFfnDownSampleReferenceIdeal : Cert.FfnDownSampleReferenceIdeal.Facts) (hInProjSample : Cert.InProjSample.Facts) (hInProjSampleIdeal : Cert.InProjSampleIdeal.Facts) (hInProjSampleReferenceIdeal : Cert.InProjSampleReferenceIdeal.Facts) (hFfnUpSample : Cert.FfnUpSample.Facts) (hFfnUpSampleIdeal : Cert.FfnUpSampleIdeal.Facts) (hFfnUpSampleReferenceIdeal : Cert.FfnUpSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDownSample (hFfnDownSample := hFfnDownSample)
    ∧ quiescent_FfnDownSampleIdeal (hFfnDownSampleIdeal := hFfnDownSampleIdeal)
    ∧ quiescent_FfnDownSampleReferenceIdeal (hFfnDownSampleReferenceIdeal := hFfnDownSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ quiescent_FfnUpSample (hFfnUpSample := hFfnUpSample)
    ∧ quiescent_FfnUpSampleIdeal (hFfnUpSampleIdeal := hFfnUpSampleIdeal)
    ∧ quiescent_FfnUpSampleReferenceIdeal (hFfnUpSampleReferenceIdeal := hFfnUpSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutProjReferenceIdeal (hOutProjIdeal := hOutProjIdeal) (hOutProjReferenceIdeal := hOutProjReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_InProj_InProjIdeal
    ∧ algebraic_InProjIdeal_InProjReferenceIdeal (hInProjIdeal := hInProjIdeal) (hInProjReferenceIdeal := hInProjReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDownSample_FfnDownSampleIdeal
    ∧ algebraic_FfnDownSampleIdeal_FfnDownSampleReferenceIdeal (hFfnDownSampleIdeal := hFfnDownSampleIdeal) (hFfnDownSampleReferenceIdeal := hFfnDownSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
    ∧ preserves_FfnUpSample_FfnUpSampleIdeal
    ∧ algebraic_FfnUpSampleIdeal_FfnUpSampleReferenceIdeal (hFfnUpSampleIdeal := hFfnUpSampleIdeal) (hFfnUpSampleReferenceIdeal := hFfnUpSampleReferenceIdeal)
-- ==== Pre_finite.lean ====
abbrev S16384x12800 : Shape := ⟨2, ![16384, 12800]⟩
abbrev S128 : Shape := ⟨1, ![128]⟩
abbrev S257x16 : Shape := ⟨2, ![257, 16]⟩
abbrev S16384x4096 : Shape := ⟨2, ![16384, 4096]⟩
abbrev S_ : Shape := ⟨0, ![]⟩

class Facts : Prop where
  slices_S16384x12800_S16384x4096_0_6656 : S16384x12800.Slices ![0, 6656] S16384x4096
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S128 : S_.BroadcastsInDim S128 (![] : Fin 0 → Fin S128.rank)
  reducesTo_S128_S_d0 : S128.ReducesTo [0] S_
  bcast_S_S257x16 : S_.BroadcastsInDim S257x16 (![] : Fin 0 → Fin S257x16.rank)
  reducesTo_S257x16_S_d0_1 : S257x16.ReducesTo [0, 1] S_

variable [Facts]

def fn_part1 {F : FTy → Type} [FloatOps F] (main_v14 : IVec S_ 1) (main_v15 : FVec F S257x16 .f32) (main_v16 : FVec F S257x16 .f32) : IVec S_ 1 :=
  let main_v17 : IVec S257x16 1 := cmpf .olt main_v15 main_v16
  let main_c_5 : IVec S_ 1 := constantI S_ 1 1#1
  let main_v18 : IVec S_ 1 := (fun x v => Host.reduce IntOp.andi x v reducesTo_S257x16_S_d0_1 h_S_) main_v17 main_c_5
  let main_v19 : IVec S_ 1 := andi main_v14 main_v18
  main_v19

def fn {F : FTy → Type} [FloatOps F] (main_arg0 : FVec F S16384x12800 .f32) (main_arg1 : FVec F S128 .f32) (main_arg2 : FVec F S128 .f32) (main_arg3 : FVec F S257x16 .f32) : IVec S_ 1 :=
  let main_v0 : FVec F S16384x4096 .f32 := (extractStridedSlice S16384x4096 ![0, 6656] · slices_S16384x12800_S16384x4096_0_6656) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S257x16 .f32 := Host.absf main_arg3
  let main_cst_4 : FVec F S_ .f32 := constant S_ .f32 0x7F800000#32
  let main_v16 : FVec F S257x16 .f32 := broadcastInDim S257x16 ![] bcast_S_S257x16 main_cst_4
  fn_part1 (F := F) main_v14 main_v15 main_v16
-- ==== Kernel.lean ====
abbrev S16384x12800 : Shape := ⟨2, ![16384, 12800]⟩
abbrev S128 : Shape := ⟨1, ![128]⟩
abbrev S257x16 : Shape := ⟨2, ![257, 16]⟩
abbrev S16x257 : Shape := ⟨2, ![16, 257]⟩
abbrev S4112 : Shape := ⟨1, ![4112]⟩
abbrev S16x512x1024 : Shape := ⟨3, ![16, 512, 1024]⟩
abbrev S16x32x640 : Shape := ⟨3, ![16, 32, 640]⟩
abbrev S1x512x1024 : Shape := ⟨3, ![1, 512, 1024]⟩
abbrev S1x32x640 : Shape := ⟨3, ![1, 32, 640]⟩
abbrev S8x2048 : Shape := ⟨2, ![8, 2048]⟩
abbrev S1 : Shape := ⟨1, ![1]⟩
abbrev S1x2048 : Shape := ⟨2, ![1, 2048]⟩
abbrev S512x2048 : Shape := ⟨2, ![512, 2048]⟩
abbrev S512x1024 : Shape := ⟨2, ![512, 1024]⟩
abbrev S32x640 : Shape := ⟨2, ![32, 640]⟩
abbrev S1x128 : Shape := ⟨2, ![1, 128]⟩
abbrev S16384x2048 : Shape := ⟨2, ![16384, 2048]⟩
abbrev S2x512x2048 : Shape := ⟨3, ![2, 512, 2048]⟩
abbrev S512x512 : Shape := ⟨2, ![512, 512]⟩
abbrev S4x512x1024 : Shape := ⟨3, ![4, 512, 1024]⟩
abbrev S1x512x512 : Shape := ⟨3, ![1, 512, 512]⟩
abbrev S128x640 : Shape := ⟨2, ![128, 640]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S128x128 : Shape := ⟨2, ![128, 128]⟩
abbrev S640x128 : Shape := ⟨2, ![640, 128]⟩
abbrev S1x128x640 : Shape := ⟨3, ![1, 128, 640]⟩
abbrev S128x1 : Shape := ⟨2, ![128, 1]⟩
abbrev S1x512x128 : Shape := ⟨3, ![1, 512, 128]⟩

abbrev nBuf : Space → Nat
  | .hbm => 12
  | .vmem => 22
  | .smem => 1
  | _ => 0

abbrev bufTy : (tb : Table) → Fin (tcTables nBuf tb) → BufTy
  | .hbm, ⟨0, _⟩ => ⟨S16384x12800, .f32⟩
  | .hbm, ⟨1, _⟩ => ⟨S128, .f32⟩
  | .hbm, ⟨2, _⟩ => ⟨S128, .f32⟩
  | .hbm, ⟨3, _⟩ => ⟨S257x16, .f32⟩
  | .hbm, ⟨4, _⟩ => ⟨S16x257, .f32⟩
  | .hbm, ⟨5, _⟩ => ⟨S4112, .f32⟩
  | .hbm, ⟨6, _⟩ => ⟨S16x512x1024, .f32⟩
  | .hbm, ⟨7, _⟩ => ⟨S16x32x640, .f32⟩
  | .hbm, ⟨8, _⟩ => ⟨S1x128, .f32⟩
  | .hbm, ⟨9, _⟩ => ⟨S1x128, .f32⟩
  | .hbm, ⟨10, _⟩ => ⟨S16384x2048, .bf16⟩
  | .hbm, ⟨11, _⟩ => ⟨S2x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x32x640, .f32⟩
  | .local _ .vmem, ⟨3, _⟩ => ⟨S1x32x640, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S1x128, .f32⟩
  | .local _ .vmem, ⟨16, _⟩ => ⟨S4x512x1024, .f32⟩
  | .local _ .vmem, ⟨17, _⟩ => ⟨S4x512x1024, .f32⟩
  | .local _ .vmem, ⟨18, _⟩ => ⟨S512x512, .bf16⟩
  | .local _ .vmem, ⟨19, _⟩ => ⟨S512x512, .bf16⟩
  | .local _ .vmem, ⟨20, _⟩ => ⟨S1x512x512, .f32⟩
  | .local _ .vmem, ⟨21, _⟩ => ⟨S1x512x512, .f32⟩
  | .local _ .smem, ⟨0, _⟩ => ⟨S4112, .f32⟩
  | _, _ => ⟨S16384x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c257_i32 : BitVec 32 := 257#32
  let v15 : BitVec 32 := Scalar.addi c0_i32 c257_i32
  let c1_i32 : BitVec 32 := 1#32
  ⟨c0_i32, v15, c1_i32⟩
def k0_off1 (i : grid0.Coords) (k0_t1 : Fin k0_t1_loop.trips) : Fin 1 → Nat :=
  let arg0 : BitVec 32 := BitVec.ofNat 32 (i 0).val
  let c257_i32_22 : BitVec 32 := 257#32
  let v88 : BitVec 32 := Scalar.muli arg0 c257_i32_22
  let c0_i32 : BitVec 32 := 0#32
  let c1_i32 : BitVec 32 := 1#32
  let arg4 : BitVec 32 := Scf.iv c0_i32 c1_i32 k0_t1
  let v89 : BitVec 32 := Scalar.addi v88 arg4
  let v90 : Index := Scalar.indexCast v89
  ![v90.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 4, 16], ![false, false, false]⟩

def k1_cond1 (i : grid1.Coords) : BitVec 1 :=
  let arg2 : BitVec 32 := BitVec.ofNat 32 (i 2).val
  let c15_i32 : BitVec 32 := 15#32
  let v649 : BitVec 1 := Scalar.cmpi .eq arg2 c15_i32
  let v650 : BitVec 32 := Scalar.extui v649
  let c0_i32_283 : BitVec 32 := 0#32
  let v651 : BitVec 1 := Scalar.cmpi .ne v650 c0_i32_283
  v651

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c13_i32 : BitVec 32 := 13#32
  let v2 : BitVec 32 := Scalar.addi c13_i32 arg1
  let c0_i32 : BitVec 32 := 0#32
  ![v1.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c17_i32 : BitVec 32 := 17#32
  let v2 : BitVec 32 := Scalar.addi c17_i32 arg1
  let c0_i32 : BitVec 32 := 0#32
  ![v1.toNat, v2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.addi c17_i32 arg1
  let c0_i32_0 : BitVec 32 := 0#32
  ![v3.toNat, v4.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c21_i32 : BitVec 32 := 21#32
  let v2 : BitVec 32 := Scalar.addi c21_i32 arg1
  let c0_i32 : BitVec 32 := 0#32
  ![v1.toNat, v2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c21_i32 : BitVec 32 := 21#32
  let v4 : BitVec 32 := Scalar.addi c21_i32 arg1
  let c0_i32_0 : BitVec 32 := 0#32
  ![v3.toNat, v4.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S4x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]
-- ==== KernelIdeal.lean ====
variable {F : FTy → Type} [FloatOps F] [Named F]
def κ : String → Option EReal := fun
  | "mask" => some ⊥
  | _ => none
-- ==== ReferenceIdeal.lean ====
abbrev S16384x12800 : Shape := ⟨2, ![16384, 12800]⟩
abbrev S128 : Shape := ⟨1, ![128]⟩
abbrev S257x16 : Shape := ⟨2, ![257, 16]⟩
abbrev S2x8192x12800 : Shape := ⟨3, ![2, 8192, 12800]⟩
abbrev S2x8192x6144 : Shape := ⟨3, ![2, 8192, 6144]⟩
abbrev S2x8192x2048 : Shape := ⟨3, ![2, 8192, 2048]⟩
abbrev S2x8192x16x128 : Shape := ⟨4, ![2, 8192, 16, 128]⟩
abbrev S_ : Shape := ⟨0, ![]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x512x16x128 : Shape := ⟨4, ![2, 512, 16, 128]⟩
abbrev S2x8704x16x128 : Shape := ⟨4, ![2, 8704, 16, 128]⟩
abbrev S576 : Shape := ⟨1, ![576]⟩
abbrev S1x576 : Shape := ⟨2, ![1, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S128x1 : Shape := ⟨2, ![128, 1]⟩
abbrev S128x576 : Shape := ⟨2, ![128, 576]⟩
abbrev S2x128x64x16x128 : Shape := ⟨5, ![2, 128, 64, 16, 128]⟩
abbrev S128x576x1 : Shape := ⟨3, ![128, 576, 1]⟩
abbrev S2x128x576x16x128 : Shape := ⟨5, ![2, 128, 576, 16, 128]⟩
abbrev S2x128x16x64x576 : Shape := ⟨5, ![2, 128, 16, 64, 576]⟩
abbrev S1x1x16x64x576 : Shape := ⟨5, ![1, 1, 16, 64, 576]⟩
abbrev S1x128x1x1x576 : Shape := ⟨5, ![1, 128, 1, 1, 576]⟩
abbrev S2x128x16x64 : Shape := ⟨4, ![2, 128, 16, 64]⟩
abbrev S2x128x16x64x1 : Shape := ⟨5, ![2, 128, 16, 64, 1]⟩
abbrev S2x128x16x128x64 : Shape := ⟨5, ![2, 128, 16, 128, 64]⟩
abbrev S16384x2048 : Shape := ⟨2, ![16384, 2048]⟩
abbrev S2x512x2048 : Shape := ⟨3, ![2, 512, 2048]⟩

abbrev nBuf : Space → Nat
  | .hbm => 146
  | .vmem => 0
  | .smem => 0
  | _ => 0

abbrev hbmTy0_0 (i : Nat) : BufTy := match i % 128 with
  | 0 => ⟨S16384x12800, .f32⟩
  | 1 => ⟨S128, .f32⟩
  | 2 => ⟨S128, .f32⟩
  | 3 => ⟨S257x16, .f32⟩
  | 4 => ⟨S2x8192x12800, .f32⟩
  | 5 => ⟨S2x8192x6144, .f32⟩
  | 6 => ⟨S2x8192x2048, .f32⟩
  | 7 => ⟨S2x8192x16x128, .f32⟩
  | 8 => ⟨S2x8192x16x128, .f32⟩
  | 9 => ⟨S_, .f32⟩
  | 10 => ⟨S2x8192x16, .f32⟩
  | 11 => ⟨S2x8192x16x1, .f32⟩
  | 12 => ⟨S_, .f32⟩
  | 13 => ⟨S2x8192x16x1, .f32⟩
  | 14 => ⟨S2x8192x16x1, .f32⟩
  | 15 => ⟨S_, .f32⟩
  | 16 => ⟨S2x8192x16x1, .f32⟩
  | 17 => ⟨S2x8192x16x1, .f32⟩
  | 18 => ⟨S2x8192x16x1, .f32⟩
  | 19 => ⟨S2x8192x16x128, .f32⟩
  | 20 => ⟨S2x8192x16x128, .f32⟩
  | 21 => ⟨S1x1x1x128, .f32⟩
  | 22 => ⟨S2x8192x16x128, .f32⟩
  | 23 => ⟨S2x8192x16x128, .f32⟩
  | 24 => ⟨S2x8192x2048, .f32⟩
  | 25 => ⟨S2x8192x16x128, .f32⟩
  | 26 => ⟨S2x8192x16x128, .f32⟩
  | 27 => ⟨S_, .f32⟩
  | 28 => ⟨S2x8192x16, .f32⟩
  | 29 => ⟨S2x8192x16x1, .f32⟩
  | 30 => ⟨S_, .f32⟩
  | 31 => ⟨S2x8192x16x1, .f32⟩
  | 32 => ⟨S2x8192x16x1, .f32⟩
  | 33 => ⟨S_, .f32⟩
  | 34 => ⟨S2x8192x16x1, .f32⟩
  | 35 => ⟨S2x8192x16x1, .f32⟩
  | 36 => ⟨S2x8192x16x1, .f32⟩
  | 37 => ⟨S2x8192x16x128, .f32⟩
  | 38 => ⟨S2x8192x16x128, .f32⟩
  | 39 => ⟨S1x1x1x128, .f32⟩
  | 40 => ⟨S2x8192x16x128, .f32⟩
  | 41 => ⟨S2x8192x16x128, .f32⟩
  | 42 => ⟨S2x8192x2048, .f32⟩
  | 43 => ⟨S2x8192x16x128, .f32⟩
  | 44 => ⟨S_, .f32⟩
  | 45 => ⟨S2x512x16x128, .f32⟩
  | 46 => ⟨S2x8704x16x128, .f32⟩
  | 47 => ⟨S_, .f32⟩
  | 48 => ⟨S2x512x16x128, .f32⟩
  | 49 => ⟨S2x8704x16x128, .f32⟩
  | 50 => ⟨S576, .i32⟩
  | 51 => ⟨S1x576, .i32⟩
  | 52 => ⟨S_, .i32⟩
  | 53 => ⟨S1x576, .i32⟩
  | 54 => ⟨S1x576, .i32⟩
  | 55 => ⟨S64, .i32⟩
  | 56 => ⟨S64x1, .i32⟩
  | 57 => ⟨S64x576, .i32⟩
  | 58 => ⟨S64x576, .i32⟩
  | 59 => ⟨S64x576, .i32⟩
  | 60 => ⟨S_, .i32⟩
  | 61 => ⟨S_, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S64x576x16, .f32⟩
  | 80 => ⟨S16x64x576, .f32⟩
  | 81 => ⟨S128, .i32⟩
  | 82 => ⟨S128x1, .i32⟩
  | 83 => ⟨S_, .i32⟩
  | 84 => ⟨S128x1, .i32⟩
  | 85 => ⟨S128x1, .i32⟩
  | 86 => ⟨S576, .i32⟩
  | 87 => ⟨S1x576, .i32⟩
  | 88 => ⟨S128x576, .i32⟩
  | 89 => ⟨S128x576, .i32⟩
  | 90 => ⟨S128x576, .i32⟩
  | 91 => ⟨S2x128x64x16x128, .f32⟩
  | 92 => ⟨S_, .i32⟩
  | 93 => ⟨S128x576, .i32⟩
  | 94 => ⟨S128x576, .i1⟩
  | 95 => ⟨S_, .i32⟩
  | 96 => ⟨S128x576, .i32⟩
  | 97 => ⟨S128x576, .i32⟩
  | 98 => ⟨S128x576, .i32⟩
  | 99 => ⟨S128x576x1, .i32⟩
  | 100 => ⟨S2x128x576x16x128, .f32⟩
  | 101 => ⟨S_, .i32⟩
  | 102 => ⟨S128x576, .i32⟩
  | 103 => ⟨S128x576, .i1⟩
  | 104 => ⟨S_, .i32⟩
  | 105 => ⟨S128x576, .i32⟩
  | 106 => ⟨S128x576, .i32⟩
  | 107 => ⟨S128x576, .i32⟩
  | 108 => ⟨S128x576x1, .i32⟩
  | 109 => ⟨S2x128x576x16x128, .f32⟩
  | 110 => ⟨S2x128x16x64x576, .f32⟩
  | 111 => ⟨S_, .f32⟩
  | 112 => ⟨S2x128x16x64x576, .f32⟩
  | 113 => ⟨S2x128x16x64x576, .f32⟩
  | 114 => ⟨S1x1x16x64x576, .f32⟩
  | 115 => ⟨S2x128x16x64x576, .f32⟩
  | 116 => ⟨S2x128x16x64x576, .f32⟩
  | 117 => ⟨S_, .i32⟩
  | 118 => ⟨S128x576, .i32⟩
  | 119 => ⟨S128x576, .i1⟩
  | 120 => ⟨S1x128x1x1x576, .i1⟩
  | 121 => ⟨S_, .f32⟩
  | 122 => ⟨S_, .f32⟩
  | 123 => ⟨S2x128x16x64x576, .i1⟩
  | 124 => ⟨S2x128x16x64x576, .f32⟩
  | 125 => ⟨S2x128x16x64x576, .f32⟩
  | 126 => ⟨S_, .f32⟩
  | 127 => ⟨S2x128x16x64, .f32⟩
  | _ => ⟨S16384x12800, .f32⟩

abbrev hbmTy0_1 (i : Nat) : BufTy := match i % 128 with
  | 0 => ⟨S_, .f32⟩
  | 1 => ⟨S2x128x16x64, .f32⟩
  | 2 => ⟨S2x128x16x64, .f32⟩
  | 3 => ⟨S2x128x16x64x1, .f32⟩
  | 4 => ⟨S2x128x16x64x576, .f32⟩
  | 5 => ⟨S2x128x16x64x576, .f32⟩
  | 6 => ⟨S2x128x16x64x576, .f32⟩
  | 7 => ⟨S_, .f32⟩
  | 8 => ⟨S2x128x16x64, .f32⟩
  | 9 => ⟨S2x128x16x64x1, .f32⟩
  | 10 => ⟨S2x128x16x64x576, .f32⟩
  | 11 => ⟨S2x128x16x64x576, .f32⟩
  | 12 => ⟨S2x128x16x128x64, .f32⟩
  | 13 => ⟨S2x128x64x16x128, .f32⟩
  | 14 => ⟨S16384x2048, .f32⟩
  | 15 => ⟨S16384x2048, .bf16⟩
  | 16 => ⟨S2x512x16x128, .f32⟩
  | 17 => ⟨S2x512x2048, .f32⟩
  | _ => ⟨S16384x12800, .f32⟩

abbrev hbmTy (i : Nat) : BufTy := match i / 128 with
  | 0 => hbmTy0_0 i
  | 1 => hbmTy0_1 i
  | _ => ⟨S16384x12800, .f32⟩

abbrev bufTy : (tb : Table) → Fin (tcTables nBuf tb) → BufTy
  | .hbm, ⟨i, _⟩ => hbmTy i
  | _, _ => ⟨S16384x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_c_8 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnDown.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownIdeal.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S2x8192x4096 : Shape := ⟨3, ![2, 8192, 4096]⟩
abbrev S4096 : Shape := ⟨1, ![4096]⟩
abbrev S4096x12736 : Shape := ⟨2, ![4096, 12736]⟩
abbrev S16384x4096 : Shape := ⟨2, ![16384, 4096]⟩
abbrev S4096x6656 : Shape := ⟨2, ![4096, 6656]⟩
abbrev S4096x6144 : Shape := ⟨2, ![4096, 6144]⟩
abbrev S1x4096 : Shape := ⟨2, ![1, 4096]⟩
abbrev S16384x12800 : Shape := ⟨2, ![16384, 12800]⟩
abbrev S1024x4096 : Shape := ⟨2, ![1024, 4096]⟩
abbrev S4096x512 : Shape := ⟨2, ![4096, 512]⟩
abbrev S1024x512 : Shape := ⟨2, ![1024, 512]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x12736, .f32⟩
  | .hbm, ⟨3, _⟩ => ⟨S16384x4096, .f32⟩
  | .hbm, ⟨4, _⟩ => ⟨S4096x6656, .f32⟩
  | .hbm, ⟨5, _⟩ => ⟨S4096x6656, .bf16⟩
  | .hbm, ⟨6, _⟩ => ⟨S4096x6144, .f32⟩
  | .hbm, ⟨7, _⟩ => ⟨S4096x6144, .bf16⟩
  | .hbm, ⟨8, _⟩ => ⟨S1x4096, .f32⟩
  | .hbm, ⟨9, _⟩ => ⟨S16384x12800, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S1024x512, .f32⟩
  | .local _ .vmem, ⟨8, _⟩ => ⟨S1024x512, .f32⟩
  | .local _ .vmem, ⟨9, _⟩ => ⟨S1024x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 25], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c13_i32 : BitVec 32 := 13#32
  let v4 : BitVec 1 := Scalar.cmpi .slt arg1 c13_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c13_i32_3 : BitVec 32 := 13#32
  let v8 : BitVec 1 := Scalar.cmpi .sge arg1 c13_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjIdeal.lean ====
abbrev S2x8192x4096 : Shape := ⟨3, ![2, 8192, 4096]⟩
abbrev S4096 : Shape := ⟨1, ![4096]⟩
abbrev S4096x12736 : Shape := ⟨2, ![4096, 12736]⟩
abbrev S16384x4096 : Shape := ⟨2, ![16384, 4096]⟩
abbrev S4096x6656 : Shape := ⟨2, ![4096, 6656]⟩
abbrev S4096x6144 : Shape := ⟨2, ![4096, 6144]⟩
abbrev S1x4096 : Shape := ⟨2, ![1, 4096]⟩
abbrev S16384x12800 : Shape := ⟨2, ![16384, 12800]⟩
abbrev S1024x4096 : Shape := ⟨2, ![1024, 4096]⟩
abbrev S4096x512 : Shape := ⟨2, ![4096, 512]⟩
abbrev S1024x512 : Shape := ⟨2, ![1024, 512]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x12736, .f32⟩
  | .hbm, ⟨3, _⟩ => ⟨S16384x4096, .f32⟩
  | .hbm, ⟨4, _⟩ => ⟨S4096x6656, .f32⟩
  | .hbm, ⟨5, _⟩ => ⟨S4096x6656, .bf16⟩
  | .hbm, ⟨6, _⟩ => ⟨S4096x6144, .f32⟩
  | .hbm, ⟨7, _⟩ => ⟨S4096x6144, .bf16⟩
  | .hbm, ⟨8, _⟩ => ⟨S1x4096, .f32⟩
  | .hbm, ⟨9, _⟩ => ⟨S16384x12800, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S1024x512, .f32⟩
  | .local _ .vmem, ⟨8, _⟩ => ⟨S1024x512, .f32⟩
  | .local _ .vmem, ⟨9, _⟩ => ⟨S1024x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 25], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c13_i32 : BitVec 32 := 13#32
  let v4 : BitVec 1 := Scalar.cmpi .slt arg1 c13_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c13_i32_3 : BitVec 32 := 13#32
  let v8 : BitVec 1 := Scalar.cmpi .sge arg1 c13_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjReferenceIdeal.lean ====
abbrev S2x8192x4096 : Shape := ⟨3, ![2, 8192, 4096]⟩
abbrev S4096 : Shape := ⟨1, ![4096]⟩
abbrev S4096x12736 : Shape := ⟨2, ![4096, 12736]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x12736 : Shape := ⟨3, ![2, 8192, 12736]⟩
abbrev S2x8192x6592 : Shape := ⟨3, ![2, 8192, 6592]⟩
abbrev S2x8192x64 : Shape := ⟨3, ![2, 8192, 64]⟩
abbrev S2x8192x6144 : Shape := ⟨3, ![2, 8192, 6144]⟩
abbrev S2x8192x12800 : Shape := ⟨3, ![2, 8192, 12800]⟩
abbrev S16384x12800 : Shape := ⟨2, ![16384, 12800]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x12736, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x12736, .f32⟩
  | .hbm, ⟨20, _⟩ => ⟨S2x8192x6592, .f32⟩
  | .hbm, ⟨21, _⟩ => ⟨S2x8192x64, .f32⟩
  | .hbm, ⟨22, _⟩ => ⟨S2x8192x6144, .f32⟩
  | .hbm, ⟨23, _⟩ => ⟨S2x8192x12800, .f32⟩
  | .hbm, ⟨24, _⟩ => ⟨S16384x12800, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== FfnUp.lean ====
abbrev S16384x4096 : Shape := ⟨2, ![16384, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S2x2x11008 : Shape := ⟨3, ![2, 2, 11008]⟩
abbrev S2x1x11008 : Shape := ⟨3, ![2, 1, 11008]⟩
abbrev S1x4096 : Shape := ⟨2, ![1, 4096]⟩
abbrev S1x11008 : Shape := ⟨2, ![1, 11008]⟩
abbrev S16384x11008 : Shape := ⟨2, ![16384, 11008]⟩
abbrev S16x2x11008 : Shape := ⟨3, ![16, 2, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1x1x256 : Shape := ⟨3, ![1, 1, 256]⟩
abbrev S1024x256 : Shape := ⟨2, ![1024, 256]⟩
abbrev S1x2x256 : Shape := ⟨3, ![1, 2, 256]⟩
abbrev S43x8x256 : Shape := ⟨3, ![43, 8, 256]⟩
abbrev S8x256 : Shape := ⟨2, ![8, 256]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S512x256 : Shape := ⟨2, ![512, 256]⟩
abbrev S1x8x256 : Shape := ⟨3, ![1, 8, 256]⟩
abbrev S504x256 : Shape := ⟨2, ![504, 256]⟩
abbrev S2x256 : Shape := ⟨2, ![2, 256]⟩

abbrev nBuf : Space → Nat
  | .hbm => 14
  | .vmem => 21
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x22016, .f32⟩
  | .hbm, ⟨3, _⟩ => ⟨S3x11008, .f32⟩
  | .hbm, ⟨4, _⟩ => ⟨S11008, .f32⟩
  | .hbm, ⟨5, _⟩ => ⟨S2x2x11008, .f32⟩
  | .hbm, ⟨6, _⟩ => ⟨S4096x22016, .bf16⟩
  | .hbm, ⟨7, _⟩ => ⟨S2x1x11008, .f32⟩
  | .hbm, ⟨8, _⟩ => ⟨S2x1x11008, .f32⟩
  | .hbm, ⟨9, _⟩ => ⟨S1x4096, .f32⟩
  | .hbm, ⟨10, _⟩ => ⟨S1x11008, .f32⟩
  | .hbm, ⟨11, _⟩ => ⟨S16384x11008, .bf16⟩
  | .hbm, ⟨12, _⟩ => ⟨S16x2x11008, .f32⟩
  | .hbm, ⟨13, _⟩ => ⟨S2x2x11008, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1024x256, .bf16⟩
  | .local _ .vmem, ⟨16, _⟩ => ⟨S1024x256, .bf16⟩
  | .local _ .vmem, ⟨17, _⟩ => ⟨S1x2x256, .f32⟩
  | .local _ .vmem, ⟨18, _⟩ => ⟨S1x2x256, .f32⟩
  | .local _ .vmem, ⟨19, _⟩ => ⟨S1024x4096, .bf16⟩
  | .local _ .vmem, ⟨20, _⟩ => ⟨S43x8x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v65 : Index := Scalar.indexCast arg1
  let c0_30 : Index := 0#32
  let c0_31 : Index := 0#32
  ![v65.toNat, 0, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off2 (i : grid0.Coords) : Fin 3 → Nat :=
  let arg1 : BitVec 32 := BitVec.ofNat 32 (i 1).val
  let v27 : Index := Scalar.indexCast arg1
  let c0_15 : Index := 0#32
  let c0_16 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpIdeal.lean ====
abbrev S16384x4096 : Shape := ⟨2, ![16384, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S2x2x11008 : Shape := ⟨3, ![2, 2, 11008]⟩
abbrev S2x1x11008 : Shape := ⟨3, ![2, 1, 11008]⟩
abbrev S1x4096 : Shape := ⟨2, ![1, 4096]⟩
abbrev S1x11008 : Shape := ⟨2, ![1, 11008]⟩
abbrev S16384x11008 : Shape := ⟨2, ![16384, 11008]⟩
abbrev S16x2x11008 : Shape := ⟨3, ![16, 2, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1x1x256 : Shape := ⟨3, ![1, 1, 256]⟩
abbrev S1024x256 : Shape := ⟨2, ![1024, 256]⟩
abbrev S1x2x256 : Shape := ⟨3, ![1, 2, 256]⟩
abbrev S43x8x256 : Shape := ⟨3, ![43, 8, 256]⟩
abbrev S8x256 : Shape := ⟨2, ![8, 256]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S512x256 : Shape := ⟨2, ![512, 256]⟩
abbrev S1x8x256 : Shape := ⟨3, ![1, 8, 256]⟩
abbrev S504x256 : Shape := ⟨2, ![504, 256]⟩
abbrev S2x256 : Shape := ⟨2, ![2, 256]⟩

abbrev nBuf : Space → Nat
  | .hbm => 14
  | .vmem => 21
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x22016, .f32⟩
  | .hbm, ⟨3, _⟩ => ⟨S3x11008, .f32⟩
  | .hbm, ⟨4, _⟩ => ⟨S11008, .f32⟩
  | .hbm, ⟨5, _⟩ => ⟨S2x2x11008, .f32⟩
  | .hbm, ⟨6, _⟩ => ⟨S4096x22016, .bf16⟩
  | .hbm, ⟨7, _⟩ => ⟨S2x1x11008, .f32⟩
  | .hbm, ⟨8, _⟩ => ⟨S2x1x11008, .f32⟩
  | .hbm, ⟨9, _⟩ => ⟨S1x4096, .f32⟩
  | .hbm, ⟨10, _⟩ => ⟨S1x11008, .f32⟩
  | .hbm, ⟨11, _⟩ => ⟨S16384x11008, .bf16⟩
  | .hbm, ⟨12, _⟩ => ⟨S16x2x11008, .f32⟩
  | .hbm, ⟨13, _⟩ => ⟨S2x2x11008, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1024x256, .bf16⟩
  | .local _ .vmem, ⟨16, _⟩ => ⟨S1024x256, .bf16⟩
  | .local _ .vmem, ⟨17, _⟩ => ⟨S1x2x256, .f32⟩
  | .local _ .vmem, ⟨18, _⟩ => ⟨S1x2x256, .f32⟩
  | .local _ .vmem, ⟨19, _⟩ => ⟨S1024x4096, .bf16⟩
  | .local _ .vmem, ⟨20, _⟩ => ⟨S43x8x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v65 : Index := Scalar.indexCast arg1
  let c0_30 : Index := 0#32
  let c0_31 : Index := 0#32
  ![v65.toNat, 0, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off2 (i : grid0.Coords) : Fin 3 → Nat :=
  let arg1 : BitVec 32 := BitVec.ofNat 32 (i 1).val
  let v27 : Index := Scalar.indexCast arg1
  let c0_15 : Index := 0#32
  let c0_16 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpReferenceIdeal.lean ====
abbrev S16384x4096 : Shape := ⟨2, ![16384, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S2x2x11008 : Shape := ⟨3, ![2, 2, 11008]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x22016 : Shape := ⟨3, ![2, 8192, 22016]⟩
abbrev S2x8192x11008 : Shape := ⟨3, ![2, 8192, 11008]⟩
abbrev S2x8194x11008 : Shape := ⟨3, ![2, 8194, 11008]⟩
abbrev S1x11008 : Shape := ⟨2, ![1, 11008]⟩
abbrev S1x1x11008 : Shape := ⟨3, ![1, 1, 11008]⟩
abbrev S16384x11008 : Shape := ⟨2, ![16384, 11008]⟩

abbrev nBuf : Space → Nat
  | .hbm => 63
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x22016, .f32⟩
  | .hbm, ⟨3, _⟩ => ⟨S3x11008, .f32⟩
  | .hbm, ⟨4, _⟩ => ⟨S11008, .f32⟩
  | .hbm, ⟨5, _⟩ => ⟨S2x2x11008, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S2x8192x22016, .f32⟩
  | .hbm, ⟨24, _⟩ => ⟨S2x8192x11008, .f32⟩
  | .hbm, ⟨25, _⟩ => ⟨S2x8192x11008, .f32⟩
  | .hbm, ⟨26, _⟩ => ⟨S2x8194x11008, .f32⟩
  | .hbm, ⟨27, _⟩ => ⟨S2x8192x11008, .f32⟩
  | .hbm, ⟨28, _⟩ => ⟨S1x11008, .f32⟩
  | .hbm, ⟨29, _⟩ => ⟨S11008, .f32⟩
  | .hbm, ⟨30, _⟩ => ⟨S1x1x11008, .f32⟩
  | .hbm, ⟨31, _⟩ => ⟨S2x8192x11008, .f32⟩
  | .hbm, ⟨32, _⟩ => ⟨S2x8192x11008, .f32⟩
  | .hbm, ⟨33, _⟩ => ⟨S1x1x11008, .f32⟩
  | .hbm, ⟨34, _⟩ => ⟨S2x8192x11008, .f32⟩
  | .hbm, ⟨35, _⟩ => ⟨S2x8192x11008, .f32⟩
  | .hbm, ⟨36, _⟩ => ⟨S2x8192x11008, .f32⟩
  | .hbm, ⟨37, _⟩ => ⟨S1x11008, .f32⟩
  | .hbm, ⟨38, _⟩ => ⟨S11008, .f32⟩
  | .hbm, ⟨39, _⟩ => ⟨S1x1x11008, .f32⟩
  | .hbm, ⟨40, _⟩ => ⟨S2x8192x11008, .f32⟩
  | .hbm, ⟨41, _⟩ => ⟨S2x8192x11008, .f32⟩
  | .hbm, ⟨42, _⟩ => ⟨S2x8192x11008, .f32⟩
  | .hbm, ⟨43, _⟩ => ⟨S2x8192x11008, .f32⟩
  | .hbm, ⟨44, _⟩ => ⟨S1x11008, .f32⟩
  | .hbm, ⟨45, _⟩ => ⟨S11008, .f32⟩
  | .hbm, ⟨46, _⟩ => ⟨S1x1x11008, .f32⟩
  | .hbm, ⟨47, _⟩ => ⟨S2x8192x11008, .f32⟩
  | .hbm, ⟨48, _⟩ => ⟨S2x8192x11008, .f32⟩
  | .hbm, ⟨49, _⟩ => ⟨S2x8192x11008, .f32⟩
  | .hbm, ⟨50, _⟩ => ⟨S2x8192x11008, .f32⟩
  | .hbm, ⟨51, _⟩ => ⟨S2x8192x11008, .f32⟩
  | .hbm, ⟨52, _⟩ => ⟨S_, .f32⟩
  | .hbm, ⟨53, _⟩ => ⟨S2x8192x11008, .f32⟩
  | .hbm, ⟨54, _⟩ => ⟨S2x8192x11008, .f32⟩
  | .hbm, ⟨55, _⟩ => ⟨S_, .f32⟩
  | .hbm, ⟨56, _⟩ => ⟨S2x8192x11008, .f32⟩
  | .hbm, ⟨57, _⟩ => ⟨S2x8192x11008, .f32⟩
  | .hbm, ⟨58, _⟩ => ⟨S2x8192x11008, .f32⟩
  | .hbm, ⟨59, _⟩ => ⟨S2x8192x11008, .f32⟩
  | .hbm, ⟨60, _⟩ => ⟨S16384x11008, .f32⟩
  | .hbm, ⟨61, _⟩ => ⟨S16384x11008, .bf16⟩
  | .hbm, ⟨62, _⟩ => ⟨S2x2x11008, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== FfnDownSample.lean ====
abbrev S1024x11008 : Shape := ⟨2, ![1024, 11008]⟩
abbrev S11008x4096 : Shape := ⟨2, ![11008, 4096]⟩
abbrev S1024x4096 : Shape := ⟨2, ![1024, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .f32⟩
  | .hbm, ⟨2, _⟩ => ⟨S1024x4096, .f32⟩
  | .hbm, ⟨3, _⟩ => ⟨S11008x4096, .bf16⟩
  | .hbm, ⟨4, _⟩ => ⟨S1024x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S1024x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownSampleReferenceIdeal.lean ====
abbrev S1024x11008 : Shape := ⟨2, ![1024, 11008]⟩
abbrev S11008x4096 : Shape := ⟨2, ![11008, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .f32⟩
  | .hbm, ⟨2, _⟩ => ⟨S1024x4096, .f32⟩
  | .hbm, ⟨3, _⟩ => ⟨S1024x11008, .f32⟩
  | .hbm, ⟨4, _⟩ => ⟨S1024x4096, .f32⟩
  | .hbm, ⟨5, _⟩ => ⟨S1024x4096, .f32⟩
  | _, _ => ⟨S1024x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProjSample.lean ====
abbrev S32x32x4096 : Shape := ⟨3, ![32, 32, 4096]⟩
abbrev S4096 : Shape := ⟨1, ![4096]⟩
abbrev S4096x12736 : Shape := ⟨2, ![4096, 12736]⟩
abbrev S1024x4096 : Shape := ⟨2, ![1024, 4096]⟩
abbrev S4096x6656 : Shape := ⟨2, ![4096, 6656]⟩
abbrev S4096x6144 : Shape := ⟨2, ![4096, 6144]⟩
abbrev S1x4096 : Shape := ⟨2, ![1, 4096]⟩
abbrev S1024x12800 : Shape := ⟨2, ![1024, 12800]⟩
abbrev S4096x512 : Shape := ⟨2, ![4096, 512]⟩
abbrev S1024x512 : Shape := ⟨2, ![1024, 512]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 9
  | .smem => 0
  | _ => 0

abbrev bufTy : (tb : Table) → Fin (tcTables nBuf tb) → BufTy
  | .hbm, ⟨0, _⟩ => ⟨S32x32x4096, .f32⟩
  | .hbm, ⟨1, _⟩ => ⟨S4096, .f32⟩
  | .hbm, ⟨2, _⟩ => ⟨S4096x12736, .f32⟩
  | .hbm, ⟨3, _⟩ => ⟨S1024x4096, .f32⟩
  | .hbm, ⟨4, _⟩ => ⟨S4096x6656, .f32⟩
  | .hbm, ⟨5, _⟩ => ⟨S4096x6656, .bf16⟩
  | .hbm, ⟨6, _⟩ => ⟨S4096x6144, .f32⟩
  | .hbm, ⟨7, _⟩ => ⟨S4096x6144, .bf16⟩
  | .hbm, ⟨8, _⟩ => ⟨S1x4096, .f32⟩
  | .hbm, ⟨9, _⟩ => ⟨S1024x12800, .f32⟩
  | .local _ .vmem, ⟨0, _⟩ => ⟨S1024x4096, .f32⟩
  | .local _ .vmem, ⟨1, _⟩ => ⟨S1x4096, .f32⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S32x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 25], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c13_i32 : BitVec 32 := 13#32
  let v4 : BitVec 1 := Scalar.cmpi .slt arg1 c13_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c13_i32_3 : BitVec 32 := 13#32
  let v8 : BitVec 1 := Scalar.cmpi .sge arg1 c13_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjSampleReferenceIdeal.lean ====
abbrev S32x32x4096 : Shape := ⟨3, ![32, 32, 4096]⟩
abbrev S4096 : Shape := ⟨1, ![4096]⟩
abbrev S4096x12736 : Shape := ⟨2, ![4096, 12736]⟩
abbrev S_ : Shape := ⟨0, ![]⟩
abbrev S32x32 : Shape := ⟨2, ![32, 32]⟩
abbrev S32x32x1 : Shape := ⟨3, ![32, 32, 1]⟩
abbrev S1x1x4096 : Shape := ⟨3, ![1, 1, 4096]⟩
abbrev S32x32x12736 : Shape := ⟨3, ![32, 32, 12736]⟩
abbrev S32x32x6592 : Shape := ⟨3, ![32, 32, 6592]⟩
abbrev S32x32x64 : Shape := ⟨3, ![32, 32, 64]⟩
abbrev S32x32x6144 : Shape := ⟨3, ![32, 32, 6144]⟩
abbrev S32x32x12800 : Shape := ⟨3, ![32, 32, 12800]⟩
abbrev S1024x12800 : Shape := ⟨2, ![1024, 12800]⟩

abbrev nBuf : Space → Nat
  | .hbm => 25
  | .vmem => 0
  | .smem => 0
  | _ => 0

abbrev bufTy : (tb : Table) → Fin (tcTables nBuf tb) → BufTy
  | .hbm, ⟨0, _⟩ => ⟨S32x32x4096, .f32⟩
  | .hbm, ⟨1, _⟩ => ⟨S4096, .f32⟩
  | .hbm, ⟨2, _⟩ => ⟨S4096x12736, .f32⟩
  | .hbm, ⟨3, _⟩ => ⟨S32x32x4096, .f32⟩
  | .hbm, ⟨4, _⟩ => ⟨S_, .f32⟩
  | .hbm, ⟨5, _⟩ => ⟨S32x32, .f32⟩
  | .hbm, ⟨6, _⟩ => ⟨S32x32x1, .f32⟩
  | .hbm, ⟨7, _⟩ => ⟨S_, .f32⟩
  | .hbm, ⟨8, _⟩ => ⟨S32x32x1, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S32x32x1, .f32⟩
  | .hbm, ⟨14, _⟩ => ⟨S32x32x4096, .f32⟩
  | .hbm, ⟨15, _⟩ => ⟨S32x32x4096, .f32⟩
  | .hbm, ⟨16, _⟩ => ⟨S1x1x4096, .f32⟩
  | .hbm, ⟨17, _⟩ => ⟨S32x32x4096, .f32⟩
  | .hbm, ⟨18, _⟩ => ⟨S32x32x4096, .f32⟩
  | .hbm, ⟨19, _⟩ => ⟨S32x32x12736, .f32⟩
  | .hbm, ⟨20, _⟩ => ⟨S32x32x6592, .f32⟩
  | .hbm, ⟨21, _⟩ => ⟨S32x32x64, .f32⟩
  | .hbm, ⟨22, _⟩ => ⟨S32x32x6144, .f32⟩
  | .hbm, ⟨23, _⟩ => ⟨S32x32x12800, .f32⟩
  | .hbm, ⟨24, _⟩ => ⟨S1024x12800, .f32⟩
  | _, _ => ⟨S32x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== FfnUpSample.lean ====
abbrev S1024x4096 : Shape := ⟨2, ![1024, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S32x2x11008 : Shape := ⟨3, ![32, 2, 11008]⟩
abbrev S_ : Shape := ⟨0, ![]⟩
abbrev S32x32x11008 : Shape := ⟨3, ![32, 32, 11008]⟩
abbrev S32x1x11008 : Shape := ⟨3, ![32, 1, 11008]⟩
abbrev S32x11008 : Shape := ⟨2, ![32, 11008]⟩
abbrev S1 : Shape := ⟨1, ![1]⟩
abbrev S1024x11008 : Shape := ⟨2, ![1024, 11008]⟩
abbrev S1x4096 : Shape := ⟨2, ![1, 4096]⟩
abbrev S1x11008 : Shape := ⟨2, ![1, 11008]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S43x8x256 : Shape := ⟨3, ![43, 8, 256]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S512x256 : Shape := ⟨2, ![512, 256]⟩

abbrev nBuf : Space → Nat
  | .hbm => 32
  | .vmem => 20
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x22016, .f32⟩
  | .hbm, ⟨3, _⟩ => ⟨S3x11008, .f32⟩
  | .hbm, ⟨4, _⟩ => ⟨S11008, .f32⟩
  | .hbm, ⟨5, _⟩ => ⟨S32x2x11008, .f32⟩
  | .hbm, ⟨6, _⟩ => ⟨S4096x22016, .bf16⟩
  | .hbm, ⟨7, _⟩ => ⟨S_, .f32⟩
  | .hbm, ⟨8, _⟩ => ⟨S32x32x11008, .f32⟩
  | .hbm, ⟨9, _⟩ => ⟨S32x1x11008, .f32⟩
  | .hbm, ⟨10, _⟩ => ⟨S32x11008, .f32⟩
  | .hbm, ⟨11, _⟩ => ⟨S_, .i32⟩
  | .hbm, ⟨12, _⟩ => ⟨S1, .i32⟩
  | .hbm, ⟨13, _⟩ => ⟨S32x32x11008, .f32⟩
  | .hbm, ⟨14, _⟩ => ⟨S1024x11008, .f32⟩
  | .hbm, ⟨15, _⟩ => ⟨S32x1x11008, .f32⟩
  | .hbm, ⟨16, _⟩ => ⟨S32x11008, .f32⟩
  | .hbm, ⟨17, _⟩ => ⟨S_, .i32⟩
  | .hbm, ⟨18, _⟩ => ⟨S1, .i32⟩
  | .hbm, ⟨19, _⟩ => ⟨S32x32x11008, .f32⟩
  | .hbm, ⟨20, _⟩ => ⟨S32x1x11008, .f32⟩
  | .hbm, ⟨21, _⟩ => ⟨S32x11008, .f32⟩
  | .hbm, ⟨22, _⟩ => ⟨S_, .i32⟩
  | .hbm, ⟨23, _⟩ => ⟨S1, .i32⟩
  | .hbm, ⟨24, _⟩ => ⟨S32x32x11008, .f32⟩
  | .hbm, ⟨25, _⟩ => ⟨S1024x11008, .f32⟩
  | .hbm, ⟨26, _⟩ => ⟨S1x4096, .f32⟩
  | .hbm, ⟨27, _⟩ => ⟨S1x11008, .f32⟩
  | .hbm, ⟨28, _⟩ => ⟨S1024x11008, .bf16⟩
  | .hbm, ⟨29, _⟩ => ⟨S1024x11008, .f32⟩
  | .hbm, ⟨30, _⟩ => ⟨S32x32x11008, .f32⟩
  | .hbm, ⟨31, _⟩ => ⟨S32x2x11008, .f32⟩
  | .local _ .vmem, ⟨0, _⟩ => ⟨S1024x4096, .f32⟩
  | .local _ .vmem, ⟨1, _⟩ => ⟨S1x4096, .f32⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | .local _ .vmem, ⟨18, _⟩ => ⟨S1024x4096, .bf16⟩
  | .local _ .vmem, ⟨19, _⟩ => ⟨S43x8x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpSampleReferenceIdeal.lean ====
abbrev S1024x4096 : Shape := ⟨2, ![1024, 4096]⟩
abbrev S4096 : Shape := ⟨1, ![4096]⟩
abbrev S4096x22016 : Shape := ⟨2, ![4096, 22016]⟩
abbrev S3x11008 : Shape := ⟨2, ![3, 11008]⟩
abbrev S11008 : Shape := ⟨1, ![11008]⟩
abbrev S32x2x11008 : Shape := ⟨3, ![32, 2, 11008]⟩
abbrev S32x32x4096 : Shape := ⟨3, ![32, 32, 4096]⟩
abbrev S_ : Shape := ⟨0, ![]⟩
abbrev S32x32 : Shape := ⟨2, ![32, 32]⟩
abbrev S32x32x1 : Shape := ⟨3, ![32, 32, 1]⟩
abbrev S1x1x4096 : Shape := ⟨3, ![1, 1, 4096]⟩
abbrev S32x32x22016 : Shape := ⟨3, ![32, 32, 22016]⟩
abbrev S32x32x11008 : Shape := ⟨3, ![32, 32, 11008]⟩
abbrev S32x34x11008 : Shape := ⟨3, ![32, 34, 11008]⟩
abbrev S1x11008 : Shape := ⟨2, ![1, 11008]⟩
abbrev S1x1x11008 : Shape := ⟨3, ![1, 1, 11008]⟩
abbrev S1024x11008 : Shape := ⟨2, ![1024, 11008]⟩

abbrev nBuf : Space → Nat
  | .hbm => 63
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x22016, .f32⟩
  | .hbm, ⟨3, _⟩ => ⟨S3x11008, .f32⟩
  | .hbm, ⟨4, _⟩ => ⟨S11008, .f32⟩
  | .hbm, ⟨5, _⟩ => ⟨S32x2x11008, .f32⟩
  | .hbm, ⟨6, _⟩ => ⟨S32x32x4096, .f32⟩
  | .hbm, ⟨7, _⟩ => ⟨S32x32x4096, .f32⟩
  | .hbm, ⟨8, _⟩ => ⟨S_, .f32⟩
  | .hbm, ⟨9, _⟩ => ⟨S32x32, .f32⟩
  | .hbm, ⟨10, _⟩ => ⟨S32x32x1, .f32⟩
  | .hbm, ⟨11, _⟩ => ⟨S_, .f32⟩
  | .hbm, ⟨12, _⟩ => ⟨S32x32x1, .f32⟩
  | .hbm, ⟨13, _⟩ => ⟨S32x32x1, .f32⟩
  | .hbm, ⟨14, _⟩ => ⟨S_, .f32⟩
  | .hbm, ⟨15, _⟩ => ⟨S32x32x1, .f32⟩
  | .hbm, ⟨16, _⟩ => ⟨S32x32x1, .f32⟩
  | .hbm, ⟨17, _⟩ => ⟨S32x32x1, .f32⟩
  | .hbm, ⟨18, _⟩ => ⟨S32x32x4096, .f32⟩
  | .hbm, ⟨19, _⟩ => ⟨S32x32x4096, .f32⟩
  | .hbm, ⟨20, _⟩ => ⟨S1x1x4096, .f32⟩
  | .hbm, ⟨21, _⟩ => ⟨S32x32x4096, .f32⟩
  | .hbm, ⟨22, _⟩ => ⟨S32x32x4096, .f32⟩
  | .hbm, ⟨23, _⟩ => ⟨S32x32x22016, .f32⟩
  | .hbm, ⟨24, _⟩ => ⟨S32x32x11008, .f32⟩
  | .hbm, ⟨25, _⟩ => ⟨S32x32x11008, .f32⟩
  | .hbm, ⟨26, _⟩ => ⟨S32x34x11008, .f32⟩
  | .hbm, ⟨27, _⟩ => ⟨S32x32x11008, .f32⟩
  | .hbm, ⟨28, _⟩ => ⟨S1x11008, .f32⟩
  | .hbm, ⟨29, _⟩ => ⟨S11008, .f32⟩
  | .hbm, ⟨30, _⟩ => ⟨S1x1x11008, .f32⟩
  | .hbm, ⟨31, _⟩ => ⟨S32x32x11008, .f32⟩
  | .hbm, ⟨32, _⟩ => ⟨S32x32x11008, .f32⟩
  | .hbm, ⟨33, _⟩ => ⟨S1x1x11008, .f32⟩
  | .hbm, ⟨34, _⟩ => ⟨S32x32x11008, .f32⟩
  | .hbm, ⟨35, _⟩ => ⟨S32x32x11008, .f32⟩
  | .hbm, ⟨36, _⟩ => ⟨S32x32x11008, .f32⟩
  | .hbm, ⟨37, _⟩ => ⟨S1x11008, .f32⟩
  | .hbm, ⟨38, _⟩ => ⟨S11008, .f32⟩
  | .hbm, ⟨39, _⟩ => ⟨S1x1x11008, .f32⟩
  | .hbm, ⟨40, _⟩ => ⟨S32x32x11008, .f32⟩
  | .hbm, ⟨41, _⟩ => ⟨S32x32x11008, .f32⟩
  | .hbm, ⟨42, _⟩ => ⟨S32x32x11008, .f32⟩
  | .hbm, ⟨43, _⟩ => ⟨S32x32x11008, .f32⟩
  | .hbm, ⟨44, _⟩ => ⟨S1x11008, .f32⟩
  | .hbm, ⟨45, _⟩ => ⟨S11008, .f32⟩
  | .hbm, ⟨46, _⟩ => ⟨S1x1x11008, .f32⟩
  | .hbm, ⟨47, _⟩ => ⟨S32x32x11008, .f32⟩
  | .hbm, ⟨48, _⟩ => ⟨S32x32x11008, .f32⟩
  | .hbm, ⟨49, _⟩ => ⟨S32x32x11008, .f32⟩
  | .hbm, ⟨50, _⟩ => ⟨S32x32x11008, .f32⟩
  | .hbm, ⟨51, _⟩ => ⟨S32x32x11008, .f32⟩
  | .hbm, ⟨52, _⟩ => ⟨S_, .f32⟩
  | .hbm, ⟨53, _⟩ => ⟨S32x32x11008, .f32⟩
  | .hbm, ⟨54, _⟩ => ⟨S32x32x11008, .f32⟩
  | .hbm, ⟨55, _⟩ => ⟨S_, .f32⟩
  | .hbm, ⟨56, _⟩ => ⟨S32x32x11008, .f32⟩
  | .hbm, ⟨57, _⟩ => ⟨S32x32x11008, .f32⟩
  | .hbm, ⟨58, _⟩ => ⟨S32x32x11008, .f32⟩
  | .hbm, ⟨59, _⟩ => ⟨S32x32x11008, .f32⟩
  | .hbm, ⟨60, _⟩ => ⟨S1024x11008, .f32⟩
  | .hbm, ⟨61, _⟩ => ⟨S1024x11008, .bf16⟩
  | .hbm, ⟨62, _⟩ => ⟨S32x2x11008, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Run.lean ====
module
public import proofs.«01_k».proof.Proof.Gen.KernelIdeal.Frame
@[expose] public section
set_option maxRecDepth 16384
noncomputable section
namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run of the whole program with its results: it terminates, the two result arrays are what the second region's
    write-backs leave, and the arguments are unchanged. -/
theorem run : θ_run defs (onTc (τ := τ) (main (F := F))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v5_0 (by decide)), h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
end Cert.KernelIdeal.Val
-- ==== Proof.Spec.lean ====
module
public import Idealize.ShloMosaic.Lib.Pointwise
@[expose] public section
noncomputable section
namespace Cert.Band
open Idealize.ShloMosaic

/-- The root-mean-square normalisation of a vector of 128 with gains `g`, at position `d`. -/
def nrm (X g : ℕ → EReal) (d : ℕ) : EReal :=
  X d * Ideal.rsqrt (Ideal.div (∑ x : Fin 128, X x * X x) (Ideal.ofBits .f32 0x43000000#32) + Ideal.ofBits .f32 0x358637BD#32) * g d

/-- The scale of the scores, one over the square root of the head size, as rounded to f32. -/
def scale : EReal := Ideal.ofBits .f32 0x3DB504F3#32

/-- Row `j` of the previous block of 512 rows followed by the current one. -/
def pair (Xc Xp : ℕ → ℕ → EReal) (j c : ℕ) : EReal := if j < 512 then Xp j c else Xc (j - 512) c

/-- The score of query row `r` of a block against row `j` of its two blocks of keys, for the head at columns from `128 hl`. -/
def blkS (i : ℕ) (Q Kc Kp : ℕ → ℕ → EReal) (gq gk : ℕ → EReal) (B : ℕ → ℕ → ℕ → EReal) (hl r j : ℕ) : EReal :=
  if 0 < i ∨ 512 ≤ j then
    (∑ x : Fin 128, nrm (fun d => Q r (128 * hl + d)) gq x * scale * nrm (fun d => pair Kc Kp j (128 * hl + d)) gk x) + B hl r j
  else ⊥

/-- The sum of `v` weighted by the softmax of the scores `s`, divided at the end. -/
def softO {n : ℕ} (s v : Fin n → EReal) : EReal :=
  Ideal.div (∑ k, Ideal.exp (s k - Finset.univ.fold max ⊥ s) * v k) (∑ k, Ideal.exp (s k - Finset.univ.fold max ⊥ s))

/-- One element of a block of the attention's output. -/
def blkO (i : ℕ) (Q Kc Kp Vc Vp : ℕ → ℕ → EReal) (gq gk : ℕ → EReal) (B : ℕ → ℕ → ℕ → EReal) (r c : ℕ) : EReal :=
  softO (n := 640) (fun kk => blkS i Q Kc Kp gq gk B (c / 128) r (r / 128 * 128 + kk)) (fun kk => pair Vc Vp (r / 128 * 128 + kk) c)

end Cert.Band
-- ==== Proof.Item.lean ====
module
public import proofs.«01_k».proof.Proof.Gen.KernelIdeal.Skeleton
public import proofs.«01_k».proof.Proof.Spec
@[expose] public section
set_option maxRecDepth 65536
noncomputable section
namespace Cert.KernelIdeal.Val
open Cert.KernelIdeal Cert.KernelIdeal.Gen Cert.Band Idealize.ShloMosaic Idealize.ShloMosaic.TcCoe Idealize.SL.Sem

/-- The scores of one group of 128 query rows, starting at row `o`, against the 640 keys from row `o` of the two
    blocks, with the bias added and, in the first block of a sequence, the keys before the sequence masked. -/
def scoreV (o : ℕ) (w : BitVec 32) (hq : S512x128.Slices ![o, 0] S128x128) (hk : S1024x128.Slices ![o, 0] S640x128)
    (i2 : BitVec 32) (q : FVec Ideal S512x128 .bf16) (k : FVec Ideal S1024x128 .bf16) (bias : Vec Ideal S1x128x640 .f32) :
    FVec Ideal S128x640 .f32 :=
  select (ori (broadcast S128x640 (Scalar.cmpi .sgt i2 0#32)) (cmpi .sge (iota .tc S128x640 32 [1] iota_S128x640_d1_w32) (broadcast S128x640 w)))
    (addf (matmul dot_S128x128_S640x128_S128x640_1_1_0_0_n_n none (extractStridedSlice S128x128 ![o, 0] q hq)
      (extractStridedSlice S640x128 ![o, 0] k hk) (constant S128x640 .f32 0x00000000#32))
      (shapeCast S128x640 bias shapeCasts_S1x128x640_S128x640))
    (broadcast S128x640 (Named.named κ "mask" 0xF149F2CA#32))

/-- The attention output of one group of 128 query rows from its scores. -/
def outV (o : ℕ) (hk : S1024x128.Slices ![o, 0] S640x128) (s : FVec Ideal S128x640 .f32) (v : FVec Ideal S1024x128 .bf16) :
    FVec Ideal S128x128 .bf16 :=
  k1_pay124 (k1_pay92 (k1_pay75 s (k1_pay64 s)))
    (matmul dot_S128x640_S640x128_S128x128_1_0_0_1_n_n none (truncf .bf16 (k1_pay75 s (k1_pay64 s)) bitsLt_bf16_f32)
      (extractStridedSlice S640x128 ![o, 0] v hk) (constant S128x128 .f32 0x00000000#32))

theorem negInf : Ideal.ofBits .f32 0xFF800000#32 = ⊥ := by simp [Ideal.ofBits, Ideal.ieee]

theorem pay64_apply (s : FVec Ideal S128x640 .f32) (r : Fin 128) (z : Fin 1) :
    k1_pay64 s (ix2 r z) = (Finset.univ : Finset (Fin 640)).fold max ⊥ fun k => s (ix2 r k) := by
  pointwise [k1_pay64, negInf]

theorem outV_apply (o : ℕ) (ho : o ≤ 384) (hk : S1024x128.Slices ![o, 0] S640x128) (s : FVec Ideal S128x640 .f32) (v : FVec Ideal S1024x128 .bf16)
    (r d : Fin 128) : outV o hk s v (ix2 r d)
      = softO (n := 640) (fun k => s (ix2 r k)) (fun k => v (ix2 ⟨o + k, by omega⟩ d)) := by
  pointwise [outV, k1_pay124, k1_pay92, k1_pay75, pay64_apply, softO]

theorem scoreV_apply (o : ℕ) (ho : o ≤ 384) (w : BitVec 32) (hq : S512x128.Slices ![o, 0] S128x128) (hk : S1024x128.Slices ![o, 0] S640x128)
    (i2 : BitVec 32) (q : FVec Ideal S512x128 .bf16) (k : FVec Ideal S1024x128 .bf16) (bias : Vec Ideal S1x128x640 .f32) (r : Fin 128) (kk : Fin 640) :
    scoreV o w hq hk i2 q k bias (ix2 r kk) = Scalar.select
      (IntOp.ori (Scalar.cmpi CmpIPredicate.sgt i2 0#32) (IntOp.cmpi CmpIPredicate.sge (BitVec.ofNat 32 kk) w))
      ((∑ x : Fin 128, q (ix2 ⟨o + r, by omega⟩ x) * k (ix2 ⟨o + kk, by omega⟩ x)) + bias (ix3 0 r kk)) ⊥ := by
  have hm : (Named.named κ "mask" 0xF149F2CA#32 : Ideal .f32) = ⊥ := by rfl
  pointwise [scoreV, hm]

theorem maskBit (i o : ℕ) (hi : i < 16) (ho : o ≤ 384) (kk : Fin 640) {α : Type} (a b : α) :
    Scalar.select (IntOp.ori (Scalar.cmpi CmpIPredicate.sgt (BitVec.ofNat 32 i) 0#32)
      (IntOp.cmpi CmpIPredicate.sge (BitVec.ofNat 32 kk) (BitVec.ofNat 32 (512 - o)))) a b
      = if 0 < i ∨ 512 ≤ o + kk then a else b := by
  have h1 : (Scalar.cmpi CmpIPredicate.sgt (BitVec.ofNat 32 i) 0#32) = BitVec.ofBool (decide (0 < i)) := by
    show BitVec.ofBool _ = _
    congr 1
    simp only [BitVec.slt, decide_eq_decide]
    rw [BitVec.toInt_ofNat', BitVec.toInt_ofNat']
    simp [Int.bmod]; split <;> omega
  have h2 : (IntOp.cmpi CmpIPredicate.sge (BitVec.ofNat 32 kk) (BitVec.ofNat 32 (512 - o))) = BitVec.ofBool (decide (512 ≤ o + kk)) := by
    show BitVec.ofBool _ = _
    congr 1
    simp only [BitVec.sle, decide_eq_decide]
    rw [BitVec.toInt_ofNat', BitVec.toInt_ofNat']
    simp [Int.bmod]; split <;> split <;> omega
  rw [h1, h2]
  by_cases ha : 0 < i <;> by_cases hb : 512 ≤ o + (kk : ℕ) <;> simp [ha, hb, IntOp.ori, Scalar.select]

theorem pay5_apply (x : Vec Ideal S512x128 .f32) (g : Vec Ideal S1x128 .f32) (r : Fin 512) (d : Fin 128) (X G : ℕ → EReal)
    (hX : ∀ d : Fin 128, x (ix2 r d) = X d) (hG : ∀ d : Fin 128, g (ix2 0 d) = G d) :
    k1_pay5 x g (ix2 r d) = nrm X G d * scale := by
  pointwise [k1_pay5, nrm, scale, hX, hG]

theorem pay12_apply (x : Vec Ideal S512x128 .f32) (g : Vec Ideal S1x128 .f32) (r : Fin 512) (d : Fin 128) (X G : ℕ → EReal)
    (hX : ∀ d : Fin 128, x (ix2 r d) = X d) (hG : ∀ d : Fin 128, g (ix2 0 d) = G d) :
    k1_pay12 x g (ix2 r d) = nrm X G d := by
  pointwise [k1_pay12, nrm, hX, hG]

theorem pay17_apply (x y : FVec Ideal S512x128 .f32) (r : Fin 1024) (d : Fin 128) :
    k1_pay17 x y (ix2 r d) = if h : (r : ℕ) < 512 then y (ix2 ⟨r, h⟩ d) else x (ix2 ⟨r - 512, by omega⟩ d) := by
  pointwise [k1_pay17]

theorem pay24_apply (x y : Vec Ideal S512x128 .f32) (r : Fin 1024) (d : Fin 128) :
    k1_pay24 x y (ix2 r d) = if h : (r : ℕ) < 512 then x (ix2 ⟨r, h⟩ d) else y (ix2 ⟨r - 512, by omega⟩ d) := by
  pointwise [k1_pay24]

/-- One stored piece of the attention's output: rows from `o`, the head at columns from `128 hl`. -/
def itemV (o : ℕ) (w : BitVec 32) (hq : S512x128.Slices ![o, 0] S128x128) (hk : S1024x128.Slices ![o, 0] S640x128)
    (i2 : BitVec 32) (x0 x1 x2 x3 x4 : Vec Ideal S512x128 .f32) (x5 x6 : Vec Ideal S1x128 .f32) (b : Vec Ideal S1x128x640 .f32) :
    FVec Ideal S128x128 .bf16 :=
  outV o hk (scoreV o w hq hk i2 (k1_pay5 x0 x5) (k1_pay17 (k1_pay12 x1 x6) (k1_pay12 x2 x6)) b) (k1_pay24 x4 x3)

theorem itemV_apply (i o hl : ℕ) (hi : i < 16) (ho : o ≤ 384) (hd : o % 128 = 0) (hq : S512x128.Slices ![o, 0] S128x128) (hk : S1024x128.Slices ![o, 0] S640x128)
    (x0 x1 x2 x3 x4 : Vec Ideal S512x128 .f32) (x5 x6 : Vec Ideal S1x128 .f32) (b : Vec Ideal S1x128x640 .f32)
    (Q Kc Kp Vc Vp : ℕ → ℕ → EReal) (gq gk : ℕ → EReal) (B : ℕ → ℕ → ℕ → EReal)
    (h0 : ∀ (r : Fin 512) (d : Fin 128), x0 (ix2 r d) = Q r (128 * hl + d))
    (h1 : ∀ (r : Fin 512) (d : Fin 128), x1 (ix2 r d) = Kc r (128 * hl + d))
    (h2 : ∀ (r : Fin 512) (d : Fin 128), x2 (ix2 r d) = Kp r (128 * hl + d))
    (h3 : ∀ (r : Fin 512) (d : Fin 128), x3 (ix2 r d) = Vc r (128 * hl + d))
    (h4 : ∀ (r : Fin 512) (d : Fin 128), x4 (ix2 r d) = Vp r (128 * hl + d))
    (h5 : ∀ d : Fin 128, x5 (ix2 0 d) = gq d) (h6 : ∀ d : Fin 128, x6 (ix2 0 d) = gk d)
    (h7 : ∀ (r : Fin 128) (k : Fin 640), b (ix3 0 r k) = B hl (o + r) (o + k)) (r d : Fin 128) :
    itemV o (BitVec.ofNat 32 (512 - o)) hq hk (BitVec.ofNat 32 i) x0 x1 x2 x3 x4 x5 x6 b (ix2 r d)
      = blkO i Q Kc Kp Vc Vp gq gk B (o + r) (128 * hl + d) := by
  have e1 : (128 * hl + (d : ℕ)) / 128 = hl := by omega
  have e2 : (o + (r : ℕ)) / 128 * 128 = o := by omega
  unfold itemV blkO
  rw [outV_apply o ho, e1, e2]
  congr 1
  · funext kk
    rw [scoreV_apply o ho, maskBit i o hi ho]
    unfold blkS
    split
    · rw [h7]
      congr 1
      refine Finset.sum_congr rfl fun x _ => ?_
      rw [pay5_apply x0 x5 ⟨o + r, by omega⟩ x (fun d => Q (o + r) (128 * hl + d)) gq (fun d => h0 _ d) h5, pay17_apply]
      congr 1
      split
      · rename_i hlt
        have hlt' : o + (kk : ℕ) < 512 := hlt
        rw [pay12_apply x2 x6 _ x (fun d => Kp (o + kk) (128 * hl + d)) gk (fun d => h2 _ d) h6]
        simp only [pair, if_pos hlt']
      · rename_i hlt
        have hlt' : ¬ o + (kk : ℕ) < 512 := hlt
        rw [pay12_apply x1 x6 _ x (fun d => Kc (o + kk - 512) (128 * hl + d)) gk (fun d => h1 _ d) h6]
        simp only [pair, if_neg hlt']
    · rfl
  · funext kk
    rw [pay24_apply]
    unfold pair
    split
    · rename_i hlt
      have hlt' : o + (kk : ℕ) < 512 := hlt
      rw [h4]
    · rename_i hlt
      have hlt' : ¬ o + (kk : ℕ) < 512 := hlt
      rw [h3]
end Cert.KernelIdeal.Val
-- ==== Proof.BandBlock.lean ====
module
public import proofs.«01_k».proof.Proof.Gen.KernelIdeal.Frame
public import proofs.«01_k».proof.Proof.Item
public import Idealize.ShloMosaic.Lib.Pipeline.Value
@[expose] public section
set_option maxRecDepth 65536
noncomputable section
namespace Cert.KernelIdeal.Val
open Cert.KernelIdeal Cert.KernelIdeal.Gen Cert.Band Idealize.ShloMosaic Idealize.ShloMosaic.TcCoe Idealize.SL.Sem

/-- A piece stored at rows from `o` and columns from `p` is read at its place in the block. -/
theorem emb_piece (o p : ℕ) (inb : ∀ a, (![o, p] : Fin 2 → ℕ) a + (![128, 128] : Fin 2 → ℕ) a ≤ S512x512.size a) (x : S128x128.Idx) :
    ((Rect.unit (s := S512x512) ![o, p] ![128, 128] inb).emb x 0).val = o + (x 0).val
      ∧ ((Rect.unit (s := S512x512) ![o, p] ![128, 128] inb).emb x 1).val = p + (x 1).val := by
  constructor
  · show o + 1 * (x 0).val = _; omega
  · show p + 1 * (x 1).val = _; omega

theorem ldCol_apply {p : ℕ} (inb : ∀ a, (![0, p] : Fin 2 → ℕ) a + S512x128.size a ≤ S512x512.size a) (X : Vec Ideal S512x512 .f32) (r : Fin 512) (d : Fin 128) (hp : p ≤ 384) :
    View.ld X (Rect.unit ![0, p] S512x128.size inb) (ix2 r d) = X (ix2 r ⟨p + d, by omega⟩) := by
  pointwise

theorem ldBias_apply {h o q : ℕ} (inb : ∀ a, (![h, o, q] : Fin 3 → ℕ) a + S1x128x640.size a ≤ S4x512x1024.size a) (X : Vec Ideal S4x512x1024 .f32) (r : Fin 128) (k : Fin 640) (hh : h < 4) (ho : o ≤ 384) (hq : q ≤ 384) :
    View.ld X (Rect.unit ![h, o, q] S1x128x640.size inb) (ix3 0 r k) = X (ix3 ⟨h, hh⟩ ⟨o + r, by omega⟩ ⟨q + k, by omega⟩) := by
  pointwise

variable (c : Dev nD) (i : grid1.Coords) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S1x128 .f32) (h8 : a8.IsWhole) (a9 : Memref sig .tc .vmem S1x128 .f32) (h9 : a9.IsWhole) (a10 : Memref sig .tc .vmem S4x512x1024 .f32) (h10 : a10.IsWhole) (a11 : Memref sig .tc .vmem S512x512 .bf16) (h11 : a11.IsWhole) (a12 : Memref sig .tc .vmem S1x512x512 .f32) (h12 : a12.IsWhole)
  (x0 x1 x2 x3 x4 : Vec Ideal S512x512 .f32) (x5 x6 : Vec Ideal S1x128 .f32) (x7 : Vec Ideal S4x512x1024 .f32)
  (Q Kc Kp Vc Vp : ℕ → ℕ → EReal) (gq gk : ℕ → EReal) (B : ℕ → ℕ → ℕ → EReal)

/-- What a point of the attention leaves in its block of the output. -/
theorem out8A_apply (hc : ¬cond1_0 i)
    (e0 : ∀ r d : Fin 512, x0 (ix2 r d) = Q r d) (e1 : ∀ r d : Fin 512, x1 (ix2 r d) = Kc r d)
    (e2 : ∀ r d : Fin 512, x2 (ix2 r d) = Kp r d) (e3 : ∀ r d : Fin 512, x3 (ix2 r d) = Vc r d)
    (e4 : ∀ r d : Fin 512, x4 (ix2 r d) = Vp r d) (e5 : ∀ d : Fin 128, x5 (ix2 0 d) = gq d) (e6 : ∀ d : Fin 128, x6 (ix2 0 d) = gk d)
    (e7 : ∀ (h : Fin 4) (r : Fin 512) (k : Fin 1024), x7 (ix3 h r k) = B h r k) (y : S512x512.Idx) :
    out1_A_8 c i a3 h3 a4 h4 a5 h5 a6 h6 a7 h7 a8 h8 a9 h9 a10 h10 a11 h11 a12 h12 hc x0 x1 x2 x3 x4 x5 x6 x7 y = blkO (i 2).val Q Kc Kp Vc Vp gq gk B (y 0).val (y 1).val := by
  unfold out1_A_8
  rw [View.read_writes_eq_canon _ _ _ (cover1_A_8 c i a3 h3 a4 h4 a5 h5 a6 h6 a7 h7 a8 h8 a9 h9 a10 h10 a11 h11 a12 h12 hc x0 x1 x2 x3 x4 x5 x6 x7)]
  refine View.canon_apply_of_pieces (fun y => blkO (i 2).val Q Kc Kp Vc Vp gq gk B (y 0).val (y 1).val) _ ?_ y (cover1_A_8 c i a3 h3 a4 h4 a5 h5 a6 h6 a7 h7 a8 h8 a9 h9 a10 h10 a11 h11 a12 h12 hc x0 x1 x2 x3 x4 x5 x6 x7 y)
  unfold kernelRun1_A
  dsimp only
  sl_unfold_words
  simp only [List.forall_mem_cons, List.not_mem_nil, false_imp_iff, implies_true, and_true, View.readAt_eq_ld, h3.read_unread, h4.read_unread, h5.read_unread, h6.read_unread, h7.read_unread, h8.read_unread, h9.read_unread, h10.read_unread]
  have hi : (i 2).val < 16 := (i 2).isLt
  have z2 : (![0, 0] : Fin 2 → ℕ) = fun _ => 0 := by decide
  have L0 : ∀ p : ℕ, p ≤ 384 → ∀ inb (r : Fin 512) (d : Fin 128), View.ld x0 (Rect.unit (s := S512x512) ![0, p] S512x128.size inb) (ix2 r d) = Q r (p + d) :=
    fun p hp inb r d => (ldCol_apply inb x0 r d hp).trans (e0 _ _)
  have L1 : ∀ p : ℕ, p ≤ 384 → ∀ inb (r : Fin 512) (d : Fin 128), View.ld x1 (Rect.unit (s := S512x512) ![0, p] S512x128.size inb) (ix2 r d) = Kc r (p + d) :=
    fun p hp inb r d => (ldCol_apply inb x1 r d hp).trans (e1 _ _)
  have L2 : ∀ p : ℕ, p ≤ 384 → ∀ inb (r : Fin 512) (d : Fin 128), View.ld x2 (Rect.unit (s := S512x512) ![0, p] S512x128.size inb) (ix2 r d) = Kp r (p + d) :=
    fun p hp inb r d => (ldCol_apply inb x2 r d hp).trans (e2 _ _)
  have L3 : ∀ p : ℕ, p ≤ 384 → ∀ inb (r : Fin 512) (d : Fin 128), View.ld x3 (Rect.unit (s := S512x512) ![0, p] S512x128.size inb) (ix2 r d) = Vc r (p + d) :=
    fun p hp inb r d => (ldCol_apply inb x3 r d hp).trans (e3 _ _)
  have L4 : ∀ p : ℕ, p ≤ 384 → ∀ inb (r : Fin 512) (d : Fin 128), View.ld x4 (Rect.unit (s := S512x512) ![0, p] S512x128.size inb) (ix2 r d) = Vp r (p + d) :=
    fun p hp inb r d => (ldCol_apply inb x4 r d hp).trans (e4 _ _)
  have L5 : ∀ inb (d : Fin 128), View.ld x5 (Rect.unit (s := S1x128) ![0, 0] S1x128.size inb) (ix2 0 d) = gq d :=
    fun inb d => by rw [View.ld_unit_zero z2]; exact e5 d
  have L6 : ∀ inb (d : Fin 128), View.ld x6 (Rect.unit (s := S1x128) ![0, 0] S1x128.size inb) (ix2 0 d) = gk d :=
    fun inb d => by rw [View.ld_unit_zero z2]; exact e6 d
  have L7 : ∀ h o : ℕ, ∀ (hh : h < 4) (ho : o ≤ 384), ∀ inb (r : Fin 128) (k : Fin 640), View.ld x7 (Rect.unit (s := S4x512x1024) ![h, o, o] S1x128x640.size inb) (ix3 0 r k) = B h (o + r) (o + k) :=
    fun h o hh ho inb r k => (ldBias_apply inb x7 r k hh ho ho).trans (e7 _ _ _)
  refine ⟨?_, ?_, ?_, ?_, ?_, ?_, ?_, ?_, ?_, ?_, ?_, ?_, ?_, ?_, ?_, ?_⟩
  · intro x
    rw [eq_ix2 x]
    refine Eq.trans ?_ ((itemV_apply (i 2).val 384 3 hi (by decide) (by decide) slices_S512x128_o384_0_S128x128 slices_S1024x128_o384_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 384 (by decide) (by decide) inb_S4x512x1024_S1x128x640_3_384_384) (x 0) (x 1)).trans ?_)
    · rfl
    · rw [(emb_piece 384 384 inb_S512x512_S128x128_384_384 _).1, (emb_piece 384 384 inb_S512x512_S128x128_384_384 _).2]; rfl
  · intro x
    rw [eq_ix2 x]
    refine Eq.trans ?_ ((itemV_apply (i 2).val 256 3 hi (by decide) (by decide) slices_S512x128_o256_0_S128x128 slices_S1024x128_o256_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 256 (by decide) (by decide) inb_S4x512x1024_S1x128x640_3_256_256) (x 0) (x 1)).trans ?_)
    · rfl
    · rw [(emb_piece 256 384 inb_S512x512_S128x128_256_384 _).1, (emb_piece 256 384 inb_S512x512_S128x128_256_384 _).2]; rfl
  · intro x
    rw [eq_ix2 x]
    refine Eq.trans ?_ ((itemV_apply (i 2).val 128 3 hi (by decide) (by decide) slices_S512x128_o128_0_S128x128 slices_S1024x128_o128_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 128 (by decide) (by decide) inb_S4x512x1024_S1x128x640_3_128_128) (x 0) (x 1)).trans ?_)
    · rfl
    · rw [(emb_piece 128 384 inb_S512x512_S128x128_128_384 _).1, (emb_piece 128 384 inb_S512x512_S128x128_128_384 _).2]; rfl
  · intro x
    rw [eq_ix2 x]
    refine Eq.trans ?_ ((itemV_apply (i 2).val 0 3 hi (by decide) (by decide) slices_S512x128_o0_0_S128x128 slices_S1024x128_o0_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 0 (by decide) (by decide) inb_S4x512x1024_S1x128x640_3_0_0) (x 0) (x 1)).trans ?_)
    · rfl
    · rw [(emb_piece 0 384 inb_S512x512_S128x128_0_384 _).1, (emb_piece 0 384 inb_S512x512_S128x128_0_384 _).2]; rfl
  · intro x
    rw [eq_ix2 x]
    refine Eq.trans ?_ ((itemV_apply (i 2).val 384 2 hi (by decide) (by decide) slices_S512x128_o384_0_S128x128 slices_S1024x128_o384_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 384 (by decide) (by decide) inb_S4x512x1024_S1x128x640_2_384_384) (x 0) (x 1)).trans ?_)
    · rfl
    · rw [(emb_piece 384 256 inb_S512x512_S128x128_384_256 _).1, (emb_piece 384 256 inb_S512x512_S128x128_384_256 _).2]; rfl
  · intro x
    rw [eq_ix2 x]
    refine Eq.trans ?_ ((itemV_apply (i 2).val 256 2 hi (by decide) (by decide) slices_S512x128_o256_0_S128x128 slices_S1024x128_o256_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 256 (by decide) (by decide) inb_S4x512x1024_S1x128x640_2_256_256) (x 0) (x 1)).trans ?_)
    · rfl
    · rw [(emb_piece 256 256 inb_S512x512_S128x128_256_256 _).1, (emb_piece 256 256 inb_S512x512_S128x128_256_256 _).2]; rfl
  · intro x
    rw [eq_ix2 x]
    refine Eq.trans ?_ ((itemV_apply (i 2).val 128 2 hi (by decide) (by decide) slices_S512x128_o128_0_S128x128 slices_S1024x128_o128_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 128 (by decide) (by decide) inb_S4x512x1024_S1x128x640_2_128_128) (x 0) (x 1)).trans ?_)
    · rfl
    · rw [(emb_piece 128 256 inb_S512x512_S128x128_128_256 _).1, (emb_piece 128 256 inb_S512x512_S128x128_128_256 _).2]; rfl
  · intro x
    rw [eq_ix2 x]
    refine Eq.trans ?_ ((itemV_apply (i 2).val 0 2 hi (by decide) (by decide) slices_S512x128_o0_0_S128x128 slices_S1024x128_o0_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 0 (by decide) (by decide) inb_S4x512x1024_S1x128x640_2_0_0) (x 0) (x 1)).trans ?_)
    · rfl
    · rw [(emb_piece 0 256 inb_S512x512_S128x128_0_256 _).1, (emb_piece 0 256 inb_S512x512_S128x128_0_256 _).2]; rfl
  · intro x
    rw [eq_ix2 x]
    refine Eq.trans ?_ ((itemV_apply (i 2).val 384 1 hi (by decide) (by decide) slices_S512x128_o384_0_S128x128 slices_S1024x128_o384_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 384 (by decide) (by decide) inb_S4x512x1024_S1x128x640_1_384_384) (x 0) (x 1)).trans ?_)
    · rfl
    · rw [(emb_piece 384 128 inb_S512x512_S128x128_384_128 _).1, (emb_piece 384 128 inb_S512x512_S128x128_384_128 _).2]; rfl
  · intro x
    rw [eq_ix2 x]
    refine Eq.trans ?_ ((itemV_apply (i 2).val 256 1 hi (by decide) (by decide) slices_S512x128_o256_0_S128x128 slices_S1024x128_o256_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 256 (by decide) (by decide) inb_S4x512x1024_S1x128x640_1_256_256) (x 0) (x 1)).trans ?_)
    · rfl
    · rw [(emb_piece 256 128 inb_S512x512_S128x128_256_128 _).1, (emb_piece 256 128 inb_S512x512_S128x128_256_128 _).2]; rfl
  · intro x
    rw [eq_ix2 x]
    refine Eq.trans ?_ ((itemV_apply (i 2).val 128 1 hi (by decide) (by decide) slices_S512x128_o128_0_S128x128 slices_S1024x128_o128_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 128 (by decide) (by decide) inb_S4x512x1024_S1x128x640_1_128_128) (x 0) (x 1)).trans ?_)
    · rfl
    · rw [(emb_piece 128 128 inb_S512x512_S128x128_128_128 _).1, (emb_piece 128 128 inb_S512x512_S128x128_128_128 _).2]; rfl
  · intro x
    rw [eq_ix2 x]
    refine Eq.trans ?_ ((itemV_apply (i 2).val 0 1 hi (by decide) (by decide) slices_S512x128_o0_0_S128x128 slices_S1024x128_o0_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 0 (by decide) (by decide) inb_S4x512x1024_S1x128x640_1_0_0) (x 0) (x 1)).trans ?_)
    · rfl
    · rw [(emb_piece 0 128 inb_S512x512_S128x128_0_128 _).1, (emb_piece 0 128 inb_S512x512_S128x128_0_128 _).2]; rfl
  · intro x
    rw [eq_ix2 x]
    refine Eq.trans ?_ ((itemV_apply (i 2).val 384 0 hi (by decide) (by decide) slices_S512x128_o384_0_S128x128 slices_S1024x128_o384_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 384 (by decide) (by decide) inb_S4x512x1024_S1x128x640_0_384_384) (x 0) (x 1)).trans ?_)
    · rfl
    · rw [(emb_piece 384 0 inb_S512x512_S128x128_384_0 _).1, (emb_piece 384 0 inb_S512x512_S128x128_384_0 _).2]; rfl
  · intro x
    rw [eq_ix2 x]
    refine Eq.trans ?_ ((itemV_apply (i 2).val 256 0 hi (by decide) (by decide) slices_S512x128_o256_0_S128x128 slices_S1024x128_o256_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 256 (by decide) (by decide) inb_S4x512x1024_S1x128x640_0_256_256) (x 0) (x 1)).trans ?_)
    · rfl
    · rw [(emb_piece 256 0 inb_S512x512_S128x128_256_0 _).1, (emb_piece 256 0 inb_S512x512_S128x128_256_0 _).2]; rfl
  · intro x
    rw [eq_ix2 x]
    refine Eq.trans ?_ ((itemV_apply (i 2).val 128 0 hi (by decide) (by decide) slices_S512x128_o128_0_S128x128 slices_S1024x128_o128_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 128 (by decide) (by decide) inb_S4x512x1024_S1x128x640_0_128_128) (x 0) (x 1)).trans ?_)
    · rfl
    · rw [(emb_piece 128 0 inb_S512x512_S128x128_128_0 _).1, (emb_piece 128 0 inb_S512x512_S128x128_128_0 _).2]; rfl
  · intro x
    rw [eq_ix2 x]
    refine Eq.trans ?_ ((itemV_apply (i 2).val 0 0 hi (by decide) (by decide) slices_S512x128_o0_0_S128x128 slices_S1024x128_o0_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 0 (by decide) (by decide) inb_S4x512x1024_S1x128x640_0_0_0) (x 0) (x 1)).trans ?_)
    · rfl
    · rw [(emb_piece 0 0 inb_S512x512_S128x128_0_0 _).1, (emb_piece 0 0 inb_S512x512_S128x128_0_0 _).2]; rfl

/-- What a point of the attention that ends a sequence leaves in its block of the output. -/
theorem out8B_apply (hc : cond1_0 i)
    (e0 : ∀ r d : Fin 512, x0 (ix2 r d) = Q r d) (e1 : ∀ r d : Fin 512, x1 (ix2 r d) = Kc r d)
    (e2 : ∀ r d : Fin 512, x2 (ix2 r d) = Kp r d) (e3 : ∀ r d : Fin 512, x3 (ix2 r d) = Vc r d)
    (e4 : ∀ r d : Fin 512, x4 (ix2 r d) = Vp r d) (e5 : ∀ d : Fin 128, x5 (ix2 0 d) = gq d) (e6 : ∀ d : Fin 128, x6 (ix2 0 d) = gk d)
    (e7 : ∀ (h : Fin 4) (r : Fin 512) (k : Fin 1024), x7 (ix3 h r k) = B h r k) (y : S512x512.Idx) :
    out1_B_8 c i a3 h3 a4 h4 a5 h5 a6 h6 a7 h7 a8 h8 a9 h9 a10 h10 a11 h11 a12 h12 hc x0 x1 x2 x3 x4 x5 x6 x7 y = blkO (i 2).val Q Kc Kp Vc Vp gq gk B (y 0).val (y 1).val := by
  unfold out1_B_8
  rw [View.read_writes_eq_canon _ _ _ (cover1_B_8 c i a3 h3 a4 h4 a5 h5 a6 h6 a7 h7 a8 h8 a9 h9 a10 h10 a11 h11 a12 h12 hc x0 x1 x2 x3 x4 x5 x6 x7)]
  refine View.canon_apply_of_pieces (fun y => blkO (i 2).val Q Kc Kp Vc Vp gq gk B (y 0).val (y 1).val) _ ?_ y (cover1_B_8 c i a3 h3 a4 h4 a5 h5 a6 h6 a7 h7 a8 h8 a9 h9 a10 h10 a11 h11 a12 h12 hc x0 x1 x2 x3 x4 x5 x6 x7 y)
  unfold kernelRun1_B
  dsimp only
  sl_unfold_words
  simp only [List.forall_mem_cons, List.not_mem_nil, false_imp_iff, implies_true, and_true, View.readAt_eq_ld, h3.read_unread, h4.read_unread, h5.read_unread, h6.read_unread, h7.read_unread, h8.read_unread, h9.read_unread, h10.read_unread]
  have hi : (i 2).val < 16 := (i 2).isLt
  have z2 : (![0, 0] : Fin 2 → ℕ) = fun _ => 0 := by decide
  have L0 : ∀ p : ℕ, p ≤ 384 → ∀ inb (r : Fin 512) (d : Fin 128), View.ld x0 (Rect.unit (s := S512x512) ![0, p] S512x128.size inb) (ix2 r d) = Q r (p + d) :=
    fun p hp inb r d => (ldCol_apply inb x0 r d hp).trans (e0 _ _)
  have L1 : ∀ p : ℕ, p ≤ 384 → ∀ inb (r : Fin 512) (d : Fin 128), View.ld x1 (Rect.unit (s := S512x512) ![0, p] S512x128.size inb) (ix2 r d) = Kc r (p + d) :=
    fun p hp inb r d => (ldCol_apply inb x1 r d hp).trans (e1 _ _)
  have L2 : ∀ p : ℕ, p ≤ 384 → ∀ inb (r : Fin 512) (d : Fin 128), View.ld x2 (Rect.unit (s := S512x512) ![0, p] S512x128.size inb) (ix2 r d) = Kp r (p + d) :=
    fun p hp inb r d => (ldCol_apply inb x2 r d hp).trans (e2 _ _)
  have L3 : ∀ p : ℕ, p ≤ 384 → ∀ inb (r : Fin 512) (d : Fin 128), View.ld x3 (Rect.unit (s := S512x512) ![0, p] S512x128.size inb) (ix2 r d) = Vc r (p + d) :=
    fun p hp inb r d => (ldCol_apply inb x3 r d hp).trans (e3 _ _)
  have L4 : ∀ p : ℕ, p ≤ 384 → ∀ inb (r : Fin 512) (d : Fin 128), View.ld x4 (Rect.unit (s := S512x512) ![0, p] S512x128.size inb) (ix2 r d) = Vp r (p + d) :=
    fun p hp inb r d => (ldCol_apply inb x4 r d hp).trans (e4 _ _)
  have L5 : ∀ inb (d : Fin 128), View.ld x5 (Rect.unit (s := S1x128) ![0, 0] S1x128.size inb) (ix2 0 d) = gq d :=
    fun inb d => by rw [View.ld_unit_zero z2]; exact e5 d
  have L6 : ∀ inb (d : Fin 128), View.ld x6 (Rect.unit (s := S1x128) ![0, 0] S1x128.size inb) (ix2 0 d) = gk d :=
    fun inb d => by rw [View.ld_unit_zero z2]; exact e6 d
  have L7 : ∀ h o : ℕ, ∀ (hh : h < 4) (ho : o ≤ 384), ∀ inb (r : Fin 128) (k : Fin 640), View.ld x7 (Rect.unit (s := S4x512x1024) ![h, o, o] S1x128x640.size inb) (ix3 0 r k) = B h (o + r) (o + k) :=
    fun h o hh ho inb r k => (ldBias_apply inb x7 r k hh ho ho).trans (e7 _ _ _)
  refine ⟨?_, ?_, ?_, ?_, ?_, ?_, ?_, ?_, ?_, ?_, ?_, ?_, ?_, ?_, ?_, ?_⟩
  · intro x
    rw [eq_ix2 x]
    refine Eq.trans ?_ ((itemV_apply (i 2).val 384 3 hi (by decide) (by decide) slices_S512x128_o384_0_S128x128 slices_S1024x128_o384_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 384 (by decide) (by decide) inb_S4x512x1024_S1x128x640_3_384_384) (x 0) (x 1)).trans ?_)
    · rfl
    · rw [(emb_piece 384 384 inb_S512x512_S128x128_384_384 _).1, (emb_piece 384 384 inb_S512x512_S128x128_384_384 _).2]; rfl
  · intro x
    rw [eq_ix2 x]
    refine Eq.trans ?_ ((itemV_apply (i 2).val 256 3 hi (by decide) (by decide) slices_S512x128_o256_0_S128x128 slices_S1024x128_o256_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 256 (by decide) (by decide) inb_S4x512x1024_S1x128x640_3_256_256) (x 0) (x 1)).trans ?_)
    · rfl
    · rw [(emb_piece 256 384 inb_S512x512_S128x128_256_384 _).1, (emb_piece 256 384 inb_S512x512_S128x128_256_384 _).2]; rfl
  · intro x
    rw [eq_ix2 x]
    refine Eq.trans ?_ ((itemV_apply (i 2).val 128 3 hi (by decide) (by decide) slices_S512x128_o128_0_S128x128 slices_S1024x128_o128_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 128 (by decide) (by decide) inb_S4x512x1024_S1x128x640_3_128_128) (x 0) (x 1)).trans ?_)
    · rfl
    · rw [(emb_piece 128 384 inb_S512x512_S128x128_128_384 _).1, (emb_piece 128 384 inb_S512x512_S128x128_128_384 _).2]; rfl
  · intro x
    rw [eq_ix2 x]
    refine Eq.trans ?_ ((itemV_apply (i 2).val 0 3 hi (by decide) (by decide) slices_S512x128_o0_0_S128x128 slices_S1024x128_o0_0_S640x128 _ _ _ _ _ _ _ _ Q Kc Kp Vc Vp gq gk B (L0 384 (by decide) (inb_S512x512_S512x128_0_384)) (L1 384 (by decide) (inb_S512x512_S512x128_0_384)) (L2 384 (by decide) (inb_S512x512_S512x128_0_384)) (L3 384 (by decide) (inb_S512x512_S512x128_0_384)) (L4 384 (by decide) (inb_S512x512_S512x128_0_384)) (L5 inb_S1x128_S1x128_0_0) (L6 inb_S1x128_S1x128_0_0) (L7 3 0 (by decide) (by decide) inb_S4x512x1024_S1x128x640_3_0_0) (x 0) (x 1)).trans ?_)
    · rfl
    · rw [(emb_piece 0 384 inb_S512x512_S128x128_0_384 _).1, (emb_piece 0 384 inb_S512x512_S128x128_0_384 _).2]; rfl
  · intro x
    rw [eq_ix2 x]
    refine Eq.trans ?_ ((itemV_apply (i 2).val 384 2 hi (by decide) (by decide) slices_S512x128_o384_0_S128x128 slices_S1024x128_o384_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 384 (by decide) (by decide) inb_S4x512x1024_S1x128x640_2_384_384) (x 0) (x 1)).trans ?_)
    · rfl
    · rw [(emb_piece 384 256 inb_S512x512_S128x128_384_256 _).1, (emb_piece 384 256 inb_S512x512_S128x128_384_256 _).2]; rfl
  · intro x
    rw [eq_ix2 x]
    refine Eq.trans ?_ ((itemV_apply (i 2).val 256 2 hi (by decide) (by decide) slices_S512x128_o256_0_S128x128 slices_S1024x128_o256_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 256 (by decide) (by decide) inb_S4x512x1024_S1x128x640_2_256_256) (x 0) (x 1)).trans ?_)
    · rfl
    · rw [(emb_piece 256 256 inb_S512x512_S128x128_256_256 _).1, (emb_piece 256 256 inb_S512x512_S128x128_256_256 _).2]; rfl
  · intro x
    rw [eq_ix2 x]
    refine Eq.trans ?_ ((itemV_apply (i 2).val 128 2 hi (by decide) (by decide) slices_S512x128_o128_0_S128x128 slices_S1024x128_o128_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 128 (by decide) (by decide) inb_S4x512x1024_S1x128x640_2_128_128) (x 0) (x 1)).trans ?_)
    · rfl
    · rw [(emb_piece 128 256 inb_S512x512_S128x128_128_256 _).1, (emb_piece 128 256 inb_S512x512_S128x128_128_256 _).2]; rfl
  · intro x
    rw [eq_ix2 x]
    refine Eq.trans ?_ ((itemV_apply (i 2).val 0 2 hi (by decide) (by decide) slices_S512x128_o0_0_S128x128 slices_S1024x128_o0_0_S640x128 _ _ _ _ _ _ _ _ Q Kc Kp Vc Vp gq gk B (L0 256 (by decide) (inb_S512x512_S512x128_0_256)) (L1 256 (by decide) (inb_S512x512_S512x128_0_256)) (L2 256 (by decide) (inb_S512x512_S512x128_0_256)) (L3 256 (by decide) (inb_S512x512_S512x128_0_256)) (L4 256 (by decide) (inb_S512x512_S512x128_0_256)) (L5 inb_S1x128_S1x128_0_0) (L6 inb_S1x128_S1x128_0_0) (L7 2 0 (by decide) (by decide) inb_S4x512x1024_S1x128x640_2_0_0) (x 0) (x 1)).trans ?_)
    · rfl
    · rw [(emb_piece 0 256 inb_S512x512_S128x128_0_256 _).1, (emb_piece 0 256 inb_S512x512_S128x128_0_256 _).2]; rfl
  · intro x
    rw [eq_ix2 x]
    refine Eq.trans ?_ ((itemV_apply (i 2).val 384 1 hi (by decide) (by decide) slices_S512x128_o384_0_S128x128 slices_S1024x128_o384_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 384 (by decide) (by decide) inb_S4x512x1024_S1x128x640_1_384_384) (x 0) (x 1)).trans ?_)
    · rfl
    · rw [(emb_piece 384 128 inb_S512x512_S128x128_384_128 _).1, (emb_piece 384 128 inb_S512x512_S128x128_384_128 _).2]; rfl
  · intro x
    rw [eq_ix2 x]
    refine Eq.trans ?_ ((itemV_apply (i 2).val 256 1 hi (by decide) (by decide) slices_S512x128_o256_0_S128x128 slices_S1024x128_o256_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 256 (by decide) (by decide) inb_S4x512x1024_S1x128x640_1_256_256) (x 0) (x 1)).trans ?_)
    · rfl
    · rw [(emb_piece 256 128 inb_S512x512_S128x128_256_128 _).1, (emb_piece 256 128 inb_S512x512_S128x128_256_128 _).2]; rfl
  · intro x
    rw [eq_ix2 x]
    refine Eq.trans ?_ ((itemV_apply (i 2).val 128 1 hi (by decide) (by decide) slices_S512x128_o128_0_S128x128 slices_S1024x128_o128_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 128 (by decide) (by decide) inb_S4x512x1024_S1x128x640_1_128_128) (x 0) (x 1)).trans ?_)
    · rfl
    · rw [(emb_piece 128 128 inb_S512x512_S128x128_128_128 _).1, (emb_piece 128 128 inb_S512x512_S128x128_128_128 _).2]; rfl
  · intro x
    rw [eq_ix2 x]
    refine Eq.trans ?_ ((itemV_apply (i 2).val 0 1 hi (by decide) (by decide) slices_S512x128_o0_0_S128x128 slices_S1024x128_o0_0_S640x128 _ _ _ _ _ _ _ _ Q Kc Kp Vc Vp gq gk B (L0 128 (by decide) (inb_S512x512_S512x128_0_128)) (L1 128 (by decide) (inb_S512x512_S512x128_0_128)) (L2 128 (by decide) (inb_S512x512_S512x128_0_128)) (L3 128 (by decide) (inb_S512x512_S512x128_0_128)) (L4 128 (by decide) (inb_S512x512_S512x128_0_128)) (L5 inb_S1x128_S1x128_0_0) (L6 inb_S1x128_S1x128_0_0) (L7 1 0 (by decide) (by decide) inb_S4x512x1024_S1x128x640_1_0_0) (x 0) (x 1)).trans ?_)
    · rfl
    · rw [(emb_piece 0 128 inb_S512x512_S128x128_0_128 _).1, (emb_piece 0 128 inb_S512x512_S128x128_0_128 _).2]; rfl
  · intro x
    rw [eq_ix2 x]
    refine Eq.trans ?_ ((itemV_apply (i 2).val 384 0 hi (by decide) (by decide) slices_S512x128_o384_0_S128x128 slices_S1024x128_o384_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 384 (by decide) (by decide) inb_S4x512x1024_S1x128x640_0_384_384) (x 0) (x 1)).trans ?_)
    · rfl
    · rw [(emb_piece 384 0 inb_S512x512_S128x128_384_0 _).1, (emb_piece 384 0 inb_S512x512_S128x128_384_0 _).2]; rfl
  · intro x
    rw [eq_ix2 x]
    refine Eq.trans ?_ ((itemV_apply (i 2).val 256 0 hi (by decide) (by decide) slices_S512x128_o256_0_S128x128 slices_S1024x128_o256_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 256 (by decide) (by decide) inb_S4x512x1024_S1x128x640_0_256_256) (x 0) (x 1)).trans ?_)
    · rfl
    · rw [(emb_piece 256 0 inb_S512x512_S128x128_256_0 _).1, (emb_piece 256 0 inb_S512x512_S128x128_256_0 _).2]; rfl
  · intro x
    rw [eq_ix2 x]
    refine Eq.trans ?_ ((itemV_apply (i 2).val 128 0 hi (by decide) (by decide) slices_S512x128_o128_0_S128x128 slices_S1024x128_o128_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 128 (by decide) (by decide) inb_S4x512x1024_S1x128x640_0_128_128) (x 0) (x 1)).trans ?_)
    · rfl
    · rw [(emb_piece 128 0 inb_S512x512_S128x128_128_0 _).1, (emb_piece 128 0 inb_S512x512_S128x128_128_0 _).2]; rfl
  · intro x
    rw [eq_ix2 x]
    refine Eq.trans ?_ ((itemV_apply (i 2).val 0 0 hi (by decide) (by decide) slices_S512x128_o0_0_S128x128 slices_S1024x128_o0_0_S640x128 _ _ _ _ _ _ _ _ Q Kc Kp Vc Vp gq gk B (L0 0 (by decide) (inb_S512x512_S512x128_0_0)) (L1 0 (by decide) (inb_S512x512_S512x128_0_0)) (L2 0 (by decide) (inb_S512x512_S512x128_0_0)) (L3 0 (by decide) (inb_S512x512_S512x128_0_0)) (L4 0 (by decide) (inb_S512x512_S512x128_0_0)) (L5 inb_S1x128_S1x128_0_0) (L6 inb_S1x128_S1x128_0_0) (L7 0 0 (by decide) (by decide) inb_S4x512x1024_S1x128x640_0_0_0) (x 0) (x 1)).trans ?_)
    · rfl
    · rw [(emb_piece 0 0 inb_S512x512_S128x128_0_0 _).1, (emb_piece 0 0 inb_S512x512_S128x128_0_0 _).2]; rfl

/-- A stored piece of the keys is read at its place in the block. -/
theorem emb_piece9 (p : ℕ) (inb : ∀ a, (![0, 0, p] : Fin 3 → ℕ) a + (![1, 512, 128] : Fin 3 → ℕ) a ≤ S1x512x512.size a) (x : S1x512x128.Idx) :
    ((Rect.unit (s := S1x512x512) ![0, 0, p] ![1, 512, 128] inb).emb x 1).val = (x 1).val
      ∧ ((Rect.unit (s := S1x512x512) ![0, 0, p] ![1, 512, 128] inb).emb x 2).val = p + (x 2).val := by
  constructor
  · show 0 + 1 * (x 1).val = _; omega
  · show p + 1 * (x 2).val = _; omega

theorem pay1_apply (x : FVec Ideal S512x128 .f32) (z : Fin 1) (r : Fin 512) (d : Fin 128) : k1_pay1 x (ix3 z r d) = x (ix2 r d) := by
  pointwise [k1_pay1]

/-- What the last point of a sequence leaves in its block of the returned keys. -/
theorem out9B_apply (hc : cond1_0 i)
    (e1 : ∀ r d : Fin 512, x1 (ix2 r d) = Kc r d) (e6 : ∀ d : Fin 128, x6 (ix2 0 d) = gk d) (y : S1x512x512.Idx) :
    out1_B_9 c i a3 h3 a4 h4 a5 h5 a6 h6 a7 h7 a8 h8 a9 h9 a10 h10 a11 h11 a12 h12 hc x0 x1 x2 x3 x4 x5 x6 x7 y = nrm (fun d => Kc (y 1).val ((y 2).val / 128 * 128 + d)) gk ((y 2).val % 128) := by
  unfold out1_B_9
  rw [View.read_writes_eq_canon _ _ _ (cover1_B_9 c i a3 h3 a4 h4 a5 h5 a6 h6 a7 h7 a8 h8 a9 h9 a10 h10 a11 h11 a12 h12 hc x0 x1 x2 x3 x4 x5 x6 x7)]
  refine View.canon_apply_of_pieces (fun y => nrm (fun d => Kc (y 1).val ((y 2).val / 128 * 128 + d)) gk ((y 2).val % 128)) _ ?_ y (cover1_B_9 c i a3 h3 a4 h4 a5 h5 a6 h6 a7 h7 a8 h8 a9 h9 a10 h10 a11 h11 a12 h12 hc x0 x1 x2 x3 x4 x5 x6 x7 y)
  unfold kernelRun1_B
  dsimp only
  sl_unfold_words
  simp only [List.forall_mem_cons, List.not_mem_nil, false_imp_iff, implies_true, and_true, View.readAt_eq_ld, h3.read_unread, h4.read_unread, h5.read_unread, h6.read_unread, h7.read_unread, h8.read_unread, h9.read_unread, h10.read_unread]
  have z2 : (![0, 0] : Fin 2 → ℕ) = fun _ => 0 := by decide
  have L1 : ∀ p : ℕ, p ≤ 384 → ∀ inb (r : Fin 512) (d : Fin 128), View.ld x1 (Rect.unit (s := S512x512) ![0, p] S512x128.size inb) (ix2 r d) = Kc r (p + d) :=
    fun p hp inb r d => (ldCol_apply inb x1 r d hp).trans (e1 _ _)
  have L6 : ∀ inb (d : Fin 128), View.ld x6 (Rect.unit (s := S1x128) ![0, 0] S1x128.size inb) (ix2 0 d) = gk d :=
    fun inb d => by rw [View.ld_unit_zero z2]; exact e6 d
  have key : ∀ p : ℕ, p ≤ 384 → p % 128 = 0 → ∀ inb inb' (inb9 : ∀ a, (![0, 0, p] : Fin 3 → ℕ) a + (![1, 512, 128] : Fin 3 → ℕ) a ≤ S1x512x512.size a) (x : S1x512x128.Idx),
      k1_pay1 (k1_pay12 (View.ld x1 (Rect.unit (s := S512x512) ![0, p] S512x128.size inb)) (View.ld x6 (Rect.unit (s := S1x128) ![0, 0] S1x128.size inb'))) x
        = nrm (fun d => Kc ((Rect.unit (s := S1x512x512) ![0, 0, p] ![1, 512, 128] inb9).emb x 1).val (((Rect.unit (s := S1x512x512) ![0, 0, p] ![1, 512, 128] inb9).emb x 2).val / 128 * 128 + d)) gk (((Rect.unit (s := S1x512x512) ![0, 0, p] ![1, 512, 128] inb9).emb x 2).val % 128) := by
    intro p hp hp' inb inb' inb9 x
    rw [(emb_piece9 p inb9 x).1, (emb_piece9 p inb9 x).2]
    have hx : (x 2).val < 128 := (x 2).isLt
    rw [show (p + (x 2).val) / 128 * 128 = p by omega, show (p + (x 2).val) % 128 = (x 2).val by omega]
    exact (congrArg _ (eq_ix3 x)).trans ((pay1_apply _ (x 0) (x 1) (x 2)).trans
      (pay12_apply _ _ (x 1) (x 2) (fun d => Kc (x 1).val (p + d)) gk (fun d => L1 p hp inb (x 1) d) (L6 inb')))
  refine ⟨?_, ?_, ?_, ?_⟩
  · exact fun x => (key 384 (by decide) (by decide) inb_S512x512_S512x128_0_384 inb_S1x128_S1x128_0_0 _ x)
  · exact fun x => (key 256 (by decide) (by decide) inb_S512x512_S512x128_0_256 inb_S1x128_S1x128_0_0 _ x)
  · exact fun x => (key 128 (by decide) (by decide) inb_S512x512_S512x128_0_128 inb_S1x128_S1x128_0_0 _ x)
  · exact fun x => (key 0 (by decide) (by decide) inb_S512x512_S512x128_0_0 inb_S1x128_S1x128_0_0 _ x)

end Cert.KernelIdeal.Val
-- ==== Proof.Bias.lean ====
module
public import proofs.«01_k».proof.Proof.Gen.KernelIdeal.Frame
public import proofs.«01_k».proof.Proof.Item
public import Idealize.ShloMosaic.Lib.Pipeline.Value
@[expose] public section
set_option maxRecDepth 65536
noncomputable section
namespace Cert.Band
/-- The row of the table for keys at distance `j - 512` of their query: the distance clipped to 128 either way, plus 128. -/
def relRow (q j : ℕ) : ℕ := min 256 (j + 128 - (q + 512))

/-- The bias of query row `q` against key row `j` of the two blocks: the table's entry where the key's chunk of 64 is
    the query's own chunk or one of the eight before it, and minus infinity elsewhere. -/
def biasS (T : ℕ → ℕ → EReal) (h q j : ℕ) : EReal :=
  if q / 64 ≤ j / 64 ∧ j / 64 ≤ q / 64 + 8 then T (relRow q j) h else ⊥
end Cert.Band
namespace Cert.KernelIdeal.Val
open Cert.KernelIdeal Cert.KernelIdeal.Gen Cert.Band Idealize.ShloMosaic Idealize.ShloMosaic.TcCoe Idealize.SL.Sem

/-- The position along the rolled row of 2048, as a row of the table. -/
def relIdx (j : ℕ) : ℕ := if j < 1024 then min 256 (j + 128 - 512) else 0

/-- The word the body computes for it. -/
def relW (j : ℕ) : BitVec 32 :=
  IntOp.addi (IntOp.minsi (128#32) (IntOp.maxsi (4294967168#32) (IntOp.subi
    (Scalar.select (IntOp.cmpi CmpIPredicate.slt (BitVec.ofNat 32 j) 1024#32) (BitVec.ofNat 32 j) (IntOp.subi (BitVec.ofNat 32 j) 2048#32))
    512#32))) 128#32

theorem relW_eq : ∀ j : Fin 2048, relW j = BitVec.ofNat 32 (relIdx j) := by decide +kernel

theorem pay3_apply (k : Fin k0_t1_loop.trips) (acc : FVec Ideal S8x2048 .f32) (x : EReal) (a : Fin 8) (j : Fin 2048) :
    k0_pay3 k acc x (ix2 a j) = if relIdx j = k.val then x else acc (ix2 a j) := by
  have hk : k.val < 257 := k.isLt
  have e : k0_pay3 k acc x (ix2 a j) = Scalar.select (IntOp.cmpi CmpIPredicate.eq (relW j) (BitVec.ofNat 32 k.val)) x (acc (ix2 a j)) := by
    have hw : Scf.iv 0#32 1#32 k.val = BitVec.ofNat 32 k.val := by simp [Scf.iv]
    pointwise [k0_pay3, relW, hw]
  rw [e, relW_eq j]
  have hj : relIdx j < 257 := by unfold relIdx; split <;> omega
  by_cases h : relIdx j = k.val
  · rw [if_pos h, h]; simp [IntOp.cmpi, Scalar.select]
  · rw [if_neg h]
    have : BitVec.ofNat 32 (relIdx j) ≠ BitVec.ofNat 32 k.val := by
      intro hh
      have := congrArg BitVec.toNat hh
      simp only [BitVec.toNat_ofNat] at this
      omega
    simp [IntOp.cmpi, Scalar.select, beq_eq_false_iff_ne.mpr this]

theorem pay4_apply (v : FVec Ideal S8x2048 .f32) (a : Fin 512) (j : Fin 2048) :
    k0_pay4 v (ix2 a j) = v (ix2 0 ⟨(j + 2048 - a % 2048) % 2048, by omega⟩) := by
  pointwise [k0_pay4]

/-- The word the body computes for the quotient of `j` by 64, rounded down. -/
def quoW (j : ℕ) : BitVec 32 :=
  Scalar.select
    (IntOp.andi
      (IntOp.cmpi CmpIPredicate.ne
        (IntOp.subi (BitVec.setWidth 32 (IntOp.cmpi CmpIPredicate.sgt (BitVec.ofNat 32 j) 0#32))
          (BitVec.setWidth 32 (IntOp.cmpi CmpIPredicate.slt (BitVec.ofNat 32 j) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 j) 64#32) 0#32))
    (IntOp.subi (IntOp.divsi ArithUnit.vector (BitVec.ofNat 32 j) 64#32) 1#32)
    (IntOp.divsi ArithUnit.vector (BitVec.ofNat 32 j) 64#32)

theorem quoW_eq : ∀ j : Fin 1024, quoW j = BitVec.ofNat 32 (j / 64) := by decide +kernel

theorem band_eq : ∀ (a : Fin 8) (b : Fin 16), IntOp.andi (IntOp.cmpi CmpIPredicate.sge (BitVec.ofNat 32 b) (BitVec.ofNat 32 a))
    (IntOp.cmpi CmpIPredicate.sle (BitVec.ofNat 32 b) (IntOp.addi (BitVec.ofNat 32 a) 8#32))
      = BitVec.ofBool (decide (a.val ≤ b.val ∧ b.val ≤ a.val + 8)) := by decide +kernel

theorem pay9_apply (v : FVec Ideal S512x2048 .f32) (z : Fin 1) (a : Fin 512) (j : Fin 1024) :
    k0_pay9 v k0_pay5 k0_pay6 k0_pay7 k0_pay8 (ix3 z a j)
      = if a.val / 64 ≤ j.val / 64 ∧ j.val / 64 ≤ a.val / 64 + 8 then v (ix2 a ⟨j, by omega⟩) else ⊥ := by
  have hm : (Named.named κ "mask" 0xF149F2CA#32 : Ideal .f32) = ⊥ := by rfl
  have e : k0_pay9 v k0_pay5 k0_pay6 k0_pay7 k0_pay8 (ix3 z a j)
      = Scalar.select (IntOp.andi (IntOp.cmpi CmpIPredicate.sge (quoW j) (quoW a)) (IntOp.cmpi CmpIPredicate.sle (quoW j) (IntOp.addi (quoW a) 8#32)))
          (v (ix2 a ⟨j, by omega⟩)) ⊥ := by
    pointwise [k0_pay9, k0_pay5, k0_pay6, k0_pay7, k0_pay8, quoW, hm]
  rw [e, quoW_eq j, quoW_eq ⟨a, by omega⟩]
  have := band_eq ⟨a.val / 64, by omega⟩ ⟨j.val / 64, by omega⟩
  simp only at this
  rw [this]
  by_cases h : a.val / 64 ≤ j.val / 64 ∧ j.val / 64 ≤ a.val / 64 + 8 <;> simp [h, Scalar.select]

variable (c : Dev nD) (i : grid0.Coords) (a1 : Memref sig .tc .smem S4112 .f32) (h1 : a1.IsWhole) (a2 : Memref sig .tc .vmem S1x512x1024 .f32) (h2 : a2.IsWhole) (a3 : Memref sig .tc .vmem S1x32x640 .f32) (h3 : a3.IsWhole)
  (x0 : Vec Ideal S4112 .f32) (T : ℕ → ℕ → EReal)
  (e0 : ∀ (h : Fin 16) (r : Fin 257) (hr : 257 * h.val + r.val < 4112), x0 (ix1 ⟨257 * h.val + r.val, hr⟩) = T r h)

include e0 in
theorem trip_apply (V : Variants) (bd : Option V.V) (k : Fin k0_t1_loop.trips) (acc : FVec Ideal S8x2048 .f32) (a : Fin 8) (j : Fin 2048) :
    tripR_k0_t1 V c bd i a1 h1 a2 h2 a3 h3 (h1.unread x0) k acc (ix2 a j) = if relIdx j = k.val then T k.val (i 0).val else acc (ix2 a j) := by
  have hk : k.val < 257 := k.isLt
  have hi : (i 0).val < 16 := (i 0).isLt
  unfold tripR_k0_t1 trip_k0_t1
  dsimp only
  sl_unfold_words
  rw [pay3_apply]
  congr 1
  rw [View.readAt_eq_ld, h1.read_unread]
  refine Eq.trans ?_ (e0 (i 0) ⟨k.val, hk⟩ (by have h0 : (i 0).val < 16 := (i 0).isLt; show 257 * (i 0).val + k.val < 4112; omega))
  show x0 _ = x0 _
  congr 1
  funext b
  obtain rfl : b = 0 := Subsingleton.elim _ _
  refine Fin.ext ?_
  show BitVec.toNat _ + 1 * 0 = 257 * (i 0).val + k.val
  have hw : Scf.iv 0#32 1#32 k.val = BitVec.ofNat 32 k.val := by simp [Scf.iv]
  rw [hw]
  simp only [Scalar.indexCast, Scalar.addi, Scalar.muli, IntOp.addi, IntOp.muli]
  simp
  omega

include e0 in
theorem st_apply (V : Variants) (bd : Option V.V) (n : ℕ) (hn : n ≤ 257) (a : Fin 8) (j : Fin 2048) :
    st_k0_t1 V c bd i a1 h1 a2 h2 a3 h3 (h1.unread x0) k0_pay2 n (ix2 a j) = if relIdx j < n then T (relIdx j) (i 0).val else 0 := by
  induction n with
  | zero =>
    rw [st_k0_t1_zero]
    simp only [Nat.not_lt_zero, if_false]
    pointwise [k0_pay2]
  | succ n ih =>
    have := st_k0_t1_succ (F := Ideal) V c bd i a1 h1 a2 h2 a3 h3 (h1.unread x0) k0_pay2 ⟨n, (by omega : n < 257)⟩
    rw [show n + 1 = (⟨n, (by omega : n < 257)⟩ : Fin k0_t1_loop.trips).val + 1 from rfl, this,
      trip_apply c i a1 h1 a2 h2 a3 h3 x0 T e0, ih (by omega)]
    show (if relIdx j = n then _ else _) = if relIdx j < n + 1 then _ else _
    by_cases hA : relIdx j = n
    · rw [if_pos hA, if_pos (by omega), hA]
    · rw [if_neg hA]
      by_cases hB : relIdx j < n
      · rw [if_pos hB, if_pos (by omega)]
      · rw [if_neg hB, if_neg (by omega)]

include e0 in
/-- What the bias call leaves for one head. -/
theorem out01_apply (y : S1x512x1024.Idx) : out0_A_1 c i a1 h1 a2 h2 a3 h3 x0 y = biasS T (i 0).val (y 1).val (y 2).val := by
  unfold out0_A_1
  rw [View.read_writes_eq_canon _ _ _ (cover0_A_1 c i a1 h1 a2 h2 a3 h3 x0)]
  unfold kernelRun0_A
  dsimp only
  sl_unfold_words
  rw [View.canon_unit_zero (by decide)]
  have key : ∀ (z : Fin 1) (a : Fin 512) (j : Fin 1024), k0_pay9
            (k0_pay4
              (st_k0_t1 Variants.none c none i a1 h1 a2 h2 a3 h3 (h1.unread x0) k0_pay2 257))
            k0_pay5 k0_pay6 k0_pay7 k0_pay8 (ix3 z a j) = biasS T (i 0).val a.val j.val := by
    intro z a j
    rw [pay9_apply, pay4_apply, st_apply c i a1 h1 a2 h2 a3 h3 x0 T e0 _ _ 257 le_rfl]
    unfold biasS
    split
    · rename_i hb
      have hlt : relIdx ((j.val + 2048 - a.val % 2048) % 2048) < 257 := by unfold relIdx; split <;> omega
      rw [if_pos hlt]
      congr 1
      show relIdx ((j.val + 2048 - a.val % 2048) % 2048) = relRow a.val j.val
      unfold relIdx relRow
      split <;> omega
    · rfl
  exact (congrArg _ (eq_ix3 y)).trans (key (y 0) (y 1) (y 2))
end Cert.KernelIdeal.Val
-- ==== Proof.Compose.lean ====
module
public import proofs.«01_k».proof.Proof.BandBlock
public import proofs.«01_k».proof.Proof.Bias
public import Idealize.ShloMosaic.Lib.Pipeline.ValueKit
@[expose] public section
set_option maxRecDepth 65536
set_option maxHeartbeats 1000000
noncomputable section
namespace Cert.Band
open Idealize.ShloMosaic
/-- The entries of an array of two axes, read at natural numbers (0 outside the array). -/
def rd2 {a b : ℕ} (x : (⟨2, ![a, b]⟩ : Shape).Idx → EReal) (i j : ℕ) : EReal :=
  if h : i < a ∧ j < b then x (ix2 ⟨i, h.1⟩ ⟨j, h.2⟩) else 0
/-- The entries of an array of one axis, read at natural numbers (0 outside the array). -/
def rd1 {a : ℕ} (x : (⟨1, ![a]⟩ : Shape).Idx → EReal) (i : ℕ) : EReal :=
  if h : i < a then x (ix1 ⟨i, h⟩) else 0

theorem rd2_eq {a b : ℕ} (x : (⟨2, ![a, b]⟩ : Shape).Idx → EReal) (y : (⟨2, ![a, b]⟩ : Shape).Idx) (i j : ℕ)
    (hi : (y 0).val = i) (hj : (y 1).val = j) : x y = rd2 x i j := by
  subst hi hj
  unfold rd2
  rw [dif_pos ⟨(y 0).isLt, (y 1).isLt⟩]
  exact congrArg x (eq_ix2 y)
theorem rd1_eq {a : ℕ} (x : (⟨1, ![a]⟩ : Shape).Idx → EReal) (y : (⟨1, ![a]⟩ : Shape).Idx) (i : ℕ)
    (hi : (y 0).val = i) : x y = rd1 x i := by
  subst hi
  unfold rd1
  have h : (y 0).val < a := (y 0).isLt
  rw [dif_pos h]
  exact congrArg x (eq_ix1 y)

/-- The attention output of row `t`, column `c`, from the projected array `P`, the gains and the table. -/
def attO (P : ℕ → ℕ → EReal) (gq gk : ℕ → EReal) (T : ℕ → ℕ → EReal) (t c : ℕ) : EReal :=
  blkO (t % 8192 / 512)
    (fun r d => P (t / 512 * 512 + r) (6656 + c / 512 * 512 + d))
    (fun r d => P (t / 512 * 512 + r) (8704 + c / 512 * 512 + d))
    (fun r d => P ((t / 8192 * 16 + (t % 8192 / 512 - 1)) * 512 + r) (8704 + c / 512 * 512 + d))
    (fun r d => P (t / 512 * 512 + r) (10752 + c / 512 * 512 + d))
    (fun r d => P ((t / 8192 * 16 + (t % 8192 / 512 - 1)) * 512 + r) (10752 + c / 512 * 512 + d))
    gq gk (fun h r j => biasS T (c / 512 * 4 + h) r j) (t % 512) (c % 512)

/-- The normalised key of sequence `b`, row `r` of its last 512, column `c`. -/
def keyO (P : ℕ → ℕ → EReal) (gk : ℕ → EReal) (b r c : ℕ) : EReal :=
  nrm (fun d => P (b * 8192 + 7680 + r) (8704 + c / 128 * 128 + d)) gk (c % 128)
end Cert.Band

namespace Cert.KernelIdeal.Val
open Cert.KernelIdeal Cert.KernelIdeal.Gen Cert.Band Idealize.ShloMosaic Idealize.ShloMosaic.TcCoe Idealize.SL.Sem
variable (m : (ℓ : Loc nD τ sig) → Buf (Elt Ideal) ℓ) (ρ : Dev nD → PrngReg)

theorem idx0 : ∀ t : Fin cfg0.N, win0_0.index t = ![0] ∧ win0_1.index t = ![t.val, 0, 0] ∧ (grid0.coords t 0).val = t.val :=
  (by decide +kernel : ∀ t : Fin grid0.N, _)

theorem idx1 : ∀ t : Fin cfg1.N,
    win1_0.index t = ![t.val / 64 * 16 + t.val % 16, 13 + t.val % 64 / 16] ∧
    win1_1.index t = ![t.val / 64 * 16 + t.val % 16, 17 + t.val % 64 / 16] ∧
    win1_2.index t = ![t.val / 64 * 16 + (t.val % 16 - 1), 17 + t.val % 64 / 16] ∧
    win1_3.index t = ![t.val / 64 * 16 + t.val % 16, 21 + t.val % 64 / 16] ∧
    win1_4.index t = ![t.val / 64 * 16 + (t.val % 16 - 1), 21 + t.val % 64 / 16] ∧
    win1_5.index t = ![0, 0] ∧ win1_6.index t = ![0, 0] ∧
    win1_7.index t = ![t.val % 64 / 16, 0, 0] ∧
    win1_8.index t = ![t.val / 64 * 16 + t.val % 16, t.val % 64 / 16] ∧
    win1_9.index t = ![t.val / 64, 0, t.val % 64 / 16] ∧ (grid1.coords t 2).val = t.val % 16 ∧ t.val < 128 :=
  (by decide +kernel : ∀ t : Fin grid1.N, _)

/-- The flattened table: entry `257 h + r` is row `r`, column `h`. -/
theorem table_apply (c : Dev nD) (h : Fin 16) (r : Fin 257) (hr : 257 * h.val + r.val < 4112) :
    V1 m ρ c main_v1 (ix1 ⟨257 * h.val + r.val, hr⟩) = rd2 (m ((c : Thread nD τ).loc main_arg3)) r.val h.val := by
  have e : V1 m ρ c main_v1 = shapeCast S4112 (transpose S16x257 [1, 0] (m ((c : Thread nD τ).loc main_arg3)) transposes_S257x16_S16x257_1_0)
      shapeCasts_S16x257_S4112 := by
    show W1 m ρ c (Proc.devRef .tc main_v1) = _
    simp only [W1, hostOps0]
    after_results_simp <;> rfl
  rw [e]
  refine (shapeCast_apply _ _ _ (ix2 h r) ?_).trans ?_
  · rw [Shape.rowMajor_val_two, Shape.rowMajor_val_one]; show h.val * 257 + r.val = 257 * h.val + r.val; omega
  · refine (transpose_apply _ _ _ _ (ix2 r h) ?_).trans ?_
    · intro a; match a with | ⟨0, _⟩ => rfl | ⟨1, _⟩ => rfl
    · exact rd2_eq _ _ _ _ rfl rfl

/-- The bias tiles the first region leaves. -/
theorem bias_array (c : Dev nD) (h : Fin 16) (q : Fin 512) (j : Fin 1024) :
    V3 m ρ c main_v2_0 (ix3 h q j) = biasS (rd2 (m ((c : Thread nD τ).loc main_arg3))) h.val q.val j.val := by
  have e1 : V3 m ρ c main_v2_0 = (dat0 (V1 m ρ) c).arrAt 1 cfg0.N :=
    (W3_of m ρ c main_v2_0 (by decide)).trans (W2_arr m ρ c 1)
  have e2 : (dat0 (V1 m ρ) c).arrAt 1 cfg0.N
      = fun x : S16x512x1024.Idx => biasS (rd2 (m ((c : Thread nD τ).loc main_arg3))) (x 0).val (x 1).val (x 2).val := by
    refine (dat0 (V1 m ρ) c).arrAt_eq_of_covers 1 _ (by decide +kernel) fun t hf y => ?_
    obtain ⟨i0, i1, i2⟩ := idx0 t
    blk_simp
    rw [after0_1]
    unfold outsAt0
    dsimp only
    refine (out01_apply c _ _ _ _ _ _ _ _ (rd2 (m ((c : Thread nD τ).loc main_arg3))) ?_ _).trans ?_
    · intro h r hr
      refine Eq.trans ?_ (table_apply m ρ c h r hr)
      unfold iblk0
      blk_simp
      refine congrArg _ (funext fun a => Fin.ext ?_)
      match a with | ⟨0, _⟩ => blk_simp; rw [i0]; simp
    · have h0 : (y 0).val < 1 := (y 0).isLt
      rw [i1]
      show biasS _ (grid0.coords t 0).val (y 1).val (y 2).val = biasS _ t.val (0 * 512 + (y 1).val) (0 * 1024 + (y 2).val)
      rw [i2, Nat.zero_mul, Nat.zero_add, Nat.zero_add]
  rw [e1, e2]
  rfl

theorem gain_q (c : Dev nD) (d : Fin 128) :
    V3 m ρ c main_v3 (ix2 0 d) = rd1 (m ((c : Thread nD τ).loc main_arg1)) d.val := by
  have e : V3 m ρ c main_v3 = shapeCast S1x128 (W2 m ρ c (Proc.devRef .tc main_arg1)) shapeCasts_S128_S1x128 := by
    show W3 m ρ c (Proc.devRef .tc main_v3) = _
    simp only [W3, hostOps1]
    after_results_simp <;> rfl
  rw [e, W2_args m ρ c main_arg1 (by decide)]
  refine (shapeCast_apply _ _ _ (ix1 d) ?_).trans (rd1_eq _ _ _ rfl)
  rw [Shape.rowMajor_val_two, Shape.rowMajor_val_one]; show d.val = 0 * 128 + d.val; omega

theorem gain_k (c : Dev nD) (d : Fin 128) :
    V3 m ρ c main_v4 (ix2 0 d) = rd1 (m ((c : Thread nD τ).loc main_arg2)) d.val := by
  have e : V3 m ρ c main_v4 = shapeCast S1x128 (W2 m ρ c (Proc.devRef .tc main_arg2)) shapeCasts_S128_S1x128 := by
    show W3 m ρ c (Proc.devRef .tc main_v4) = _
    simp only [W3, hostOps1]
    after_results_simp <;> rfl
  rw [e, W2_args m ρ c main_arg2 (by decide)]
  refine (shapeCast_apply _ _ _ (ix1 d) ?_).trans (rd1_eq _ _ _ rfl)
  rw [Shape.rowMajor_val_two, Shape.rowMajor_val_one]; show d.val = 0 * 128 + d.val; omega

/-- The array the second region reads its blocks from, at natural numbers. -/
abbrev PP (c : Dev nD) : ℕ → ℕ → EReal := rd2 (m ((c : Thread nD τ).loc main_arg0))
abbrev GQ (c : Dev nD) : ℕ → EReal := rd1 (m ((c : Thread nD τ).loc main_arg1))
abbrev GK (c : Dev nD) : ℕ → EReal := rd1 (m ((c : Thread nD τ).loc main_arg2))
abbrev TT (c : Dev nD) : ℕ → ℕ → EReal := rd2 (m ((c : Thread nD τ).loc main_arg3))

theorem arg0_eq (c : Dev nD) : V3 m ρ c main_arg0 = m ((c : Thread nD τ).loc main_arg0) := W3_args m ρ c main_arg0 (by decide)

theorem blk1_0 (c : Dev nD) (t : Fin cfg1.N) (r d : Fin 512) : iblk1 (V3 m ρ) c 0 t (ix2 r d)
    = PP m c ((t.val / 64 * 16 + t.val % 16) * 512 + r.val) ((13 + t.val % 64 / 16) * 512 + d.val) := by
  obtain ⟨i0, i1, i2, i3, i4, -⟩ := idx1 t
  unfold iblk1
  blk_simp
  rw [arg0_eq]
  refine rd2_eq _ _ _ _ ?_ ?_
  · blk_simp; rw [i0]; rfl
  · blk_simp; rw [i0]; rfl

theorem blk1_1 (c : Dev nD) (t : Fin cfg1.N) (r d : Fin 512) : iblk1 (V3 m ρ) c 1 t (ix2 r d)
    = PP m c ((t.val / 64 * 16 + t.val % 16) * 512 + r.val) ((17 + t.val % 64 / 16) * 512 + d.val) := by
  obtain ⟨i0, i1, i2, i3, i4, -⟩ := idx1 t
  unfold iblk1
  blk_simp
  rw [arg0_eq]
  refine rd2_eq _ _ _ _ ?_ ?_
  · blk_simp; rw [i1]; rfl
  · blk_simp; rw [i1]; rfl

theorem blk1_2 (c : Dev nD) (t : Fin cfg1.N) (r d : Fin 512) : iblk1 (V3 m ρ) c 2 t (ix2 r d)
    = PP m c ((t.val / 64 * 16 + (t.val % 16 - 1)) * 512 + r.val) ((17 + t.val % 64 / 16) * 512 + d.val) := by
  obtain ⟨i0, i1, i2, i3, i4, -⟩ := idx1 t
  unfold iblk1
  blk_simp
  rw [arg0_eq]
  refine rd2_eq _ _ _ _ ?_ ?_
  · blk_simp; rw [i2]; rfl
  · blk_simp; rw [i2]; rfl

theorem blk1_3 (c : Dev nD) (t : Fin cfg1.N) (r d : Fin 512) : iblk1 (V3 m ρ) c 3 t (ix2 r d)
    = PP m c ((t.val / 64 * 16 + t.val % 16) * 512 + r.val) ((21 + t.val % 64 / 16) * 512 + d.val) := by
  obtain ⟨i0, i1, i2, i3, i4, -⟩ := idx1 t
  unfold iblk1
  blk_simp
  rw [arg0_eq]
  refine rd2_eq _ _ _ _ ?_ ?_
  · blk_simp; rw [i3]; rfl
  · blk_simp; rw [i3]; rfl

theorem blk1_4 (c : Dev nD) (t : Fin cfg1.N) (r d : Fin 512) : iblk1 (V3 m ρ) c 4 t (ix2 r d)
    = PP m c ((t.val / 64 * 16 + (t.val % 16 - 1)) * 512 + r.val) ((21 + t.val % 64 / 16) * 512 + d.val) := by
  obtain ⟨i0, i1, i2, i3, i4, -⟩ := idx1 t
  unfold iblk1
  blk_simp
  rw [arg0_eq]
  refine rd2_eq _ _ _ _ ?_ ?_
  · blk_simp; rw [i4]; rfl
  · blk_simp; rw [i4]; rfl

theorem blk1_5 (c : Dev nD) (t : Fin cfg1.N) (d : Fin 128) : iblk1 (V3 m ρ) c 5 t (ix2 0 d) = GQ m c d.val := by
  obtain ⟨-, -, -, -, -, i5, -⟩ := idx1 t
  refine Eq.trans ?_ (gain_q m ρ c d)
  unfold iblk1
  blk_simp
  refine congrArg _ (funext fun a => Fin.ext ?_)
  match a with
  | ⟨0, _⟩ => blk_simp; rw [i5]; simp
  | ⟨1, _⟩ => blk_simp; rw [i5]; simp

theorem blk1_6 (c : Dev nD) (t : Fin cfg1.N) (d : Fin 128) : iblk1 (V3 m ρ) c 6 t (ix2 0 d) = GK m c d.val := by
  obtain ⟨-, -, -, -, -, -, i6, -⟩ := idx1 t
  refine Eq.trans ?_ (gain_k m ρ c d)
  unfold iblk1
  blk_simp
  refine congrArg _ (funext fun a => Fin.ext ?_)
  match a with
  | ⟨0, _⟩ => blk_simp; rw [i6]; simp
  | ⟨1, _⟩ => blk_simp; rw [i6]; simp

theorem blk1_7 (c : Dev nD) (t : Fin cfg1.N) (h : Fin 4) (r : Fin 512) (k : Fin 1024) : iblk1 (V3 m ρ) c 7 t (ix3 h r k)
    = biasS (TT m c) (t.val % 64 / 16 * 4 + h.val) r.val k.val := by
  obtain ⟨-, -, -, -, -, -, -, i7, -⟩ := idx1 t
  refine Eq.trans ?_ (bias_array m ρ c ⟨t.val % 64 / 16 * 4 + h.val, by omega⟩ r k)
  unfold iblk1
  blk_simp
  refine congrArg _ (funext fun a => Fin.ext ?_)
  match a with
  | ⟨0, _⟩ => blk_simp; rw [i7]; rfl
  | ⟨1, _⟩ => blk_simp; rw [i7]; simp
  | ⟨2, _⟩ => blk_simp; rw [i7]; simp

theorem blk1_0' (c : Dev nD) (t : Fin cfg1.N) (r d : Fin 512) : iblk1 (V3 m ρ) c 0 t (ix2 r d)
    = (fun r d => PP m c ((t.val / 64 * 16 + t.val % 16) * 512 + r) (6656 + t.val % 64 / 16 * 512 + d)) r.val d.val := by
  refine (blk1_0 m ρ c t r d).trans (congrArg _ ?_); omega

theorem blk1_1' (c : Dev nD) (t : Fin cfg1.N) (r d : Fin 512) : iblk1 (V3 m ρ) c 1 t (ix2 r d)
    = (fun r d => PP m c ((t.val / 64 * 16 + t.val % 16) * 512 + r) (8704 + t.val % 64 / 16 * 512 + d)) r.val d.val := by
  refine (blk1_1 m ρ c t r d).trans (congrArg _ ?_); omega

theorem blk1_2' (c : Dev nD) (t : Fin cfg1.N) (r d : Fin 512) : iblk1 (V3 m ρ) c 2 t (ix2 r d)
    = (fun r d => PP m c ((t.val / 64 * 16 + (t.val % 16 - 1)) * 512 + r) (8704 + t.val % 64 / 16 * 512 + d)) r.val d.val := by
  refine (blk1_2 m ρ c t r d).trans (congrArg _ ?_); omega

theorem blk1_3' (c : Dev nD) (t : Fin cfg1.N) (r d : Fin 512) : iblk1 (V3 m ρ) c 3 t (ix2 r d)
    = (fun r d => PP m c ((t.val / 64 * 16 + t.val % 16) * 512 + r) (10752 + t.val % 64 / 16 * 512 + d)) r.val d.val := by
  refine (blk1_3 m ρ c t r d).trans (congrArg _ ?_); omega

theorem blk1_4' (c : Dev nD) (t : Fin cfg1.N) (r d : Fin 512) : iblk1 (V3 m ρ) c 4 t (ix2 r d)
    = (fun r d => PP m c ((t.val / 64 * 16 + (t.val % 16 - 1)) * 512 + r) (10752 + t.val % 64 / 16 * 512 + d)) r.val d.val := by
  refine (blk1_4 m ρ c t r d).trans (congrArg _ ?_); omega

theorem after8A (c : Dev nD) (t : Fin cfg1.N) (hc : ¬ t.val % 16 = 15) (z : S512x512.Idx) : (outsAt1 (V3 m ρ) c t.val t.isLt).1 z = blkO (t.val % 16)
      (fun r d => PP m c ((t.val / 64 * 16 + t.val % 16) * 512 + r) (6656 + t.val % 64 / 16 * 512 + d))
      (fun r d => PP m c ((t.val / 64 * 16 + t.val % 16) * 512 + r) (8704 + t.val % 64 / 16 * 512 + d))
      (fun r d => PP m c ((t.val / 64 * 16 + (t.val % 16 - 1)) * 512 + r) (8704 + t.val % 64 / 16 * 512 + d))
      (fun r d => PP m c ((t.val / 64 * 16 + t.val % 16) * 512 + r) (10752 + t.val % 64 / 16 * 512 + d))
      (fun r d => PP m c ((t.val / 64 * 16 + (t.val % 16 - 1)) * 512 + r) (10752 + t.val % 64 / 16 * 512 + d))
      (GQ m c) (GK m c) (fun h r j => biasS (TT m c) (t.val % 64 / 16 * 4 + h) r j) (z 0).val (z 1).val := by
  obtain ⟨-, -, -, -, -, -, -, -, -, -, hi, -⟩ := idx1 t
  rw [outsAt1_A (V3 m ρ) c t hc]
  refine (out8A_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t)
      (fun r d => PP m c ((t.val / 64 * 16 + t.val % 16) * 512 + r) (6656 + t.val % 64 / 16 * 512 + d))
      (fun r d => PP m c ((t.val / 64 * 16 + t.val % 16) * 512 + r) (8704 + t.val % 64 / 16 * 512 + d))
      (fun r d => PP m c ((t.val / 64 * 16 + (t.val % 16 - 1)) * 512 + r) (8704 + t.val % 64 / 16 * 512 + d))
      (fun r d => PP m c ((t.val / 64 * 16 + t.val % 16) * 512 + r) (10752 + t.val % 64 / 16 * 512 + d))
      (fun r d => PP m c ((t.val / 64 * 16 + (t.val % 16 - 1)) * 512 + r) (10752 + t.val % 64 / 16 * 512 + d))
      (GQ m c) (GK m c) (fun h r j => biasS (TT m c) (t.val % 64 / 16 * 4 + h) r j)
      (fun h => hc ((hcond1_0 t).1 h)) (blk1_0' m ρ c t) (blk1_1' m ρ c t) (blk1_2' m ρ c t) (blk1_3' m ρ c t) (blk1_4' m ρ c t) (blk1_5 m ρ c t) (blk1_6 m ρ c t) (blk1_7 m ρ c t) z).trans ?_
  rw [hi]

theorem after8B (c : Dev nD) (t : Fin cfg1.N) (hc : t.val % 16 = 15) (z : S512x512.Idx) : (outsAt1 (V3 m ρ) c t.val t.isLt).1 z = blkO (t.val % 16)
      (fun r d => PP m c ((t.val / 64 * 16 + t.val % 16) * 512 + r) (6656 + t.val % 64 / 16 * 512 + d))
      (fun r d => PP m c ((t.val / 64 * 16 + t.val % 16) * 512 + r) (8704 + t.val % 64 / 16 * 512 + d))
      (fun r d => PP m c ((t.val / 64 * 16 + (t.val % 16 - 1)) * 512 + r) (8704 + t.val % 64 / 16 * 512 + d))
      (fun r d => PP m c ((t.val / 64 * 16 + t.val % 16) * 512 + r) (10752 + t.val % 64 / 16 * 512 + d))
      (fun r d => PP m c ((t.val / 64 * 16 + (t.val % 16 - 1)) * 512 + r) (10752 + t.val % 64 / 16 * 512 + d))
      (GQ m c) (GK m c) (fun h r j => biasS (TT m c) (t.val % 64 / 16 * 4 + h) r j) (z 0).val (z 1).val := by
  obtain ⟨-, -, -, -, -, -, -, -, -, -, hi, -⟩ := idx1 t
  rw [outsAt1_B (V3 m ρ) c t hc]
  refine (out8B_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t)
      (fun r d => PP m c ((t.val / 64 * 16 + t.val % 16) * 512 + r) (6656 + t.val % 64 / 16 * 512 + d))
      (fun r d => PP m c ((t.val / 64 * 16 + t.val % 16) * 512 + r) (8704 + t.val % 64 / 16 * 512 + d))
      (fun r d => PP m c ((t.val / 64 * 16 + (t.val % 16 - 1)) * 512 + r) (8704 + t.val % 64 / 16 * 512 + d))
      (fun r d => PP m c ((t.val / 64 * 16 + t.val % 16) * 512 + r) (10752 + t.val % 64 / 16 * 512 + d))
      (fun r d => PP m c ((t.val / 64 * 16 + (t.val % 16 - 1)) * 512 + r) (10752 + t.val % 64 / 16 * 512 + d))
      (GQ m c) (GK m c) (fun h r j => biasS (TT m c) (t.val % 64 / 16 * 4 + h) r j)
      ((hcond1_0 t).2 hc) (blk1_0' m ρ c t) (blk1_1' m ρ c t) (blk1_2' m ρ c t) (blk1_3' m ρ c t) (blk1_4' m ρ c t) (blk1_5 m ρ c t) (blk1_6 m ρ c t) (blk1_7 m ρ c t) z).trans ?_
  rw [hi]

end Cert.KernelIdeal.Val
-- ==== Proof.Outs.lean ====
module
public import proofs.«01_k».proof.Proof.Compose
@[expose] public section
set_option maxRecDepth 65536
noncomputable section
namespace Cert.KernelIdeal.Val
open Cert.KernelIdeal Cert.KernelIdeal.Gen Cert.Band Idealize.ShloMosaic Idealize.ShloMosaic.TcCoe Idealize.SL.Sem
variable (m : (ℓ : Loc nD τ sig) → Buf (Elt Ideal) ℓ) (ρ : Dev nD → PrngReg)

/-- What the second region leaves in its first result: the attention of every row and column. -/
theorem out_array0 (c : Dev nD) : W4 m ρ c (Proc.devRef .tc main_v5_0)
    = fun x : S16384x2048.Idx => attO (PP m c) (GQ m c) (GK m c) (TT m c) (x 0).val (x 1).val := by
  refine (W4_arr m ρ c 8).trans ?_
  refine (dat1 (V3 m ρ) c).arrAt_eq_of_covers 8 _ (by decide +kernel) fun t hf y => ?_
  obtain ⟨-, -, -, -, -, -, -, -, i8, -, hi, ht⟩ := idx1 t
  blk_simp
  rw [after1_8, i8]
  show _ = attO _ _ _ _ ((t.val / 64 * 16 + t.val % 16) * 512 + (y 0).val) (t.val % 64 / 16 * 512 + (y 1).val)
  have h0 : (y 0).val < 512 := (y 0).isLt
  have h1 : (y 1).val < 512 := (y 1).isLt
  unfold attO
  rw [show ((t.val / 64 * 16 + t.val % 16) * 512 + (y 0).val) % 8192 / 512 = t.val % 16 by omega,
    show ((t.val / 64 * 16 + t.val % 16) * 512 + (y 0).val) / 512 = t.val / 64 * 16 + t.val % 16 by omega,
    show ((t.val / 64 * 16 + t.val % 16) * 512 + (y 0).val) / 8192 = t.val / 64 by omega,
    show ((t.val / 64 * 16 + t.val % 16) * 512 + (y 0).val) % 512 = (y 0).val by omega,
    show (t.val % 64 / 16 * 512 + (y 1).val) / 512 = t.val % 64 / 16 by omega,
    show (t.val % 64 / 16 * 512 + (y 1).val) % 512 = (y 1).val by omega]
  by_cases hc : t.val % 16 = 15
  · exact after8B m ρ c t hc y
  · exact after8A m ρ c t hc y

end Cert.KernelIdeal.Val
-- ==== Proof.After9.lean ====
module
public import proofs.«01_k».proof.Proof.Compose
@[expose] public section
set_option maxRecDepth 65536
noncomputable section
namespace Cert.KernelIdeal.Val
open Cert.KernelIdeal Cert.KernelIdeal.Gen Cert.Band Idealize.ShloMosaic Idealize.ShloMosaic.TcCoe Idealize.SL.Sem
variable (m : (ℓ : Loc nD τ sig) → Buf (Elt Ideal) ℓ) (ρ : Dev nD → PrngReg)

theorem after9 (c : Dev nD) (t : Fin cfg1.N) (hc : t.val % 16 = 15) (z : S1x512x512.Idx) : (outsAt1 (V3 m ρ) c t.val t.isLt).2 z
    = nrm (fun d => PP m c ((t.val / 64 * 16 + t.val % 16) * 512 + (z 1).val) (8704 + t.val % 64 / 16 * 512 + ((z 2).val / 128 * 128 + d)))
        (GK m c) ((z 2).val % 128) := by
  rw [outsAt1_B (V3 m ρ) c t hc]
  have e := (out9B_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t)
    (fun r d => PP m c ((t.val / 64 * 16 + t.val % 16) * 512 + r) (8704 + t.val % 64 / 16 * 512 + d)) (GK m c)
    ((hcond1_0 t).2 hc) (blk1_1' m ρ c t) (blk1_6 m ρ c t) z)
  dsimp only
  exact e

end Cert.KernelIdeal.Val
-- ==== Proof.Outs1.lean ====
module
public import proofs.«01_k».proof.Proof.After9
@[expose] public section
set_option maxRecDepth 65536
noncomputable section
namespace Cert.KernelIdeal.Val
open Cert.KernelIdeal Cert.KernelIdeal.Gen Cert.Band Idealize.ShloMosaic Idealize.ShloMosaic.TcCoe Idealize.SL.Sem
variable (m : (ℓ : Loc nD τ sig) → Buf (Elt Ideal) ℓ) (ρ : Dev nD → PrngReg)

theorem flush9 : ∀ t : Fin cfg1.N, (cfg1.win 9).flush t = true → t.val % 16 = 15 := by decide +kernel

/-- What the second region leaves in its second result: the normalised keys of the last 512 rows of each sequence. -/
theorem out_array1 (c : Dev nD) : W4 m ρ c (Proc.devRef .tc main_v5_1)
    = fun x : S2x512x2048.Idx => keyO (PP m c) (GK m c) (x 0).val (x 1).val (x 2).val := by
  refine (W4_arr m ρ c 9).trans ?_
  refine (dat1 (V3 m ρ) c).arrAt_eq_of_covers 9 _ (by decide +kernel) fun t hf y => ?_
  obtain ⟨-, -, -, -, -, -, -, -, -, i9, hi, ht⟩ := idx1 t
  have hc : t.val % 16 = 15 := flush9 t hf
  blk_simp
  rw [after1_9, i9]
  show _ = keyO _ _ (t.val / 64) (0 * 512 + (y 1).val) (t.val % 64 / 16 * 512 + (y 2).val)
  have h0 : (y 0).val < 1 := (y 0).isLt
  have h1 : (y 1).val < 512 := (y 1).isLt
  have h2 : (y 2).val < 512 := (y 2).isLt
  refine (after9 m ρ c t hc y).trans ?_
  have ea : (t.val / 64 * 16 + t.val % 16) * 512 + (y 1).val = (t.val / 64) * 8192 + 7680 + (0 * 512 + (y 1).val) := by omega
  have eb : ∀ d, 8704 + t.val % 64 / 16 * 512 + ((y 2).val / 128 * 128 + d) = 8704 + (t.val % 64 / 16 * 512 + (y 2).val) / 128 * 128 + d := by omega
  unfold keyO
  rw [show (t.val % 64 / 16 * 512 + (y 2).val) % 128 = (y 2).val % 128 by omega, ea]
  simp only [eb]
end Cert.KernelIdeal.Val
-- ==== Proof.RefQkv.lean ====
module
public import proofs.«01_k».proof.Proof.Gen.ReferenceIdeal.Read
public import proofs.«01_k».proof.Proof.Compose
@[expose] public section
noncomputable section
namespace Cert.ReferenceIdeal.Val
open Cert.ReferenceIdeal Cert.ReferenceIdeal.Read Cert.Band Idealize.ShloMosaic

theorem bits0 : Ideal.ofBits .f32 0x00000000#32 = 0 := by simp [Ideal.ofBits, Ideal.ieee]

/-- The queries before their normalisation. -/
theorem v3_at (x0 : (⟨S16384x12800, .f32⟩ : BufTy).Contents (Elt Ideal)) (i : S2x8192x16x128.Idx) :
    val_main_v3 (F := Ideal) x0 i = rd2 x0 ((i 0).val * 8192 + (i 1).val) (6656 + (i 2).val * 128 + (i 3).val) := by
  rw [val_main_v3_apply, val_main_v2_apply, val_main_v1_apply, val_main_v0_apply]
  have h0 : (i 0).val < 2 := (i 0).isLt
  have h1 : (i 1).val < 8192 := (i 1).isLt
  have h2 : (i 2).val < 16 := (i 2).isLt
  have h3 : (i 3).val < 128 := (i 3).isLt
  refine rd2_eq _ _ _ _ ?_ ?_
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + ((((i 0).val * 8192 + (i 1).val) * 16 + (i 2).val) * 128 + (i 3).val) % 2048)) / 12800 = (i 0).val * 8192 + (i 1).val
    omega
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + ((((i 0).val * 8192 + (i 1).val) * 16 + (i 2).val) * 128 + (i 3).val) % 2048)) % 12800 = 6656 + (i 2).val * 128 + (i 3).val
    omega

/-- The keys before their normalisation. -/
theorem v18_at (x0 : (⟨S16384x12800, .f32⟩ : BufTy).Contents (Elt Ideal)) (i : S2x8192x16x128.Idx) :
    val_main_v18 (F := Ideal) x0 i = rd2 x0 ((i 0).val * 8192 + (i 1).val) (8704 + (i 2).val * 128 + (i 3).val) := by
  rw [val_main_v18_apply, val_main_v17_apply, val_main_v1_apply, val_main_v0_apply]
  have h0 : (i 0).val < 2 := (i 0).isLt
  have h1 : (i 1).val < 8192 := (i 1).isLt
  have h2 : (i 2).val < 16 := (i 2).isLt
  have h3 : (i 3).val < 128 := (i 3).isLt
  refine rd2_eq _ _ _ _ ?_ ?_
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + (2048 + ((((i 0).val * 8192 + (i 1).val) * 16 + (i 2).val) * 128 + (i 3).val) % 2048))) / 12800 = (i 0).val * 8192 + (i 1).val
    omega
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + (2048 + ((((i 0).val * 8192 + (i 1).val) * 16 + (i 2).val) * 128 + (i 3).val) % 2048))) % 12800 = 8704 + (i 2).val * 128 + (i 3).val
    omega

/-- The values. -/
theorem v33_at (x0 : (⟨S16384x12800, .f32⟩ : BufTy).Contents (Elt Ideal)) (i : S2x8192x16x128.Idx) :
    val_main_v33 (F := Ideal) x0 i = rd2 x0 ((i 0).val * 8192 + (i 1).val) (10752 + (i 2).val * 128 + (i 3).val) := by
  rw [val_main_v33_apply, val_main_v32_apply, val_main_v1_apply, val_main_v0_apply]
  have h0 : (i 0).val < 2 := (i 0).isLt
  have h1 : (i 1).val < 8192 := (i 1).isLt
  have h2 : (i 2).val < 16 := (i 2).isLt
  have h3 : (i 3).val < 128 := (i 3).isLt
  refine rd2_eq _ _ _ _ ?_ ?_
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + (4096 + ((((i 0).val * 8192 + (i 1).val) * 16 + (i 2).val) * 128 + (i 3).val) % 2048))) / 12800 = (i 0).val * 8192 + (i 1).val
    omega
  · show ((((((i 0).val * 8192 + (i 1).val) * 16 + (i 2).val) * 128 + (i 3).val) / 16777216 * 8192 + ((((i 0).val * 8192 + (i 1).val) * 16 + (i 2).val) * 128 + (i 3).val) / 2048 % 8192) * 12800 + (6656 + (4096 + ((((i 0).val * 8192 + (i 1).val) * 16 + (i 2).val) * 128 + (i 3).val) % 2048))) % 12800 = 10752 + (i 2).val * 128 + (i 3).val
    omega

/-- The normalised queries. -/
theorem v16_at (x0 : (⟨S16384x12800, .f32⟩ : BufTy).Contents (Elt Ideal)) (x1 : (⟨S128, .f32⟩ : BufTy).Contents (Elt Ideal)) (i : S2x8192x16x128.Idx) :
    val_main_v16 (F := Ideal) x0 x1 i
      = nrm (fun d => rd2 x0 ((i 0).val * 8192 + (i 1).val) (6656 + (i 2).val * 128 + d)) (rd1 x1) (i 3).val := by
  rw [val_main_v16_apply, val_main_v13_apply, val_main_v12_apply, val_main_v11_apply, val_main_v10_apply, val_main_v8_apply,
    val_main_v6_apply, val_main_v5_apply, val_main_v15_apply, val_main_v14_apply, val_main_v7_apply, val_main_v9_apply]
  simp only [val_main_v4_apply, v3_at, val_main_cst_apply, val_main_cst_0_apply, val_main_cst_1_apply]
  rw [rd1_eq x1 (idx_main_v14 (idx_main_v15 i)) (i 3).val rfl]
  show _ * Ideal.rsqrt (Ideal.div (Ideal.ofBits .f32 0x00000000#32 + _) _ + _) * _ = _
  rw [bits0, zero_add]
  rfl

/-- The normalised keys. -/
theorem v31_at (x0 : (⟨S16384x12800, .f32⟩ : BufTy).Contents (Elt Ideal)) (x2 : (⟨S128, .f32⟩ : BufTy).Contents (Elt Ideal)) (i : S2x8192x16x128.Idx) :
    val_main_v31 (F := Ideal) x0 x2 i
      = nrm (fun d => rd2 x0 ((i 0).val * 8192 + (i 1).val) (8704 + (i 2).val * 128 + d)) (rd1 x2) (i 3).val := by
  rw [val_main_v31_apply, val_main_v28_apply, val_main_v27_apply, val_main_v26_apply, val_main_v25_apply, val_main_v23_apply,
    val_main_v21_apply, val_main_v20_apply, val_main_v30_apply, val_main_v29_apply, val_main_v22_apply, val_main_v24_apply]
  simp only [val_main_v19_apply, v18_at, val_main_cst_2_apply, val_main_cst_3_apply, val_main_cst_4_apply]
  rw [rd1_eq x2 (idx_main_v29 (idx_main_v30 i)) (i 3).val rfl]
  show _ * Ideal.rsqrt (Ideal.div (Ideal.ofBits .f32 0x00000000#32 + _) _ + _) * _ = _
  rw [bits0, zero_add]
  rfl

/-- The keys kept for the next call: the last 512 normalised rows of each sequence. -/
theorem v108_at (x0 : (⟨S16384x12800, .f32⟩ : BufTy).Contents (Elt Ideal)) (x2 : (⟨S128, .f32⟩ : BufTy).Contents (Elt Ideal)) (i : S2x512x2048.Idx) :
    val_main_v108 (F := Ideal) x0 x2 i = keyO (rd2 x0) (rd1 x2) (i 0).val (i 1).val (i 2).val := by
  rw [val_main_v108_apply, val_main_v107_apply, v31_at]
  have h0 : (i 0).val < 2 := (i 0).isLt
  have h1 : (i 1).val < 512 := (i 1).isLt
  have h2 : (i 2).val < 2048 := (i 2).isLt
  unfold keyO
  have e0 : ((idx_main_v107 (idx_main_v108 i)) 0).val = (i 0).val := by show (((i 0).val * 512 + (i 1).val) * 2048 + (i 2).val) / 1048576 = (i 0).val; omega
  have e1 : ((idx_main_v107 (idx_main_v108 i)) 1).val = 7680 + (i 1).val := by show 7680 + (((i 0).val * 512 + (i 1).val) * 2048 + (i 2).val) / 2048 % 512 = 7680 + (i 1).val; omega
  have e2 : ((idx_main_v107 (idx_main_v108 i)) 2).val = (i 2).val / 128 := by show (((i 0).val * 512 + (i 1).val) * 2048 + (i 2).val) / 128 % 16 = (i 2).val / 128; omega
  have e3 : ((idx_main_v107 (idx_main_v108 i)) 3).val = (i 2).val % 128 := by show (((i 0).val * 512 + (i 1).val) * 2048 + (i 2).val) % 128 = (i 2).val % 128; omega
  rw [e0, e1, e2, e3, Nat.add_assoc]
end Cert.ReferenceIdeal.Val
-- ==== Proof.RefInt.lean ====
module
public import proofs.«01_k».proof.Proof.RefQkv
@[expose] public section
noncomputable section
namespace Cert.ReferenceIdeal.Val
open Cert.ReferenceIdeal Cert.ReferenceIdeal.Read Cert.Band Idealize.ShloMosaic

/-! The reference's index arithmetic: positions of frames and rows of the bias table, as words and as numbers. -/

theorem word_toInt (z : ℤ) (h : -1000000 < z) (h' : z < 1000000) : (BitVec.ofInt 32 z).toInt = z := by
  rw [BitVec.toInt_ofInt]; simp [Int.bmod]; split <;> omega

theorem word_nat (n : ℕ) (h : n < 1000000) : (BitVec.ofNat 32 n).toInt = n := by
  rw [← BitVec.ofInt_natCast]; exact word_toInt _ (by omega) (by omega)

theorem word_slt (a b : ℤ) (h : -1000000 < a) (h' : a < 1000000) (k : -1000000 < b) (k' : b < 1000000) :
    (BitVec.ofInt 32 a).slt (BitVec.ofInt 32 b) = decide (a < b) := by
  unfold BitVec.slt; rw [word_toInt a h h', word_toInt b k k']

theorem word_sle (a b : ℤ) (h : -1000000 < a) (h' : a < 1000000) (k : -1000000 < b) (k' : b < 1000000) :
    (BitVec.ofInt 32 a).sle (BitVec.ofInt 32 b) = decide (a ≤ b) := by
  unfold BitVec.sle; rw [word_toInt a h h', word_toInt b k k']

/-- The position of key `k` of chunk `c` among the padded frames. -/
theorem v66_at (i : S128x576.Idx) : val_main_v66 (F := Ideal) i = BitVec.ofInt 32 (64 * (i 0).val + (i 1).val) := by
  rw [val_main_v66_apply, val_main_v64_apply, val_main_v61_apply, val_main_v59_apply, val_main_v58_apply, val_main_v60_apply,
    val_main_v65_apply, val_main_v63_apply, val_main_v62_apply, val_main_c_12_apply]
  show BitVec.ofNat 32 (i 0).val * 64#32 + BitVec.ofNat 32 (i 1).val = _
  rw [show (64 * ((i 0).val : ℤ) + ((i 1).val : ℤ)) = (((i 0).val * 64 + (i 1).val : ℕ) : ℤ) by push_cast; ring, BitVec.ofInt_natCast,
    BitVec.ofNat_add, BitVec.ofNat_mul]

theorem frame_nonneg (i : S128x576.Idx) :
    Scalar.select (IntOp.cmpi .slt (val_main_v66 (F := Ideal) i) 0#32) (IntOp.addi (val_main_v66 (F := Ideal) i) 8704#32) (val_main_v66 (F := Ideal) i)
      = val_main_v66 (F := Ideal) i := by
  have h0 : (i 0).val < 128 := (i 0).isLt
  have h1 : (i 1).val < 576 := (i 1).isLt
  have : IntOp.cmpi .slt (val_main_v66 (F := Ideal) i) 0#32 = 0#1 := by
    rw [v66_at]
    show BitVec.ofBool ((BitVec.ofInt 32 _).slt (BitVec.ofInt 32 0)) = _
    rw [word_slt _ _ (by omega) (by omega) (by omega) (by omega), decide_eq_false (by omega)]; rfl
  rw [this]; rfl

theorem v73_at (i : S128x576x1.Idx) : (val_main_v73 (F := Ideal) i).toInt.toNat = 64 * (i 0).val + (i 1).val := by
  have h0 : (i 0).val < 128 := (i 0).isLt
  have h1 : (i 1).val < 576 := (i 1).isLt
  rw [val_main_v73_apply, val_main_v72_apply, val_main_v69_apply, val_main_v71_apply, val_main_v68_apply, val_main_v70_apply,
    val_main_c_13_apply, val_main_c_14_apply, frame_nonneg, v66_at]
  show (BitVec.ofInt 32 (64 * ((i 0).val : ℤ) + ((i 1).val : ℤ))).toInt.toNat = _
  rw [word_toInt _ (by omega) (by omega)]; omega

theorem v80_at (i : S128x576x1.Idx) : (val_main_v80 (F := Ideal) i).toInt.toNat = 64 * (i 0).val + (i 1).val := by
  have h0 : (i 0).val < 128 := (i 0).isLt
  have h1 : (i 1).val < 576 := (i 1).isLt
  rw [val_main_v80_apply, val_main_v79_apply, val_main_v76_apply, val_main_v78_apply, val_main_v75_apply, val_main_v77_apply,
    val_main_c_15_apply, val_main_c_16_apply, frame_nonneg, v66_at]
  show (BitVec.ofInt 32 (64 * ((i 0).val : ℤ) + ((i 1).val : ℤ))).toInt.toNat = _
  rw [word_toInt _ (by omega) (by omega)]; omega

/-- A key is inside the sequence when its padded position is at least 512. -/
theorem v89_at (i : S128x576.Idx) : val_main_v89 (F := Ideal) i = BitVec.ofBool (decide (512 ≤ 64 * (i 0).val + (i 1).val)) := by
  have h0 : (i 0).val < 128 := (i 0).isLt
  have h1 : (i 1).val < 576 := (i 1).isLt
  rw [val_main_v89_apply, val_main_v88_apply, val_main_c_18_apply, v66_at]
  show BitVec.ofBool ((BitVec.ofInt 32 512).sle (BitVec.ofInt 32 _)) = _
  rw [word_sle _ _ (by omega) (by omega) (by omega) (by omega)]
  congr 1
  exact decide_eq_decide.2 (by omega)

theorem v46_at (i : S64x576.Idx) : val_main_v46 (F := Ideal) i = BitVec.ofInt 32 ((((i 1).val : ℕ) : ℤ) - 512 - (((i 0).val : ℕ) : ℤ)) := by
  rw [val_main_v46_apply, val_main_v44_apply, val_main_v45_apply, val_main_v41_apply, val_main_v43_apply, val_main_v42_apply,
    val_main_v39_apply, val_main_v40_apply, val_main_v38_apply, val_main_c_apply]
  show BitVec.ofNat 32 (i 1).val - 512#32 - BitVec.ofNat 32 (i 0).val = _
  apply BitVec.eq_of_toInt_eq
  have h0 : (i 0).val < 64 := (i 0).isLt
  have h1 : (i 1).val < 576 := (i 1).isLt
  simp [BitVec.toInt_sub, BitVec.toInt_ofInt]
  rw [word_nat _ (by omega), word_nat _ (by omega)]

theorem word_max (a b : ℤ) (h : -1000000 < a) (h' : a < 1000000) (k : -1000000 < b) (k' : b < 1000000) :
    IntOp.maxsi (BitVec.ofInt 32 a) (BitVec.ofInt 32 b) = BitVec.ofInt 32 (max a b) := by
  unfold IntOp.maxsi
  rw [word_slt _ _ k k' h h']
  by_cases hh : b < a
  · rw [if_pos (by simpa using hh), max_eq_left hh.le]
  · rw [if_neg (by simpa using hh), max_eq_right (not_lt.1 hh)]

theorem word_min (a b : ℤ) (h : -1000000 < a) (h' : a < 1000000) (k : -1000000 < b) (k' : b < 1000000) :
    IntOp.minsi (BitVec.ofInt 32 a) (BitVec.ofInt 32 b) = BitVec.ofInt 32 (min a b) := by
  unfold IntOp.minsi
  rw [word_slt _ _ h h' k k']
  by_cases hh : a < b
  · rw [if_pos (by simpa using hh), min_eq_left hh.le]
  · rw [if_neg (by simpa using hh), min_eq_right (not_lt.1 hh)]

theorem v49_at (i : S64x576.Idx) : val_main_v49 (F := Ideal) i = BitVec.ofInt 32 (min 128 (max (-128) ((((i 1).val : ℕ) : ℤ) - 512 - (((i 0).val : ℕ) : ℤ))) + 128) := by
  have h0 : (i 0).val < 64 := (i 0).isLt
  have h1 : (i 1).val < 576 := (i 1).isLt
  have e : val_main_v47 (F := Ideal) i = BitVec.ofInt 32 (min 128 (max (-128) ((((i 1).val : ℕ) : ℤ) - 512 - (((i 0).val : ℕ) : ℤ)))) := by
    rw [val_main_v47_apply, val_main_call0_v2_apply, v46_at]
    show IntOp.minsi (BitVec.ofInt 32 128) (IntOp.maxsi (BitVec.ofInt 32 (-128)) _) = _
    rw [word_max _ _ (by omega) (by omega) (by omega) (by omega), word_min _ _ (by omega) (by omega) (by omega) (by omega)]
  rw [val_main_v49_apply, e, BitVec.ofInt_add]; rfl

/-- The row of the bias table for query `i 0` and key `i 1`. -/
theorem v55_at (i : S64x576x1.Idx) : (val_main_v55 (F := Ideal) i).toInt.toNat = relRow (i 0).val (i 1).val := by
  have h0 : (i 0).val < 64 := (i 0).isLt
  have h1 : (i 1).val < 576 := (i 1).isLt
  rw [val_main_v55_apply, val_main_v54_apply, val_main_v51_apply, val_main_v50_apply, val_main_c_10_apply, v49_at]
  have : IntOp.cmpi .slt (BitVec.ofInt 32 (min 128 (max (-128) (((((idx_main_v55 i) 1).val : ℕ) : ℤ) - 512 - ((((idx_main_v55 i) 0).val : ℕ) : ℤ))) + 128)) 0#32 = 0#1 := by
    show BitVec.ofBool ((BitVec.ofInt 32 _).slt (BitVec.ofInt 32 0)) = _
    rw [word_slt _ _ (by omega) (by omega) (by omega) (by omega), decide_eq_false (by omega)]; rfl
  rw [this]
  show (BitVec.ofInt 32 (min 128 (max (-128) ((((i 1).val : ℕ) : ℤ) - 512 - (((i 0).val : ℕ) : ℤ))) + 128)).toInt.toNat = _
  rw [word_toInt _ (by omega) (by omega)]
  unfold relRow
  omega

/-- The table of biases gathered by row. -/
theorem v56_at (x3 : (⟨S257x16, .f32⟩ : BufTy).Contents (Elt Ideal)) (y : S64x576x16.Idx) :
    val_main_v56 (F := Ideal) x3 y = rd2 x3 (relRow (y 0).val (y 1).val) (y 2).val := by
  unfold val_main_v56 Host.gather
  refine rd2_eq _ _ _ _ ?_ ?_
  · show GatherDims.start _ y _ 0 + GatherDims.batchCoord _ y 0 + GatherDims.offCoord _ y 0 = _
    rw [GatherDims.batchCoord_eq_zero _ _ _ List.not_mem_nil, GatherDims.offCoord_eq_zero _ _ _ (by decide)]
    unfold GatherDims.start
    rw [dif_pos (by decide)]
    have hsi : (gather_S257x16_S64x576x1_S64x576x16_2_0_n_n_0_2_116).siIdx y ⟨List.idxOf (0 : Fin 2) [0], by decide⟩
        = (fun a => match a with | ⟨0, _⟩ => ⟨(y 0).val, (y 0).isLt⟩ | ⟨1, _⟩ => ⟨(y 1).val, (y 1).isLt⟩ | ⟨2, _⟩ => ⟨0, Nat.one_pos⟩ : S64x576x1.Idx) := by
      funext b; refine Fin.ext ?_
      match b with
      | ⟨0, _⟩ => rfl
      | ⟨1, _⟩ => rfl
      | ⟨2, _⟩ => rfl
    have e := v55_at (fun a => match a with | ⟨0, _⟩ => ⟨(y 0).val, (y 0).isLt⟩ | ⟨1, _⟩ => ⟨(y 1).val, (y 1).isLt⟩ | ⟨2, _⟩ => ⟨0, Nat.one_pos⟩ : S64x576x1.Idx)
    refine (congrArg (fun n => min n 256 + 0 + 0) ((congrArg (fun z => (val_main_v55 (F := Ideal) z).toInt.toNat) hsi).trans e)).trans ?_
    show min (relRow (y 0).val (y 1).val) 256 + 0 + 0 = relRow (y 0).val (y 1).val
    unfold relRow; omega
  · show GatherDims.start _ y _ 1 + GatherDims.batchCoord _ y 1 + GatherDims.offCoord _ y 1 = _
    rw [GatherDims.batchCoord_eq_zero _ _ _ List.not_mem_nil]
    unfold GatherDims.start GatherDims.offCoord
    rw [dif_neg (by decide), dif_pos (by decide), Nat.zero_add]
    rfl

/-- Frames gathered by position. -/
theorem frames_at (x : S2x8704x16x128.Idx → EReal) (idx : IVec S128x576x1 32) (h : ∀ i, (idx i).toInt.toNat = 64 * (i 0).val + (i 1).val)
    (y : S2x128x576x16x128.Idx) (z : S2x8704x16x128.Idx) (e0 : (z 0).val = (y 0).val) (e1 : (z 1).val = 64 * (y 1).val + (y 2).val)
    (e2 : (z 2).val = (y 3).val) (e3 : (z 3).val = (y 4).val) :
    Host.gather gather_S2x8704x16x128_S128x576x1_S2x128x576x16x128_034_1_n_n_1_2_2116128 x idx y = x z := by
  unfold Host.gather
  refine congrArg x (funext fun a => Fin.ext ?_)
  have off : ∀ a : Fin 4, a ≠ 1 → GatherDims.start gather_S2x8704x16x128_S128x576x1_S2x128x576x16x128_034_1_n_n_1_2_2116128 y idx a = 0 := fun a ha => by
    unfold GatherDims.start; exact dif_neg (show a ∉ [(1 : Fin 4)] by simpa using ha)
  match a with
  | ⟨0, _⟩ =>
    show GatherDims.start _ y _ 0 + GatherDims.batchCoord _ y 0 + GatherDims.offCoord _ y 0 = (z 0).val
    rw [GatherDims.batchCoord_eq_zero _ _ _ List.not_mem_nil, off 0 (by decide), e0, Nat.zero_add]
    unfold GatherDims.offCoord; rw [dif_pos (by decide)]; rfl
  | ⟨1, _⟩ =>
    show GatherDims.start _ y _ 1 + GatherDims.batchCoord _ y 1 + GatherDims.offCoord _ y 1 = (z 1).val
    rw [GatherDims.batchCoord_eq_zero _ _ _ List.not_mem_nil, GatherDims.offCoord_eq_zero _ _ _ (by decide), e1]
    unfold GatherDims.start
    rw [dif_pos (by decide)]
    have hsi : (gather_S2x8704x16x128_S128x576x1_S2x128x576x16x128_034_1_n_n_1_2_2116128).siIdx y ⟨List.idxOf (1 : Fin 4) [1], by decide⟩
        = (fun a => match a with | ⟨0, _⟩ => ⟨(y 1).val, (y 1).isLt⟩ | ⟨1, _⟩ => ⟨(y 2).val, (y 2).isLt⟩ | ⟨2, _⟩ => ⟨0, Nat.one_pos⟩ : S128x576x1.Idx) := by
      funext b; refine Fin.ext ?_
      match b with
      | ⟨0, _⟩ => rfl
      | ⟨1, _⟩ => rfl
      | ⟨2, _⟩ => rfl
    have e := h (fun a => match a with | ⟨0, _⟩ => ⟨(y 1).val, (y 1).isLt⟩ | ⟨1, _⟩ => ⟨(y 2).val, (y 2).isLt⟩ | ⟨2, _⟩ => ⟨0, Nat.one_pos⟩ : S128x576x1.Idx)
    refine (congrArg (fun n => min n 8703 + 0 + 0) ((congrArg (fun z => (idx z).toInt.toNat) hsi).trans e)).trans ?_
    have h1 : (y 1).val < 128 := (y 1).isLt
    have h2 : (y 2).val < 576 := (y 2).isLt
    show min (64 * (y 1).val + (y 2).val) 8703 + 0 + 0 = 64 * (y 1).val + (y 2).val
    omega
  | ⟨2, _⟩ =>
    show GatherDims.start _ y _ 2 + GatherDims.batchCoord _ y 2 + GatherDims.offCoord _ y 2 = (z 2).val
    rw [GatherDims.batchCoord_eq_zero _ _ _ List.not_mem_nil, off 2 (by decide), e2, Nat.zero_add]
    unfold GatherDims.offCoord; rw [dif_pos (by decide)]; rfl
  | ⟨3, _⟩ =>
    show GatherDims.start _ y _ 3 + GatherDims.batchCoord _ y 3 + GatherDims.offCoord _ y 3 = (z 3).val
    rw [GatherDims.batchCoord_eq_zero _ _ _ List.not_mem_nil, off 3 (by decide), e3, Nat.zero_add]
    unfold GatherDims.offCoord; rw [dif_pos (by decide)]; rfl

/-- The index of a chunk's key among the padded frames. -/
abbrev frameIdx (y : S2x128x576x16x128.Idx) : S2x8704x16x128.Idx := fun a => match a with
  | ⟨0, _⟩ => ⟨(y 0).val, (y 0).isLt⟩
  | ⟨1, _⟩ => ⟨64 * (y 1).val + (y 2).val, by
    have h1 : (y 1).val < 128 := (y 1).isLt
    have h2 : (y 2).val < 576 := (y 2).isLt
    show _ < 8704; omega⟩
  | ⟨2, _⟩ => ⟨(y 3).val, (y 3).isLt⟩
  | ⟨3, _⟩ => ⟨(y 4).val, (y 4).isLt⟩

/-- The key read at the padded position of a chunk's key: zero before the sequence. -/
theorem v74_at (x0 : (⟨S16384x12800, .f32⟩ : BufTy).Contents (Elt Ideal)) (x2 : (⟨S128, .f32⟩ : BufTy).Contents (Elt Ideal)) (y : S2x128x576x16x128.Idx) :
    val_main_v74 (F := Ideal) x0 x2 y = if 512 ≤ 64 * (y 1).val + (y 2).val then
      nrm (fun d => rd2 x0 ((y 0).val * 8192 + (64 * (y 1).val + (y 2).val - 512)) (8704 + (y 3).val * 128 + d)) (rd1 x2) (y 4).val else 0 := by
  have h1 : (y 1).val < 128 := (y 1).isLt
  have h2 : (y 2).val < 576 := (y 2).isLt
  unfold val_main_v74
  rw [frames_at _ _ v73_at y (frameIdx y) rfl rfl rfl rfl]
  pointwise [val_main_v35]
  by_cases h : 64 * (y 1).val + (y 2).val < 512
  · rw [dif_pos h, if_neg (by omega), val_main_v34_apply, val_main_cst_5_apply]
    exact bits0
  · rw [dif_neg h]
    exact (v31_at x0 x2 _).trans (if_pos (by omega)).symm

theorem v81_at (x0 : (⟨S16384x12800, .f32⟩ : BufTy).Contents (Elt Ideal)) (y : S2x128x576x16x128.Idx) :
    val_main_v81 (F := Ideal) x0 y = if 512 ≤ 64 * (y 1).val + (y 2).val then
      rd2 x0 ((y 0).val * 8192 + (64 * (y 1).val + (y 2).val - 512)) (10752 + (y 3).val * 128 + (y 4).val) else 0 := by
  have h1 : (y 1).val < 128 := (y 1).isLt
  have h2 : (y 2).val < 576 := (y 2).isLt
  unfold val_main_v81
  rw [frames_at _ _ v80_at y (frameIdx y) rfl rfl rfl rfl]
  pointwise [val_main_v37]
  by_cases h : 64 * (y 1).val + (y 2).val < 512
  · rw [dif_pos h, if_neg (by omega), val_main_v36_apply, val_main_cst_6_apply]
    exact bits0
  · rw [dif_neg h]
    exact (v33_at x0 _).trans (if_pos (by omega)).symm

end Cert.ReferenceIdeal.Val
-- ==== Proof.RefBand.lean ====
module
public import proofs.«01_k».proof.Proof.RefInt
@[expose] public section
noncomputable section
namespace Cert.ReferenceIdeal.Val
open Cert.ReferenceIdeal Cert.ReferenceIdeal.Read Cert.Band Idealize.ShloMosaic

/-- The reference's score of query `q` of chunk `c` against key `k` of its band, in sequence `b` and head `h`. -/
def refS (P : ℕ → ℕ → EReal) (gq gk : ℕ → EReal) (T : ℕ → ℕ → EReal) (b c h q k : ℕ) : EReal :=
  if 512 ≤ 64 * c + k then
    (∑ x : Fin 128, nrm (fun d => P (b * 8192 + (64 * c + q)) (6656 + h * 128 + d)) gq x
      * nrm (fun d => P (b * 8192 + (64 * c + k - 512)) (8704 + h * 128 + d)) gk x) * scale + T (relRow q k) h
  else ⊥

/-- The value at key `k` of the band of chunk `c`, zero before the sequence. -/
def refV (P : ℕ → ℕ → EReal) (b c h d k : ℕ) : EReal :=
  if 512 ≤ 64 * c + k then P (b * 8192 + (64 * c + k - 512)) (10752 + h * 128 + d) else 0

variable (x0 : (⟨S16384x12800, .f32⟩ : BufTy).Contents (Elt Ideal)) (x1 x2 : (⟨S128, .f32⟩ : BufTy).Contents (Elt Ideal))
  (x3 : (⟨S257x16, .f32⟩ : BufTy).Contents (Elt Ideal))

theorem v67_at (i : S2x128x64x16x128.Idx) :
    val_main_v67 (F := Ideal) x0 x1 i
      = nrm (fun d => rd2 x0 ((i 0).val * 8192 + (64 * (i 1).val + (i 2).val)) (6656 + (i 3).val * 128 + d)) (rd1 x1) (i 4).val := by
  rw [val_main_v67_apply, v16_at]
  have h0 : (i 0).val < 2 := (i 0).isLt
  have h1 : (i 1).val < 128 := (i 1).isLt
  have h2 : (i 2).val < 64 := (i 2).isLt
  have h3 : (i 3).val < 16 := (i 3).isLt
  have h4 : (i 4).val < 128 := (i 4).isLt
  have e0 : ((idx_main_v67 i) 0).val = (i 0).val := by
    show (((((i 0).val * 128 + (i 1).val) * 64 + (i 2).val) * 16 + (i 3).val) * 128 + (i 4).val) / 16777216 = _; omega
  have e1 : ((idx_main_v67 i) 1).val = 64 * (i 1).val + (i 2).val := by
    show (((((i 0).val * 128 + (i 1).val) * 64 + (i 2).val) * 16 + (i 3).val) * 128 + (i 4).val) / 2048 % 8192 = _; omega
  have e2 : ((idx_main_v67 i) 2).val = (i 3).val := by
    show (((((i 0).val * 128 + (i 1).val) * 64 + (i 2).val) * 16 + (i 3).val) * 128 + (i 4).val) / 128 % 16 = _; omega
  have e3 : ((idx_main_v67 i) 3).val = (i 4).val := by
    show (((((i 0).val * 128 + (i 1).val) * 64 + (i 2).val) * 16 + (i 3).val) * 128 + (i 4).val) % 128 = _; omega
  rw [e0, e1, e2, e3]

/-- The reference's scores. -/
theorem v91_at (i : S2x128x16x64x576.Idx) :
    val_main_v91 (F := Ideal) x0 x1 x2 x3 i
      = refS (rd2 x0) (rd1 x1) (rd1 x2) (rd2 x3) (i 0).val (i 1).val (i 2).val (i 3).val (i 4).val := by
  rw [val_main_v91_apply, val_main_call1_v1_apply, val_main_v90_apply, v89_at, val_main_v87_apply, val_main_v84_apply, val_main_v82_apply,
    val_main_v83_apply, val_main_v86_apply, val_main_v85_apply, val_main_v57_apply, v56_at]
  unfold refS
  by_cases h : 512 ≤ 64 * (i 1).val + (i 4).val
  · rw [if_pos h]
    refine (if_pos (congrArg BitVec.ofBool (decide_eq_true h))).trans ?_
    simp only [v67_at, v74_at]
    refine congrArg (· * scale + rd2 x3 (relRow (i 3).val (i 4).val) (i 2).val) (Finset.sum_congr rfl fun x _ => ?_)
    exact congrArg _ (if_pos h)
  · rw [if_neg h]
    refine (if_neg ?_).trans ?_
    · show ¬ BitVec.ofBool (decide (512 ≤ 64 * (i 1).val + (i 4).val)) = 1#1
      rw [decide_eq_false h]; decide
    · rw [val_main_call1_v2_apply]
      exact Cert.KernelIdeal.Val.negInf

/-- The largest score of a row. -/
theorem v92_at (i : S2x128x16x64.Idx) :
    val_main_v92 (F := Ideal) x0 x1 x2 x3 i = Finset.univ.fold max ⊥ fun k : Fin 576 =>
      refS (rd2 x0) (rd1 x1) (rd1 x2) (rd2 x3) (i 0).val (i 1).val (i 2).val (i 3).val k := by
  unfold val_main_v92
  have h : S2x128x16x64x576.Reduces [4] S2x128x16x64 := by decide
  rw [Host.reduce_eq_fold_single _ _ _ _ h]
  show Finset.univ.fold max (Ideal.ofBits .f32 0xFF800000#32) (val_main_v91 (F := Ideal) x0 x1 x2 x3 ∘ h.lift i) = _
  rw [Cert.KernelIdeal.Val.negInf]
  refine congrArg (fun f : Fin 576 → EReal => Finset.univ.fold max ⊥ f) (funext fun k => ?_)
  exact v91_at x0 x1 x2 x3 (h.lift i k)

/-- The reference's weighted sum at query `q` of chunk `c`. -/
theorem v103_at (i : S2x128x16x128x64.Idx) :
    val_main_v103 (F := Ideal) x0 x1 x2 x3 i = ∑ k : Fin 576, refV (rd2 x0) (i 0).val (i 1).val (i 2).val (i 3).val k *
      Ideal.div (Ideal.exp (refS (rd2 x0) (rd1 x1) (rd1 x2) (rd2 x3) (i 0).val (i 1).val (i 2).val (i 4).val k
          - Finset.univ.fold max ⊥ fun k : Fin 576 => refS (rd2 x0) (rd1 x1) (rd1 x2) (rd2 x3) (i 0).val (i 1).val (i 2).val (i 4).val k))
        (∑ k : Fin 576, Ideal.exp (refS (rd2 x0) (rd1 x1) (rd1 x2) (rd2 x3) (i 0).val (i 1).val (i 2).val (i 4).val k
          - Finset.univ.fold max ⊥ fun k : Fin 576 => refS (rd2 x0) (rd1 x1) (rd1 x2) (rd2 x3) (i 0).val (i 1).val (i 2).val (i 4).val k)) := by
  rw [val_main_v103_apply]
  refine Finset.sum_congr rfl fun k _ => ?_
  have hE : ∀ j : S2x128x16x64x576.Idx, val_main_v98 (F := Ideal) x0 x1 x2 x3 j
      = Ideal.exp (refS (rd2 x0) (rd1 x1) (rd1 x2) (rd2 x3) (j 0).val (j 1).val (j 2).val (j 3).val (j 4).val
          - Finset.univ.fold max ⊥ fun k : Fin 576 => refS (rd2 x0) (rd1 x1) (rd1 x2) (rd2 x3) (j 0).val (j 1).val (j 2).val (j 3).val k) := fun j => by
    rw [val_main_v98_apply, val_main_v97_apply, val_main_v96_apply, val_main_v95_apply, val_main_v94_apply, val_main_v93_apply,
      val_main_cst_21_apply, v91_at, v92_at]
    show Ideal.exp (_ - max (Ideal.ofBits .f32 0xFF800000#32) _) = _
    rw [Cert.KernelIdeal.Val.negInf, max_eq_right bot_le]
  rw [val_main_v102_apply, v81_at, hE, val_main_v101_apply, val_main_v100_apply, val_main_v99_apply, val_main_cst_22_apply]
  simp only [hE]
  show _ * Ideal.div _ (Ideal.ofBits .f32 0x00000000#32 + _) = _
  rw [bits0, zero_add]
  rfl

/-- The reference's output of row `t`, column `c`. -/
def refO (P : ℕ → ℕ → EReal) (gq gk : ℕ → EReal) (T : ℕ → ℕ → EReal) (t c : ℕ) : EReal :=
  ∑ k : Fin 576, refV P (t / 8192) (t % 8192 / 64) (c / 128) (c % 128) k *
    Ideal.div (Ideal.exp (refS P gq gk T (t / 8192) (t % 8192 / 64) (c / 128) (t % 64) k
        - Finset.univ.fold max ⊥ fun k : Fin 576 => refS P gq gk T (t / 8192) (t % 8192 / 64) (c / 128) (t % 64) k))
      (∑ k : Fin 576, Ideal.exp (refS P gq gk T (t / 8192) (t % 8192 / 64) (c / 128) (t % 64) k
        - Finset.univ.fold max ⊥ fun k : Fin 576 => refS P gq gk T (t / 8192) (t % 8192 / 64) (c / 128) (t % 64) k))

theorem v106_at (i : S16384x2048.Idx) :
    val_main_v106 (F := Ideal) x0 x1 x2 x3 i = refO (rd2 x0) (rd1 x1) (rd1 x2) (rd2 x3) (i 0).val (i 1).val := by
  rw [val_main_v106_apply, val_main_v105_apply, val_main_v104_apply, v103_at]
  have h0 : (i 0).val < 16384 := (i 0).isLt
  have h1 : (i 1).val < 2048 := (i 1).isLt
  have e0 : ((idx_main_v104 (idx_main_v105 i)) 0).val = (i 0).val / 8192 := by
    show ((i 0).val * 2048 + (i 1).val) / 16777216 = _; omega
  have e1 : ((idx_main_v104 (idx_main_v105 i)) 1).val = (i 0).val % 8192 / 64 := by
    show ((i 0).val * 2048 + (i 1).val) / 131072 % 128 = _; omega
  have e2 : ((idx_main_v104 (idx_main_v105 i)) 2).val = (i 1).val / 128 := by
    show ((i 0).val * 2048 + (i 1).val) / 128 % 16 = _; omega
  have e3 : ((idx_main_v104 (idx_main_v105 i)) 3).val = (i 1).val % 128 := by
    show ((i 0).val * 2048 + (i 1).val) % 128 = _; omega
  have e4 : ((idx_main_v104 (idx_main_v105 i)) 4).val = (i 0).val % 64 := by
    show ((i 0).val * 2048 + (i 1).val) / 2048 % 64 = _; omega
  rw [e0, e1, e2, e3, e4]
  rfl
end Cert.ReferenceIdeal.Val
-- ==== Proof.Soft.lean ====
module
public import proofs.«01_k».proof.Proof.Spec
@[expose] public section
noncomputable section
namespace Cert.Band
open Idealize.ShloMosaic

/-- A value that is a real number. -/
def Fin' (x : EReal) : Prop := x ≠ ⊥ ∧ x ≠ ⊤

theorem Fin'.coe {x : EReal} (h : Fin' x) : ∃ r : ℝ, x = (r : EReal) := ⟨x.toReal, (EReal.coe_toReal h.2 h.1).symm⟩
theorem fin_coe (r : ℝ) : Fin' (r : EReal) := ⟨EReal.coe_ne_bot r, EReal.coe_ne_top r⟩
theorem Fin'.mul {x y : EReal} (hx : Fin' x) (hy : Fin' y) : Fin' (x * y) := by
  obtain ⟨a, rfl⟩ := hx.coe; obtain ⟨b, rfl⟩ := hy.coe
  rw [← EReal.coe_mul]; exact fin_coe _
theorem Fin'.add {x y : EReal} (hx : Fin' x) (hy : Fin' y) : Fin' (x + y) := by
  obtain ⟨a, rfl⟩ := hx.coe; obtain ⟨b, rfl⟩ := hy.coe
  rw [← EReal.coe_add]; exact fin_coe _
theorem fin_sum {ι : Type} (s : Finset ι) (f : ι → EReal) (h : ∀ k ∈ s, Fin' (f k)) : Fin' (∑ k ∈ s, f k) :=
  Finset.sum_induction f Fin' (fun _ _ => Fin'.add) (fin_coe 0) h

theorem sum_real {ι : Type} [Fintype ι] (f : ι → ℝ) : ∑ k, (f k : EReal) = ((∑ k, f k : ℝ) : EReal) :=
  (map_sum (⟨⟨fun r : ℝ => (r : EReal), EReal.coe_zero⟩, EReal.coe_add⟩ : ℝ →+ EReal) f _).symm

/-- Pulling a real scale out of a sum of products of reals. -/
theorem scale_sum {n : ℕ} (a b : Fin n → EReal) (c : EReal) (ha : ∀ k, Fin' (a k)) (hb : ∀ k, Fin' (b k)) (hc : Fin' c) :
    ∑ k, a k * c * b k = (∑ k, a k * b k) * c := by
  obtain ⟨c', rfl⟩ := hc.coe
  choose a' ha' using fun k => (ha k).coe
  choose b' hb' using fun k => (hb k).coe
  simp only [ha', hb', ← EReal.coe_mul]
  rw [sum_real, sum_real, ← EReal.coe_mul, Finset.sum_mul]
  exact congrArg _ (Finset.sum_congr rfl fun k _ => by ring)

/-- The normalisation of a real vector with real gains is real. -/
theorem nrm_fin (X g : ℕ → EReal) (d : ℕ) (hX : ∀ x, x < 128 → Fin' (X x)) (hg : Fin' (g d)) (hd : d < 128) : Fin' (nrm X g d) := by
  unfold nrm
  refine ((hX d hd).mul ?_).mul hg
  choose a ha using fun x : Fin 128 => (hX x x.2).coe
  have e : (∑ x : Fin 128, X x * X x) = ((∑ x : Fin 128, a x * a x : ℝ) : EReal) := by
    rw [← sum_real]; exact Finset.sum_congr rfl fun x _ => by rw [ha, EReal.coe_mul]
  have hn : 0 ≤ ∑ x : Fin 128, a x * a x := Finset.sum_nonneg fun x _ => mul_self_nonneg _
  have h128 : Ideal.ofBits .f32 0x43000000#32 = ((128 : ℝ) : EReal) := by
    simp [Ideal.ofBits, Ideal.ieee]; rw [← EReal.coe_mul]; norm_num
  have heps : ∃ r : ℝ, 0 < r ∧ Ideal.ofBits .f32 0x358637BD#32 = (r : EReal) := by
    refine ⟨8796093 / 8796093022208, by norm_num, ?_⟩
    simp [Ideal.ofBits, Ideal.ieee]; rw [← EReal.coe_mul]; exact congrArg Real.toEReal (by norm_num)
  obtain ⟨r, hr, er⟩ := heps
  rw [e, h128, er]
  unfold Ideal.div
  rw [if_neg (by norm_num), ← EReal.coe_inv, ← EReal.coe_mul, ← EReal.coe_add]
  have hp : 0 < (∑ x : Fin 128, a x * a x) * (128 : ℝ)⁻¹ + r := by positivity
  rw [Ideal.rsqrt_coe, if_neg hp.not_gt, if_neg hp.ne']
  exact fin_coe _

theorem scale_fin : Fin' scale := by
  have : ∃ r : ℝ, Ideal.ofBits .f32 0x3DB504F3#32 = (r : EReal) := by
    refine ⟨11863283 / 134217728, ?_⟩
    simp [Ideal.ofBits, Ideal.ieee]; rw [← EReal.coe_mul]; exact congrArg Real.toEReal (by norm_num)
  obtain ⟨r, e⟩ := this
  unfold scale; rw [e]; exact fin_coe r

/-- A sum over an index set outside of whose image under an injection the summand vanishes. -/
theorem sum_embed {m n : ℕ} (e : Fin m → Fin n) (he : Function.Injective e) (f : Fin n → EReal)
    (h0 : ∀ j, (∀ k, e k ≠ j) → f j = 0) : ∑ j, f j = ∑ k, f (e k) := by
  rw [← Finset.sum_image (s := Finset.univ) (g := e) (f := f) (fun a _ b _ h => he h)]
  refine (Finset.sum_subset (Finset.subset_univ _) fun j _ hj => h0 j fun k hk => hj ?_).symm
  exact Finset.mem_image.2 ⟨k, Finset.mem_univ _, hk⟩

theorem sum_mul_real {m : ℕ} (f : Fin m → EReal) (c : EReal) (h0 : 0 ≤ c) (h1 : c ≠ ⊤) : (∑ k, f k) * c = ∑ k, f k * c := by
  classical
  have : ∀ s : Finset (Fin m), (∑ k ∈ s, f k) * c = ∑ k ∈ s, f k * c := fun s => by
    induction s using Finset.induction_on with
    | empty => simp
    | insert a s ha ih => rw [Finset.sum_insert ha, Finset.sum_insert ha, EReal.right_distrib_of_nonneg_of_ne_top h0 h1, ih]
  exact this _

theorem fold_sup {n : ℕ} (s : Fin n → EReal) : Finset.univ.fold max ⊥ s = Finset.univ.sup s := rfl

theorem fold_embed {m n : ℕ} (e : Fin m → Fin n) (s : Fin n → EReal) (h0 : ∀ j, (∀ k, e k ≠ j) → s j = ⊥) :
    Finset.univ.fold max ⊥ s = Finset.univ.fold max ⊥ fun k => s (e k) := by
  rw [fold_sup, fold_sup]
  refine le_antisymm (Finset.sup_le fun j _ => ?_) (Finset.sup_le fun k _ => Finset.le_sup (f := s) (Finset.mem_univ _))
  by_cases h : ∃ k, e k = j
  · obtain ⟨k, rfl⟩ := h
    exact Finset.le_sup (f := fun k => s (e k)) (Finset.mem_univ k)
  · rw [h0 j fun k hk => h ⟨k, hk⟩]; exact bot_le

/-- The weighted sum divided at the end over a wider set of keys, those added having the score ⊥, is the sum weighted by
    the softmax over the keys themselves. -/
theorem softO_embed {m n : ℕ} (e : Fin m → Fin n) (he : Function.Injective e) (s v : Fin n → EReal) (s' v' : Fin m → EReal)
    (hs : ∀ k, s (e k) = s' k) (h0 : ∀ j, (∀ k, e k ≠ j) → s j = ⊥) (hv : ∀ k, s' k ≠ ⊥ → v (e k) = v' k)
    (ht : ∀ k, s' k ≠ ⊤) (k0 : Fin m) (hk0 : s' k0 ≠ ⊥) :
    softO s v = ∑ k, v' k * Ideal.div (Ideal.exp (s' k - Finset.univ.fold max ⊥ s')) (∑ k, Ideal.exp (s' k - Finset.univ.fold max ⊥ s')) := by
  have hM : Finset.univ.fold max ⊥ s = Finset.univ.fold max ⊥ s' := by
    rw [fold_embed e s h0]; simp only [hs]
  unfold softO
  rw [hM]
  have hf : Fin' (Finset.univ.fold max ⊥ s') := by
    rw [fold_sup]
    constructor
    · intro h
      have := Finset.le_sup (f := s') (Finset.mem_univ k0)
      rw [h] at this; exact hk0 (le_bot_iff.1 this)
    · obtain ⟨k, _, h⟩ := Finset.exists_mem_eq_sup Finset.univ ⟨k0, Finset.mem_univ _⟩ s'
      rw [h]; exact ht k
  obtain ⟨M, hMr⟩ := hf.coe
  rw [hMr]
  have hbot : Ideal.exp (⊥ - (M : EReal)) = 0 := by rw [EReal.bot_sub]; rfl
  have hE : ∀ k, ∃ r : ℝ, 0 ≤ r ∧ (s' k ≠ ⊥ → 0 < r) ∧ Ideal.exp (s' k - (M : EReal)) = (r : EReal) := fun k => by
    by_cases hb : s' k = ⊥
    · exact ⟨0, le_rfl, fun h => absurd hb h, by rw [hb, hbot]; rfl⟩
    · obtain ⟨x, hx⟩ := Fin'.coe ⟨hb, ht k⟩
      refine ⟨Real.exp (x - M), (Real.exp_pos _).le, fun _ => Real.exp_pos _, ?_⟩
      rw [hx, ← EReal.coe_sub]; rfl
  choose E hE0 hEp hEe using hE
  rw [sum_embed e he _ (fun j hj => by rw [h0 j hj, hbot, zero_mul]), sum_embed e he (fun j => Ideal.exp (s j - (M : EReal))) (fun j hj => by rw [h0 j hj, hbot])]
  simp only [hs, hEe, sum_real]
  have hL : 0 < ∑ k, E k := Finset.sum_pos' (fun k _ => hE0 k) ⟨k0, Finset.mem_univ _, hEp k0 hk0⟩
  unfold Ideal.div
  have hLn : ((∑ k, E k : ℝ) : EReal) ≠ 0 := by
    rw [← EReal.coe_zero]; exact fun h => hL.ne' (EReal.coe_eq_coe_iff.1 h)
  simp only [if_neg hLn]
  rw [← EReal.coe_inv, sum_mul_real _ _ (by exact_mod_cast (inv_pos.2 hL).le) (EReal.coe_ne_top _)]
  refine Finset.sum_congr rfl fun k _ => ?_
  by_cases hb : s' k = ⊥
  · have : E k = 0 := by
      have h := hEe k
      rw [hb, hbot] at h; exact_mod_cast h.symm
    rw [this]; simp
  · rw [hv k hb, mul_comm (E k : EReal) (v' k), mul_assoc]

end Cert.Band
-- ==== Proof.Join.lean ====
module
public import proofs.«01_k».proof.Proof.RefBand
public import proofs.«01_k».proof.Proof.Soft
@[expose] public section
noncomputable section
namespace Cert.Band
open Idealize.ShloMosaic Cert.ReferenceIdeal.Val

variable (P : ℕ → ℕ → EReal) (gq gk : ℕ → EReal) (T : ℕ → ℕ → EReal)
  (hP : ∀ r c, 6656 ≤ c → c < 10752 → Fin' (P r c)) (hq : ∀ d, Fin' (gq d)) (hk : ∀ d, Fin' (gk d)) (hT : ∀ r h, Fin' (T r h))

include hP hq hk hT in
/-- A score inside the sequence is real. -/
theorem refS_fin (b c h q k : ℕ) (hh : h < 16) (hc : 512 ≤ 64 * c + k) : Fin' (refS P gq gk T b c h q k) := by
  unfold refS
  rw [if_pos hc]
  refine Fin'.add (Fin'.mul (fin_sum _ _ fun x _ => Fin'.mul ?_ ?_) scale_fin) (hT _ _)
  · exact nrm_fin _ _ _ (fun y hy => hP _ _ (by omega) (by omega)) (hq _) x.2
  · exact nrm_fin _ _ _ (fun y hy => hP _ _ (by omega) (by omega)) (hk _) x.2

include hP hq hk in
/-- The kernel's score at its key `64 a + k` is the reference's at key `k` of the band. -/
theorem blkS_eq (b i a q g hl k : ℕ) (hi : i < 16) (ha : a < 8) (hqq : q < 64) (hg : g < 4) (hhl : hl < 4) (hkk : k < 576) :
    blkS i (fun r d => P ((b * 16 + i) * 512 + r) (6656 + g * 512 + d)) (fun r d => P ((b * 16 + i) * 512 + r) (8704 + g * 512 + d))
      (fun r d => P ((b * 16 + (i - 1)) * 512 + r) (8704 + g * 512 + d)) gq gk (fun h r j => biasS T (g * 4 + h) r j) hl (a * 64 + q) (64 * a + k)
      = refS P gq gk T b (i * 8 + a) (4 * g + hl) q k := by
  unfold blkS refS
  by_cases hc : 512 ≤ 64 * (i * 8 + a) + k
  · rw [if_pos (by omega), if_pos hc]
    have e1 : (fun d => P ((b * 16 + i) * 512 + (a * 64 + q)) (6656 + g * 512 + (128 * hl + d)))
        = fun d => P (b * 8192 + (64 * (i * 8 + a) + q)) (6656 + (4 * g + hl) * 128 + d) := funext fun d => by
      exact congrArg₂ P (by omega) (by omega)
    have e2 : (fun d => pair (fun r d => P ((b * 16 + i) * 512 + r) (8704 + g * 512 + d))
          (fun r d => P ((b * 16 + (i - 1)) * 512 + r) (8704 + g * 512 + d)) (64 * a + k) (128 * hl + d))
        = fun d => P (b * 8192 + (64 * (i * 8 + a) + k - 512)) (8704 + (4 * g + hl) * 128 + d) := funext fun d => by
      unfold pair
      split
      · show P _ _ = _
        exact congrArg₂ P (by omega) (by omega)
      · show P _ _ = _
        exact congrArg₂ P (by omega) (by omega)
    have e3 : biasS T (g * 4 + hl) (a * 64 + q) (64 * a + k) = T (relRow q k) (4 * g + hl) := by
      unfold biasS
      rw [if_pos (by omega)]
      exact congrArg₂ T (by unfold relRow; omega) (by omega)
    refine congrArg₂ (· + ·) ?_ e3
    show (∑ x : Fin 128, nrm (fun d => P ((b * 16 + i) * 512 + (a * 64 + q)) (6656 + g * 512 + (128 * hl + d))) gq x * scale * nrm _ gk x) = _
    rw [e1, e2]
    refine scale_sum _ _ _ (fun x => ?_) (fun x => ?_) scale_fin
    · exact nrm_fin _ _ _ (fun y hy => hP _ _ (by omega) (by omega)) (hq _) x.2
    · exact nrm_fin _ _ _ (fun y hy => hP _ _ (by omega) (by omega)) (hk _) x.2
  · rw [if_neg (by omega), if_neg hc]

/-- Outside the band the kernel's score is ⊥. -/
theorem blkS_out (i : ℕ) (Q Kc Kp : ℕ → ℕ → EReal) (a q g hl j : ℕ) (hqq : q < 64) (hj : j < 64 * a ∨ 64 * a + 576 ≤ j) :
    blkS i Q Kc Kp gq gk (fun h r j => biasS T (g * 4 + h) r j) hl (a * 64 + q) j = ⊥ := by
  unfold blkS
  split
  · have : biasS T (g * 4 + hl) (a * 64 + q) j = ⊥ := by
      unfold biasS; exact if_neg (by omega)
    rw [show (fun h r j => biasS T (g * 4 + h) r j) hl (a * 64 + q) j = ⊥ from this, EReal.add_bot]
  · rfl

include hP hq hk hT in
/-- The kernel's output is the reference's. -/
theorem attO_eq (t c : ℕ) (ht : t < 16384) (hc : c < 2048) : attO P gq gk T t c = refO P gq gk T t c := by
  obtain ⟨b, i, a, q, hi, ha, hqq, et⟩ : ∃ b i a q, i < 16 ∧ a < 8 ∧ q < 64 ∧ t = b * 8192 + i * 512 + a * 64 + q :=
    ⟨t / 8192, t % 8192 / 512, t % 512 / 64, t % 64, by omega, by omega, by omega, by omega⟩
  obtain ⟨g, hl, d, hg, hhl, hd, ec⟩ : ∃ g hl d, g < 4 ∧ hl < 4 ∧ d < 128 ∧ c = g * 512 + hl * 128 + d :=
    ⟨c / 512, c % 512 / 128, c % 128, by omega, by omega, by omega, by omega⟩
  have t1 : t % 8192 / 512 = i := by omega
  have t2 : t / 512 = b * 16 + i := by omega
  have t3 : t / 8192 = b := by omega
  have t4 : t % 512 = a * 64 + q := by omega
  have t5 : t % 8192 / 64 = i * 8 + a := by omega
  have t6 : t % 64 = q := by omega
  have c1 : c / 512 = g := by omega
  have c2 : c % 512 = hl * 128 + d := by omega
  have c3 : c / 128 = 4 * g + hl := by omega
  have c4 : c % 128 = d := by omega
  unfold attO blkO refO
  rw [t1, t2, t3, t4, t5, t6, c1, c2, c3, c4]
  have hr : ∀ k : Fin 576, k.val + 64 * (a % 2) < 640 := fun k => by omega
  have hd1 : (hl * 128 + d) / 128 = hl := by omega
  have hrow : ∀ k : ℕ, (a * 64 + q) / 128 * 128 + (k + 64 * (a % 2)) = 64 * a + k := fun k => by omega
  rw [hd1]
  refine softO_embed (fun k : Fin 576 => (⟨k.val + 64 * (a % 2), hr k⟩ : Fin 640)) (fun k k' h => ?_) _ _ _ _ (fun k => ?_) (fun j hj => ?_)
    (fun k hk' => ?_) (fun k => ?_) ⟨575, by omega⟩ ?_
  · exact Fin.ext (by have := congrArg Fin.val h; dsimp only at this; omega)
  · dsimp only
    rw [hrow]
    exact blkS_eq P gq gk T hP hq hk b i a q g hl k hi ha hqq hg hhl k.2
  · refine blkS_out gq gk T i _ _ _ a q g hl _ hqq ?_
    by_contra hcon
    have : j.val < 640 := j.2
    refine hj ⟨j.val - 64 * (a % 2), by omega⟩ (Fin.ext ?_)
    show j.val - 64 * (a % 2) + 64 * (a % 2) = j.val
    omega
  · dsimp only
    rw [hrow]
    have hin : 512 ≤ 64 * (i * 8 + a) + k.val := by
      by_contra hcon
      exact hk' (by unfold refS; exact if_neg hcon)
    unfold pair refV
    rw [if_pos hin]
    have := k.2
    split
    · show P _ _ = _
      exact congrArg₂ P (by omega) (by omega)
    · show P _ _ = _
      exact congrArg₂ P (by omega) (by omega)
  · by_cases hin : 512 ≤ 64 * (i * 8 + a) + k.val
    · exact (refS_fin P gq gk T hP hq hk hT _ _ _ _ _ (by omega) hin).2
    · unfold refS; rw [if_neg hin]; exact bot_ne_top
  · exact (refS_fin P gq gk T hP hq hk hT _ _ _ _ _ (by omega) (show 512 ≤ 64 * (i * 8 + a) + 575 by omega)).1
end Cert.Band
-- ==== Proof.Finite.lean ====
module
public import proofs.«01_k».proof.Defs
public import proofs.«01_k».proof.Proof.Soft
public import proofs.«01_k».proof.Proof.Compose
public import Idealize.ShloMosaic.Lib.ReduceAll
@[expose] public section
noncomputable section
namespace Cert.Band
open Idealize.ShloMosaic

theorem bit_and {a b : BitVec 1} (h : IntOp.andi a b = 1#1) : a = 1#1 ∧ b = 1#1 := by
  revert h; revert a b; decide

/-- What one comparison of the precondition says: the element is real. -/
theorem real_of_bit (x : EReal) (h : FloatOps.cmpf (F := Ideal) (φ := .f32) .olt (FloatOps.hostAbsf (F := Ideal) (φ := .f32) x) (Ideal.ofBits .f32 0x7F800000#32) = 1#1) : Fin' x := by
  have hinf : Ideal.ofBits .f32 0x7F800000#32 = ⊤ := by simp [Ideal.ofBits, Ideal.ieee]
  rw [hinf] at h
  have h' : max x (-x) < ⊤ := by
    by_contra hn
    have : FloatOps.cmpf (F := Ideal) (φ := .f32) .olt (FloatOps.hostAbsf (F := Ideal) (φ := .f32) x) (⊤ : EReal) = BitVec.ofBool (decide (max x (-x) < ⊤)) := rfl
    rw [this, decide_eq_false hn] at h
    exact absurd h (by decide)
  rw [max_lt_iff] at h'
  refine ⟨fun hb => ?_, h'.1.ne⟩
  rw [hb, EReal.neg_bot] at h'
  exact absurd h'.2 (lt_irrefl _)

/-- The precondition says that the query and key columns, the gains and the table are real. -/
theorem pre_real [Cert.Pre_finite.Facts] (a0 : FVec Ideal Cert.Pre_finite.S16384x12800 .f32) (a1 a2 : FVec Ideal Cert.Pre_finite.S128 .f32)
    (a3 : FVec Ideal Cert.Pre_finite.S257x16 .f32) (h : Cert.Pre_finite.fn (F := Ideal) a0 a1 a2 a3 = fun _ => 1#1) :
    (∀ r c, 6656 ≤ c → c < 10752 → Fin' (rd2 a0 r c)) ∧ (∀ d, Fin' (rd1 a1 d)) ∧ (∀ d, Fin' (rd1 a2 d)) ∧ ∀ r c, Fin' (rd2 a3 r c) := by
  have h1 := congrFun h fun a => a.elim0
  obtain ⟨h2, p3⟩ := bit_and h1
  obtain ⟨h3, p2⟩ := bit_and h2
  obtain ⟨p0, p1⟩ := bit_and h3
  have : Subsingleton Cert.Pre_finite.S_.Idx := ⟨fun a b => funext fun x => x.elim0⟩
  refine ⟨fun r c hc hc' => ?_, fun d => ?_, fun d => ?_, fun r c => ?_⟩
  · unfold rd2
    split
    · rename_i hh
      have e := real_of_bit _ (Host.reduce_andi_all _ _ _ _ _ p0 (ix2 ⟨r, hh.1⟩ ⟨c - 6656, by omega⟩))
      have es : ∀ h, extractStridedSlice Cert.Pre_finite.S16384x4096 ![0, 6656] a0 h (ix2 ⟨r, hh.1⟩ ⟨c - 6656, by omega⟩) = a0 (ix2 ⟨r, hh.1⟩ ⟨c, hh.2⟩) := fun h =>
        extractStridedSlice_apply _ _ _ _ _ fun a => match a with
          | ⟨0, _⟩ => (Nat.zero_add r).symm
          | ⟨1, _⟩ => (show c = 6656 + (c - 6656) by omega)
      exact (es _) ▸ e
    · exact fin_coe 0
  · unfold rd1
    split
    · exact real_of_bit _ (Host.reduce_andi_all _ _ _ _ _ p1 (ix1 ⟨d, by assumption⟩))
    · exact fin_coe 0
  · unfold rd1
    split
    · exact real_of_bit _ (Host.reduce_andi_all _ _ _ _ _ p2 (ix1 ⟨d, by assumption⟩))
    · exact fin_coe 0
  · unfold rd2
    split
    · rename_i hh
      exact real_of_bit _ (Host.reduce_andi_all _ _ _ _ _ p3 (ix2 ⟨r, hh.1⟩ ⟨c, hh.2⟩))
    · exact fin_coe 0
end Cert.Band
-- ==== Proof.Outp.lean ====
module
public import proofs.«01_k».proof.Defs
public import Idealize.ShloMosaic.Lib.Quiescent
public import proofs.«01_k».proof.Proof.Compose
public import proofs.«01_k».proof.Proof.Gen.OutProjIdeal.Value
public import proofs.«01_k».proof.Proof.Gen.OutProjReferenceIdeal.Read
@[expose] public section
set_option maxRecDepth 65536
noncomputable section
namespace Cert.OutProjIdeal.Val
open Cert.OutProjIdeal Cert.OutProjIdeal.Gen Cert.Band Idealize.ShloMosaic Idealize.ShloMosaic.TcCoe Idealize.SL.Sem
variable (m : (ℓ : Loc nD τ sig) → Buf (Elt Ideal) ℓ) (ρ : Dev nD → PrngReg)

abbrev yr (c : Dev nD) : ℕ → ℕ → EReal := rd2 (m ((c : Thread nD τ).loc main_arg0))
abbrev ya (c : Dev nD) : ℕ → ℕ → EReal := rd2 (m ((c : Thread nD τ).loc main_arg1))
abbrev wo (c : Dev nD) : ℕ → ℕ → EReal := rd2 (m ((c : Thread nD τ).loc main_arg2))
abbrev xx (c : Dev nD) : ℕ → ℕ → EReal := rd2 (m ((c : Thread nD τ).loc main_arg3))

theorem idx : ∀ t : Fin cfg0.N, win0_0.index t = ![t.val / 8, 0] ∧ win0_1.index t = ![t.val / 8, 0] ∧
    win0_2.index t = ![0, t.val % 8] ∧ win0_3.index t = ![t.val / 8, t.val % 8] ∧ win0_4.index t = ![t.val / 8, t.val % 8] :=
  (by decide +kernel : ∀ t : Fin grid0.N, _)

theorem blk0 (c : Dev nD) (t : Fin cfg0.N) (r : Fin 1024) (k : Fin 2048) : iblk m c 0 t (ix2 r k) = yr m c (t.val / 8 * 1024 + r.val) k.val := by
  unfold iblk
  blk_simp
  refine (congrFun (V_main_arg0 m c) _).trans (rd2_eq _ _ _ _ ?_ ?_)
  · blk_simp; rw [(idx t).1]; rfl
  · blk_simp; rw [(idx t).1]; exact Nat.zero_add _

theorem blk1 (c : Dev nD) (t : Fin cfg0.N) (r : Fin 1024) (k : Fin 2048) : iblk m c 1 t (ix2 r k) = ya m c (t.val / 8 * 1024 + r.val) k.val := by
  unfold iblk
  blk_simp
  refine (congrFun (V_main_arg1 m c) _).trans (rd2_eq _ _ _ _ ?_ ?_)
  · blk_simp; rw [(idx t).2.1]; rfl
  · blk_simp; rw [(idx t).2.1]; exact Nat.zero_add _

theorem w_eq (c : Dev nD) : V m c main_v0 = (m ((c : Thread nD τ).loc main_arg2) : S4096x4096.Idx → EReal) := by
  show StableHlo.after _ _ (Proc.devRef .tc main_v0) = _
  simp only [hostOps0]
  after_results_simp <;> rfl

theorem blk2 (c : Dev nD) (t : Fin cfg0.N) (k : Fin 4096) (n : Fin 512) : iblk m c 2 t (ix2 k n) = wo m c k.val (t.val % 8 * 512 + n.val) := by
  unfold iblk
  blk_simp
  refine (congrFun (w_eq m c) _).trans (rd2_eq _ _ _ _ ?_ ?_)
  · blk_simp; rw [(idx t).2.2.1]; exact Nat.zero_add _
  · blk_simp; rw [(idx t).2.2.1]; rfl

theorem blk3 (c : Dev nD) (t : Fin cfg0.N) (r : Fin 1024) (n : Fin 512) : iblk m c 3 t (ix2 r n) = xx m c (t.val / 8 * 1024 + r.val) (t.val % 8 * 512 + n.val) := by
  unfold iblk
  blk_simp
  refine (congrFun (V_main_arg3 m c) _).trans (rd2_eq _ _ _ _ ?_ ?_)
  · blk_simp; rw [(idx t).2.2.2.1]; rfl
  · blk_simp; rw [(idx t).2.2.2.1]; rfl

theorem pay_apply (v0 : Vec Ideal S1024x2048 .bf16) (v1 : Vec Ideal S2048x512 .bf16) (v4 : Vec Ideal S1024x2048 .bf16) (v5 : Vec Ideal S2048x512 .bf16) (v9 : Vec Ideal S1024x512 .f32) (r : Fin 1024) (n : Fin 512) :
    k0_pay1 v0 v1 v4 v5 v9 (ix2 r n) = v9 (ix2 r n) + ((∑ k : Fin 2048, v0 (ix2 r k) * v1 (ix2 k n)) + ∑ k : Fin 2048, v4 (ix2 r k) * v5 (ix2 k n)) := by
  pointwise [k0_pay1]

theorem ldRow_apply {p : ℕ} (inb : ∀ a, (![p, 0] : Fin 2 → ℕ) a + S2048x512.size a ≤ S4096x512.size a) (X : Vec Ideal S4096x512 .bf16) (k : Fin 2048) (n : Fin 512) (hp : p ≤ 2048) :
    View.ld X (Rect.unit ![p, 0] S2048x512.size inb) (ix2 k n) = X (ix2 ⟨p + k, by omega⟩ n) := by
  pointwise

theorem out_apply (x0 x1 : Vec Ideal S1024x2048 .bf16) (x2 : Vec Ideal S4096x512 .bf16) (x3 : Vec Ideal S1024x512 .f32) (y : S1024x512.Idx) :
    out0_4 x0 x1 x2 x3 y = x3 (ix2 (y 0) (y 1)) + ((∑ k : Fin 2048, x0 (ix2 (y 0) k) * x2 (ix2 ⟨0 + k, by omega⟩ (y 1))) + ∑ k : Fin 2048, x1 (ix2 (y 0) k) * x2 (ix2 ⟨2048 + k, by omega⟩ (y 1))) := by
  have z2 : (![0, 0] : Fin 2 → ℕ) = fun _ => 0 := by decide
  unfold out0_4
  rw [View.canon_unit_zero z2]
  refine (congrArg _ (eq_ix2 y)).trans ((pay_apply _ _ _ _ _ _ _).trans ?_)
  rw [View.ld_unit_zero z2, View.ld_unit_zero z2, View.ld_unit_zero z2]
  exact congrArg₂ (· + ·) rfl (congrArg₂ (· + ·) (Finset.sum_congr rfl fun k _ => congrArg₂ (· * ·) rfl (ldRow_apply _ x2 k _ (by decide)))
    (Finset.sum_congr rfl fun k _ => congrArg₂ (· * ·) rfl (ldRow_apply _ x2 k _ (by decide))))

/-- The array that the output projection leaves. -/
theorem out_array (c : Dev nD) : (dats m 0 c).arrAt 4 cfg0.N
    = fun x : S16384x4096.Idx => xx m c (x 0).val (x 1).val + ((∑ k : Fin 2048, yr m c (x 0).val k.val * wo m c k.val (x 1).val) + ∑ k : Fin 2048, ya m c (x 0).val k.val * wo m c (2048 + k.val) (x 1).val) := by
  refine (dats m 0 c).arrAt_eq_of_covers 4 _ (by decide +kernel) fun t hf y => ?_
  obtain ⟨-, -, -, -, i4⟩ := idx t
  blk_simp
  rw [after0_4, i4]
  refine (out_apply _ _ _ _ y).trans ?_
  exact congrArg₂ (· + ·) (blk3 m c t (y 0) (y 1)) (congrArg₂ (· + ·)
    (Finset.sum_congr rfl fun k _ => congrArg₂ (· * ·) (blk0 m c t (y 0) k) ((blk2 m c t ⟨0 + k.val, by omega⟩ (y 1)).trans (congrArg (fun j => wo m c j _) (Nat.zero_add k.val))))
    (Finset.sum_congr rfl fun k _ => congrArg₂ (· * ·) (blk1 m c t (y 0) k) (blk2 m c t ⟨2048 + k.val, by omega⟩ (y 1))))
end Cert.OutProjIdeal.Val

namespace Cert.Proof
open Cert.Band Idealize.ShloMosaic Idealize.ShloMosaic.TcCoe Idealize.SL.Sem

/-- The reference's frame: its run read at its arguments; it has no semaphore. -/
theorem outp_reference_frame : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

open Cert.OutProjReferenceIdeal in
theorem cat_left (x0 x1 : S16384x2048.Idx → EReal) (i : Fin 16384) (k : Fin 2048) :
    Read.val_main_v2 (F := Ideal) x0 x1 (ix2 i ⟨0 + k, by omega⟩) = x0 (ix2 i k) := by
  pointwise [Read.val_main_v2, Read.val_main_v0, Read.val_main_v1]

open Cert.OutProjReferenceIdeal in
theorem cat_right (x0 x1 : S16384x2048.Idx → EReal) (i : Fin 16384) (k : Fin 2048) :
    Read.val_main_v2 (F := Ideal) x0 x1 (ix2 i ⟨2048 + k, by omega⟩) = x1 (ix2 i k) := by
  pointwise [Read.val_main_v2, Read.val_main_v0, Read.val_main_v1]

/-- A sum over both halves is the sum of the two. -/
theorem sum_halves (f : Fin 4096 → EReal) :
    ∑ k : Fin 4096, f k = (∑ k : Fin 2048, f ⟨0 + k, by omega⟩) + ∑ k : Fin 2048, f ⟨2048 + k, by omega⟩ :=
  (Fin.sum_univ_add (a := 2048) (b := 2048) f).trans (congrArg₂ (· + ·)
    (Finset.sum_congr rfl fun k _ => congrArg f (Fin.ext (Nat.zero_add _).symm)) (Finset.sum_congr rfl fun k _ => congrArg f (Fin.ext rfl)))

/-- The output projection: the kernel's two half products add to the product with the joined outputs. -/
theorem outp : Cert.algebraic_OutProjIdeal_OutProjReferenceIdeal := by
  intro m g m' g' _ hargs
  refine ⟨fun c => (Cert.OutProjIdeal.Gen.dats m 0 c).arrAt 4 Cert.OutProjIdeal.cfg0.N, Cert.OutProjIdeal.Value.run_blocks m g, ?_⟩
  refine (θ_run Cert.OutProjReferenceIdeal.defs _ _).mono (fun _ h c => ?_) (Cert.OutProjReferenceIdeal.Value.run (F := Ideal) m' g')
  obtain ⟨h0, hr⟩ := h c
  obtain ⟨e0, e1, e2, e3⟩ := hargs c
  refine ⟨h0.trans ?_, hr⟩
  rw [Cert.OutProjReferenceIdeal.Read.val_main_v4_eq, e0, e1, e2, e3]
  funext x
  refine Eq.trans ?_ (congrFun (Cert.OutProjIdeal.Val.out_array m c) x).symm
  refine (Cert.OutProjReferenceIdeal.Read.val_main_v4_apply _ _ _ _ x).trans ?_
  rw [Cert.OutProjReferenceIdeal.Read.val_main_v3_apply, sum_halves]
  exact congrArg₂ (· + ·) (rd2_eq _ _ _ _ rfl rfl) (congrArg₂ (· + ·)
    (Finset.sum_congr rfl fun k _ => congrArg₂ (· * ·) (((congrArg _ (eq_ix2 _)).trans (cat_left _ _ _ k)).trans (rd2_eq _ _ _ _ rfl rfl)) (rd2_eq _ _ _ _ (Nat.zero_add k.val) rfl))
    (Finset.sum_congr rfl fun k _ => congrArg₂ (· * ·) (((congrArg _ (eq_ix2 _)).trans (cat_right _ _ _ k)).trans (rd2_eq _ _ _ _ rfl rfl)) (rd2_eq _ _ _ _ rfl rfl)))
end Cert.Proof
-- ==== Proof.Down.lean ====
module
public import proofs.«01_k».proof.Defs
public import Idealize.ShloMosaic.Lib.Quiescent
public import proofs.«01_k».proof.Proof.Compose
public import proofs.«01_k».proof.Proof.Gen.FfnDownIdeal.Value
public import proofs.«01_k».proof.Proof.Gen.FfnDownReferenceIdeal.Read
@[expose] public section
set_option maxRecDepth 65536
noncomputable section
namespace Cert.FfnDownIdeal.Val
open Cert.FfnDownIdeal Cert.FfnDownIdeal.Gen Cert.Band Idealize.ShloMosaic Idealize.ShloMosaic.TcCoe Idealize.SL.Sem
variable (m : (ℓ : Loc nD τ sig) → Buf (Elt Ideal) ℓ) (ρ : Dev nD → PrngReg)

abbrev act (c : Dev nD) : ℕ → ℕ → EReal := rd2 (m ((c : Thread nD τ).loc main_arg0))
abbrev wd (c : Dev nD) : ℕ → ℕ → EReal := rd2 (m ((c : Thread nD τ).loc main_arg1))
abbrev hh (c : Dev nD) : ℕ → ℕ → EReal := rd2 (m ((c : Thread nD τ).loc main_arg2))

theorem idx : ∀ t : Fin cfg0.N, win0_0.index t = ![t.val / 16, 0] ∧ win0_1.index t = ![0, t.val % 16] ∧
    win0_2.index t = ![t.val / 16, t.val % 16] ∧ win0_3.index t = ![t.val / 16, t.val % 16] :=
  (by decide +kernel : ∀ t : Fin grid0.N, _)

theorem blk0 (c : Dev nD) (t : Fin cfg0.N) (r : Fin 512) (k : Fin 11008) : iblk m c 0 t (ix2 r k) = act m c (t.val / 16 * 512 + r.val) k.val := by
  unfold iblk
  blk_simp
  refine (congrFun (V_main_arg0 m c) _).trans (rd2_eq _ _ _ _ ?_ ?_)
  · blk_simp; rw [(idx t).1]; rfl
  · blk_simp; rw [(idx t).1]; exact Nat.zero_add _

theorem w_eq (c : Dev nD) : V m c main_v0 = (m ((c : Thread nD τ).loc main_arg1) : S11008x4096.Idx → EReal) := by
  show StableHlo.after _ _ (Proc.devRef .tc main_v0) = _
  simp only [hostOps0]
  after_results_simp <;> rfl

theorem blk1 (c : Dev nD) (t : Fin cfg0.N) (k : Fin 11008) (n : Fin 256) : iblk m c 1 t (ix2 k n) = wd m c k.val (t.val % 16 * 256 + n.val) := by
  unfold iblk
  blk_simp
  refine (congrFun (w_eq m c) _).trans (rd2_eq _ _ _ _ ?_ ?_)
  · blk_simp; rw [(idx t).2.1]; exact Nat.zero_add _
  · blk_simp; rw [(idx t).2.1]; rfl

theorem blk2 (c : Dev nD) (t : Fin cfg0.N) (r : Fin 512) (n : Fin 256) : iblk m c 2 t (ix2 r n) = hh m c (t.val / 16 * 512 + r.val) (t.val % 16 * 256 + n.val) := by
  unfold iblk
  blk_simp
  refine (congrFun (V_main_arg2 m c) _).trans (rd2_eq _ _ _ _ ?_ ?_)
  · blk_simp; rw [(idx t).2.2.1]; rfl
  · blk_simp; rw [(idx t).2.2.1]; rfl

theorem pay_apply (v0 : FVec Ideal S512x256 .f32) (v1 : FVec Ideal S512x11008 .bf16) (v2 : FVec Ideal S11008x256 .bf16) (r : Fin 512) (n : Fin 256) :
    k0_pay1 v0 v1 v2 (ix2 r n) = v0 (ix2 r n) + ∑ k : Fin 11008, v1 (ix2 r k) * v2 (ix2 k n) := by
  pointwise [k0_pay1]

theorem out_apply (x0 : Vec Ideal S512x11008 .bf16) (x1 : Vec Ideal S11008x256 .bf16) (x2 : Vec Ideal S512x256 .f32) (y : S512x256.Idx) :
    out0_3 x0 x1 x2 y = x2 (ix2 (y 0) (y 1)) + ∑ k : Fin 11008, x0 (ix2 (y 0) k) * x1 (ix2 k (y 1)) := by
  have z2 : (![0, 0] : Fin 2 → ℕ) = fun _ => 0 := by decide
  unfold out0_3
  rw [View.canon_unit_zero z2, View.ld_unit_zero z2, View.ld_unit_zero z2, View.ld_unit_zero z2]
  exact (congrArg _ (eq_ix2 y)).trans (pay_apply _ _ _ _ _)

/-- The array that the down projection leaves. -/
theorem out_array (c : Dev nD) : (dats m 0 c).arrAt 3 cfg0.N
    = fun x : S16384x4096.Idx => hh m c (x 0).val (x 1).val + ∑ k : Fin 11008, act m c (x 0).val k.val * wd m c k.val (x 1).val := by
  refine (dats m 0 c).arrAt_eq_of_covers 3 _ (by decide +kernel) fun t hf y => ?_
  obtain ⟨-, -, -, i3⟩ := idx t
  blk_simp
  rw [after0_3, i3]
  refine (out_apply _ _ _ y).trans ?_
  exact congrArg₂ (· + ·) (blk2 m c t (y 0) (y 1)) (Finset.sum_congr rfl fun k _ => congrArg₂ (· * ·) (blk0 m c t (y 0) k) (blk1 m c t k (y 1)))
end Cert.FfnDownIdeal.Val

namespace Cert.Proof
open Cert.Band Idealize.ShloMosaic Idealize.ShloMosaic.TcCoe Idealize.SL.Sem

/-- The reference's frame: its run read at its arguments; it has no semaphore. -/
theorem down_reference_frame : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

/-- The down projection: the kernel's array is the product over all of the hidden axis, added to the residual. -/
theorem down : Cert.algebraic_FfnDownIdeal_FfnDownReferenceIdeal := by
  intro m g m' g' _ hargs
  refine ⟨fun c => (Cert.FfnDownIdeal.Gen.dats m 0 c).arrAt 3 Cert.FfnDownIdeal.cfg0.N, Cert.FfnDownIdeal.Value.run_blocks m g, ?_⟩
  refine (θ_run Cert.FfnDownReferenceIdeal.defs _ _).mono (fun _ h c => ?_) (Cert.FfnDownReferenceIdeal.Value.run (F := Ideal) m' g')
  obtain ⟨h0, hr⟩ := h c
  obtain ⟨e0, e1, e2⟩ := hargs c
  refine ⟨h0.trans ?_, hr⟩
  rw [Cert.FfnDownReferenceIdeal.Read.val_main_v2_eq, e0, e1, e2]
  funext x
  refine Eq.trans ?_ (congrFun (Cert.FfnDownIdeal.Val.out_array m c) x).symm
  refine (Cert.FfnDownReferenceIdeal.Read.val_main_v2_apply _ _ _ x).trans ?_
  rw [Cert.FfnDownReferenceIdeal.Read.val_main_v1_apply]
  exact congrArg₂ (· + ·) (rd2_eq _ _ _ _ rfl rfl) (Finset.sum_congr rfl fun k _ => congrArg₂ (· * ·) (rd2_eq _ _ _ _ rfl rfl) (rd2_eq _ _ _ _ rfl rfl))
end Cert.Proof
-- ==== Proof.InPr.lean ====
module
public import proofs.«01_k».proof.Defs
public import Idealize.ShloMosaic.Lib.Quiescent
public import proofs.«01_k».proof.Proof.Compose
public import proofs.«01_k».proof.Proof.Gen.InProjIdeal.Value
@[expose] public section
set_option maxRecDepth 65536
noncomputable section
namespace Cert.Band
open Idealize.ShloMosaic
/-- The root-mean-square normalisation of a row of 4096 with gains `g`, at position `d`. -/
def nrx (X g : ℕ → EReal) (d : ℕ) : EReal :=
  X d * Ideal.rsqrt (Ideal.div (∑ x : Fin 4096, X x * X x) (Ideal.ofBits .f32 0x45800000#32) + Ideal.ofBits .f32 0x358637BD#32) * g d

/-- The product of the normalised row `i` with column `j` of the weights. -/
def prj (X : ℕ → ℕ → EReal) (g : ℕ → EReal) (W : ℕ → ℕ → EReal) (i j : ℕ) : EReal := ∑ k : Fin 4096, nrx (X i) g k * W k j
end Cert.Band

namespace Cert.InProjIdeal.Val
open Cert.InProjIdeal Cert.InProjIdeal.Gen Cert.Band Idealize.ShloMosaic Idealize.ShloMosaic.TcCoe Idealize.SL.Sem

section pay
variable (x : Vec Ideal S256x4096 .f32) (g : Vec Ideal S1x4096 .f32) (w : Vec Ideal S4096x512 .bf16) (X G : ℕ → EReal) (r : Fin 256) (k : Fin 4096)
theorem n1 (hX : ∀ d : Fin 4096, x (ix2 r d) = X d) (hG : ∀ d : Fin 4096, g (ix2 0 d) = G d) : k0_pay1 x g (ix2 r k) = nrx X G k := by
  pointwise [k0_pay1, nrx, hX, hG]
theorem n6 (hX : ∀ d : Fin 4096, x (ix2 r d) = X d) (hG : ∀ d : Fin 4096, g (ix2 0 d) = G d) : k0_pay6 x g (ix2 r k) = nrx X G k := by
  pointwise [k0_pay6, nrx, hX, hG]
theorem n10 (hX : ∀ d : Fin 4096, x (ix2 r d) = X d) (hG : ∀ d : Fin 4096, g (ix2 0 d) = G d) : k0_pay10 (k0_pay9 x) g (ix2 r k) = nrx X G k := by
  pointwise [k0_pay10, k0_pay9, nrx, hX, hG]
theorem n13 (hX : ∀ d : Fin 4096, x (ix2 r d) = X d) (hG : ∀ d : Fin 4096, g (ix2 0 d) = G d) : k0_pay13 x g (ix2 r k) = nrx X G k := by
  pointwise [k0_pay13, nrx, hX, hG]
theorem n2 (hX : ∀ d : Fin 4096, x (ix2 r d) = X d) (hG : ∀ d : Fin 4096, g (ix2 0 d) = G d) : k0_pay2 x g (ix2 r k) = nrx X G k := by
  refine Eq.trans ?_ (n1 x g X G r k hX hG)
  unfold k0_pay2
  generalize k0_pay1 x g = z
  pointwise
theorem n7 (hX : ∀ d : Fin 4096, x (ix2 r d) = X d) (hG : ∀ d : Fin 4096, g (ix2 0 d) = G d) : k0_pay7 x g (ix2 r k) = nrx X G k := by
  refine Eq.trans ?_ (n6 x g X G r k hX hG)
  unfold k0_pay7
  generalize k0_pay6 x g = z
  pointwise
theorem n11 (hX : ∀ d : Fin 4096, x (ix2 r d) = X d) (hG : ∀ d : Fin 4096, g (ix2 0 d) = G d) : k0_pay11 (k0_pay9 x) g (ix2 r k) = nrx X G k := by
  refine Eq.trans ?_ (n10 x g X G r k hX hG)
  unfold k0_pay11
  generalize k0_pay10 (k0_pay9 x) g = z
  pointwise
theorem n14 (hX : ∀ d : Fin 4096, x (ix2 r d) = X d) (hG : ∀ d : Fin 4096, g (ix2 0 d) = G d) : k0_pay14 x g (ix2 r k) = nrx X G k := by
  refine Eq.trans ?_ (n13 x g X G r k hX hG)
  unfold k0_pay14
  generalize k0_pay13 x g = z
  pointwise
variable (n : Fin 512)
theorem o3 (hX : ∀ d : Fin 4096, x (ix2 r d) = X d) (hG : ∀ d : Fin 4096, g (ix2 0 d) = G d) : k0_pay3 x g w (ix2 r n) = ∑ k : Fin 4096, nrx X G k * w (ix2 k n) := by
  refine Eq.trans ?_ (Finset.sum_congr rfl fun k _ => congrArg (· * w (ix2 k n)) (n1 x g X G r k hX hG))
  unfold k0_pay3
  generalize k0_pay1 x g = z
  pointwise
theorem o8 (hX : ∀ d : Fin 4096, x (ix2 r d) = X d) (hG : ∀ d : Fin 4096, g (ix2 0 d) = G d) : k0_pay8 x g w (ix2 r n) = ∑ k : Fin 4096, nrx X G k * w (ix2 k n) := by
  refine Eq.trans ?_ (Finset.sum_congr rfl fun k _ => congrArg (· * w (ix2 k n)) (n6 x g X G r k hX hG))
  unfold k0_pay8
  generalize k0_pay6 x g = z
  pointwise
theorem o12 (hX : ∀ d : Fin 4096, x (ix2 r d) = X d) (hG : ∀ d : Fin 4096, g (ix2 0 d) = G d) : k0_pay12 (k0_pay9 x) g w (ix2 r n) = ∑ k : Fin 4096, nrx X G k * w (ix2 k n) := by
  refine Eq.trans ?_ (Finset.sum_congr rfl fun k _ => congrArg (· * w (ix2 k n)) (n10 x g X G r k hX hG))
  unfold k0_pay12
  generalize k0_pay10 (k0_pay9 x) g = z
  pointwise
theorem o15 (hX : ∀ d : Fin 4096, x (ix2 r d) = X d) (hG : ∀ d : Fin 4096, g (ix2 0 d) = G d) : k0_pay15 x g w (ix2 r n) = ∑ k : Fin 4096, nrx X G k * w (ix2 k n) := by
  refine Eq.trans ?_ (Finset.sum_congr rfl fun k _ => congrArg (· * w (ix2 k n)) (n13 x g X G r k hX hG))
  unfold k0_pay15
  generalize k0_pay13 x g = z
  pointwise
end pay

theorem o4 (z : Vec Ideal S1024x4096 .bf16) (w : Vec Ideal S4096x512 .bf16) (r : Fin 1024) (n : Fin 512) : k0_pay4 z w (ix2 r n) = ∑ k : Fin 4096, z (ix2 r k) * w (ix2 k n) := by
  pointwise [k0_pay4]
theorem o5 (z : Vec Ideal S1024x4096 .bf16) (w : Vec Ideal S4096x512 .bf16) (r : Fin 1024) (n : Fin 512) : k0_pay5 z w (ix2 r n) = ∑ k : Fin 4096, z (ix2 r k) * w (ix2 k n) := by
  pointwise [k0_pay5]

theorem emb_row {q : ℕ} (o : ℕ) (inb : ∀ a, (![o, 0] : Fin 2 → ℕ) a + (![256, q] : Fin 2 → ℕ) a ≤ (![1024, q] : Fin 2 → ℕ) a) (x : (⟨2, ![256, q]⟩ : Shape).Idx) :
    ((Rect.unit (s := ⟨2, ![1024, q]⟩) ![o, 0] ![256, q] inb).emb x 0).val = o + (x 0).val
      ∧ ((Rect.unit (s := ⟨2, ![1024, q]⟩) ![o, 0] ![256, q] inb).emb x 1).val = (x 1).val := by
  constructor
  · show o + 1 * (x 0).val = _; omega
  · show 0 + 1 * (x 1).val = _; omega

theorem ldX_apply {p : ℕ} (inb : ∀ a, (![p, 0] : Fin 2 → ℕ) a + S256x4096.size a ≤ S1024x4096.size a) (X : Vec Ideal S1024x4096 .f32) (r : Fin 256) (k : Fin 4096) (hp : p ≤ 768) :
    View.ld X (Rect.unit ![p, 0] S256x4096.size inb) (ix2 r k) = X (ix2 ⟨p + r, by omega⟩ k) := by
  pointwise

/-- Normalising 256 rows of a block, whatever prints it: the rows stored at row `p` are the normalised rows from `p` on. -/
theorem rows_piece {pay : Vec Ideal S256x4096 .f32 → Vec Ideal S1x4096 .f32 → FVec Ideal S256x4096 .bf16}
    (hp : ∀ (x : Vec Ideal S256x4096 .f32) (g : Vec Ideal S1x4096 .f32) (X G : ℕ → EReal) (r : Fin 256) (k : Fin 4096),
      (∀ d : Fin 4096, x (ix2 r d) = X d) → (∀ d : Fin 4096, g (ix2 0 d) = G d) → pay x g (ix2 r k) = nrx X G k)
    (x0 : Vec Ideal S1024x4096 .f32) (x1 : Vec Ideal S1x4096 .f32) (X : ℕ → ℕ → EReal) (G : ℕ → EReal)
    (e0 : ∀ (r : Fin 1024) (k : Fin 4096), x0 (ix2 r k) = X r k) (e1 : ∀ k : Fin 4096, x1 (ix2 0 k) = G k)
    (p : ℕ) (h : p ≤ 768) (inb : ∀ a, (![p, 0] : Fin 2 → ℕ) a + (![256, 4096] : Fin 2 → ℕ) a ≤ (![1024, 4096] : Fin 2 → ℕ) a) (inb' inb'') (x : S256x4096.Idx) :
    pay (View.ld x0 (Rect.unit (s := S1024x4096) ![p, 0] S256x4096.size inb')) (View.ld x1 (Rect.unit (s := S1x4096) ![0, 0] S1x4096.size inb'')) x
      = nrx (X ((Rect.unit (s := S1024x4096) ![p, 0] ![256, 4096] inb).emb x 0).val) G ((Rect.unit (s := S1024x4096) ![p, 0] ![256, 4096] inb).emb x 1).val := by
  have z2 : (![0, 0] : Fin 2 → ℕ) = fun _ => 0 := by decide
  refine (congrArg _ (eq_ix2 x)).trans ((hp _ _ (X (p + (x 0).val)) G (x 0) (x 1) (fun k => (ldX_apply inb' x0 (x 0) k h).trans (e0 _ _))
    (fun k => by rw [View.ld_unit_zero z2]; exact e1 k)).trans ?_)
  rw [(emb_row p inb x).1, (emb_row p inb x).2]

/-- The product of 256 normalised rows with a block of weights, likewise. -/
theorem out_piece {pay : Vec Ideal S256x4096 .f32 → Vec Ideal S1x4096 .f32 → Vec Ideal S4096x512 .bf16 → FVec Ideal S256x512 .f32}
    (hp : ∀ (x : Vec Ideal S256x4096 .f32) (g : Vec Ideal S1x4096 .f32) (w : Vec Ideal S4096x512 .bf16) (X G : ℕ → EReal) (r : Fin 256) (n : Fin 512),
      (∀ d : Fin 4096, x (ix2 r d) = X d) → (∀ d : Fin 4096, g (ix2 0 d) = G d) → pay x g w (ix2 r n) = ∑ k : Fin 4096, nrx X G k * w (ix2 k n))
    (x0 : Vec Ideal S1024x4096 .f32) (x1 : Vec Ideal S1x4096 .f32) (x2 : Vec Ideal S4096x512 .bf16) (X : ℕ → ℕ → EReal) (G : ℕ → EReal)
    (e0 : ∀ (r : Fin 1024) (k : Fin 4096), x0 (ix2 r k) = X r k) (e1 : ∀ k : Fin 4096, x1 (ix2 0 k) = G k)
    (p : ℕ) (h : p ≤ 768) (inb : ∀ a, (![p, 0] : Fin 2 → ℕ) a + (![256, 512] : Fin 2 → ℕ) a ≤ (![1024, 512] : Fin 2 → ℕ) a) (inb' inb'' inb₂) (x : S256x512.Idx) :
    pay (View.ld x0 (Rect.unit (s := S1024x4096) ![p, 0] S256x4096.size inb')) (View.ld x1 (Rect.unit (s := S1x4096) ![0, 0] S1x4096.size inb''))
        (View.ld x2 (Rect.unit (s := S4096x512) ![0, 0] S4096x512.size inb₂)) x
      = ∑ k : Fin 4096, nrx (X ((Rect.unit (s := S1024x512) ![p, 0] ![256, 512] inb).emb x 0).val) G k * x2 (ix2 k ((Rect.unit (s := S1024x512) ![p, 0] ![256, 512] inb).emb x 1)) := by
  have z2 : (![0, 0] : Fin 2 → ℕ) = fun _ => 0 := by decide
  refine (congrArg _ (eq_ix2 x)).trans ((hp _ _ _ (X (p + (x 0).val)) G (x 0) (x 1) (fun k => (ldX_apply inb' x0 (x 0) k h).trans (e0 _ _))
    (fun k => by rw [View.ld_unit_zero z2]; exact e1 k)).trans ?_)
  rw [View.ld_unit_zero z2]
  refine Finset.sum_congr rfl fun k _ => congrArg₂ (· * ·) ?_ ?_
  · rw [(emb_row p inb x).1]
  · exact congrArg (fun j => x2 (ix2 k j)) (Fin.ext (emb_row p inb x).2.symm)

section blocks
variable (c : Dev nD) (i : grid0.Coords) (a2 : Memref sig .tc .vmem S1024x4096 .f32) (h2 : a2.IsWhole) (a3 : Memref sig .tc .vmem S1x4096 .f32) (h3 : a3.IsWhole) (a4 : Memref sig .tc .vmem S4096x512 .bf16) (h4 : a4.IsWhole) (a5 : Memref sig .tc .vmem S4096x512 .bf16) (h5 : a5.IsWhole) (a6 : Memref sig .tc .vmem S1024x512 .f32) (h6 : a6.IsWhole) (a7 : Memref sig .tc .vmem S1024x4096 .bf16) (h7 : a7.IsWhole)
  (x0 : Vec Ideal S1024x4096 .f32) (x1 : Vec Ideal S1x4096 .f32) (x2 x3 : Vec Ideal S4096x512 .bf16) (xs : Vec Ideal S1024x4096 .bf16) (X : ℕ → ℕ → EReal) (G : ℕ → EReal)

/-- The first tile of a row block leaves the normalised rows in the scratch. -/
theorem soutA_apply (c0 : cond0_0 i) (c1 : ¬cond0_1 i) (c2 : ¬cond0_2 i)
    (e0 : ∀ (r : Fin 1024) (k : Fin 4096), x0 (ix2 r k) = X r k) (e1 : ∀ k : Fin 4096, x1 (ix2 0 k) = G k) (y : S1024x4096.Idx) :
    sout0_A_0 c i a2 h2 a3 h3 a4 h4 a5 h5 a6 h6 a7 h7 c0 c1 c2 x0 x1 x2 x3 y = nrx (X (y 0).val) G (y 1).val := by
  unfold sout0_A_0
  rw [View.read_writes_eq_canon _ _ _ (scover0_A_0 c i a2 h2 a3 h3 a4 h4 a5 h5 a6 h6 a7 h7 c0 c1 c2 x0 x1 x2 x3)]
  refine View.canon_apply_of_pieces (fun y => nrx (X (y 0).val) G (y 1).val) _ ?_ y (scover0_A_0 c i a2 h2 a3 h3 a4 h4 a5 h5 a6 h6 a7 h7 c0 c1 c2 x0 x1 x2 x3 y)
  unfold kernelRun0_A
  dsimp only
  sl_unfold_words
  simp only [List.forall_mem_cons, List.not_mem_nil, false_imp_iff, implies_true, and_true, View.readAt_eq_ld, h2.read_unread, h3.read_unread, h4.read_unread, h5.read_unread]
  exact ⟨rows_piece n2 x0 x1 X G e0 e1 768 (by decide) _ _ _, rows_piece n14 x0 x1 X G e0 e1 512 (by decide) _ _ _,
    rows_piece (pay := fun x g => k0_pay11 (k0_pay9 x) g) n11 x0 x1 X G e0 e1 256 (by decide) _ _ _, rows_piece n7 x0 x1 X G e0 e1 0 (by decide) _ _ _⟩

/-- The first tile of a row block leaves the product of the normalised rows in the output. -/
theorem outA_apply (c0 : cond0_0 i) (c1 : ¬cond0_1 i) (c2 : ¬cond0_2 i)
    (e0 : ∀ (r : Fin 1024) (k : Fin 4096), x0 (ix2 r k) = X r k) (e1 : ∀ k : Fin 4096, x1 (ix2 0 k) = G k) (y : S1024x512.Idx) :
    out0_A_4 c i a2 h2 a3 h3 a4 h4 a5 h5 a6 h6 a7 h7 c0 c1 c2 x0 x1 x2 x3 y = ∑ k : Fin 4096, nrx (X (y 0).val) G k * x2 (ix2 k (y 1)) := by
  unfold out0_A_4
  rw [View.read_writes_eq_canon _ _ _ (cover0_A_4 c i a2 h2 a3 h3 a4 h4 a5 h5 a6 h6 a7 h7 c0 c1 c2 x0 x1 x2 x3)]
  refine View.canon_apply_of_pieces (fun y => ∑ k : Fin 4096, nrx (X (y 0).val) G k * x2 (ix2 k (y 1))) _ ?_ y (cover0_A_4 c i a2 h2 a3 h3 a4 h4 a5 h5 a6 h6 a7 h7 c0 c1 c2 x0 x1 x2 x3 y)
  unfold kernelRun0_A
  dsimp only
  sl_unfold_words
  simp only [List.forall_mem_cons, List.not_mem_nil, false_imp_iff, implies_true, and_true, View.readAt_eq_ld, h2.read_unread, h3.read_unread, h4.read_unread, h5.read_unread]
  exact ⟨out_piece o3 x0 x1 x2 X G e0 e1 768 (by decide) _ _ _ _, out_piece o15 x0 x1 x2 X G e0 e1 512 (by decide) _ _ _ _,
    out_piece (pay := fun x g w => k0_pay12 (k0_pay9 x) g w) o12 x0 x1 x2 X G e0 e1 256 (by decide) _ _ _ _, out_piece o8 x0 x1 x2 X G e0 e1 0 (by decide) _ _ _ _⟩

/-- A later tile leaves the product of the scratch with its block of the first weights. -/
theorem outB_apply (c0 : ¬cond0_0 i) (c1 : cond0_1 i) (c2 : ¬cond0_2 i) (y : S1024x512.Idx) :
    out0_B_4 c i a2 h2 a3 h3 a4 h4 a5 h5 a6 h6 a7 h7 c0 c1 c2 x0 x1 x2 x3 xs y = ∑ k : Fin 4096, xs (ix2 (y 0) k) * x2 (ix2 k (y 1)) := by
  have z2 : (![0, 0] : Fin 2 → ℕ) = fun _ => 0 := by decide
  unfold out0_B_4
  rw [View.read_writes_eq_canon _ _ _ (cover0_B_4 c i a2 h2 a3 h3 a4 h4 a5 h5 a6 h6 a7 h7 c0 c1 c2 x0 x1 x2 x3 xs)]
  unfold kernelRun0_B
  dsimp only
  sl_unfold_words
  rw [View.canon_unit_zero z2]
  simp only [View.readAt_eq_ld, h4.read_unread, h7.read_unread]
  rw [View.ld_unit_zero z2, View.ld_unit_zero z2]
  exact (congrArg _ (eq_ix2 y)).trans (o4 _ _ _ _)

/-- A later tile leaves the product of the scratch with its block of the second weights. -/
theorem outC_apply (c0 : ¬cond0_0 i) (c1 : ¬cond0_1 i) (c2 : cond0_2 i) (y : S1024x512.Idx) :
    out0_C_4 c i a2 h2 a3 h3 a4 h4 a5 h5 a6 h6 a7 h7 c0 c1 c2 x0 x1 x2 x3 xs y = ∑ k : Fin 4096, xs (ix2 (y 0) k) * x3 (ix2 k (y 1)) := by
  have z2 : (![0, 0] : Fin 2 → ℕ) = fun _ => 0 := by decide
  unfold out0_C_4
  rw [View.read_writes_eq_canon _ _ _ (cover0_C_4 c i a2 h2 a3 h3 a4 h4 a5 h5 a6 h6 a7 h7 c0 c1 c2 x0 x1 x2 x3 xs)]
  unfold kernelRun0_C
  dsimp only
  sl_unfold_words
  rw [View.canon_unit_zero z2]
  simp only [View.readAt_eq_ld, h5.read_unread, h7.read_unread]
  rw [View.ld_unit_zero z2, View.ld_unit_zero z2]
  exact (congrArg _ (eq_ix2 y)).trans (o5 _ _ _ _)
end blocks
end Cert.InProjIdeal.Val
-- ==== Proof.InPr2.lean ====
module
public import proofs.«01_k».proof.Proof.InPr
public import proofs.«01_k».proof.Proof.Gen.InProjReferenceIdeal.Read
@[expose] public section
set_option maxRecDepth 65536
noncomputable section
namespace Cert.Band
open Idealize.ShloMosaic
/-- Row `i` of the two sequences of 8192 rows laid end to end. -/
def rdx (x : (⟨3, ![2, 8192, 4096]⟩ : Shape).Idx → EReal) (i j : ℕ) : EReal :=
  if h : i < 16384 ∧ j < 4096 then x (ix3 ⟨i / 8192, by omega⟩ ⟨i % 8192, Nat.mod_lt _ (by decide)⟩ ⟨j, h.2⟩) else 0
theorem rdx_eq (x : (⟨3, ![2, 8192, 4096]⟩ : Shape).Idx → EReal) (y : (⟨3, ![2, 8192, 4096]⟩ : Shape).Idx) (i j : ℕ) (h0 : (y 0).val * 8192 + (y 1).val = i) (h2 : (y 2).val = j) : x y = rdx x i j := by
  subst h0 h2
  have b0 : (y 0).val < 2 := (y 0).isLt
  have b1 : (y 1).val < 8192 := (y 1).isLt
  have b2 : (y 2).val < 4096 := (y 2).isLt
  unfold rdx
  rw [dif_pos ⟨by omega, b2⟩]
  refine (congrArg x (eq_ix3 y)).trans (congrArg x ?_)
  have e0 : (⟨((y 0).val * 8192 + (y 1).val) / 8192, by omega⟩ : Fin 2) = y 0 := Fin.ext (show ((y 0).val * 8192 + (y 1).val) / 8192 = (y 0).val by omega)
  have e1 : (⟨((y 0).val * 8192 + (y 1).val) % 8192, Nat.mod_lt _ (by decide)⟩ : Fin 8192) = y 1 := Fin.ext (show ((y 0).val * 8192 + (y 1).val) % 8192 = (y 1).val by omega)
  rw [e0, e1]
  rfl

/-- The column of the weights behind column `j` of the projection, which repeats columns 6592 to 6655. -/
def colw (j : ℕ) : ℕ := if j < 6656 then j else j - 64
end Cert.Band

namespace Cert.InProjIdeal.Val
open Cert.InProjIdeal Cert.InProjIdeal.Gen Cert.Band Idealize.ShloMosaic Idealize.ShloMosaic.TcCoe Idealize.SL.Sem
variable (m : (ℓ : Loc nD τ sig) → Buf (Elt Ideal) ℓ) (ρ : Dev nD → PrngReg)

abbrev xx (c : Dev nD) : ℕ → ℕ → EReal := rdx (m ((c : Thread nD τ).loc main_arg0))
abbrev gg (c : Dev nD) : ℕ → EReal := rd1 (m ((c : Thread nD τ).loc main_arg1))
abbrev ww (c : Dev nD) : ℕ → ℕ → EReal := rd2 (m ((c : Thread nD τ).loc main_arg2))

theorem idx : ∀ t : Fin cfg0.N, win0_0.index t = ![t.val / 25, 0] ∧ win0_1.index t = ![0, 0] ∧
    win0_2.index t = ![0, min (t.val % 25) 12] ∧ win0_3.index t = ![0, t.val % 25 - 13] ∧ win0_4.index t = ![t.val / 25, t.val % 25] :=
  (by decide +kernel : ∀ t : Fin grid0.N, _)

theorem x_eq (c : Dev nD) : V m c main_v0 = shapeCast S16384x4096 (m ((c : Thread nD τ).loc main_arg0) : S2x8192x4096.Idx → EReal) shapeCasts_S2x8192x4096_S16384x4096 := by
  show StableHlo.after _ _ (Proc.devRef .tc main_v0) = _
  simp only [hostOps0]
  after_results_simp <;> rfl
theorem g_eq (c : Dev nD) : V m c main_v5 = shapeCast S1x4096 (m ((c : Thread nD τ).loc main_arg1) : S4096.Idx → EReal) shapeCasts_S4096_S1x4096 := by
  show StableHlo.after _ _ (Proc.devRef .tc main_v5) = _
  simp only [hostOps0]
  after_results_simp <;> rfl
theorem wa_eq (c : Dev nD) : V m c main_v2 = extractStridedSlice S4096x6656 ![0, 0] (m ((c : Thread nD τ).loc main_arg2) : S4096x12736.Idx → EReal) slices_S4096x12736_S4096x6656_0_0 := by
  show StableHlo.after _ _ (Proc.devRef .tc main_v2) = _
  simp only [hostOps0]
  after_results_simp <;> rfl
theorem wb_eq (c : Dev nD) : V m c main_v4 = extractStridedSlice S4096x6144 ![0, 6592] (m ((c : Thread nD τ).loc main_arg2) : S4096x12736.Idx → EReal) slices_S4096x12736_S4096x6144_0_6592 := by
  show StableHlo.after _ _ (Proc.devRef .tc main_v4) = _
  simp only [hostOps0]
  after_results_simp <;> rfl

theorem flat (x : S2x8192x4096.Idx → EReal) (y : S16384x4096.Idx) (i j : ℕ) (h0 : (y 0).val = i) (h1 : (y 1).val = j) :
    shapeCast S16384x4096 x shapeCasts_S2x8192x4096_S16384x4096 y = rdx x i j := by
  subst h0 h1
  have b0 : (y 0).val < 16384 := (y 0).isLt
  have b1 : (y 1).val < 4096 := (y 1).isLt
  refine (shapeCast_apply x shapeCasts_S2x8192x4096_S16384x4096 y (ix3 ⟨(y 0).val / 8192, by omega⟩ ⟨(y 0).val % 8192, Nat.mod_lt _ (by decide)⟩ ⟨(y 1).val, b1⟩) ?_).trans
    (rdx_eq _ _ _ _ (show (y 0).val / 8192 * 8192 + (y 0).val % 8192 = _ by omega) rfl)
  rewrite [Shape.rowMajor_val_three, Shape.rowMajor_val_two]
  show ((y 0).val / 8192 * 8192 + (y 0).val % 8192) * 4096 + (y 1).val = (y 0).val * 4096 + (y 1).val
  omega
theorem row (x : S4096.Idx → EReal) (y : S1x4096.Idx) (j : ℕ) (h1 : (y 1).val = j) :
    shapeCast S1x4096 x shapeCasts_S4096_S1x4096 y = rd1 x j := by
  subst h1
  refine Eq.trans ?_ (rd1_eq x (ix1 (y 1)) _ rfl)
  rw [eq_ix2 y]
  pointwise
theorem sla' (x : S4096x12736.Idx → EReal) (a : Fin 4096) (b : Fin 6656) :
    extractStridedSlice S4096x6656 ![0, 0] x slices_S4096x12736_S4096x6656_0_0 (ix2 a b) = x (ix2 a ⟨b.val, by omega⟩) := by
  pointwise
theorem slb' (x : S4096x12736.Idx → EReal) (a : Fin 4096) (b : Fin 6144) :
    extractStridedSlice S4096x6144 ![0, 6592] x slices_S4096x12736_S4096x6144_0_6592 (ix2 a b) = x (ix2 a ⟨6592 + b.val, by omega⟩) := by
  pointwise
theorem sla (x : S4096x12736.Idx → EReal) (y : S4096x6656.Idx) (i j : ℕ) (h0 : (y 0).val = i) (h1 : (y 1).val = j) :
    extractStridedSlice S4096x6656 ![0, 0] x slices_S4096x12736_S4096x6656_0_0 y = rd2 x i j :=
  (congrArg _ (eq_ix2 y)).trans ((sla' x (y 0) (y 1)).trans (rd2_eq _ _ _ _ h0 h1))
theorem slb (x : S4096x12736.Idx → EReal) (y : S4096x6144.Idx) (i j : ℕ) (h0 : (y 0).val = i) (h1 : 6592 + (y 1).val = j) :
    extractStridedSlice S4096x6144 ![0, 6592] x slices_S4096x12736_S4096x6144_0_6592 y = rd2 x i j :=
  (congrArg _ (eq_ix2 y)).trans ((slb' x (y 0) (y 1)).trans (rd2_eq _ _ _ _ h0 h1))

theorem blk0 (c : Dev nD) (t : Fin cfg0.N) (r : Fin 1024) (k : Fin 4096) : iblk m c 0 t (ix2 r k) = xx m c (t.val / 25 * 1024 + r.val) k.val := by
  unfold iblk
  blk_simp
  refine (congrFun (x_eq m c) _).trans (flat _ _ _ _ ?_ ?_)
  · blk_simp; rw [(idx t).1]; rfl
  · blk_simp; rw [(idx t).1]; exact Nat.zero_add _
theorem blk1 (c : Dev nD) (t : Fin cfg0.N) (k : Fin 4096) : iblk m c 1 t (ix2 0 k) = gg m c k.val := by
  unfold iblk
  blk_simp
  refine (congrFun (g_eq m c) _).trans (row _ _ _ ?_)
  blk_simp; rw [(idx t).2.1]; exact Nat.zero_add _
theorem blk2 (c : Dev nD) (t : Fin cfg0.N) (h : t.val % 25 ≤ 12) (k : Fin 4096) (n : Fin 512) : iblk m c 2 t (ix2 k n) = ww m c k.val (colw (t.val % 25 * 512 + n.val)) := by
  have hn := n.isLt
  unfold iblk
  blk_simp
  refine (congrFun (wa_eq m c) _).trans (sla _ _ _ _ ?_ ?_)
  · blk_simp; rw [(idx t).2.2.1]; exact Nat.zero_add _
  · blk_simp; rw [(idx t).2.2.1]
    show min (t.val % 25) 12 * 512 + n.val = _
    rw [min_eq_left h]; unfold colw; rw [if_pos (by omega)]
theorem blk3 (c : Dev nD) (t : Fin cfg0.N) (h : 13 ≤ t.val % 25) (k : Fin 4096) (n : Fin 512) : iblk m c 3 t (ix2 k n) = ww m c k.val (colw (t.val % 25 * 512 + n.val)) := by
  have hn := n.isLt
  unfold iblk
  blk_simp
  refine (congrFun (wb_eq m c) _).trans (slb _ _ _ _ ?_ ?_)
  · blk_simp; rw [(idx t).2.2.2.1]; exact Nat.zero_add _
  · blk_simp; rw [(idx t).2.2.2.1]
    show 6592 + ((t.val % 25 - 13) * 512 + n.val) = _
    unfold colw; rw [if_neg (by omega)]; omega

/-- The scratch holds the normalised rows of the row block throughout its tiles. -/
theorem scratch (c : Dev nD) : ∀ (n : ℕ) (h : n < cfg0.N) (y : S1024x4096.Idx),
    (outsAt0 m c n h).2 y = nrx (xx m c (n / 25 * 1024 + (y 0).val)) (gg m c) (y 1).val := by
  intro n
  induction n using Nat.strong_induction_on with
  | _ n ih =>
    intro h y
    have hN := lt_of_lt_of_eq h (show cfg0.N = 400 from N_0)
    by_cases h0 : n % 25 = 0
    · rw [outsAt0_A m c ⟨n, h⟩ h0 (by dsimp only; omega) (by dsimp only; omega)]
      dsimp only
      exact soutA_apply _ _ _ _ _ _ _ _ _ _ _ _ _ _ _ _ _ _ (fun r k => xx m c (n / 25 * 1024 + r) k) (gg m c) _ _ _ (blk0 m c ⟨n, h⟩) (blk1 m c ⟨n, h⟩) y
    · have e : (n - 1) / 25 = n / 25 := by omega
      by_cases h1 : 1 ≤ n % 25 ∧ n % 25 ≤ 12
      · rw [outsAt0_B m c ⟨n, h⟩ h0 h1 (by dsimp only; omega)]
        dsimp only
        unfold sout0_B_0
        exact (ih (n - 1) (by omega) (by omega) y).trans (by rw [e])
      · rw [outsAt0_C m c ⟨n, h⟩ h0 h1 (by dsimp only; omega)]
        dsimp only
        unfold sout0_C_0
        exact (ih (n - 1) (by omega) (by omega) y).trans (by rw [e])

theorem out_block (c : Dev nD) (t : Fin cfg0.N) (y : S1024x512.Idx) :
    (outsAt0 m c t.val t.isLt).1 y = prj (xx m c) (gg m c) (fun k j => ww m c k (colw j)) (t.val / 25 * 1024 + (y 0).val) (t.val % 25 * 512 + (y 1).val) := by
  have hN := lt_of_lt_of_eq t.isLt (show cfg0.N = 400 from N_0)
  unfold prj
  by_cases h0 : t.val % 25 = 0
  · rw [outsAt0_A m c t h0 (by omega) (by omega)]
    dsimp only
    refine (outA_apply _ _ _ _ _ _ _ _ _ _ _ _ _ _ _ _ _ _ (fun r k => xx m c (t.val / 25 * 1024 + r) k) (gg m c) _ _ _ (blk0 m c t) (blk1 m c t) y).trans ?_
    exact Finset.sum_congr rfl fun k _ => congrArg₂ (· * ·) rfl (blk2 m c t (by omega) k (y 1))
  · have e : (t.val - 1) / 25 = t.val / 25 := by omega
    have s : ∀ k : Fin 4096, (outsAt0 m c (t.val - 1) (Nat.lt_of_le_of_lt (Nat.sub_le _ _) t.isLt)).2 (ix2 (y 0) k) = nrx (xx m c (t.val / 25 * 1024 + (y 0).val)) (gg m c) k.val :=
      fun k => (scratch m c (t.val - 1) _ (ix2 (y 0) k)).trans (by rw [e]; rfl)
    by_cases h1 : 1 ≤ t.val % 25 ∧ t.val % 25 ≤ 12
    · rw [outsAt0_B m c t h0 h1 (by omega)]
      dsimp only
      refine (outB_apply _ _ _ _ _ _ _ _ _ _ _ _ _ _ _ _ _ _ _ _ _ _ y).trans ?_
      exact Finset.sum_congr rfl fun k _ => congrArg₂ (· * ·) (s k) (blk2 m c t (by omega) k (y 1))
    · rw [outsAt0_C m c t h0 h1 (by omega)]
      dsimp only
      refine (outC_apply _ _ _ _ _ _ _ _ _ _ _ _ _ _ _ _ _ _ _ _ _ _ y).trans ?_
      exact Finset.sum_congr rfl fun k _ => congrArg₂ (· * ·) (s k) (blk3 m c t (by omega) k (y 1))

/-- The array that the input projection leaves. -/
theorem out_array (c : Dev nD) : (dats m 0 c).arrAt 4 cfg0.N
    = fun x : S16384x12800.Idx => prj (xx m c) (gg m c) (fun k j => ww m c k (colw j)) (x 0).val (x 1).val := by
  refine (dats m 0 c).arrAt_eq_of_covers 4 _ (by decide +kernel) fun t hf y => ?_
  obtain ⟨-, -, -, -, i4⟩ := idx t
  blk_simp
  rw [after0_4, i4]
  exact out_block m c t y
end Cert.InProjIdeal.Val

namespace Cert.InProjReferenceIdeal.Val
open Cert.InProjReferenceIdeal Cert.InProjReferenceIdeal.Gen Cert.InProjReferenceIdeal.Read Cert.Band Idealize.ShloMosaic Idealize.ShloMosaic.TcCoe Idealize.SL.Sem
variable (x0 : (⟨S2x8192x4096, .f32⟩ : BufTy).Contents (Elt Ideal)) (x1 : (⟨S4096, .f32⟩ : BufTy).Contents (Elt Ideal)) (x2 : (⟨S4096x12736, .f32⟩ : BufTy).Contents (Elt Ideal))

theorem bits0 : Ideal.ofBits .f32 0x00000000#32 = 0 := by pointwise

theorem v12_at (i : S2x8192x4096.Idx) : val_main_v12 (F := Ideal) x0 x1 i = nrx (rdx x0 ((i 0).val * 8192 + (i 1).val)) (rd1 x1) (i 2).val := by
  rw [val_main_v12_apply, val_main_v9_apply, val_main_v8_apply, val_main_v7_apply, val_main_v6_apply, val_main_v4_apply,
    val_main_v2_apply, val_main_v1_apply, val_main_v11_apply, val_main_v10_apply, val_main_v3_apply, val_main_v5_apply]
  simp only [val_main_v0_apply, val_main_cst_apply, val_main_cst_0_apply, val_main_cst_1_apply]
  rw [rd1_eq x1 (idx_main_v10 (idx_main_v11 i)) (i 2).val rfl, rdx_eq x0 i _ _ rfl rfl]
  have s : ∀ k : Fin 4096, x0 (idx_main_v1 (idx_main_v2 (idx_main_v8 i)) k) = rdx x0 ((i 0).val * 8192 + (i 1).val) k.val := fun k => rdx_eq _ _ _ _ rfl rfl
  simp only [s]
  show _ * Ideal.rsqrt (Ideal.div (Ideal.ofBits .f32 0x00000000#32 + _) _ + _) * _ = _
  rw [bits0, zero_add]
  rfl

theorem v13_at (i : S2x8192x12736.Idx) : val_main_v13 (F := Ideal) x0 x1 x2 i = prj (rdx x0) (rd1 x1) (rd2 x2) ((i 0).val * 8192 + (i 1).val) (i 2).val := by
  rw [val_main_v13_apply]
  exact Finset.sum_congr rfl fun k _ => congrArg₂ (· * ·) (v12_at x0 x1 _) (rd2_eq _ _ _ _ rfl rfl)
end Cert.InProjReferenceIdeal.Val
-- ==== Proof.InPr3.lean ====
module
public import proofs.«01_k».proof.Proof.InPr2
@[expose] public section
set_option maxRecDepth 65536
noncomputable section
namespace Cert.InProjReferenceIdeal.Val
open Cert.InProjReferenceIdeal Cert.InProjReferenceIdeal.Gen Cert.InProjReferenceIdeal.Read Cert.Band Idealize.ShloMosaic Idealize.ShloMosaic.TcCoe Idealize.SL.Sem

section
variable (a : S2x8192x6592.Idx → EReal) (b : S2x8192x64.Idx → EReal) (c : S2x8192x6144.Idx → EReal)
  (h : Shape.Concatenates [S2x8192x6592, S2x8192x64, S2x8192x6144] S2x8192x12800 2) (i : Fin 2) (t : Fin 8192)
theorem cat0 (j : Fin 6592) : concatenate S2x8192x12800 2 [⟨S2x8192x6592, a⟩, ⟨S2x8192x64, b⟩, ⟨S2x8192x6144, c⟩] h (ix3 i t ⟨j.val, by omega⟩) = a (ix3 i t j) := by
  pointwise
theorem cat1 (j : Fin 64) : concatenate S2x8192x12800 2 [⟨S2x8192x6592, a⟩, ⟨S2x8192x64, b⟩, ⟨S2x8192x6144, c⟩] h (ix3 i t ⟨6592 + j.val, by omega⟩) = b (ix3 i t j) := by
  pointwise
theorem cat2 (j : Fin 6144) : concatenate S2x8192x12800 2 [⟨S2x8192x6592, a⟩, ⟨S2x8192x64, b⟩, ⟨S2x8192x6144, c⟩] h (ix3 i t ⟨6656 + j.val, by omega⟩) = c (ix3 i t j) := by
  pointwise
  rw [dif_neg (show ¬6656 + j.val < 6592 by omega), dif_neg (show ¬6656 + j.val - 6592 < 64 by omega)]
  exact congrArg c (congrArg (ix3 i t) (Fin.ext (show 6656 + j.val - 6592 - 64 = j.val by omega)))

theorem colw_lo {j : ℕ} (h : j < 6656) : j = colw j := (if_pos h).symm
theorem colw_hi {j : ℕ} (h : ¬j < 6656) : j - 64 = colw j := (if_neg h).symm
end

variable (x0 : (⟨S2x8192x4096, .f32⟩ : BufTy).Contents (Elt Ideal)) (x1 : (⟨S4096, .f32⟩ : BufTy).Contents (Elt Ideal)) (x2 : (⟨S4096x12736, .f32⟩ : BufTy).Contents (Elt Ideal))

theorem v17_at (i : Fin 2) (t : Fin 8192) (j : Fin 12800) :
    val_main_v17 (F := Ideal) x0 x1 x2 (ix3 i t j) = prj (rdx x0) (rd1 x1) (fun k j => rd2 x2 k (colw j)) (i.val * 8192 + t.val) j.val := by
  have hj := j.isLt
  unfold val_main_v17
  rcases Nat.lt_or_ge j.val 6592 with h | h
  · refine (cat0 _ _ _ _ i t ⟨j.val, h⟩).trans ((val_main_v14_apply x0 x1 x2 _).trans ((v13_at x0 x1 x2 _).trans ?_))
    exact Finset.sum_congr rfl fun k _ => congrArg₂ (· * ·) rfl (congrArg (rd2 x2 k.val) (colw_lo (show j.val < 6656 by omega)))
  · rcases Nat.lt_or_ge j.val 6656 with h' | h'
    · refine (congrArg _ (congrArg (ix3 i t) (Fin.ext (show j.val = 6592 + (j.val - 6592) by omega)))).trans ((cat1 _ _ _ _ i t ⟨j.val - 6592, by omega⟩).trans ((val_main_v15_apply x0 x1 x2 _).trans ((v13_at x0 x1 x2 _).trans ?_)))
      exact Finset.sum_congr rfl fun k _ => congrArg₂ (· * ·) rfl (congrArg (rd2 x2 k.val) ((show 6592 + (j.val - 6592) = j.val by omega).trans (colw_lo h')))
    · refine (congrArg _ (congrArg (ix3 i t) (Fin.ext (show j.val = 6656 + (j.val - 6656) by omega)))).trans ((cat2 _ _ _ _ i t ⟨j.val - 6656, by omega⟩).trans ((val_main_v16_apply x0 x1 x2 _).trans ((v13_at x0 x1 x2 _).trans ?_)))
      exact Finset.sum_congr rfl fun k _ => congrArg₂ (· * ·) rfl (congrArg (rd2 x2 k.val) ((show 6592 + (j.val - 6656) = j.val - 64 by omega).trans (colw_hi (show ¬j.val < 6656 by omega))))

theorem v18_at (x : S16384x12800.Idx) :
    val_main_v18 (F := Ideal) x0 x1 x2 x = prj (rdx x0) (rd1 x1) (fun k j => rd2 x2 k (colw j)) (x 0).val (x 1).val := by
  have h0 : (x 0).val < 16384 := (x 0).isLt
  have h1 : (x 1).val < 12800 := (x 1).isLt
  refine (val_main_v18_apply x0 x1 x2 x).trans ((congrArg _ (eq_ix3 _)).trans ((v17_at x0 x1 x2 _ _ _).trans ?_))
  exact congrArg₂ (prj (rdx x0) (rd1 x1) (fun k j => rd2 x2 k (colw j)))
    (show ((x 0).val * 12800 + (x 1).val) / 104857600 * 8192 + ((x 0).val * 12800 + (x 1).val) / 12800 % 8192 = (x 0).val by omega)
    (show ((x 0).val * 12800 + (x 1).val) % 12800 = (x 1).val by omega)
end Cert.InProjReferenceIdeal.Val

namespace Cert.Proof
open Cert.Band Idealize.ShloMosaic Idealize.ShloMosaic.TcCoe Idealize.SL.Sem

/-- The reference's frame: its run read at its arguments; it has no semaphore. -/
theorem inpr_reference_frame : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- The input projection: the kernel's array is the product of the normalised rows with the weights, a block of columns
    repeated. -/
theorem inpr : Cert.algebraic_InProjIdeal_InProjReferenceIdeal := by
  intro m g m' g' _ hargs
  refine ⟨fun c => (Cert.InProjIdeal.Gen.dats m 0 c).arrAt 4 Cert.InProjIdeal.cfg0.N, Cert.InProjIdeal.Value.run_blocks m g, ?_⟩
  refine (θ_run Cert.InProjReferenceIdeal.defs _ _).mono (fun _ h c => ?_) (Cert.InProjReferenceIdeal.Value.run (F := Ideal) m' g')
  obtain ⟨h0, hr⟩ := h c
  obtain ⟨e0, e1, e2⟩ := hargs c
  refine ⟨h0.trans ?_, hr⟩
  rw [Cert.InProjReferenceIdeal.Read.val_main_v18_eq, e0, e1, e2]
  funext x
  refine Eq.trans ?_ (congrFun (Cert.InProjIdeal.Val.out_array m c) x).symm
  exact Cert.InProjReferenceIdeal.Val.v18_at _ _ _ x
end Cert.Proof
-- ==== Proof.DownS.lean ====
/- The second feed-forward product at the sample's rows: the same blocks as at the prompt's, on a grid of 2 by 16. -/
module
public import proofs.«01_k».proof.Proof.Down
public import proofs.«01_k».proof.Proof.Gen.FfnDownSampleIdeal.Value
public import proofs.«01_k».proof.Proof.Gen.FfnDownSampleReferenceIdeal.Read
@[expose] public section
set_option maxRecDepth 65536
noncomputable section
namespace Cert.FfnDownSampleIdeal.Val
open Cert.FfnDownSampleIdeal Cert.FfnDownSampleIdeal.Gen Cert.Band Idealize.ShloMosaic Idealize.ShloMosaic.TcCoe Idealize.SL.Sem
variable (m : (ℓ : Loc nD τ sig) → Buf (Elt Ideal) ℓ) (ρ : Dev nD → PrngReg)

abbrev act (c : Dev nD) : ℕ → ℕ → EReal := rd2 (m ((c : Thread nD τ).loc main_arg0))
abbrev wd (c : Dev nD) : ℕ → ℕ → EReal := rd2 (m ((c : Thread nD τ).loc main_arg1))
abbrev hh (c : Dev nD) : ℕ → ℕ → EReal := rd2 (m ((c : Thread nD τ).loc main_arg2))

theorem idx : ∀ t : Fin cfg0.N, win0_0.index t = ![t.val / 16, 0] ∧ win0_1.index t = ![0, t.val % 16] ∧
    win0_2.index t = ![t.val / 16, t.val % 16] ∧ win0_3.index t = ![t.val / 16, t.val % 16] :=
  (by decide +kernel : ∀ t : Fin grid0.N, _)

theorem blk0 (c : Dev nD) (t : Fin cfg0.N) (r : Fin 512) (k : Fin 11008) : iblk m c 0 t (ix2 r k) = act m c (t.val / 16 * 512 + r.val) k.val := by
  unfold iblk
  blk_simp
  refine (congrFun (V_main_arg0 m c) _).trans (rd2_eq _ _ _ _ ?_ ?_)
  · blk_simp; rw [(idx t).1]; rfl
  · blk_simp; rw [(idx t).1]; exact Nat.zero_add _

theorem w_eq (c : Dev nD) : V m c main_v0 = (m ((c : Thread nD τ).loc main_arg1) : S11008x4096.Idx → EReal) := by
  show StableHlo.after _ _ (Proc.devRef .tc main_v0) = _
  simp only [hostOps0]
  after_results_simp <;> rfl

theorem blk1 (c : Dev nD) (t : Fin cfg0.N) (k : Fin 11008) (n : Fin 256) : iblk m c 1 t (ix2 k n) = wd m c k.val (t.val % 16 * 256 + n.val) := by
  unfold iblk
  blk_simp
  refine (congrFun (w_eq m c) _).trans (rd2_eq _ _ _ _ ?_ ?_)
  · blk_simp; rw [(idx t).2.1]; exact Nat.zero_add _
  · blk_simp; rw [(idx t).2.1]; rfl

theorem blk2 (c : Dev nD) (t : Fin cfg0.N) (r : Fin 512) (n : Fin 256) : iblk m c 2 t (ix2 r n) = hh m c (t.val / 16 * 512 + r.val) (t.val % 16 * 256 + n.val) := by
  unfold iblk
  blk_simp
  refine (congrFun (V_main_arg2 m c) _).trans (rd2_eq _ _ _ _ ?_ ?_)
  · blk_simp; rw [(idx t).2.2.1]; rfl
  · blk_simp; rw [(idx t).2.2.1]; rfl

/-- The body is the prompt's. -/
theorem out_same (x0 : Vec Ideal S512x11008 .bf16) (x1 : Vec Ideal S11008x256 .bf16) (x2 : Vec Ideal S512x256 .f32) :
    out0_3 x0 x1 x2 = Cert.FfnDownIdeal.Gen.out0_3 x0 x1 x2 := rfl

/-- The array that the down projection leaves. -/
theorem out_array (c : Dev nD) : (dats m 0 c).arrAt 3 cfg0.N
    = fun x : S1024x4096.Idx => hh m c (x 0).val (x 1).val + ∑ k : Fin 11008, act m c (x 0).val k.val * wd m c k.val (x 1).val := by
  refine (dats m 0 c).arrAt_eq_of_covers 3 _ (by decide +kernel) fun t hf y => ?_
  obtain ⟨-, -, -, i3⟩ := idx t
  blk_simp
  rw [after0_3, i3]
  refine (congrFun (out_same _ _ _) y).trans ((Cert.FfnDownIdeal.Val.out_apply _ _ _ y).trans ?_)
  exact congrArg₂ (· + ·) (blk2 m c t (y 0) (y 1)) (Finset.sum_congr rfl fun k _ => congrArg₂ (· * ·) (blk0 m c t (y 0) k) (blk1 m c t k (y 1)))
end Cert.FfnDownSampleIdeal.Val

namespace Cert.Proof
open Cert.Band Idealize.ShloMosaic Idealize.ShloMosaic.TcCoe Idealize.SL.Sem

/-- The reference's frame: its run read at its arguments; it has no semaphore. -/
theorem downs_reference_frame : Cert.quiescent_FfnDownSampleReferenceIdeal := fun m ρ _ =>
  (θ_run Cert.FfnDownSampleReferenceIdeal.defs _ _).mono (fun r h => ⟨fun c => (h c).2, sem_eq_zero_of_no_sems (by decide) r.2⟩)
    (Cert.FfnDownSampleReferenceIdeal.Value.run (F := Ideal) m ρ)

/-- The down projection of the sample's rows. -/
theorem downs : Cert.algebraic_FfnDownSampleIdeal_FfnDownSampleReferenceIdeal := by
  intro m g m' g' _ hargs
  refine ⟨fun c => (Cert.FfnDownSampleIdeal.Gen.dats m 0 c).arrAt 3 Cert.FfnDownSampleIdeal.cfg0.N, Cert.FfnDownSampleIdeal.Value.run_blocks m g, ?_⟩
  refine (θ_run Cert.FfnDownSampleReferenceIdeal.defs _ _).mono (fun _ h c => ?_) (Cert.FfnDownSampleReferenceIdeal.Value.run (F := Ideal) m' g')
  obtain ⟨h0, hr⟩ := h c
  obtain ⟨e0, e1, e2⟩ := hargs c
  refine ⟨h0.trans ?_, hr⟩
  rw [Cert.FfnDownSampleReferenceIdeal.Read.val_main_v2_eq, e0, e1, e2]
  funext x
  refine Eq.trans ?_ (congrFun (Cert.FfnDownSampleIdeal.Val.out_array m c) x).symm
  refine (Cert.FfnDownSampleReferenceIdeal.Read.val_main_v2_apply _ _ _ x).trans ?_
  rw [Cert.FfnDownSampleReferenceIdeal.Read.val_main_v1_apply]
  exact congrArg₂ (· + ·) (rd2_eq _ _ _ _ rfl rfl) (Finset.sum_congr rfl fun k _ => congrArg₂ (· * ·) (rd2_eq _ _ _ _ rfl rfl) (rd2_eq _ _ _ _ rfl rfl))
end Cert.Proof
-- ==== Proof.InPrS.lean ====
/- The input projection at the sample's rows: one block of rows, whose body and weights are the prompt's. -/
module
public import proofs.«01_k».proof.Proof.InPr3
public import proofs.«01_k».proof.Proof.Gen.InProjSampleIdeal.Value
public import proofs.«01_k».proof.Proof.Gen.InProjSampleReferenceIdeal.Read
@[expose] public section
set_option maxRecDepth 65536
noncomputable section
namespace Cert.Band
open Idealize.ShloMosaic
/-- Row `i` of the 32 sequences of 32 rows laid end to end. -/
def rds (x : (⟨3, ![32, 32, 4096]⟩ : Shape).Idx → EReal) (i j : ℕ) : EReal :=
  if h : i < 1024 ∧ j < 4096 then x (ix3 ⟨i / 32, by omega⟩ ⟨i % 32, Nat.mod_lt _ (by decide)⟩ ⟨j, h.2⟩) else 0
theorem rds_eq (x : (⟨3, ![32, 32, 4096]⟩ : Shape).Idx → EReal) (y : (⟨3, ![32, 32, 4096]⟩ : Shape).Idx) (i j : ℕ) (h0 : (y 0).val * 32 + (y 1).val = i) (h2 : (y 2).val = j) : x y = rds x i j := by
  subst h0 h2
  have b0 : (y 0).val < 32 := (y 0).isLt
  have b1 : (y 1).val < 32 := (y 1).isLt
  have b2 : (y 2).val < 4096 := (y 2).isLt
  unfold rds
  rw [dif_pos ⟨by omega, b2⟩]
  refine (congrArg x (eq_ix3 y)).trans (congrArg x ?_)
  have e0 : (⟨((y 0).val * 32 + (y 1).val) / 32, by omega⟩ : Fin 32) = y 0 := Fin.ext (show ((y 0).val * 32 + (y 1).val) / 32 = (y 0).val by omega)
  have e1 : (⟨((y 0).val * 32 + (y 1).val) % 32, Nat.mod_lt _ (by decide)⟩ : Fin 32) = y 1 := Fin.ext (show ((y 0).val * 32 + (y 1).val) % 32 = (y 1).val by omega)
  rw [e0, e1]
  rfl
end Cert.Band

namespace Cert.InProjSampleIdeal.Val
open Cert.InProjSampleIdeal Cert.InProjSampleIdeal.Gen Cert.Band Idealize.ShloMosaic Idealize.ShloMosaic.TcCoe Idealize.SL.Sem
open Cert.InProjIdeal.Val (rows_piece out_piece n2 n14 n11 n7 o3 o15 o12 o8 o4 o5 row sla slb)

section blocks
variable (c : Dev nD) (i : grid0.Coords) (a2 : Memref sig .tc .vmem S1024x4096 .f32) (h2 : a2.IsWhole) (a3 : Memref sig .tc .vmem S1x4096 .f32) (h3 : a3.IsWhole) (a4 : Memref sig .tc .vmem S4096x512 .bf16) (h4 : a4.IsWhole) (a5 : Memref sig .tc .vmem S4096x512 .bf16) (h5 : a5.IsWhole) (a6 : Memref sig .tc .vmem S1024x512 .f32) (h6 : a6.IsWhole) (a7 : Memref sig .tc .vmem S1024x4096 .bf16) (h7 : a7.IsWhole)
  (x0 : Vec Ideal S1024x4096 .f32) (x1 : Vec Ideal S1x4096 .f32) (x2 x3 : Vec Ideal S4096x512 .bf16) (xs : Vec Ideal S1024x4096 .bf16) (X : ℕ → ℕ → EReal) (G : ℕ → EReal)

/-- The first tile leaves the normalised rows in the scratch. -/
theorem soutA_apply (c0 : cond0_0 i) (c1 : ¬cond0_1 i) (c2 : ¬cond0_2 i)
    (e0 : ∀ (r : Fin 1024) (k : Fin 4096), x0 (ix2 r k) = X r k) (e1 : ∀ k : Fin 4096, x1 (ix2 0 k) = G k) (y : S1024x4096.Idx) :
    sout0_A_0 c i a2 h2 a3 h3 a4 h4 a5 h5 a6 h6 a7 h7 c0 c1 c2 x0 x1 x2 x3 y = nrx (X (y 0).val) G (y 1).val := by
  unfold sout0_A_0
  rw [View.read_writes_eq_canon _ _ _ (scover0_A_0 c i a2 h2 a3 h3 a4 h4 a5 h5 a6 h6 a7 h7 c0 c1 c2 x0 x1 x2 x3)]
  refine View.canon_apply_of_pieces (fun y => nrx (X (y 0).val) G (y 1).val) _ ?_ y (scover0_A_0 c i a2 h2 a3 h3 a4 h4 a5 h5 a6 h6 a7 h7 c0 c1 c2 x0 x1 x2 x3 y)
  unfold kernelRun0_A
  dsimp only
  sl_unfold_words
  simp only [List.forall_mem_cons, List.not_mem_nil, false_imp_iff, implies_true, and_true, View.readAt_eq_ld, h2.read_unread, h3.read_unread, h4.read_unread, h5.read_unread]
  exact ⟨rows_piece n2 x0 x1 X G e0 e1 768 (by decide) _ _ _, rows_piece n14 x0 x1 X G e0 e1 512 (by decide) _ _ _,
    rows_piece (pay := fun x g => Cert.InProjIdeal.Gen.k0_pay11 (Cert.InProjIdeal.Gen.k0_pay9 x) g) n11 x0 x1 X G e0 e1 256 (by decide) _ _ _, rows_piece n7 x0 x1 X G e0 e1 0 (by decide) _ _ _⟩

/-- The first tile leaves the product of the normalised rows in the output. -/
theorem outA_apply (c0 : cond0_0 i) (c1 : ¬cond0_1 i) (c2 : ¬cond0_2 i)
    (e0 : ∀ (r : Fin 1024) (k : Fin 4096), x0 (ix2 r k) = X r k) (e1 : ∀ k : Fin 4096, x1 (ix2 0 k) = G k) (y : S1024x512.Idx) :
    out0_A_4 c i a2 h2 a3 h3 a4 h4 a5 h5 a6 h6 a7 h7 c0 c1 c2 x0 x1 x2 x3 y = ∑ k : Fin 4096, nrx (X (y 0).val) G k * x2 (ix2 k (y 1)) := by
  unfold out0_A_4
  rw [View.read_writes_eq_canon _ _ _ (cover0_A_4 c i a2 h2 a3 h3 a4 h4 a5 h5 a6 h6 a7 h7 c0 c1 c2 x0 x1 x2 x3)]
  refine View.canon_apply_of_pieces (fun y => ∑ k : Fin 4096, nrx (X (y 0).val) G k * x2 (ix2 k (y 1))) _ ?_ y (cover0_A_4 c i a2 h2 a3 h3 a4 h4 a5 h5 a6 h6 a7 h7 c0 c1 c2 x0 x1 x2 x3 y)
  unfold kernelRun0_A
  dsimp only
  sl_unfold_words
  simp only [List.forall_mem_cons, List.not_mem_nil, false_imp_iff, implies_true, and_true, View.readAt_eq_ld, h2.read_unread, h3.read_unread, h4.read_unread, h5.read_unread]
  exact ⟨out_piece o3 x0 x1 x2 X G e0 e1 768 (by decide) _ _ _ _, out_piece o15 x0 x1 x2 X G e0 e1 512 (by decide) _ _ _ _,
    out_piece (pay := fun x g w => Cert.InProjIdeal.Gen.k0_pay12 (Cert.InProjIdeal.Gen.k0_pay9 x) g w) o12 x0 x1 x2 X G e0 e1 256 (by decide) _ _ _ _, out_piece o8 x0 x1 x2 X G e0 e1 0 (by decide) _ _ _ _⟩

/-- A later tile leaves the product of the scratch with its block of the first weights. -/
theorem outB_apply (c0 : ¬cond0_0 i) (c1 : cond0_1 i) (c2 : ¬cond0_2 i) (y : S1024x512.Idx) :
    out0_B_4 c i a2 h2 a3 h3 a4 h4 a5 h5 a6 h6 a7 h7 c0 c1 c2 x0 x1 x2 x3 xs y = ∑ k : Fin 4096, xs (ix2 (y 0) k) * x2 (ix2 k (y 1)) := by
  have z2 : (![0, 0] : Fin 2 → ℕ) = fun _ => 0 := by decide
  unfold out0_B_4
  rw [View.read_writes_eq_canon _ _ _ (cover0_B_4 c i a2 h2 a3 h3 a4 h4 a5 h5 a6 h6 a7 h7 c0 c1 c2 x0 x1 x2 x3 xs)]
  unfold kernelRun0_B
  dsimp only
  sl_unfold_words
  rw [View.canon_unit_zero z2]
  simp only [View.readAt_eq_ld, h4.read_unread, h7.read_unread]
  rw [View.ld_unit_zero z2, View.ld_unit_zero z2]
  exact (congrArg _ (eq_ix2 y)).trans (o4 _ _ _ _)

/-- A later tile leaves the product of the scratch with its block of the second weights. -/
theorem outC_apply (c0 : ¬cond0_0 i) (c1 : ¬cond0_1 i) (c2 : cond0_2 i) (y : S1024x512.Idx) :
    out0_C_4 c i a2 h2 a3 h3 a4 h4 a5 h5 a6 h6 a7 h7 c0 c1 c2 x0 x1 x2 x3 xs y = ∑ k : Fin 4096, xs (ix2 (y 0) k) * x3 (ix2 k (y 1)) := by
  have z2 : (![0, 0] : Fin 2 → ℕ) = fun _ => 0 := by decide
  unfold out0_C_4
  rw [View.read_writes_eq_canon _ _ _ (cover0_C_4 c i a2 h2 a3 h3 a4 h4 a5 h5 a6 h6 a7 h7 c0 c1 c2 x0 x1 x2 x3 xs)]
  unfold kernelRun0_C
  dsimp only
  sl_unfold_words
  rw [View.canon_unit_zero z2]
  simp only [View.readAt_eq_ld, h5.read_unread, h7.read_unread]
  rw [View.ld_unit_zero z2, View.ld_unit_zero z2]
  exact (congrArg _ (eq_ix2 y)).trans (o5 _ _ _ _)
end blocks

variable (m : (ℓ : Loc nD τ sig) → Buf (Elt Ideal) ℓ) (ρ : Dev nD → PrngReg)

abbrev xx (c : Dev nD) : ℕ → ℕ → EReal := rds (m ((c : Thread nD τ).loc main_arg0))
abbrev gg (c : Dev nD) : ℕ → EReal := rd1 (m ((c : Thread nD τ).loc main_arg1))
abbrev ww (c : Dev nD) : ℕ → ℕ → EReal := rd2 (m ((c : Thread nD τ).loc main_arg2))

theorem idx : ∀ t : Fin cfg0.N, win0_0.index t = ![0, 0] ∧ win0_1.index t = ![0, 0] ∧
    win0_2.index t = ![0, min t.val 12] ∧ win0_3.index t = ![0, t.val - 13] ∧ win0_4.index t = ![0, t.val] :=
  (by decide +kernel : ∀ t : Fin grid0.N, _)

theorem x_eq (c : Dev nD) : V m c main_v0 = shapeCast S1024x4096 (m ((c : Thread nD τ).loc main_arg0) : S32x32x4096.Idx → EReal) shapeCasts_S32x32x4096_S1024x4096 := by
  show StableHlo.after _ _ (Proc.devRef .tc main_v0) = _
  simp only [hostOps0]
  after_results_simp <;> rfl
theorem g_eq (c : Dev nD) : V m c main_v5 = shapeCast S1x4096 (m ((c : Thread nD τ).loc main_arg1) : S4096.Idx → EReal) shapeCasts_S4096_S1x4096 := by
  show StableHlo.after _ _ (Proc.devRef .tc main_v5) = _
  simp only [hostOps0]
  after_results_simp <;> rfl
theorem wa_eq (c : Dev nD) : V m c main_v2 = extractStridedSlice S4096x6656 ![0, 0] (m ((c : Thread nD τ).loc main_arg2) : S4096x12736.Idx → EReal) slices_S4096x12736_S4096x6656_0_0 := by
  show StableHlo.after _ _ (Proc.devRef .tc main_v2) = _
  simp only [hostOps0]
  after_results_simp <;> rfl
theorem wb_eq (c : Dev nD) : V m c main_v4 = extractStridedSlice S4096x6144 ![0, 6592] (m ((c : Thread nD τ).loc main_arg2) : S4096x12736.Idx → EReal) slices_S4096x12736_S4096x6144_0_6592 := by
  show StableHlo.after _ _ (Proc.devRef .tc main_v4) = _
  simp only [hostOps0]
  after_results_simp <;> rfl

theorem flat (x : S32x32x4096.Idx → EReal) (y : S1024x4096.Idx) (i j : ℕ) (h0 : (y 0).val = i) (h1 : (y 1).val = j) :
    shapeCast S1024x4096 x shapeCasts_S32x32x4096_S1024x4096 y = rds x i j := by
  subst h0 h1
  have b0 : (y 0).val < 1024 := (y 0).isLt
  have b1 : (y 1).val < 4096 := (y 1).isLt
  refine (shapeCast_apply x shapeCasts_S32x32x4096_S1024x4096 y (ix3 ⟨(y 0).val / 32, by omega⟩ ⟨(y 0).val % 32, Nat.mod_lt _ (by decide)⟩ ⟨(y 1).val, b1⟩) ?_).trans
    (rds_eq _ _ _ _ (show (y 0).val / 32 * 32 + (y 0).val % 32 = _ by omega) rfl)
  rewrite [Shape.rowMajor_val_three, Shape.rowMajor_val_two]
  show ((y 0).val / 32 * 32 + (y 0).val % 32) * 4096 + (y 1).val = (y 0).val * 4096 + (y 1).val
  omega

theorem blk0 (c : Dev nD) (t : Fin cfg0.N) (r : Fin 1024) (k : Fin 4096) : iblk m c 0 t (ix2 r k) = xx m c r.val k.val := by
  unfold iblk
  blk_simp
  refine (congrFun (x_eq m c) _).trans (flat _ _ _ _ ?_ ?_)
  · blk_simp; rw [(idx t).1]; exact Nat.zero_add _
  · blk_simp; rw [(idx t).1]; exact Nat.zero_add _
theorem blk1 (c : Dev nD) (t : Fin cfg0.N) (k : Fin 4096) : iblk m c 1 t (ix2 0 k) = gg m c k.val := by
  unfold iblk
  blk_simp
  refine (congrFun (g_eq m c) _).trans (row _ _ _ ?_)
  blk_simp; rw [(idx t).2.1]; exact Nat.zero_add _
theorem blk2 (c : Dev nD) (t : Fin cfg0.N) (h : t.val ≤ 12) (k : Fin 4096) (n : Fin 512) : iblk m c 2 t (ix2 k n) = ww m c k.val (colw (t.val * 512 + n.val)) := by
  have hn := n.isLt
  unfold iblk
  blk_simp
  refine (congrFun (wa_eq m c) _).trans (sla _ _ _ _ ?_ ?_)
  · blk_simp; rw [(idx t).2.2.1]; exact Nat.zero_add _
  · blk_simp; rw [(idx t).2.2.1]
    show min t.val 12 * 512 + n.val = _
    rw [min_eq_left h]; unfold colw; rw [if_pos (by omega)]
theorem blk3 (c : Dev nD) (t : Fin cfg0.N) (h : 13 ≤ t.val) (k : Fin 4096) (n : Fin 512) : iblk m c 3 t (ix2 k n) = ww m c k.val (colw (t.val * 512 + n.val)) := by
  have hn := n.isLt
  unfold iblk
  blk_simp
  refine (congrFun (wb_eq m c) _).trans (slb _ _ _ _ ?_ ?_)
  · blk_simp; rw [(idx t).2.2.2.1]; exact Nat.zero_add _
  · blk_simp; rw [(idx t).2.2.2.1]
    show 6592 + ((t.val - 13) * 512 + n.val) = _
    unfold colw; rw [if_neg (by omega)]; omega

/-- The scratch holds the normalised rows throughout. -/
theorem scratch (c : Dev nD) : ∀ (n : ℕ) (h : n < cfg0.N) (y : S1024x4096.Idx),
    (outsAt0 m c n h).2 y = nrx (xx m c (y 0).val) (gg m c) (y 1).val := by
  intro n
  induction n using Nat.strong_induction_on with
  | _ n ih =>
    intro h y
    have hN := lt_of_lt_of_eq h (show cfg0.N = 25 from N_0)
    by_cases h0 : n % 25 = 0
    · rw [outsAt0_A m c ⟨n, h⟩ h0 (by dsimp only; omega) (by dsimp only; omega)]
      dsimp only
      exact soutA_apply _ _ _ _ _ _ _ _ _ _ _ _ _ _ _ _ _ _ (xx m c) (gg m c) _ _ _ (blk0 m c ⟨n, h⟩) (blk1 m c ⟨n, h⟩) y
    · by_cases h1 : 1 ≤ n % 25 ∧ n % 25 ≤ 12
      · rw [outsAt0_B m c ⟨n, h⟩ h0 h1 (by dsimp only; omega)]
        dsimp only
        unfold sout0_B_0
        exact ih (n - 1) (by omega) (by omega) y
      · rw [outsAt0_C m c ⟨n, h⟩ h0 h1 (by dsimp only; omega)]
        dsimp only
        unfold sout0_C_0
        exact ih (n - 1) (by omega) (by omega) y

theorem out_block (c : Dev nD) (t : Fin cfg0.N) (y : S1024x512.Idx) :
    (outsAt0 m c t.val t.isLt).1 y = prj (xx m c) (gg m c) (fun k j => ww m c k (colw j)) (y 0).val (t.val * 512 + (y 1).val) := by
  have hN := lt_of_lt_of_eq t.isLt (show cfg0.N = 25 from N_0)
  unfold prj
  by_cases h0 : t.val % 25 = 0
  · rw [outsAt0_A m c t h0 (by omega) (by omega)]
    dsimp only
    refine (outA_apply _ _ _ _ _ _ _ _ _ _ _ _ _ _ _ _ _ _ (xx m c) (gg m c) _ _ _ (blk0 m c t) (blk1 m c t) y).trans ?_
    exact Finset.sum_congr rfl fun k _ => congrArg₂ (· * ·) rfl (blk2 m c t (by omega) k (y 1))
  · have s : ∀ k : Fin 4096, (outsAt0 m c (t.val - 1) (Nat.lt_of_le_of_lt (Nat.sub_le _ _) t.isLt)).2 (ix2 (y 0) k) = nrx (xx m c (y 0).val) (gg m c) k.val :=
      fun k => scratch m c (t.val - 1) _ (ix2 (y 0) k)
    by_cases h1 : 1 ≤ t.val % 25 ∧ t.val % 25 ≤ 12
    · rw [outsAt0_B m c t h0 h1 (by omega)]
      dsimp only
      refine (outB_apply _ _ _ _ _ _ _ _ _ _ _ _ _ _ _ _ _ _ _ _ _ _ y).trans ?_
      exact Finset.sum_congr rfl fun k _ => congrArg₂ (· * ·) (s k) (blk2 m c t (by omega) k (y 1))
    · rw [outsAt0_C m c t h0 h1 (by omega)]
      dsimp only
      refine (outC_apply _ _ _ _ _ _ _ _ _ _ _ _ _ _ _ _ _ _ _ _ _ _ y).trans ?_
      exact Finset.sum_congr rfl fun k _ => congrArg₂ (· * ·) (s k) (blk3 m c t (by omega) k (y 1))

/-- The array that the input projection leaves. -/
theorem out_array (c : Dev nD) : (dats m 0 c).arrAt 4 cfg0.N
    = fun x : S1024x12800.Idx => prj (xx m c) (gg m c) (fun k j => ww m c k (colw j)) (x 0).val (x 1).val := by
  refine (dats m 0 c).arrAt_eq_of_covers 4 _ (by decide +kernel) fun t hf y => ?_
  obtain ⟨-, -, -, -, i4⟩ := idx t
  blk_simp
  rw [after0_4, i4]
  refine (out_block m c t y).trans ?_
  exact congrArg₂ (prj (xx m c) (gg m c) (fun k j => ww m c k (colw j))) (Nat.zero_add _).symm rfl
end Cert.InProjSampleIdeal.Val

namespace Cert.InProjSampleReferenceIdeal.Val
open Cert.InProjSampleReferenceIdeal Cert.InProjSampleReferenceIdeal.Gen Cert.InProjSampleReferenceIdeal.Read Cert.Band Idealize.ShloMosaic Idealize.ShloMosaic.TcCoe Idealize.SL.Sem
open Cert.InProjReferenceIdeal.Val (bits0 colw_lo colw_hi)

section
variable (a : S32x32x6592.Idx → EReal) (b : S32x32x64.Idx → EReal) (c : S32x32x6144.Idx → EReal)
  (h : Shape.Concatenates [S32x32x6592, S32x32x64, S32x32x6144] S32x32x12800 2) (i t : Fin 32)
theorem cat0 (j : Fin 6592) : concatenate S32x32x12800 2 [⟨S32x32x6592, a⟩, ⟨S32x32x64, b⟩, ⟨S32x32x6144, c⟩] h (ix3 i t ⟨j.val, by omega⟩) = a (ix3 i t j) := by
  pointwise
theorem cat1 (j : Fin 64) : concatenate S32x32x12800 2 [⟨S32x32x6592, a⟩, ⟨S32x32x64, b⟩, ⟨S32x32x6144, c⟩] h (ix3 i t ⟨6592 + j.val, by omega⟩) = b (ix3 i t j) := by
  pointwise
theorem cat2 (j : Fin 6144) : concatenate S32x32x12800 2 [⟨S32x32x6592, a⟩, ⟨S32x32x64, b⟩, ⟨S32x32x6144, c⟩] h (ix3 i t ⟨6656 + j.val, by omega⟩) = c (ix3 i t j) := by
  pointwise
  rw [dif_neg (show ¬6656 + j.val < 6592 by omega), dif_neg (show ¬6656 + j.val - 6592 < 64 by omega)]
  exact congrArg c (congrArg (ix3 i t) (Fin.ext (show 6656 + j.val - 6592 - 64 = j.val by omega)))
end

variable (x0 : (⟨S32x32x4096, .f32⟩ : BufTy).Contents (Elt Ideal)) (x1 : (⟨S4096, .f32⟩ : BufTy).Contents (Elt Ideal)) (x2 : (⟨S4096x12736, .f32⟩ : BufTy).Contents (Elt Ideal))

theorem v12_at (i : S32x32x4096.Idx) : val_main_v12 (F := Ideal) x0 x1 i = nrx (rds x0 ((i 0).val * 32 + (i 1).val)) (rd1 x1) (i 2).val := by
  rw [val_main_v12_apply, val_main_v9_apply, val_main_v8_apply, val_main_v7_apply, val_main_v6_apply, val_main_v4_apply,
    val_main_v2_apply, val_main_v1_apply, val_main_v11_apply, val_main_v10_apply, val_main_v3_apply, val_main_v5_apply]
  simp only [val_main_v0_apply, val_main_cst_apply, val_main_cst_0_apply, val_main_cst_1_apply]
  rw [rd1_eq x1 (idx_main_v10 (idx_main_v11 i)) (i 2).val rfl, rds_eq x0 i _ _ rfl rfl]
  have s : ∀ k : Fin 4096, x0 (idx_main_v1 (idx_main_v2 (idx_main_v8 i)) k) = rds x0 ((i 0).val * 32 + (i 1).val) k.val := fun k => rds_eq _ _ _ _ rfl rfl
  simp only [s]
  show _ * Ideal.rsqrt (Ideal.div (Ideal.ofBits .f32 0x00000000#32 + _) _ + _) * _ = _
  rw [bits0, zero_add]
  rfl

theorem v13_at (i : S32x32x12736.Idx) : val_main_v13 (F := Ideal) x0 x1 x2 i = prj (rds x0) (rd1 x1) (rd2 x2) ((i 0).val * 32 + (i 1).val) (i 2).val := by
  rw [val_main_v13_apply]
  exact Finset.sum_congr rfl fun k _ => congrArg₂ (· * ·) (v12_at x0 x1 _) (rd2_eq _ _ _ _ rfl rfl)

theorem v17_at (i t : Fin 32) (j : Fin 12800) :
    val_main_v17 (F := Ideal) x0 x1 x2 (ix3 i t j) = prj (rds x0) (rd1 x1) (fun k j => rd2 x2 k (colw j)) (i.val * 32 + t.val) j.val := by
  have hj := j.isLt
  unfold val_main_v17
  rcases Nat.lt_or_ge j.val 6592 with h | h
  · refine (cat0 _ _ _ _ i t ⟨j.val, h⟩).trans ((val_main_v14_apply x0 x1 x2 _).trans ((v13_at x0 x1 x2 _).trans ?_))
    exact Finset.sum_congr rfl fun k _ => congrArg₂ (· * ·) rfl (congrArg (rd2 x2 k.val) (colw_lo (show j.val < 6656 by omega)))
  · rcases Nat.lt_or_ge j.val 6656 with h' | h'
    · refine (congrArg _ (congrArg (ix3 i t) (Fin.ext (show j.val = 6592 + (j.val - 6592) by omega)))).trans ((cat1 _ _ _ _ i t ⟨j.val - 6592, by omega⟩).trans ((val_main_v15_apply x0 x1 x2 _).trans ((v13_at x0 x1 x2 _).trans ?_)))
      exact Finset.sum_congr rfl fun k _ => congrArg₂ (· * ·) rfl (congrArg (rd2 x2 k.val) ((show 6592 + (j.val - 6592) = j.val by omega).trans (colw_lo h')))
    · refine (congrArg _ (congrArg (ix3 i t) (Fin.ext (show j.val = 6656 + (j.val - 6656) by omega)))).trans ((cat2 _ _ _ _ i t ⟨j.val - 6656, by omega⟩).trans ((val_main_v16_apply x0 x1 x2 _).trans ((v13_at x0 x1 x2 _).trans ?_)))
      exact Finset.sum_congr rfl fun k _ => congrArg₂ (· * ·) rfl (congrArg (rd2 x2 k.val) ((show 6592 + (j.val - 6656) = j.val - 64 by omega).trans (colw_hi (show ¬j.val < 6656 by omega))))

theorem v18_at (x : S1024x12800.Idx) :
    val_main_v18 (F := Ideal) x0 x1 x2 x = prj (rds x0) (rd1 x1) (fun k j => rd2 x2 k (colw j)) (x 0).val (x 1).val := by
  have h0 : (x 0).val < 1024 := (x 0).isLt
  have h1 : (x 1).val < 12800 := (x 1).isLt
  refine (val_main_v18_apply x0 x1 x2 x).trans ((congrArg _ (eq_ix3 _)).trans ((v17_at x0 x1 x2 _ _ _).trans ?_))
  exact congrArg₂ (prj (rds x0) (rd1 x1) (fun k j => rd2 x2 k (colw j)))
    (show ((x 0).val * 12800 + (x 1).val) / 409600 * 32 + ((x 0).val * 12800 + (x 1).val) / 12800 % 32 = (x 0).val by omega)
    (show ((x 0).val * 12800 + (x 1).val) % 12800 = (x 1).val by omega)
end Cert.InProjSampleReferenceIdeal.Val

namespace Cert.Proof
open Cert.Band Idealize.ShloMosaic Idealize.ShloMosaic.TcCoe Idealize.SL.Sem

/-- The reference's frame: its run read at its arguments; it has no semaphore. -/
theorem inprs_reference_frame : Cert.quiescent_InProjSampleReferenceIdeal := fun m ρ _ =>
  (θ_run Cert.InProjSampleReferenceIdeal.defs _ _).mono (fun r h => ⟨fun c => (h c).2, sem_eq_zero_of_no_sems (by decide) r.2⟩)
    (Cert.InProjSampleReferenceIdeal.Value.run (F := Ideal) m ρ)

/-- The input projection of the sample's rows. -/
theorem inprs : Cert.algebraic_InProjSampleIdeal_InProjSampleReferenceIdeal := by
  intro m g m' g' _ hargs
  refine ⟨fun c => (Cert.InProjSampleIdeal.Gen.dats m 0 c).arrAt 4 Cert.InProjSampleIdeal.cfg0.N, Cert.InProjSampleIdeal.Value.run_blocks m g, ?_⟩
  refine (θ_run Cert.InProjSampleReferenceIdeal.defs _ _).mono (fun _ h c => ?_) (Cert.InProjSampleReferenceIdeal.Value.run (F := Ideal) m' g')
  obtain ⟨h0, hr⟩ := h c
  obtain ⟨e0, e1, e2⟩ := hargs c
  refine ⟨h0.trans ?_, hr⟩
  rw [Cert.InProjSampleReferenceIdeal.Read.val_main_v18_eq, e0, e1, e2]
  funext x
  refine Eq.trans ?_ (congrFun (Cert.InProjSampleIdeal.Val.out_array m c) x).symm
  exact Cert.InProjSampleReferenceIdeal.Val.v18_at _ _ _ x
end Cert.Proof
-- ==== Proof.UpRun.lean ====
/- The body of the first feed-forward call at the two kinds of grid points: what it stores, and that it runs. -/
module

public import proofs.«01_k».proof.Proof.Gen.FfnUpIdeal.Frame
public import proofs.«01_k».proof.Proof.Gen.FfnUpIdeal.Skeleton

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column block's branch is taken. -/
abbrev first_col (i : grid0.Coords) : Prop := k0_cond1 i = 1#1
/-- The later column blocks' branch is taken. -/
abbrev later_col (i : grid0.Coords) : Prop := k0_cond2 i = 1#1

theorem first_col_iff : ∀ t : Fin cfg0.N, first_col (grid0.coords t) ↔ t.val % 43 = 0 :=
  (by decide +kernel : ∀ t : Fin grid0.N, first_col (grid0.coords t) ↔ t.val % 43 = 0)
theorem later_col_iff : ∀ t : Fin cfg0.N, later_col (grid0.coords t) ↔ ¬t.val % 43 = 0 :=
  (by decide +kernel : ∀ t : Fin grid0.N, later_col (grid0.coords t) ↔ ¬t.val % 43 = 0)

set_option maxHeartbeats 4000000 in
/-- The body at a first column block: the normalised rows are computed and kept, the products and the gate's convolution follow. What its stores leave, as pieces, and the
    triple that it leaves them, from the inputs' contents and the carried tails `xs1`. -/
noncomputable def runA (c : Dev nD) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S4096x256 .bf16) (harg4 : arg4.IsWhole)
    (arg5 : Memref sig .tc .vmem S4096x256 .bf16) (harg5 : arg5.IsWhole)
    (arg6 : Memref sig .tc .vmem S3x256 .f32) (harg6 : arg6.IsWhole)
    (arg7 : Memref sig .tc .vmem S1x256 .f32) (harg7 : arg7.IsWhole)
    (arg8 : Memref sig .tc .vmem S1x1x256 .f32) (harg8 : arg8.IsWhole)
    (arg9 : Memref sig .tc .vmem S1x1x256 .f32) (harg9 : arg9.IsWhole)
    (arg10 : Memref sig .tc .vmem S1024x256 .bf16) (harg10 : arg10.IsWhole)
    (arg11 : Memref sig .tc .vmem S1x2x256 .f32) (harg11 : arg11.IsWhole)
    (arg12 : Memref sig .tc .vmem S1024x4096 .bf16) (harg12 : arg12.IsWhole)
    (arg13 : Memref sig .tc .vmem S43x8x256 .f32) (harg13 : arg13.IsWhole) (hc0 : first_col i) (hc1 : ¬later_col i)
    (x0 : Vec F S1024x4096 .f32) (x1 : Vec F S1x4096 .f32) (x2 : Vec F S4096x256 .bf16) (x3 : Vec F S4096x256 .bf16) (x4 : Vec F S3x256 .f32) (x5 : Vec F S1x256 .f32) (x6 : Vec F S1x1x256 .f32) (x7 : Vec F S1x1x256 .f32) (xs1 : Vec F S43x8x256 .f32) :
    Σ' (L8 : List (View.Piece (Elt F) S1024x256 .bf16)) (L9 : List (View.Piece (Elt F) S1x2x256 .f32)), Σ' (LS0 : List (View.Piece (Elt F) S1024x4096 .bf16)), { LS1 : List (View.Piece (Elt F) S43x8x256 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d) ∗ (∃ d, owns (c : Thread nD τ) arg11 fullShare d)
            ∗ (∃ d, owns (c : Thread nD τ) arg12 fullShare d) ∗ owns (c : Thread nD τ) arg13 fullShare xs1
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ (∃ f, arg11.view.loc (c : Thread nD τ) ↦[arg11.view.set]{fullShare} arg11.view.writes (Elt F) f L9)
            ∗ (∃ f, arg12.view.loc (c : Thread nD τ) ↦[arg12.view.set]{fullShare} arg12.view.writes (Elt F) f LS0)
            ∗ arg13.view.loc (c : Thread nD τ) ↦[arg13.view.set]{fullShare} arg13.view.writes (Elt F) (harg13.unread xs1) LS1) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    iexact HS1

end Cert.FfnUpIdeal.Up

end
-- ==== Proof.UpRunB.lean ====
/- The body of the first feed-forward call at a later column block. -/
module

public import proofs.«01_k».proof.Proof.UpRun

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later column block: the normalised rows are read back from scratch. What its stores leave, as pieces, and the
    triple that it leaves them, from the inputs' contents and the carried tails `xs1`. -/
noncomputable def runB (c : Dev nD) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S4096x256 .bf16) (harg4 : arg4.IsWhole)
    (arg5 : Memref sig .tc .vmem S4096x256 .bf16) (harg5 : arg5.IsWhole)
    (arg6 : Memref sig .tc .vmem S3x256 .f32) (harg6 : arg6.IsWhole)
    (arg7 : Memref sig .tc .vmem S1x256 .f32) (harg7 : arg7.IsWhole)
    (arg8 : Memref sig .tc .vmem S1x1x256 .f32) (harg8 : arg8.IsWhole)
    (arg9 : Memref sig .tc .vmem S1x1x256 .f32) (harg9 : arg9.IsWhole)
    (arg10 : Memref sig .tc .vmem S1024x256 .bf16) (harg10 : arg10.IsWhole)
    (arg11 : Memref sig .tc .vmem S1x2x256 .f32) (harg11 : arg11.IsWhole)
    (arg12 : Memref sig .tc .vmem S1024x4096 .bf16) (harg12 : arg12.IsWhole)
    (arg13 : Memref sig .tc .vmem S43x8x256 .f32) (harg13 : arg13.IsWhole) (hc0 : ¬first_col i) (hc1 : later_col i)
    (x0 : Vec F S1024x4096 .f32) (x1 : Vec F S1x4096 .f32) (x2 : Vec F S4096x256 .bf16) (x3 : Vec F S4096x256 .bf16) (x4 : Vec F S3x256 .f32) (x5 : Vec F S1x256 .f32) (x6 : Vec F S1x1x256 .f32) (x7 : Vec F S1x1x256 .f32) (xs0 : Vec F S1024x4096 .bf16) (xs1 : Vec F S43x8x256 .f32) :
    Σ' (L8 : List (View.Piece (Elt F) S1024x256 .bf16)) (L9 : List (View.Piece (Elt F) S1x2x256 .f32)), { LS1 : List (View.Piece (Elt F) S43x8x256 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ (∃ f, arg11.view.loc (c : Thread nD τ) ↦[arg11.view.set]{fullShare} arg11.view.writes (Elt F) f L9)
            ∗ owns (c : Thread nD τ) arg12 fullShare xs0
            ∗ arg13.view.loc (c : Thread nD τ) ↦[arg13.view.set]{fullShare} arg13.view.writes (Elt F) (harg13.unread xs1) LS1) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_up_eq_skeleton]; unfold cc0_ffn_up_skel
    simp only [k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexact HS1

end Cert.FfnUpIdeal.Up

end
-- ==== Proof.UpPieces.lean ====
/- The first feed-forward call: the buffers, the choice at the start of a sequence, and what the pieces its points store depend on. -/
module

public import proofs.«01_k».proof.Proof.UpRun
public import proofs.«01_k».proof.Proof.UpRunB

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := by decide +kernel
theorem live_9 : ∀ t : Fin cfg0.N, cfg0.idle 9 (grid0.coords t) = false := by decide +kernel
/-- Window 0's staging buffer at a point. -/
abbrev ms_0 (t : Fin cfg0.N) : Memref sig .tc .vmem S1024x4096 .f32 := win0_0.stage (cfg0.slots t 0)
abbrev hs_0 (t : Fin cfg0.N) : (ms_0 t).IsWhole := hstage0_0 ((cfg0.slots t 0).cast nbuf0_0)
/-- Window 1's staging buffer at a point. -/
abbrev ms_1 (t : Fin cfg0.N) : Memref sig .tc .vmem S1x4096 .f32 := win0_1.stage (cfg0.slots t 1)
abbrev hs_1 (t : Fin cfg0.N) : (ms_1 t).IsWhole := hstage0_1 ((cfg0.slots t 1).cast nbuf0_1)
/-- Window 2's staging buffer at a point. -/
abbrev ms_2 (t : Fin cfg0.N) : Memref sig .tc .vmem S4096x256 .bf16 := win0_2.stage (cfg0.slots t 2)
abbrev hs_2 (t : Fin cfg0.N) : (ms_2 t).IsWhole := hstage0_2 ((cfg0.slots t 2).cast nbuf0_2)
/-- Window 3's staging buffer at a point. -/
abbrev ms_3 (t : Fin cfg0.N) : Memref sig .tc .vmem S4096x256 .bf16 := win0_3.stage (cfg0.slots t 3)
abbrev hs_3 (t : Fin cfg0.N) : (ms_3 t).IsWhole := hstage0_3 ((cfg0.slots t 3).cast nbuf0_3)
/-- Window 4's staging buffer at a point. -/
abbrev ms_4 (t : Fin cfg0.N) : Memref sig .tc .vmem S3x256 .f32 := win0_4.stage (cfg0.slots t 4)
abbrev hs_4 (t : Fin cfg0.N) : (ms_4 t).IsWhole := hstage0_4 ((cfg0.slots t 4).cast nbuf0_4)
/-- Window 5's staging buffer at a point. -/
abbrev ms_5 (t : Fin cfg0.N) : Memref sig .tc .vmem S1x256 .f32 := win0_5.stage (cfg0.slots t 5)
abbrev hs_5 (t : Fin cfg0.N) : (ms_5 t).IsWhole := hstage0_5 ((cfg0.slots t 5).cast nbuf0_5)
/-- Window 6's staging buffer at a point. -/
abbrev ms_6 (t : Fin cfg0.N) : Memref sig .tc .vmem S1x1x256 .f32 := win0_6.stage (cfg0.slots t 6)
abbrev hs_6 (t : Fin cfg0.N) : (ms_6 t).IsWhole := hstage0_6 ((cfg0.slots t 6).cast nbuf0_6)
/-- Window 7's staging buffer at a point. -/
abbrev ms_7 (t : Fin cfg0.N) : Memref sig .tc .vmem S1x1x256 .f32 := win0_7.stage (cfg0.slots t 7)
abbrev hs_7 (t : Fin cfg0.N) : (ms_7 t).IsWhole := hstage0_7 ((cfg0.slots t 7).cast nbuf0_7)
/-- Window 8's staging buffer at a point. -/
abbrev ms_8 (t : Fin cfg0.N) : Memref sig .tc .vmem S1024x256 .bf16 := win0_8.stage (cfg0.slots t 8)
abbrev hs_8 (t : Fin cfg0.N) : (ms_8 t).IsWhole := hstage0_8 ((cfg0.slots t 8).cast nbuf0_8)
/-- Window 9's staging buffer at a point. -/
abbrev ms_9 (t : Fin cfg0.N) : Memref sig .tc .vmem S1x2x256 .f32 := win0_9.stage (cfg0.slots t 9)
abbrev hs_9 (t : Fin cfg0.N) : (ms_9 t).IsWhole := hstage0_9 ((cfg0.slots t 9).cast nbuf0_9)
/-- The scratch of normalised rows. -/
abbrev sc_0 : Memref sig .tc .vmem S1024x4096 .bf16 := Memref.whole cc0_scratch0
/-- The scratch of carried tails. -/
abbrev sc_1 : Memref sig .tc .vmem S43x8x256 .f32 := Memref.whole cc0_scratch1
theorem wh_0 : sc_0.IsWhole := Memref.isWhole_whole _
theorem wh_1 : sc_1.IsWhole := Memref.isWhole_whole _
abbrev VO_8 : View sig .tc .vmem S1024x256 .bf16 := (Memref.whole cc0_stg8_0 : Memref sig .tc .vmem S1024x256 .bf16).view
abbrev VO_9 : View sig .tc .vmem S1x2x256 .f32 := (Memref.whole cc0_stg9_0 : Memref sig .tc .vmem S1x2x256 .f32).view

theorem PhiA_eq (c : Dev nD) :
    (Pipeline.ΦA (Val := Elt F) spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-! ## The choice at the start of a sequence -/

/-- Does row block `a` start a sequence, as the kernel computes it. -/
def startWord (a : BitVec 32) : BitVec 1 :=
  Scalar.cmpi .eq (Scalar.select (Scalar.andi (Scalar.xori (Scalar.cmpi .slt (Scalar.remsi a (Scalar.select (Scalar.cmpi .eq 8#32 0#32) 1#32 8#32)) 0#32)
    (Scalar.cmpi .slt (Scalar.select (Scalar.cmpi .eq 8#32 0#32) 1#32 8#32) 0#32)) (Scalar.cmpi .ne (Scalar.remsi a (Scalar.select (Scalar.cmpi .eq 8#32 0#32) 1#32 8#32)) 0#32))
    (Scalar.addi (Scalar.remsi a (Scalar.select (Scalar.cmpi .eq 8#32 0#32) 1#32 8#32)) (Scalar.select (Scalar.cmpi .eq 8#32 0#32) 1#32 8#32))
    (Scalar.remsi a (Scalar.select (Scalar.cmpi .eq 8#32 0#32) 1#32 8#32))) 0#32
theorem startWord_one : ∀ k : Fin 16, k.val % 8 = 0 → startWord (BitVec.ofNat 32 k.val) = 1#1 := by decide +kernel
theorem startWord_zero : ∀ k : Fin 16, ¬k.val % 8 = 0 → startWord (BitVec.ofNat 32 k.val) = 0#1 := by decide +kernel

theorem pay17_eq (a : BitVec 32) (x : Vec F S1x8x256 .f32) (y : Vec F S1x1x256 .f32) :
    k0_pay17 a x y = Scalar.select (startWord a) (shapeCast S1x256 y shapeCasts_S1x1x256_S1x256)
      (extractStridedSlice S1x256 ![6, 0] (shapeCast S8x256 x shapeCasts_S1x8x256_S8x256) slices_S8x256_o6_0_S1x256 : FVec F S1x256 .f32) := rfl
theorem pay18_eq (a : BitVec 32) (x : Vec F S1x8x256 .f32) (y : Vec F S1x1x256 .f32) :
    k0_pay18 a x y = Scalar.select (startWord a) (shapeCast S1x256 y shapeCasts_S1x1x256_S1x256)
      (extractStridedSlice S1x256 ![7, 0] (shapeCast S8x256 x shapeCasts_S1x8x256_S8x256) slices_S8x256_o7_0_S1x256 : FVec F S1x256 .f32) := rfl
theorem pay36_eq (a : BitVec 32) (x : Vec F S1x8x256 .f32) (y : Vec F S1x1x256 .f32) :
    k0_pay36 a x y = Scalar.select (startWord a) (shapeCast S1x256 y shapeCasts_S1x1x256_S1x256)
      (extractStridedSlice S1x256 ![6, 0] (shapeCast S8x256 x shapeCasts_S1x8x256_S8x256) slices_S8x256_o6_0_S1x256 : FVec F S1x256 .f32) := rfl
theorem pay37_eq (a : BitVec 32) (x : Vec F S1x8x256 .f32) (y : Vec F S1x1x256 .f32) :
    k0_pay37 a x y = Scalar.select (startWord a) (shapeCast S1x256 y shapeCasts_S1x1x256_S1x256)
      (extractStridedSlice S1x256 ![7, 0] (shapeCast S8x256 x shapeCasts_S1x8x256_S8x256) slices_S8x256_o7_0_S1x256 : FVec F S1x256 .f32) := rfl
/-- A choice at a set word takes its first value. -/
theorem select_of_one {α : Type} {b : BitVec 1} (h : b = 1#1) (x y : α) : Scalar.select b x y = x := by subst h; rfl
theorem select_of_zero {α : Type} {b : BitVec 1} (h : b = 0#1) (x y : α) : Scalar.select b x y = y := by subst h; rfl

section Pieces

variable (c : Dev nD) (i : grid0.Coords)
    (arg2 : Memref sig .tc .vmem S1024x4096 .f32) (harg2 : arg2.IsWhole)
    (arg3 : Memref sig .tc .vmem S1x4096 .f32) (harg3 : arg3.IsWhole)
    (arg4 : Memref sig .tc .vmem S4096x256 .bf16) (harg4 : arg4.IsWhole)
    (arg5 : Memref sig .tc .vmem S4096x256 .bf16) (harg5 : arg5.IsWhole)
    (arg6 : Memref sig .tc .vmem S3x256 .f32) (harg6 : arg6.IsWhole)
    (arg7 : Memref sig .tc .vmem S1x256 .f32) (harg7 : arg7.IsWhole)
    (arg8 : Memref sig .tc .vmem S1x1x256 .f32) (harg8 : arg8.IsWhole)
    (arg9 : Memref sig .tc .vmem S1x1x256 .f32) (harg9 : arg9.IsWhole)
    (arg10 : Memref sig .tc .vmem S1024x256 .bf16) (harg10 : arg10.IsWhole)
    (arg11 : Memref sig .tc .vmem S1x2x256 .f32) (harg11 : arg11.IsWhole)
    (arg12 : Memref sig .tc .vmem S1024x4096 .bf16) (harg12 : arg12.IsWhole)
    (arg13 : Memref sig .tc .vmem S43x8x256 .f32) (harg13 : arg13.IsWhole)
    (x0 : Vec F S1024x4096 .f32) (x1 : Vec F S1x4096 .f32) (x2 : Vec F S4096x256 .bf16) (x3 : Vec F S4096x256 .bf16) (x4 : Vec F S3x256 .f32) (x5 : Vec F S1x256 .f32) (x6 : Vec F S1x1x256 .f32) (x7 : Vec F S1x1x256 .f32)
    (xs0 : Vec F S1024x4096 .bf16) (xs1 xs1' : Vec F S43x8x256 .f32)

theorem coverA_8 (hc0 : first_col i) (hc1 : ¬later_col i) (y : S1024x256.Idx) : ∃ pc ∈ (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).1 S512x256.size (by sl_kernel_rfl) y
theorem coverA_9 (hc0 : first_col i) (hc1 : ¬later_col i) (y : S1x2x256.Idx) : ∃ pc ∈ (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.1 S1x2x256.size (by sl_kernel_rfl) y
theorem coverA_s (hc0 : first_col i) (hc1 : ¬later_col i) (y : S1024x4096.Idx) : ∃ pc ∈ (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.1 S256x4096.size (by sl_kernel_rfl) y
theorem oneA_s (hc0 : first_col i) (hc1 : ¬later_col i) : ∃ L, ∀ xs1 : Vec F S43x8x256 .f32, (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.1 = L := by
  unfold runA; exact ⟨_, fun _ => rfl⟩
theorem oneA_9 (hc0 : first_col i) (hc1 : ¬later_col i) : ∃ L, ∀ xs1 : Vec F S43x8x256 .f32, (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.1 = L := by
  unfold runA; exact ⟨_, fun _ => rfl⟩
theorem tailA (hc0 : first_col i) (hc1 : ¬later_col i) : ∃ w, ∀ xs1 : Vec F S43x8x256 .f32, (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.2.1 = [⟨Rect.unit (s := S43x8x256) (k0_off1 i) S1x8x256.size (k0_off1_inb i hc0), w⟩] := by
  unfold runA; exact ⟨_, fun _ => rfl⟩
theorem sameA_s (hc0 : first_col i) (hc1 : ¬later_col i) : (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.1 = (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1').2.2.1 := by
  obtain ⟨L, hL⟩ := oneA_s (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1
  rw [hL, hL]
theorem sameA_9 (hc0 : first_col i) (hc1 : ¬later_col i) : (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.1 = (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1').2.1 := by
  obtain ⟨L, hL⟩ := oneA_9 (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1
  rw [hL, hL]
/-- Where a sequence starts, what was read of the carried tails is not used. -/
theorem unused_A (hc0 : first_col i) (hc1 : ¬later_col i) (h : xs1 = xs1' ∨ (i 0).val % 8 = 0) : (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).1 = (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1').1 := by
  rcases h with rfl | h
  · rfl
  · have hw : startWord (BitVec.ofNat 32 (i 0).val) = 1#1 := startWord_one (i 0) h
    unfold runA; dsimp only; sl_unfold_words
    simp only [pay17_eq, pay18_eq, k0_pay19, pay17_eq, pay18_eq, select_of_one hw]
theorem coverB_8 (hc0 : ¬first_col i) (hc1 : later_col i) (y : S1024x256.Idx) : ∃ pc ∈ (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S512x256.size (by sl_kernel_rfl) y
theorem coverB_9 (hc0 : ¬first_col i) (hc1 : later_col i) (y : S1x2x256.Idx) : ∃ pc ∈ (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x2x256.size (by sl_kernel_rfl) y
theorem oneB_9 (hc0 : ¬first_col i) (hc1 : later_col i) : ∃ L, ∀ xs1 : Vec F S43x8x256 .f32, (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = L := by
  unfold runB; exact ⟨_, fun _ => rfl⟩
theorem tailB (hc0 : ¬first_col i) (hc1 : later_col i) : ∃ w, ∀ xs1 : Vec F S43x8x256 .f32, (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = [⟨Rect.unit (s := S43x8x256) (k0_off2 i) S1x8x256.size (k0_off2_inb i hc1), w⟩] := by
  unfold runB; exact ⟨_, fun _ => rfl⟩
theorem sameB_9 (hc0 : ¬first_col i) (hc1 : later_col i) : (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1').2.1 := by
  obtain ⟨L, hL⟩ := oneB_9 (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 xs0 hc0 hc1
  rw [hL, hL]
/-- Where a sequence starts, what was read of the carried tails is not used. -/
theorem unused_B (hc0 : ¬first_col i) (hc1 : later_col i) (h : xs1 = xs1' ∨ (i 0).val % 8 = 0) : (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1').1 := by
  rcases h with rfl | h
  · rfl
  · have hw : startWord (BitVec.ofNat 32 (i 0).val) = 1#1 := startWord_one (i 0) h
    unfold runB; dsimp only; sl_unfold_words
    simp only [pay36_eq, pay37_eq, pay17_eq, pay18_eq, select_of_one hw]

end Pieces

end Cert.FfnUpIdeal.Up

end
-- ==== Proof.UpFrame.lean ====
/- The frame of the first feed-forward call: what each grid point leaves, and that the whole call runs.

The gate tails of the column blocks are carried in scratch. A tail is read at a column block's first visit before anything
was stored there; at that visit the row block starts a sequence, so what was read is not used (`unused_A`, `unused_B`). The
invariant therefore names the carried tails of the column blocks already visited, and says nothing of the others. -/
module

public import proofs.«01_k».proof.Proof.UpPieces
public import Idealize.ShloMosaic.Lib.Claim
public import Idealize.ShloMosaic.Lib.WritesUnit
public import Idealize.ShloMosaic.Lib.Pointwise

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Storing a column block's tail over two records that agree at an entry, or at an entry of that block, leaves them agreeing there. -/
theorem carry_agree {off : Fin 3 → ℕ} (inb : ∀ a : Fin 3, off a + S1x8x256.size a ≤ S43x8x256.size a)
    (w : (Rect.unit (s := S43x8x256) off S1x8x256.size inb).shape.Idx → Elt F .f32) (C C' : Vec F S43x8x256 .f32) (y : S43x8x256.Idx) (n : ℕ)
    (hoff : off = ![n, 0, 0]) (hy : (y 0).val = n ∨ C y = C' y) :
    sc_1.view.read (Elt F) (sc_1.view.writes (Elt F) (wh_1.unread C) [⟨Rect.unit (s := S43x8x256) off S1x8x256.size inb, w⟩]) y
      = sc_1.view.read (Elt F) (sc_1.view.writes (Elt F) (wh_1.unread C') [⟨Rect.unit (s := S43x8x256) off S1x8x256.size inb, w⟩]) y := by
  by_cases h : (y 0).val = n
  · have hx : ∀ a : Fin 3, (y a).val = (![n, 0, 0] : Fin 3 → ℕ) a + ((ix3 (0 : Fin 1) (y 1) (y 2) : S1x8x256.Idx) a).val := fun a => by
      match a with
      | 0 => exact h
      | 1 => exact (Nat.zero_add _).symm
      | 2 => exact (Nat.zero_add _).symm
    rw [View.read_writes_cons_unit_of_mem sc_1.view (wh_1.unread C) inb w [] y (ix3 (0 : Fin 1) (y 1) (y 2)) hoff hx,
      View.read_writes_cons_unit_of_mem sc_1.view (wh_1.unread C') inb w [] y (ix3 (0 : Fin 1) (y 1) (y 2)) hoff hx]
  · have hm : (y (0 : Fin 3)).val < (![n, 0, 0] : Fin 3 → ℕ) 0 ∨ (![n, 0, 0] : Fin 3 → ℕ) 0 + S1x8x256.size 0 ≤ (y (0 : Fin 3)).val := by
      show (y 0).val < n ∨ n + 1 ≤ (y 0).val
      omega
    rw [View.read_writes_cons_unit_of_not_mem sc_1.view (wh_1.unread C) inb w [] y hoff 0 hm,
      View.read_writes_cons_unit_of_not_mem sc_1.view (wh_1.unread C') inb w [] y hoff 0 hm, View.writes_nil, View.writes_nil,
      wh_1.read_unread, wh_1.read_unread]
    exact hy.resolve_left h

/-! ## What the points leave -/

/-- The body's run at a point of the first column block, over carried tails `C`. -/
abbrev atA (c : Dev nD) (t : Fin cfg0.N) (h : t.val % 43 = 0) (C : Vec F S43x8x256 .f32) :=
  (runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 ((first_col_iff t).mpr h) (fun h' => (later_col_iff t).mp h' h) (iblk m c 0 t) (iblk m c 1 t) (iblk m c 2 t) (iblk m c 3 t) (iblk m c 4 t) (iblk m c 5 t) (iblk m c 6 t) (iblk m c 7 t) C)
/-- The body's run at a point of a later column block, over normalised rows `X` and carried tails `C`. -/
abbrev atB (c : Dev nD) (t : Fin cfg0.N) (h : ¬t.val % 43 = 0) (X : Vec F S1024x4096 .bf16) (C : Vec F S43x8x256 .f32) :=
  (runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (fun h' => h ((first_col_iff t).mp h')) ((later_col_iff t).mpr h) (iblk m c 0 t) (iblk m c 1 t) (iblk m c 2 t) (iblk m c 3 t) (iblk m c 4 t) (iblk m c 5 t) (iblk m c 6 t) (iblk m c 7 t) X C)

/-- What a point leaves in the two outputs, the normalised rows and the carried tails, over what the last two were before. -/
def step (c : Dev nD) (t : Fin cfg0.N) (s : Vec F S1024x4096 .bf16 × Vec F S43x8x256 .f32) :
    Vec F S1024x256 .bf16 × Vec F S1x2x256 .f32 × Vec F S1024x4096 .bf16 × Vec F S43x8x256 .f32 :=
  if h : t.val % 43 = 0 then
    (VO_8.read (Elt F) (VO_8.writes (Elt F) VO_8.junk (atA m c t h s.2).1),
      VO_9.read (Elt F) (VO_9.writes (Elt F) VO_9.junk (atA m c t h s.2).2.1),
      sc_0.view.read (Elt F) (sc_0.view.writes (Elt F) sc_0.view.junk (atA m c t h s.2).2.2.1),
      sc_1.view.read (Elt F) (sc_1.view.writes (Elt F) (wh_1.unread s.2) (atA m c t h s.2).2.2.2.1))
  else
    (VO_8.read (Elt F) (VO_8.writes (Elt F) VO_8.junk (atB m c t h s.1 s.2).1),
      VO_9.read (Elt F) (VO_9.writes (Elt F) VO_9.junk (atB m c t h s.1 s.2).2.1),
      s.1,
      sc_1.view.read (Elt F) (sc_1.view.writes (Elt F) (wh_1.unread s.2) (atB m c t h s.1 s.2).2.2.1))

theorem step_A (c : Dev nD) (t : Fin cfg0.N) (h : t.val % 43 = 0) (s : Vec F S1024x4096 .bf16 × Vec F S43x8x256 .f32) :
    step m c t s = (VO_8.read (Elt F) (VO_8.writes (Elt F) VO_8.junk (atA m c t h s.2).1),
      VO_9.read (Elt F) (VO_9.writes (Elt F) VO_9.junk (atA m c t h s.2).2.1),
      sc_0.view.read (Elt F) (sc_0.view.writes (Elt F) sc_0.view.junk (atA m c t h s.2).2.2.1),
      sc_1.view.read (Elt F) (sc_1.view.writes (Elt F) (wh_1.unread s.2) (atA m c t h s.2).2.2.2.1)) := dif_pos h
theorem step_B (c : Dev nD) (t : Fin cfg0.N) (h : ¬t.val % 43 = 0) (s : Vec F S1024x4096 .bf16 × Vec F S43x8x256 .f32) :
    step m c t s = (VO_8.read (Elt F) (VO_8.writes (Elt F) VO_8.junk (atB m c t h s.1 s.2).1),
      VO_9.read (Elt F) (VO_9.writes (Elt F) VO_9.junk (atB m c t h s.1 s.2).2.1),
      s.1,
      sc_1.view.read (Elt F) (sc_1.view.writes (Elt F) (wh_1.unread s.2) (atB m c t h s.1 s.2).2.2.1)) := dif_neg h

/-- The normalised rows and the carried tails before point `n`. -/
def state (c : Dev nD) : ℕ → Vec F S1024x4096 .bf16 × Vec F S43x8x256 .f32
  | 0 => (sc_0.view.read (Elt F) sc_0.view.junk, sc_1.view.read (Elt F) sc_1.view.junk)
  | n + 1 => if h : n < cfg0.N then (step m c ⟨n, h⟩ (state c n)).2.2 else state c n
theorem state_succ (c : Dev nD) (t : Fin cfg0.N) : state m c (t.val + 1) = (step m c t (state m c t.val)).2.2 := dif_pos t.isLt
/-- What point `t` leaves in the outputs. -/
def left (c : Dev nD) (t : Fin cfg0.N) := step m c t (state m c t.val)

/-- Two records of tails agree at the column blocks visited before point `n`. -/
def Agree (n : ℕ) (C C' : Vec F S43x8x256 .f32) : Prop := ∀ y : S43x8x256.Idx, (y 0).val < n → C y = C' y
theorem Agree.eq {n : ℕ} {C C' : Vec F S43x8x256 .f32} (h : Agree n C C') (hn : 43 ≤ n) : C = C' :=
  funext fun y => h y (lt_of_lt_of_le (y 0).isLt hn)

/-- The two coordinates of a point. -/
theorem row_of : ∀ t : Fin cfg0.N, (grid0.coords t 0).val = t.val / 43 := (by decide +kernel : ∀ t : Fin grid0.N, (grid0.coords t 0).val = t.val / 43)
theorem col_of : ∀ t : Fin cfg0.N, (grid0.coords t 1).val = t.val % 43 := (by decide +kernel : ∀ t : Fin grid0.N, (grid0.coords t 1).val = t.val % 43)

theorem used {c : Dev nD} {t : Fin cfg0.N} {C C' : Vec F S43x8x256 .f32} (h : Agree t.val C C') : C = C' ∨ (grid0.coords t 0).val % 8 = 0 := by
  by_cases hn : 43 ≤ t.val
  · exact Or.inl (h.eq hn)
  · refine Or.inr ?_
    rw [row_of t, Nat.div_eq_of_lt (by omega)]

theorem agree_next {t : Fin cfg0.N} {C C' : Vec F S43x8x256 .f32} (h : Agree t.val C C') {off : Fin 3 → ℕ} (hoff : off = ![t.val % 43, 0, 0])
    {inb : ∀ a : Fin 3, off a + S1x8x256.size a ≤ S43x8x256.size a}
    {w : (Rect.unit (s := S43x8x256) off S1x8x256.size inb).shape.Idx → Elt F .f32} :
    Agree (t.val + 1) (sc_1.view.read (Elt F) (sc_1.view.writes (Elt F) (wh_1.unread C) [⟨Rect.unit (s := S43x8x256) off S1x8x256.size inb, w⟩]))
      (sc_1.view.read (Elt F) (sc_1.view.writes (Elt F) (wh_1.unread C') [⟨Rect.unit (s := S43x8x256) off S1x8x256.size inb, w⟩])) := fun y hy => by
  have hlt : (y 0).val < 43 := (y 0).isLt
  refine carry_agree inb w C C' y _ hoff ?_
  by_cases hk : (y 0).val < t.val
  · exact Or.inr (h y hk)
  · exact Or.inl (by omega)

theorem off1_at (t : Fin cfg0.N) : k0_off1 (grid0.coords t) = ![t.val % 43, 0, 0] := by rw [k0_off1_eq, col_of]
theorem off2_at (t : Fin cfg0.N) : k0_off2 (grid0.coords t) = ![t.val % 43, 0, 0] := by rw [k0_off2_eq, col_of]

theorem agree_A (c : Dev nD) (t : Fin cfg0.N) (h : t.val % 43 = 0) {C C' : Vec F S43x8x256 .f32} (hC : Agree t.val C C') :
    Agree (t.val + 1) (sc_1.view.read (Elt F) (sc_1.view.writes (Elt F) (wh_1.unread C) (atA m c t h C).2.2.2.1))
      (sc_1.view.read (Elt F) (sc_1.view.writes (Elt F) (wh_1.unread C') (atA m c t h C').2.2.2.1)) := by
  obtain ⟨w, hw⟩ := tailA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) ((first_col_iff t).mpr h) (fun h' => (later_col_iff t).mp h' h)
  rw [hw, hw]
  exact agree_next hC (off1_at t)
theorem agree_B (c : Dev nD) (t : Fin cfg0.N) (h : ¬t.val % 43 = 0) (X : Vec F S1024x4096 .bf16) {C C' : Vec F S43x8x256 .f32} (hC : Agree t.val C C') :
    Agree (t.val + 1) (sc_1.view.read (Elt F) (sc_1.view.writes (Elt F) (wh_1.unread C) (atB m c t h X C).2.2.1))
      (sc_1.view.read (Elt F) (sc_1.view.writes (Elt F) (wh_1.unread C') (atB m c t h X C').2.2.1)) := by
  obtain ⟨w, hw⟩ := tailB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) X (fun h' => h ((first_col_iff t).mp h')) ((later_col_iff t).mpr h)
  rw [hw, hw]
  exact agree_next hC (off2_at t)

/-! ## The proof data -/

/-- The invariant before point `n`: the normalised rows inside a row block, the carried tails where they have been visited. -/
def PhiS (c : Dev nD) (n : ℕ) : sProp 𝕄 :=
  iprop(iprop((∃ X, ⌜¬n % 43 = 0 → X = (state m c n).1⌝ ∗ owns (c : Thread nD τ) sc_0 fullShare X)
    ∗ (∃ C, ⌜Agree n C (state m c n).2⌝ ∗ owns (c : Thread nD τ) sc_1 fullShare C)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t).1
    | ⟨9, _⟩ => (left m c t).2.1
    | ⟨_ + 10, h⟩ => absurd h (Nat.not_lt.2 (Nat.le_add_left _ _))
  Φ t := PhiS m c t.val
  q := Pipeline.shareOf spec0
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = PhiS m c t.val := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (left m c t).1 := by dsimp only [dats]
theorem after_9 (c : Dev nD) (t : Fin cfg0.N) : (dats m 0 c).after 9 t = (left m c t).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (ms_0 t) fullShare ((dats m 0 c).after 0 t) := by
  unfold Dat.leavesExact; rw [live_0 t]
theorem leaves_1 (c : Dev nD) (t : Fin cfg0.N) : (dats m 0 c).leavesExact 1 t = owns (c : Thread nD τ) (ms_1 t) fullShare ((dats m 0 c).after 1 t) := by
  unfold Dat.leavesExact; rw [live_1 t]
theorem leaves_2 (c : Dev nD) (t : Fin cfg0.N) : (dats m 0 c).leavesExact 2 t = owns (c : Thread nD τ) (ms_2 t) fullShare ((dats m 0 c).after 2 t) := by
  unfold Dat.leavesExact; rw [live_2 t]
theorem leaves_3 (c : Dev nD) (t : Fin cfg0.N) : (dats m 0 c).leavesExact 3 t = owns (c : Thread nD τ) (ms_3 t) fullShare ((dats m 0 c).after 3 t) := by
  unfold Dat.leavesExact; rw [live_3 t]
theorem leaves_4 (c : Dev nD) (t : Fin cfg0.N) : (dats m 0 c).leavesExact 4 t = owns (c : Thread nD τ) (ms_4 t) fullShare ((dats m 0 c).after 4 t) := by
  unfold Dat.leavesExact; rw [live_4 t]
theorem leaves_5 (c : Dev nD) (t : Fin cfg0.N) : (dats m 0 c).leavesExact 5 t = owns (c : Thread nD τ) (ms_5 t) fullShare ((dats m 0 c).after 5 t) := by
  unfold Dat.leavesExact; rw [live_5 t]
theorem leaves_6 (c : Dev nD) (t : Fin cfg0.N) : (dats m 0 c).leavesExact 6 t = owns (c : Thread nD τ) (ms_6 t) fullShare ((dats m 0 c).after 6 t) := by
  unfold Dat.leavesExact; rw [live_6 t]
theorem leaves_7 (c : Dev nD) (t : Fin cfg0.N) : (dats m 0 c).leavesExact 7 t = owns (c : Thread nD τ) (ms_7 t) fullShare ((dats m 0 c).after 7 t) := by
  unfold Dat.leavesExact; rw [live_7 t]
theorem leaves_8 (c : Dev nD) (t : Fin cfg0.N) : (dats m 0 c).leavesExact 8 t = owns (c : Thread nD τ) (ms_8 t) fullShare ((dats m 0 c).after 8 t) := by
  unfold Dat.leavesExact; rw [live_8 t]
theorem leaves_9 (c : Dev nD) (t : Fin cfg0.N) : (dats m 0 c).leavesExact 9 t = owns (c : Thread nD τ) (ms_9 t) fullShare ((dats m 0 c).after 9 t) := by
  unfold Dat.leavesExact; rw [live_9 t]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, after_0, after_1, after_2, after_3, after_4, after_5, after_6, after_7, after_8, after_9]
  rw [show (dats m 0 c).owesAt () t.succ = (dats m 0 c).owesAt () t.castSucc from rfl]
  rw [Phi_eq, Phi_eq, Fin.val_succ, Fin.val_castSucc]
  unfold PhiS
  rw [state_succ]
  unfold left
  by_cases h : t.val % 43 = 0
  · rw [step_A m c t h (state m c t.val)]; (try dsimp only)
    iintro ⟨⟨⟨⟨%X, %hX, HS0⟩, %C, %hC, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((atA m c t h C).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexists _; iexact HS0
    isplitl [HS1]; · iexact HS1
    iintro ⟨H0, H1, H2, H3, H4, H5, H6, H7, ⟨%e8, H8⟩, ⟨%e9, H9⟩, ⟨%es0, HS0⟩, HS1⟩
    isplitl [HS0 HS1 Hg]
    · isplitl [HS0 HS1]
      · isplitl [HS0]
        · iexists _; isplitr
          swap
          · unfold owns; iexists _; isplitr; swap; · iexact HS0
            ipureintro; rfl
          ipureintro; intro _
          rw [sameA_s (F := F) c (grid0.coords t) (xs1 := C) (xs1' := (state m c t.val).2)]
          exact View.read_writes_of_cover _ _ _ _ _ (coverA_s c _ _ _ _ _ _ _ _ _ _ _ _ _ _ _ _ _ _ _ _ _ _ _ _ _ _ _ _ _ _ _ _ _ _ _ _)
        iexists _; isplitr
        swap
        · unfold owns; iexists _; isplitr; swap; · iexact HS1
          ipureintro; rfl
        ipureintro; exact agree_A m c t h hC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [unused_A (F := F) c (grid0.coords t) (xs1 := C) (xs1' := (state m c t.val).2) (h := used (c := c) hC)]
      exact View.read_writes_of_cover _ _ _ _ _ (coverA_8 c _ _ _ _ _ _ _ _ _ _ _ _ _ _ _ _ _ _ _ _ _ _ _ _ _ _ _ _ _ _ _ _ _ _ _ _)
    unfold owns; iexists _; isplitr
    swap; · iexact H9
    ipureintro; rw [sameA_9 (F := F) c (grid0.coords t) (xs1 := C) (xs1' := (state m c t.val).2)]
    exact View.read_writes_of_cover _ _ _ _ _ (coverA_9 c _ _ _ _ _ _ _ _ _ _ _ _ _ _ _ _ _ _ _ _ _ _ _ _ _ _ _ _ _ _ _ _ _ _ _ _)
  · rw [step_B m c t h (state m c t.val)]; (try dsimp only)
    iintro ⟨⟨⟨⟨%X, %hX, HS0⟩, %C, %hC, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl := hX h
    iapply ((atB m c t h (state m c t.val).1 C).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, ⟨%e8, H8⟩, ⟨%e9, H9⟩, HS0, HS1⟩
    isplitl [HS0 HS1 Hg]
    · isplitl [HS0 HS1]
      · isplitl [HS0]
        · iexists _; isplitr
          swap
          · iexact HS0
          ipureintro; intro _; rfl
        iexists _; isplitr
        swap
        · unfold owns; iexists _; isplitr; swap; · iexact HS1
          ipureintro; rfl
        ipureintro; exact agree_B m c t h _ hC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [unused_B (F := F) c (grid0.coords t) (xs0 := (state m c t.val).1) (xs1 := C) (xs1' := (state m c t.val).2) (h := used (c := c) hC)]
      exact View.read_writes_of_cover _ _ _ _ _ (coverB_8 c _ _ _ _ _ _ _ _ _ _ _ _ _ _ _ _ _ _ _ _ _ _ _ _ _ _ _ _ _ _ _ _ _ _ _ _ _)
    unfold owns; iexists _; isplitr
    swap; · iexact H9
    ipureintro; rw [sameB_9 (F := F) c (grid0.coords t) (xs0 := (state m c t.val).1) (xs1 := C) (xs1' := (state m c t.val).2)]
    exact View.read_writes_of_cover _ _ _ _ _ (coverB_9 c _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq, PhiA_eq]
  unfold PhiS
  iintro ⟨⟨⟨%X, HS0⟩, %C, HS1⟩, Hg⟩
  isplitl [HS0 HS1]
  · isplitl [HS0]
    · iexists X; isplitr
      · ipureintro; intro h; exact absurd rfl h
      iexact HS0
    iexists C; isplitr
    · ipureintro; intro y hy; exact absurd hy (Nat.not_lt_zero _)
    iexact HS1
  iexact Hg

theorem hout (c : Dev nD) : (dats m 0 c).Φ (Fin.last cfg0.N) ⊢ Pipeline.ΦA spec0 c := by
  rw [Phi_eq, PhiA_eq]
  unfold PhiS
  iintro ⟨⟨⟨%X, -, HS0⟩, %C, -, HS1⟩, Hg⟩
  isplitl [HS0 HS1]
  · isplitl [HS0]
    · iexists X; iexact HS0
    iexists C; iexact HS1
  iexact Hg

/-! ## The run and the frame -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnUpIdeal.Up

end
-- ==== Proof.UpFrameBits.lean ====
/- The frame of the first feed-forward call as printed: the two printed programs are the same, so the frame at any values is theirs. -/
module

public import proofs.«01_k».proof.Defs
public import proofs.«01_k».proof.Proof.Gen.FfnUp.Frame
public import proofs.«01_k».proof.Proof.UpFrame

@[expose] public section

set_option maxRecDepth 16384

noncomputable section

namespace Cert.FfnUp.Up

open Idealize.ShloMosaic Idealize.ShloMosaic.TcCoe Idealize.SL.Sem

variable {F : FTy → Type} [FloatOps F]

/-- The two printed body tables, row by row. -/
theorem defs₀_same : (Cert.FfnUp.defs₀ (F := F) : Defs nD τ sig (Elt F) Λ₀) = Cert.FfnUpIdeal.defs₀ (F := F) := by
  unfold Cert.FfnUp.defs₀ Cert.FfnUpIdeal.defs₀
  refine congrArg Defs.onTc ?_
  funext l args
  match l, args with
  | 0, (t, s) => rfl
  | ⟨_ + 1, h⟩, _ => exact absurd h (Nat.not_lt.2 (Nat.le_add_left _ _))
theorem defs_same : (Cert.FfnUp.defs (F := F)) = Cert.FfnUpIdeal.defs (F := F) := by
  unfold Cert.FfnUp.defs Cert.FfnUpIdeal.defs
  rw [defs₀_same]
  rfl

theorem frame : Cert.quiescent_FfnUp := fun m ρ _ => by
  rw [defs_same]
  exact Cert.FfnUpIdeal.Up.frame (F := Bits) m ρ

end Cert.FfnUp.Up

end
-- ==== Proof.UpConv.lean ====
/- The gate's convolution and the activation of half a row block, read at an entry. -/
module

public import proofs.«01_k».proof.Proof.InPr
public import proofs.«01_k».proof.Proof.UpPieces
public import Idealize.ShloMosaic.Lib.Pointwise

@[expose] public section

set_option maxRecDepth 65536

noncomputable section

namespace Cert.Band
open Idealize.ShloMosaic
/-- The activation of a convolved gate `z` times `v`. -/
def slu (z v : EReal) : EReal :=
  z * Ideal.div (Ideal.ofBits .f32 0x3F800000#32) (Ideal.ofBits .f32 0x3F800000#32 + Ideal.exp (Ideal.ofBits .f32 0x00000000#32 - z)) * v
/-- The three-tap convolution of the gate. -/
def tap (cb c0 c1 c2 g2 g1 g0 : EReal) : EReal := cb + g2 * c0 + g1 * c1 + g0 * c2
section rows
variable (G : ℕ → ℕ → EReal) (P : ℕ → ℕ → ℕ → EReal)
/-- The gate one row earlier in the row's sequence of 8192, the rows `P` standing before its first. -/
def sh1 (i j : ℕ) : EReal := if i % 8192 = 0 then P (i / 8192) 1 j else G (i - 1) j
/-- The gate two rows earlier. -/
def sh2 (i j : ℕ) : EReal := if i % 8192 = 0 then P (i / 8192) 0 j else if i % 8192 = 1 then P (i / 8192) 1 j else G (i - 2) j
theorem sh2_next {i : ℕ} (h : i % 512 = 0) (j : ℕ) : sh2 G P (i + 1) j = sh1 G P i j := by
  unfold sh2 sh1
  by_cases h0 : i % 8192 = 0
  · rw [if_neg (by omega), if_pos (by omega), if_pos h0, show (i + 1) / 8192 = i / 8192 by omega]
  · rw [if_neg (by omega), if_neg (by omega), if_neg h0, show i + 1 - 2 = i - 1 by omega]
theorem sh1_in {i r : ℕ} (h : i % 512 = 0) (h0 : 0 < r) (h1 : r < 512) (j : ℕ) : sh1 G P (i + r) j = G (i + (r - 1)) j := by
  unfold sh1
  rw [if_neg (by omega), show i + r - 1 = i + (r - 1) by omega]
theorem sh2_in {i r : ℕ} (h : i % 512 = 0) (h0 : 1 < r) (h1 : r < 512) (j : ℕ) : sh2 G P (i + r) j = G (i + (r - 2)) j := by
  unfold sh2
  rw [if_neg (by omega), if_neg (by omega), show i + r - 2 = i + (r - 2) by omega]
/-- Inside a row block of 1024 the second half's rows before are the first half's last. -/
theorem sh1_half {i : ℕ} (h : i % 1024 = 0) (j : ℕ) : sh1 G P (i + 512) j = G (i + 511) j := by
  unfold sh1
  rw [if_neg (by omega), show i + 512 - 1 = i + 511 by omega]
theorem sh2_half {i : ℕ} (h : i % 1024 = 0) (j : ℕ) : sh2 G P (i + 512) j = G (i + 510) j := by
  unfold sh2
  rw [if_neg (by omega), if_neg (by omega), show i + 512 - 2 = i + 510 by omega]
/-- The first feed-forward layer's output at row `i`, column `j`. -/
def upa (V cw : ℕ → ℕ → EReal) (cb : ℕ → EReal) (i j : ℕ) : EReal :=
  slu (tap (cb j) (cw 0 j) (cw 1 j) (cw 2 j) (sh2 G P i j) (sh1 G P i j) (G i j)) (V i j)
end rows
end Cert.Band

namespace Cert.FfnUpIdeal.Val
open Cert.FfnUpIdeal Cert.FfnUpIdeal.Gen Cert.Band Idealize.ShloMosaic Idealize.ShloMosaic.TcCoe Idealize.SL.Sem

variable {F : FTy → Type} [FloatOps F]

/-- The rows' numbers inside the first eight rows. -/
abbrev io : IVec S8x256 32 := iota .tc S8x256 32 [0] iota_S8x256_d0_w32
def rot1 (G : FVec F S512x256 .f32) : FVec F S512x256 .f32 := dynamicRotate 0 1#32 none G rotates_S512x256_d0
def rot2 (G : FVec F S512x256 .f32) : FVec F S512x256 .f32 := dynamicRotate 0 2#32 none G rotates_S512x256_d0
/-- The gate one row earlier: rotated, its first row replaced. -/
def shift1 (G : FVec F S512x256 .f32) (p1 : FVec F S1x256 .f32) : FVec F S512x256 .f32 :=
  concatenate S512x256 0 [⟨S8x256, select (cmpi .eq io (broadcast S8x256 0#32)) (broadcastTo S8x256 (shapeCast S1x256 p1 shapeCasts_S1x256_S1x256) broadcasts_S1x256_S8x256)
      (extractStridedSlice S8x256 ![0, 0] (rot1 G) slices_S512x256_o0_0_S8x256)⟩,
    ⟨S504x256, extractStridedSlice S504x256 ![8, 0] (rot1 G) slices_S512x256_o8_0_S504x256⟩] concatenates_S8x256_S504x256_S512x256_d0
/-- The gate two rows earlier: rotated, its first two rows replaced. -/
def shift2 (G : FVec F S512x256 .f32) (p2 p1 : FVec F S1x256 .f32) : FVec F S512x256 .f32 :=
  concatenate S512x256 0 [⟨S8x256, select (cmpi .eq io (broadcast S8x256 0#32)) (broadcastTo S8x256 (shapeCast S1x256 p2 shapeCasts_S1x256_S1x256) broadcasts_S1x256_S8x256)
      (select (cmpi .eq io (broadcast S8x256 1#32)) (broadcastTo S8x256 (shapeCast S1x256 p1 shapeCasts_S1x256_S1x256) broadcasts_S1x256_S8x256)
        (extractStridedSlice S8x256 ![0, 0] (rot2 G) slices_S512x256_o0_0_S8x256))⟩,
    ⟨S504x256, extractStridedSlice S504x256 ![8, 0] (rot2 G) slices_S512x256_o8_0_S504x256⟩] concatenates_S8x256_S504x256_S512x256_d0
/-- The first two taps and the bias. -/
def conv0 (cb c0 c1 : Vec F S1x256 .f32) (s2 s1 : FVec F S512x256 .f32) : FVec F S512x256 .f32 :=
  addf (addf (broadcastTo S512x256 (shapeCast S1x256 cb shapeCasts_S1x256_S1x256) broadcasts_S1x256_S512x256)
    (mulf s2 (broadcastTo S512x256 c0 broadcasts_S1x256_S512x256))) (mulf s1 (broadcastTo S512x256 c1 broadcasts_S1x256_S512x256))
/-- The activation of half a row block: `pay1` of the convolution's two parts. -/
def half (cb c0 c1 c2 : Vec F S1x256 .f32) (G V : FVec F S512x256 .f32) (p2 p1 : FVec F S1x256 .f32) : FVec F S512x256 .bf16 :=
  k0_pay1 V (conv0 cb c0 c1 (shift2 G p2 p1) (shift1 G p1)) (mulf G (broadcastTo S512x256 c2 broadcasts_S1x256_S512x256))

theorem pay20_half (cb c0 c1 c2 : Vec F S1x256 .f32) (v45 : FVec F S512x4096 .bf16) (w : Vec F S4096x256 .bf16) (V : FVec F S512x256 .f32) (a : BitVec 32)
    (x : Vec F S1x8x256 .f32) (y z : Vec F S1x1x256 .f32) :
    k0_pay20 io (k0_pay12 v45 w) V (k0_pay14 v45 w) (k0_pay15 v45 w) (k0_pay17 a x y) (k0_pay18 a x z) (k0_pay19 a io v45 w x z) cb c0 c1 c2
      = half cb c0 c1 c2 (k0_pay12 v45 w) V (k0_pay17 a x y) (k0_pay18 a x z) := rfl
theorem pay1_half (cb c0 c1 c2 : Vec F S1x256 .f32) (v161 : FVec F S512x4096 .bf16) (w : FVec F S4096x256 .bf16) (G V : FVec F S512x256 .f32) :
    k0_pay1 V (k0_pay29 io G v161 w cb c0 c1) (k0_pay30 v161 w c2)
      = half cb c0 c1 c2 (k0_pay27 v161 w) V (extractStridedSlice S1x256 ![510, 0] G slices_S512x256_o510_0_S1x256)
        (extractStridedSlice S1x256 ![511, 0] G slices_S512x256_o511_0_S1x256) := rfl
theorem pay39_half (cb c0 c1 c2 : Vec F S1x256 .f32) (v7 : FVec F S512x4096 .bf16) (w : Vec F S4096x256 .bf16) (V : FVec F S512x256 .f32) (p2 p1 : FVec F S1x256 .f32) :
    k0_pay39 io (k0_pay31 v7 w) V (k0_pay33 v7 w) (k0_pay34 v7 w) p2 p1 k0_pay38 cb c0 c1 c2
      = half cb c0 c1 c2 (k0_pay31 v7 w) V p2 p1 := rfl
theorem pay4_half (cb c0 c1 c2 : Vec F S1x256 .f32) (v85 : Vec F S512x4096 .bf16) (w : Vec F S4096x256 .bf16) (G V : FVec F S512x256 .f32) :
    k0_pay4 (k0_pay40 v85 w) V (k0_pay43 io G v85 w) (k0_pay44 io G v85 w cb c0) c1 c2
      = half cb c0 c1 c2 (k0_pay40 v85 w) V (extractStridedSlice S1x256 ![510, 0] G slices_S512x256_o510_0_S1x256)
        (extractStridedSlice S1x256 ![511, 0] G slices_S512x256_o511_0_S1x256) := rfl

/-! ## Read at an entry, at the ideal values -/

section read
variable (G V : FVec Ideal S512x256 .f32) (p1 p2 : FVec Ideal S1x256 .f32) (cb c0 c1 c2 : Vec Ideal S1x256 .f32)

theorem rot1_apply (r : Fin 512) (j : Fin 256) : rot1 G (ix2 r j) = G (ix2 ⟨(r.val + 512 - 1) % 512, Nat.mod_lt _ (by decide)⟩ j) := by
  pointwise [rot1]
theorem rot2_apply (r : Fin 512) (j : Fin 256) : rot2 G (ix2 r j) = G (ix2 ⟨(r.val + 512 - 2) % 512, Nat.mod_lt _ (by decide)⟩ j) := by
  pointwise [rot2]
theorem pay1_apply (s c : FVec Ideal S512x256 .f32) (r : Fin 512) (j : Fin 256) :
    k0_pay1 V s c (ix2 r j) = slu (s (ix2 r j) + c (ix2 r j)) (V (ix2 r j)) := by
  pointwise [k0_pay1, slu]
theorem conv0_apply (s2 s1 : FVec Ideal S512x256 .f32) (r : Fin 512) (j : Fin 256) :
    conv0 cb c0 c1 s2 s1 (ix2 r j) = cb (ix2 0 j) + s2 (ix2 r j) * c0 (ix2 0 j) + s1 (ix2 r j) * c1 (ix2 0 j) := by
  pointwise [conv0]

/-- A row's number among the first eight against zero and one, as a choice. -/
theorem is0 {r : ℕ} (h : 0 < r) (h8 : r < 8) : IntOp.cmpi CmpIPredicate.eq (BitVec.ofNat 32 r) 0#32 = 0#1 :=
  (by decide : ∀ r : Fin 8, 0 < r.val → IntOp.cmpi CmpIPredicate.eq (BitVec.ofNat 32 r.val) 0#32 = 0#1) ⟨r, h8⟩ h
theorem is1 {r : ℕ} (h : 1 < r) (h8 : r < 8) : IntOp.cmpi CmpIPredicate.eq (BitVec.ofNat 32 r) 1#32 = 0#1 :=
  (by decide : ∀ r : Fin 8, 1 < r.val → IntOp.cmpi CmpIPredicate.eq (BitVec.ofNat 32 r.val) 1#32 = 0#1) ⟨r, h8⟩ h

theorem shift1_zero (j : Fin 256) (r : Fin 512) (h : r.val = 0) : shift1 G p1 (ix2 r j) = p1 (ix2 0 j) := by
  unfold shift1; generalize rot1 G = z
  pointwise [h]
theorem shift1_low (j : Fin 256) (r : Fin 512) (h : 0 < r.val) (h8 : r.val < 8) : shift1 G p1 (ix2 r j) = rot1 G (ix2 r j) := by
  unfold shift1; generalize rot1 G = z
  pointwise [h, h8]
  exact Up.select_of_zero (is0 h h8) _ _
theorem shift1_high (j : Fin 256) (r : Fin 512) (h8 : ¬r.val < 8) : shift1 G p1 (ix2 r j) = rot1 G (ix2 r j) := by
  unfold shift1; generalize rot1 G = z
  pointwise [h8]
  exact congrArg (fun r' => z (ix2 r' j)) (Fin.ext (show 8 + (r.val - 8) = r.val by omega))
theorem shift2_zero (j : Fin 256) (r : Fin 512) (h : r.val = 0) : shift2 G p2 p1 (ix2 r j) = p2 (ix2 0 j) := by
  unfold shift2; generalize rot2 G = z
  pointwise [h]
theorem shift2_one (j : Fin 256) (r : Fin 512) (h : r.val = 1) : shift2 G p2 p1 (ix2 r j) = p1 (ix2 0 j) := by
  unfold shift2; generalize rot2 G = z
  pointwise [h]
  exact Up.select_of_zero (is0 (r := 1) (by decide) (by decide)) _ _
theorem shift2_low (j : Fin 256) (r : Fin 512) (h : 1 < r.val) (h8 : r.val < 8) : shift2 G p2 p1 (ix2 r j) = rot2 G (ix2 r j) := by
  unfold shift2; generalize rot2 G = z
  pointwise [h, h8]
  exact (Up.select_of_zero (is0 (by omega) h8) _ _).trans (Up.select_of_zero (is1 h h8) _ _)
theorem shift2_high (j : Fin 256) (r : Fin 512) (h8 : ¬r.val < 8) : shift2 G p2 p1 (ix2 r j) = rot2 G (ix2 r j) := by
  unfold shift2; generalize rot2 G = z
  pointwise [h8]
  exact congrArg (fun r' => z (ix2 r' j)) (Fin.ext (show 8 + (r.val - 8) = r.val by omega))

variable (GG VV cw : ℕ → ℕ → EReal) (PP : ℕ → ℕ → ℕ → EReal) (CB : ℕ → EReal) (i0 J : ℕ) (j : Fin 256)

theorem shift1_at (hi : i0 % 512 = 0) (hG : ∀ r : Fin 512, G (ix2 r j) = GG (i0 + r) J) (h1 : p1 (ix2 0 j) = sh1 GG PP i0 J) (r : Fin 512) :
    shift1 G p1 (ix2 r j) = sh1 GG PP (i0 + r) J := by
  by_cases h : r.val = 0
  · rw [shift1_zero G p1 j r h, h1, h]; rfl
  · rw [sh1_in GG PP hi (Nat.pos_of_ne_zero h) r.isLt]
    have e : shift1 G p1 (ix2 r j) = rot1 G (ix2 r j) := by
      by_cases h8 : r.val < 8
      · exact shift1_low G p1 j r (Nat.pos_of_ne_zero h) h8
      · exact shift1_high G p1 j r h8
    rw [e, rot1_apply, hG]
    exact congrArg (fun k => GG (i0 + k) J) (show (r.val + 512 - 1) % 512 = r.val - 1 by omega)
theorem shift2_at (hi : i0 % 512 = 0) (hG : ∀ r : Fin 512, G (ix2 r j) = GG (i0 + r) J) (h1 : p1 (ix2 0 j) = sh1 GG PP i0 J)
    (h2 : p2 (ix2 0 j) = sh2 GG PP i0 J) (r : Fin 512) : shift2 G p2 p1 (ix2 r j) = sh2 GG PP (i0 + r) J := by
  by_cases h : r.val = 0
  · rw [shift2_zero G p1 p2 j r h, h2, h]; rfl
  by_cases h' : r.val = 1
  · rw [shift2_one G p1 p2 j r h', h1, h', sh2_next GG PP hi]
  have hlt : 1 < r.val := by omega
  rw [sh2_in GG PP hi hlt r.isLt]
  have e : shift2 G p2 p1 (ix2 r j) = rot2 G (ix2 r j) := by
    by_cases h8 : r.val < 8
    · exact shift2_low G p1 p2 j r hlt h8
    · exact shift2_high G p1 p2 j r h8
  rw [e, rot2_apply, hG]
  exact congrArg (fun k => GG (i0 + k) J) (show (r.val + 512 - 2) % 512 = r.val - 2 by omega)

/-- Half a row block's activation is the layer's, its gate being the layer's and the rows before its first given. -/
theorem half_at (hi : i0 % 512 = 0) (hG : ∀ r : Fin 512, G (ix2 r j) = GG (i0 + r) J) (hV : ∀ r : Fin 512, V (ix2 r j) = VV (i0 + r) J)
    (h1 : p1 (ix2 0 j) = sh1 GG PP i0 J) (h2 : p2 (ix2 0 j) = sh2 GG PP i0 J)
    (hb : cb (ix2 0 j) = CB J) (hc0 : c0 (ix2 0 j) = cw 0 J) (hc1 : c1 (ix2 0 j) = cw 1 J) (hc2 : c2 (ix2 0 j) = cw 2 J) (r : Fin 512) :
    half cb c0 c1 c2 G V p2 p1 (ix2 r j) = upa GG PP VV cw CB (i0 + r) J := by
  have hm : mulf G (broadcastTo S512x256 c2 broadcasts_S1x256_S512x256) (ix2 r j) = GG (i0 + r) J * cw 2 J := by
    rw [← hG, ← hc2]; pointwise
  unfold half
  rw [pay1_apply, conv0_apply, hm, shift1_at G p1 GG PP i0 J j hi hG h1, shift2_at G p1 p2 GG PP i0 J j hi hG h1 h2, hV, hb, hc0, hc1]
  rfl

/-! ### The rows before the first -/

theorem last1 (hG : ∀ r : Fin 512, G (ix2 r j) = GG (i0 + r) J) : extractStridedSlice S1x256 ![511, 0] G slices_S512x256_o511_0_S1x256 (ix2 0 j) = GG (i0 + 511) J := by
  have h := hG 511
  pointwise
  exact h
theorem last2 (hG : ∀ r : Fin 512, G (ix2 r j) = GG (i0 + r) J) : extractStridedSlice S1x256 ![510, 0] G slices_S512x256_o510_0_S1x256 (ix2 0 j) = GG (i0 + 510) J := by
  have h := hG 510
  pointwise
  exact h

theorem mat12 (v : FVec Ideal S512x4096 .bf16) (w : Vec Ideal S4096x256 .bf16) (r : Fin 512) : k0_pay12 v w (ix2 r j) = ∑ k : Fin 4096, v (ix2 r k) * w (ix2 k j) := by
  pointwise [k0_pay12]
theorem mat13 (v : FVec Ideal S512x4096 .bf16) (w : Vec Ideal S4096x256 .bf16) : k0_pay13 v w = k0_pay12 v w := rfl
theorem mat27 (v : FVec Ideal S512x4096 .bf16) (w : Vec Ideal S4096x256 .bf16) : k0_pay27 v (k0_pay26 w) = k0_pay12 v w := rfl
theorem mat28 (v : FVec Ideal S512x4096 .bf16) (w : Vec Ideal S4096x256 .bf16) : k0_pay28 v w = k0_pay12 v w := rfl
theorem mat31 (v : FVec Ideal S512x4096 .bf16) (w : Vec Ideal S4096x256 .bf16) : k0_pay31 v w = k0_pay12 v w := rfl
theorem mat32 (v : FVec Ideal S512x4096 .bf16) (w : Vec Ideal S4096x256 .bf16) : k0_pay32 v w = k0_pay12 v w := rfl
theorem mat40 (v : FVec Ideal S512x4096 .bf16) (w : Vec Ideal S4096x256 .bf16) : k0_pay40 v w = k0_pay12 v w := rfl
theorem mat41 (v : FVec Ideal S512x4096 .bf16) (w : Vec Ideal S4096x256 .bf16) : k0_pay41 v w = k0_pay12 v w := rfl

theorem slot_eq (G : FVec Ideal S512x256 .f32) : k0_pay5 G = k0_pay2 G := rfl
theorem tail_eq (G : FVec Ideal S512x256 .f32) : k0_pay6 G = k0_pay3 G := rfl
theorem slot_at (hG : ∀ r : Fin 512, G (ix2 r j) = GG (i0 + r) J) (e : Fin 8) : k0_pay2 G (ix3 0 e j) = GG (i0 + 504 + e) J := by
  have h := hG ⟨504 + e.val, by omega⟩
  rw [show i0 + 504 + e.val = i0 + (504 + e.val) by omega, ← h]
  pointwise [k0_pay2]
theorem tail_at (hG : ∀ r : Fin 512, G (ix2 r j) = GG (i0 + r) J) (e : Fin 2) : k0_pay3 G (ix3 0 e j) = GG (i0 + 510 + e) J := by
  have h := hG ⟨510 + e.val, by omega⟩
  rw [show i0 + 510 + e.val = i0 + (510 + e.val) by omega, ← h]
  pointwise [k0_pay3]
end read

end Cert.FfnUpIdeal.Val
end
-- ==== Proof.UpHalf.lean ====
/- What a point's run leaves, read at an entry, at the ideal values. -/
module

public import proofs.«01_k».proof.Proof.UpConv
public import proofs.«01_k».proof.Proof.UpFrame

@[expose] public section

set_option maxRecDepth 65536

noncomputable section

namespace Cert.FfnUpIdeal.Val
open Cert.FfnUpIdeal Cert.FfnUpIdeal.Gen Cert.FfnUpIdeal.Up Cert.Band Idealize.ShloMosaic Idealize.ShloMosaic.TcCoe Idealize.ShloMosaic.Tactic Idealize.SL.Sem

section pay
variable (x y : Vec Ideal S256x4096 .f32) (g : Vec Ideal S1x4096 .f32) (X : ℕ → ℕ → EReal) (G : ℕ → EReal) (i0 : ℕ)
theorem n7 (z : ℕ → EReal) (r : Fin 256) (hX : ∀ d : Fin 4096, x (ix2 r d) = z d) (hG : ∀ d : Fin 4096, g (ix2 0 d) = G d) (k : Fin 4096) : k0_pay7 x g (ix2 r k) = nrx z G k := by
  pointwise [k0_pay7, nrx, hX, hG]
theorem p8 : k0_pay8 x g = k0_pay7 x g := by
  unfold k0_pay8; generalize k0_pay7 x g = z
  funext q; refine (congrArg _ (eq_ix2 q)).trans (Eq.trans ?_ (congrArg z (eq_ix2 q)).symm); pointwise
theorem p10 : k0_pay10 x g = k0_pay7 x g := p8 x g
theorem p22 : k0_pay22 x g = k0_pay7 x g := p8 x g
theorem p24 : k0_pay24 x g = k0_pay7 x g := p8 x g
theorem n11 (hX : ∀ (r : Fin 256) (d : Fin 4096), x (ix2 r d) = X (i0 + r) d) (hY : ∀ (r : Fin 256) (d : Fin 4096), y (ix2 r d) = X (i0 + 256 + r) d)
    (hG : ∀ d : Fin 4096, g (ix2 0 d) = G d) (r : Fin 512) (k : Fin 4096) : k0_pay11 x g y g (ix2 r k) = nrx (X (i0 + r)) G k := by
  have hx := fun r => n7 x g G (X (i0 + r.val)) r (hX r) hG k
  have hy := fun r => n7 y g G (X (i0 + 256 + r.val)) r (hY r) hG k
  unfold k0_pay11
  rw [show k0_pay9 y g = k0_pay7 y g from rfl]
  revert hx hy
  generalize k0_pay7 x g = u
  generalize k0_pay7 y g = v
  intro hx hy
  by_cases h : r.val < 256
  · refine Eq.trans ?_ (hx ⟨r.val, h⟩); pointwise [h]
  · refine Eq.trans ?_ ((hy ⟨r.val - 256, by omega⟩).trans (congrArg (fun q => nrx (X q) G k) (show i0 + 256 + (r.val - 256) = i0 + r.val by omega)))
    pointwise [h]
theorem p25 (g' : Vec Ideal S1x4096 .f32) : k0_pay25 x g y g' = k0_pay11 x g y g' := rfl
end pay

theorem gate_at (X : ℕ → ℕ → EReal) (g : ℕ → EReal) (W : ℕ → ℕ → EReal) (i0 J : ℕ) (N : FVec Ideal S512x4096 .bf16) (w : Vec Ideal S4096x256 .bf16) (j : Fin 256)
    (hN : ∀ (r : Fin 512) (k : Fin 4096), N (ix2 r k) = nrx (X (i0 + r)) g k) (hw : ∀ k : Fin 4096, w (ix2 k j) = W k J) (r : Fin 512) :
    k0_pay12 N w (ix2 r j) = prj X g W (i0 + r) J :=
  (mat12 j N w r).trans (Finset.sum_congr rfl fun k _ => congrArg₂ (· * ·) (hN r k) (hw k))

/-- The row before a row block: the given one where the block starts a sequence, else the carried one. -/
theorem before1 (G : ℕ → ℕ → EReal) (P : ℕ → ℕ → ℕ → EReal) (m : Fin 16) (x : Vec Ideal S1x8x256 .f32) (y : Vec Ideal S1x1x256 .f32) (J : ℕ) (j : Fin 256)
    (hy : y (ix3 0 0 j) = P (m.val / 8) 1 J) (hx : m.val % 8 ≠ 0 → ∀ e : Fin 8, x (ix3 0 e j) = G (1024 * m - 8 + e) J) :
    k0_pay37 (BitVec.ofNat 32 m.val) x y (ix2 0 j) = sh1 G P (1024 * m) J := by
  rw [pay37_eq]
  unfold sh1
  by_cases h : m.val % 8 = 0
  · rw [select_of_one (startWord_one m h), if_pos (by omega), show 1024 * m.val / 8192 = m.val / 8 by omega, ← hy]
    pointwise
  · rw [select_of_zero (startWord_zero m h), if_neg (by omega), show 1024 * m.val - 1 = 1024 * m.val - 8 + (7 : Fin 8).val by omega, ← hx h]
    pointwise
theorem before2 (G : ℕ → ℕ → EReal) (P : ℕ → ℕ → ℕ → EReal) (m : Fin 16) (x : Vec Ideal S1x8x256 .f32) (y : Vec Ideal S1x1x256 .f32) (J : ℕ) (j : Fin 256)
    (hy : y (ix3 0 0 j) = P (m.val / 8) 0 J) (hx : m.val % 8 ≠ 0 → ∀ e : Fin 8, x (ix3 0 e j) = G (1024 * m - 8 + e) J) :
    k0_pay36 (BitVec.ofNat 32 m.val) x y (ix2 0 j) = sh2 G P (1024 * m) J := by
  rw [pay36_eq]
  unfold sh2
  by_cases h : m.val % 8 = 0
  · rw [select_of_one (startWord_one m h), if_pos (by omega), show 1024 * m.val / 8192 = m.val / 8 by omega, ← hy]
    pointwise
  · rw [select_of_zero (startWord_zero m h), if_neg (by omega), if_neg (by omega), show 1024 * m.val - 2 = 1024 * m.val - 8 + (6 : Fin 8).val by omega, ← hx h]
    pointwise

theorem emb_at {s q : ℕ} (o : ℕ) (inb : ∀ a, (![o, 0] : Fin 2 → ℕ) a + (![q, 256] : Fin 2 → ℕ) a ≤ (![s, 256] : Fin 2 → ℕ) a) (x : (⟨2, ![q, 256]⟩ : Shape).Idx) :
    ((Rect.unit (s := ⟨2, ![s, 256]⟩) ![o, 0] ![q, 256] inb).emb x 0).val = o + (x 0).val
      ∧ ((Rect.unit (s := ⟨2, ![s, 256]⟩) ![o, 0] ![q, 256] inb).emb x 1).val = (x 1).val := by
  constructor
  · show o + 1 * (x 0).val = _; omega
  · show 0 + 1 * (x 1).val = _; omega
theorem ldR_apply {p : ℕ} (inb : ∀ a, (![p, 0] : Fin 2 → ℕ) a + S256x4096.size a ≤ S1024x4096.size a) (x : Vec Ideal S1024x4096 .f32) (r : Fin 256) (k : Fin 4096) (hp : p ≤ 768) :
    View.ld x (Rect.unit ![p, 0] S256x4096.size inb) (ix2 r k) = x (ix2 ⟨p + r, by omega⟩ k) := by
  pointwise
theorem ldH_apply {p : ℕ} (inb : ∀ a, (![p, 0] : Fin 2 → ℕ) a + S512x4096.size a ≤ S1024x4096.size a) (x : Vec Ideal S1024x4096 .bf16) (r : Fin 512) (k : Fin 4096) (hp : p ≤ 512) :
    View.ld x (Rect.unit ![p, 0] S512x4096.size inb) (ix2 r k) = x (ix2 ⟨p + r, by omega⟩ k) := by
  pointwise
theorem ldT_apply {p : ℕ} (inb : ∀ a, (![p, 0] : Fin 2 → ℕ) a + S1x256.size a ≤ S3x256.size a) (x : Vec Ideal S3x256 .f32) (k : Fin 256) (hp : p < 3) :
    View.ld x (Rect.unit ![p, 0] S1x256.size inb) (ix2 0 k) = x (ix2 ⟨p, hp⟩ k) := by
  pointwise
theorem ldC_apply {off : Fin 3 → ℕ} (n : Fin 43) (ho : off = ![n.val, 0, 0]) (inb : ∀ a, off a + S1x8x256.size a ≤ S43x8x256.size a) (x : Vec Ideal S43x8x256 .f32) (e : Fin 8) (k : Fin 256) :
    View.ld x (Rect.unit off S1x8x256.size inb) (ix3 0 e k) = x (ix3 n e k) := by
  subst ho
  refine congrArg x (funext fun a => Fin.ext ?_)
  match a with
  | 0 => exact Nat.add_zero _
  | 1 => show 0 + 1 * e.val = e.val; omega
  | 2 => show 0 + 1 * k.val = k.val; omega

/-- A point's blocks, entry by entry, and the tail carried to it. -/
structure Blk (i : grid0.Coords) (X : ℕ → ℕ → EReal) (g : ℕ → EReal) (W cw : ℕ → ℕ → EReal) (cb : ℕ → EReal) (P : ℕ → ℕ → ℕ → EReal)
    (x0 : Vec Ideal S1024x4096 .f32) (x1 : Vec Ideal S1x4096 .f32) (x2 x3 : Vec Ideal S4096x256 .bf16) (x4 : Vec Ideal S3x256 .f32) (x5 : Vec Ideal S1x256 .f32)
    (x6 x7 : Vec Ideal S1x1x256 .f32) (xs1 : Vec Ideal S43x8x256 .f32) : Prop where
  e0 : ∀ (r : Fin 1024) (k : Fin 4096), x0 (ix2 r k) = X (1024 * (i 0).val + r) k
  e1 : ∀ k : Fin 4096, x1 (ix2 0 k) = g k
  e2 : ∀ (k : Fin 4096) (j : Fin 256), x2 (ix2 k j) = W k (256 * (i 1).val + j)
  e3 : ∀ (k : Fin 4096) (j : Fin 256), x3 (ix2 k j) = W k (11008 + (256 * (i 1).val + j))
  e4 : ∀ (a : Fin 3) (j : Fin 256), x4 (ix2 a j) = cw a (256 * (i 1).val + j)
  e5 : ∀ j : Fin 256, x5 (ix2 0 j) = cb (256 * (i 1).val + j)
  e6 : ∀ j : Fin 256, x6 (ix3 0 0 j) = P ((i 0).val / 8) 1 (256 * (i 1).val + j)
  e7 : ∀ j : Fin 256, x7 (ix3 0 0 j) = P ((i 0).val / 8) 0 (256 * (i 1).val + j)
  es : (i 0).val % 8 ≠ 0 → ∀ (e : Fin 8) (j : Fin 256), xs1 (ix3 (i 1) e j) = prj X g W (1024 * (i 0).val - 8 + e) (256 * (i 1).val + j)

section runs
variable {X : ℕ → ℕ → EReal} {g : ℕ → EReal} {W cw : ℕ → ℕ → EReal} {cb : ℕ → EReal} {P : ℕ → ℕ → ℕ → EReal} {i : grid0.Coords}
  {x0 : Vec Ideal S1024x4096 .f32} {x1 : Vec Ideal S1x4096 .f32} {x2 x3 : Vec Ideal S4096x256 .bf16} {x4 : Vec Ideal S3x256 .f32} {x5 : Vec Ideal S1x256 .f32}
  {x6 x7 : Vec Ideal S1x1x256 .f32} {xs1 : Vec Ideal S43x8x256 .f32}

/-- The gate's columns of the weights, and the value's. -/
abbrev GG (X : ℕ → ℕ → EReal) (g : ℕ → EReal) (W : ℕ → ℕ → EReal) (i j : ℕ) : EReal := prj X g W i j
abbrev VV (X : ℕ → ℕ → EReal) (g : ℕ → EReal) (W : ℕ → ℕ → EReal) (i j : ℕ) : EReal := prj X g W i (11008 + j)
/-- The layer's output of these arguments. -/
abbrev act (X : ℕ → ℕ → EReal) (g : ℕ → EReal) (W cw : ℕ → ℕ → EReal) (cb : ℕ → EReal) (P : ℕ → ℕ → ℕ → EReal) (i j : ℕ) : EReal :=
  upa (GG X g W) P (VV X g W) cw cb i j

variable (B : Blk i X g W cw cb P x0 x1 x2 x3 x4 x5 x6 x7 xs1)
include B

/-- The first half of the block. -/
theorem lower (N : FVec Ideal S512x4096 .bf16) (hN : ∀ (r : Fin 512) (k : Fin 4096), N (ix2 r k) = nrx (X (1024 * (i 0).val + r)) g k)
    (t : Vec Ideal S1x8x256 .f32) (ht : ∀ (e : Fin 8) (j : Fin 256), t (ix3 0 e j) = xs1 (ix3 (i 1) e j))
    (w wv : Vec Ideal S4096x256 .bf16) (hw : w = x2) (hwv : wv = x3) (y6 y7 : Vec Ideal S1x1x256 .f32) (h6 : y6 = x6) (h7 : y7 = x7)
    (b k0 k1 k2 : Vec Ideal S1x256 .f32) (hb : b = x5) (h0 : ∀ j : Fin 256, k0 (ix2 0 j) = x4 (ix2 0 j)) (h1 : ∀ j : Fin 256, k1 (ix2 0 j) = x4 (ix2 1 j)) (h2 : ∀ j : Fin 256, k2 (ix2 0 j) = x4 (ix2 2 j))
    (r : Fin 512) (j : Fin 256) :
    half b k0 k1 k2 (k0_pay12 N w) (k0_pay12 N wv) (k0_pay36 (BitVec.ofNat 32 (i 0).val) t y7) (k0_pay37 (BitVec.ofNat 32 (i 0).val) t y6) (ix2 r j)
      = act X g W cw cb P (1024 * (i 0).val + r) (256 * (i 1).val + j) := by
  subst hw hwv h6 h7 hb
  have hm : (i 0).val < 16 := (i 0).isLt
  exact half_at _ _ _ _ _ _ _ _ (GG X g W) (VV X g W) cw P cb (1024 * (i 0).val) (256 * (i 1).val + j) j (by omega)
    (gate_at X g W _ _ N _ j hN fun k => B.e2 k j) (gate_at X g W _ _ N _ j hN fun k => B.e3 k j)
    (before1 _ P ⟨(i 0).val, hm⟩ t _ _ j (B.e6 j) fun h e => (ht e j).trans (B.es h e j))
    (before2 _ P ⟨(i 0).val, hm⟩ t _ _ j (B.e7 j) fun h e => (ht e j).trans (B.es h e j))
    (B.e5 j) ((h0 j).trans (B.e4 0 j)) ((h1 j).trans (B.e4 1 j)) ((h2 j).trans (B.e4 2 j)) r

/-- The second half. -/
theorem upper (N M : FVec Ideal S512x4096 .bf16) (hN : ∀ (r : Fin 512) (k : Fin 4096), N (ix2 r k) = nrx (X (1024 * (i 0).val + r)) g k)
    (hM : ∀ (r : Fin 512) (k : Fin 4096), M (ix2 r k) = nrx (X (1024 * (i 0).val + 512 + r)) g k)
    (w wv : Vec Ideal S4096x256 .bf16) (hw : w = x2) (hwv : wv = x3)
    (b k0 k1 k2 : Vec Ideal S1x256 .f32) (hb : b = x5) (h0 : ∀ j : Fin 256, k0 (ix2 0 j) = x4 (ix2 0 j)) (h1 : ∀ j : Fin 256, k1 (ix2 0 j) = x4 (ix2 1 j)) (h2 : ∀ j : Fin 256, k2 (ix2 0 j) = x4 (ix2 2 j))
    (r : Fin 512) (j : Fin 256) :
    half b k0 k1 k2 (k0_pay12 M w) (k0_pay12 M wv) (extractStridedSlice S1x256 ![510, 0] (k0_pay12 N w) slices_S512x256_o510_0_S1x256)
        (extractStridedSlice S1x256 ![511, 0] (k0_pay12 N w) slices_S512x256_o511_0_S1x256) (ix2 r j)
      = act X g W cw cb P (1024 * (i 0).val + 512 + r) (256 * (i 1).val + j) := by
  subst hw hwv hb
  have hG := gate_at X g W (1024 * (i 0).val) (256 * (i 1).val + j) N _ j hN fun k => B.e2 k j
  exact half_at _ _ _ _ _ _ _ _ (GG X g W) (VV X g W) cw P cb (1024 * (i 0).val + 512) (256 * (i 1).val + j) j (by omega)
    (gate_at X g W _ _ M _ j hM fun k => B.e2 k j) (gate_at X g W _ _ M _ j hM fun k => B.e3 k j)
    ((last1 _ (GG X g W) _ _ j hG).trans (sh1_half _ P (by omega) _).symm)
    ((last2 _ (GG X g W) _ _ j hG).trans (sh2_half _ P (by omega) _).symm)
    (B.e5 j) ((h0 j).trans (B.e4 0 j)) ((h1 j).trans (B.e4 1 j)) ((h2 j).trans (B.e4 2 j)) r

/-- The tail carried on, and the gate's last two rows. -/
theorem slot_of (M : FVec Ideal S512x4096 .bf16) (hM : ∀ (r : Fin 512) (k : Fin 4096), M (ix2 r k) = nrx (X (1024 * (i 0).val + 512 + r)) g k)
    (w : Vec Ideal S4096x256 .bf16) (hw : w = x2) (e : Fin 8) (j : Fin 256) :
    k0_pay2 (k0_pay12 M w) (ix3 0 e j) = GG X g W (1024 * (i 0).val + 1016 + e) (256 * (i 1).val + j) := by
  subst hw
  exact (slot_at _ (GG X g W) _ _ j (gate_at X g W _ _ M _ j hM fun k => B.e2 k j) e).trans (congrArg (fun q => GG X g W q _) (by omega))
theorem tail_of (M : FVec Ideal S512x4096 .bf16) (hM : ∀ (r : Fin 512) (k : Fin 4096), M (ix2 r k) = nrx (X (1024 * (i 0).val + 512 + r)) g k)
    (w : Vec Ideal S4096x256 .bf16) (hw : w = x2) (e : Fin 2) (j : Fin 256) :
    k0_pay3 (k0_pay12 M w) (ix3 0 e j) = GG X g W (1024 * (i 0).val + 1022 + e) (256 * (i 1).val + j) := by
  subst hw
  exact (tail_at _ (GG X g W) _ _ j (gate_at X g W _ _ M _ j hM fun k => B.e2 k j) e).trans (congrArg (fun q => GG X g W q _) (by omega))
end runs

theorem zz2 : (![0, 0] : Fin 2 → ℕ) = fun _ => 0 := by decide
theorem zz3 : (![0, 0, 0] : Fin 3 → ℕ) = fun _ => 0 := by decide

end Cert.FfnUpIdeal.Val
end
-- ==== Proof.UpVal.lean ====
/- What a point's run leaves, at the ideal values. -/
module

public import proofs.«01_k».proof.Proof.UpHalf

@[expose] public section

set_option maxRecDepth 65536

noncomputable section

namespace Cert.FfnUpIdeal.Val
open Cert.FfnUpIdeal Cert.FfnUpIdeal.Gen Cert.FfnUpIdeal.Up Cert.Band Idealize.ShloMosaic Idealize.ShloMosaic.TcCoe Idealize.ShloMosaic.Tactic Idealize.SL.Sem

theorem only_row (y : S1x2x256.Idx) : y = ix3 (0 : Fin 1) (y 1) (y 2) := funext fun a => by
  match a with
  | 0 => exact Fin.ext (by have h : (y 0).val < 1 := (y 0).isLt; show (y 0).val = 0; omega)
  | 1 => rfl
  | 2 => rfl

section runs
variable (c : Dev nD) (i : grid0.Coords) (a2 : Memref sig .tc .vmem S1024x4096 .f32) (h2 : a2.IsWhole) (a3 : Memref sig .tc .vmem S1x4096 .f32) (h3 : a3.IsWhole) (a4 : Memref sig .tc .vmem S4096x256 .bf16) (h4 : a4.IsWhole) (a5 : Memref sig .tc .vmem S4096x256 .bf16) (h5 : a5.IsWhole) (a6 : Memref sig .tc .vmem S3x256 .f32) (h6 : a6.IsWhole) (a7 : Memref sig .tc .vmem S1x256 .f32) (h7 : a7.IsWhole) (a8 : Memref sig .tc .vmem S1x1x256 .f32) (h8 : a8.IsWhole) (a9 : Memref sig .tc .vmem S1x1x256 .f32) (h9 : a9.IsWhole) (a10 : Memref sig .tc .vmem S1024x256 .bf16) (h10 : a10.IsWhole) (a11 : Memref sig .tc .vmem S1x2x256 .f32) (h11 : a11.IsWhole) (a12 : Memref sig .tc .vmem S1024x4096 .bf16) (h12 : a12.IsWhole) (a13 : Memref sig .tc .vmem S43x8x256 .f32) (h13 : a13.IsWhole)
  {X : ℕ → ℕ → EReal} {g : ℕ → EReal} {W cw : ℕ → ℕ → EReal} {cb : ℕ → EReal} {P : ℕ → ℕ → ℕ → EReal}
  (x0 : Vec Ideal S1024x4096 .f32) (x1 : Vec Ideal S1x4096 .f32) (x2 x3 : Vec Ideal S4096x256 .bf16) (x4 : Vec Ideal S3x256 .f32) (x5 : Vec Ideal S1x256 .f32)
  (x6 x7 : Vec Ideal S1x1x256 .f32) (xs0 : Vec Ideal S1024x4096 .bf16) (xs1 : Vec Ideal S43x8x256 .f32) (B : Blk i X g W cw cb P x0 x1 x2 x3 x4 x5 x6 x7 xs1)
include B

/-- The normalised rows of two blocks of 256 rows, one on the other. -/
theorem normed (o : ℕ) (ho : o + 256 ≤ 768) (inb inb' inb'') (r : Fin 512) (k : Fin 4096) : k0_pay11 (View.ld x0 (Rect.unit (s := S1024x4096) ![o, 0] S256x4096.size inb)) (View.ld x1 (Rect.unit (s := S1x4096) ![0, 0] S1x4096.size inb''))
      (View.ld x0 (Rect.unit (s := S1024x4096) ![o + 256, 0] S256x4096.size inb')) (View.ld x1 (Rect.unit (s := S1x4096) ![0, 0] S1x4096.size inb'')) (ix2 r k) = nrx (X (1024 * (i 0).val + o + r)) g k :=
  n11 _ _ _ X g _ (fun r k => (ldR_apply inb x0 r k (by omega)).trans ((B.e0 _ _).trans (congrArg (fun q => X q k) (Nat.add_assoc _ _ _).symm)))
      (fun r k => (ldR_apply inb' x0 r k ho).trans ((B.e0 _ _).trans (congrArg (fun q => X q k) (by show _ + (o + 256 + r.val) = _; omega)))) (fun k => by rw [View.ld_unit_zero zz2]; exact B.e1 k) r k
omit B in
/-- The normalised rows held since the first column block. -/
theorem held (hs : ∀ (r : Fin 1024) (k : Fin 4096), xs0 (ix2 r k) = nrx (X (1024 * (i 0).val + r)) g k) (o : ℕ) (ho : o ≤ 512) (inb) (r : Fin 512) (k : Fin 4096) :
    View.ld xs0 (Rect.unit (s := S1024x4096) ![o, 0] S512x4096.size inb) (ix2 r k) = nrx (X (1024 * (i 0).val + o + r)) g k :=
  (ldH_apply inb xs0 r k ho).trans ((hs _ _).trans (congrArg (fun q => nrx (X q) g k) (Nat.add_assoc _ _ _).symm))

/-- The activation's block. -/
theorem actA (c0 : first_col i) (c1 : ¬later_col i) (y : S1024x256.Idx) :
    VO_8.read (Elt Ideal) (VO_8.writes (Elt Ideal) VO_8.junk (runA c i a2 h2 a3 h3 a4 h4 a5 h5 a6 h6 a7 h7 a8 h8 a9 h9 a10 h10 a11 h11 a12 h12 a13 h13 c0 c1 x0 x1 x2 x3 x4 x5 x6 x7 xs1).1) y = act X g W cw cb P (1024 * (i 0).val + (y 0).val) (256 * (i 1).val + (y 1).val) := by
  have cov := coverA_8 c i a2 h2 a3 h3 a4 h4 a5 h5 a6 h6 a7 h7 a8 h8 a9 h9 a10 h10 a11 h11 a12 h12 a13 h13 x0 x1 x2 x3 x4 x5 x6 x7 xs1 c0 c1
  rw [View.read_writes_eq_canon _ _ _ cov]
  refine View.canon_apply_of_pieces (fun y : S1024x256.Idx => act X g W cw cb P (1024 * (i 0).val + (y 0).val) (256 * (i 1).val + (y 1).val)) _ ?_ y (cov y)
  clear cov
  have N0 := normed i x0 x1 x2 x3 x4 x5 x6 x7 xs1 B
  unfold runA
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  refine ⟨?_, ?_⟩
  · intro x
    exact (congrArg _ (eq_ix2 x)).trans ((congrFun (pay1_half _ _ _ _ _ _ _ _) _).trans ((upper B _ _ (fun r k => N0 0 (by decide) _ _ _ r k) (fun r k => N0 512 (by decide) _ _ _ r k) _ _ (View.ld_unit_zero zz2 _ _) (View.ld_unit_zero zz2 _ _) _ _ _ _ (View.ld_unit_zero zz2 _ _) (fun j => ldT_apply _ x4 j (by decide)) (fun j => ldT_apply _ x4 j (by decide)) (fun j => ldT_apply _ x4 j (by decide)) (x 0) (x 1)).trans
      (congrArg₂ (act X g W cw cb P) (by rw [(emb_at 512 inb_S1024x256_S512x256_512_0 x).1]; omega) (by rw [(emb_at 512 inb_S1024x256_S512x256_512_0 x).2]))))
  · intro x
    exact (congrArg _ (eq_ix2 x)).trans ((congrFun (pay20_half _ _ _ _ _ _ _ _ _ _ _) _).trans ((lower B _ (fun r k => N0 0 (by decide) _ _ _ r k) _ (fun e j => ldC_apply (i 1) (k0_off1_eq i) _ xs1 e j) _ _ (View.ld_unit_zero zz2 _ _) (View.ld_unit_zero zz2 _ _) _ _ (View.ld_unit_zero zz3 _ _) (View.ld_unit_zero zz3 _ _) _ _ _ _ (View.ld_unit_zero zz2 _ _) (fun j => ldT_apply _ x4 j (by decide)) (fun j => ldT_apply _ x4 j (by decide)) (fun j => ldT_apply _ x4 j (by decide)) (x 0) (x 1)).trans
      (congrArg₂ (act X g W cw cb P) (by rw [(emb_at 0 inb_S1024x256_S512x256_0_0 x).1]; omega) (by rw [(emb_at 0 inb_S1024x256_S512x256_0_0 x).2]))))

/-- The activation's block. -/
theorem actB (c0 : ¬first_col i) (c1 : later_col i) (hs : ∀ (r : Fin 1024) (k : Fin 4096), xs0 (ix2 r k) = nrx (X (1024 * (i 0).val + r)) g k) (y : S1024x256.Idx) :
    VO_8.read (Elt Ideal) (VO_8.writes (Elt Ideal) VO_8.junk (runB c i a2 h2 a3 h3 a4 h4 a5 h5 a6 h6 a7 h7 a8 h8 a9 h9 a10 h10 a11 h11 a12 h12 a13 h13 c0 c1 x0 x1 x2 x3 x4 x5 x6 x7 xs0 xs1).1) y = act X g W cw cb P (1024 * (i 0).val + (y 0).val) (256 * (i 1).val + (y 1).val) := by
  have cov := coverB_8 c i a2 h2 a3 h3 a4 h4 a5 h5 a6 h6 a7 h7 a8 h8 a9 h9 a10 h10 a11 h11 a12 h12 a13 h13 x0 x1 x2 x3 x4 x5 x6 x7 xs0 xs1 c0 c1
  rw [View.read_writes_eq_canon _ _ _ cov]
  refine View.canon_apply_of_pieces (fun y : S1024x256.Idx => act X g W cw cb P (1024 * (i 0).val + (y 0).val) (256 * (i 1).val + (y 1).val)) _ ?_ y (cov y)
  clear cov
  have N0 := held i xs0 hs
  unfold runB
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  refine ⟨?_, ?_⟩
  · intro x
    exact (congrArg _ (eq_ix2 x)).trans ((congrFun (pay4_half _ _ _ _ _ _ _ _) _).trans ((upper B _ _ (fun r k => N0 0 (by decide) _ r k) (fun r k => N0 512 (by decide) _ r k) _ _ (View.ld_unit_zero zz2 _ _) (View.ld_unit_zero zz2 _ _) _ _ _ _ (View.ld_unit_zero zz2 _ _) (fun j => ldT_apply _ x4 j (by decide)) (fun j => ldT_apply _ x4 j (by decide)) (fun j => ldT_apply _ x4 j (by decide)) (x 0) (x 1)).trans
      (congrArg₂ (act X g W cw cb P) (by rw [(emb_at 512 inb_S1024x256_S512x256_512_0 x).1]; omega) (by rw [(emb_at 512 inb_S1024x256_S512x256_512_0 x).2]))))
  · intro x
    exact (congrArg _ (eq_ix2 x)).trans ((congrFun (pay39_half _ _ _ _ _ _ _ _ _) _).trans ((lower B _ (fun r k => N0 0 (by decide) _ r k) _ (fun e j => ldC_apply (i 1) (k0_off2_eq i) _ xs1 e j) _ _ (View.ld_unit_zero zz2 _ _) (View.ld_unit_zero zz2 _ _) _ _ (View.ld_unit_zero zz3 _ _) (View.ld_unit_zero zz3 _ _) _ _ _ _ (View.ld_unit_zero zz2 _ _) (fun j => ldT_apply _ x4 j (by decide)) (fun j => ldT_apply _ x4 j (by decide)) (fun j => ldT_apply _ x4 j (by decide)) (x 0) (x 1)).trans
      (congrArg₂ (act X g W cw cb P) (by rw [(emb_at 0 inb_S1024x256_S512x256_0_0 x).1]; omega) (by rw [(emb_at 0 inb_S1024x256_S512x256_0_0 x).2]))))

/-- The gate's last two rows of the block. -/
theorem gateA (c0 : first_col i) (c1 : ¬later_col i) (y : S1x2x256.Idx) :
    VO_9.read (Elt Ideal) (VO_9.writes (Elt Ideal) VO_9.junk (runA c i a2 h2 a3 h3 a4 h4 a5 h5 a6 h6 a7 h7 a8 h8 a9 h9 a10 h10 a11 h11 a12 h12 a13 h13 c0 c1 x0 x1 x2 x3 x4 x5 x6 x7 xs1).2.1) y = GG X g W (1024 * (i 0).val + 1022 + (y 1).val) (256 * (i 1).val + (y 2).val) := by
  have N0 := normed i x0 x1 x2 x3 x4 x5 x6 x7 xs1 B
  rw [View.read_writes_eq_canon _ _ _ (coverA_9 c i a2 h2 a3 h3 a4 h4 a5 h5 a6 h6 a7 h7 a8 h8 a9 h9 a10 h10 a11 h11 a12 h12 a13 h13 x0 x1 x2 x3 x4 x5 x6 x7 xs1 c0 c1)]
  unfold runA
  dsimp only
  sl_unfold_words
  rw [View.canon_unit_zero zz3]
  simp only [View.readAt_eq_ld, h2.read_unread, h3.read_unread, h4.read_unread, h5.read_unread, h6.read_unread, h7.read_unread, h8.read_unread, h9.read_unread, h12.read_unread, h13.read_unread]
  refine (congrArg _ (only_row y)).trans ?_
  exact tail_of B _ (fun r k => N0 512 (by decide) _ _ _ r k) _ (View.ld_unit_zero zz2 _ _) (y 1) (y 2)

/-- The gate's last two rows of the block. -/
theorem gateB (c0 : ¬first_col i) (c1 : later_col i) (hs : ∀ (r : Fin 1024) (k : Fin 4096), xs0 (ix2 r k) = nrx (X (1024 * (i 0).val + r)) g k) (y : S1x2x256.Idx) :
    VO_9.read (Elt Ideal) (VO_9.writes (Elt Ideal) VO_9.junk (runB c i a2 h2 a3 h3 a4 h4 a5 h5 a6 h6 a7 h7 a8 h8 a9 h9 a10 h10 a11 h11 a12 h12 a13 h13 c0 c1 x0 x1 x2 x3 x4 x5 x6 x7 xs0 xs1).2.1) y = GG X g W (1024 * (i 0).val + 1022 + (y 1).val) (256 * (i 1).val + (y 2).val) := by
  have N0 := held i xs0 hs
  rw [View.read_writes_eq_canon _ _ _ (coverB_9 c i a2 h2 a3 h3 a4 h4 a5 h5 a6 h6 a7 h7 a8 h8 a9 h9 a10 h10 a11 h11 a12 h12 a13 h13 x0 x1 x2 x3 x4 x5 x6 x7 xs0 xs1 c0 c1)]
  unfold runB
  dsimp only
  sl_unfold_words
  rw [View.canon_unit_zero zz3]
  simp only [View.readAt_eq_ld, h2.read_unread, h3.read_unread, h4.read_unread, h5.read_unread, h6.read_unread, h7.read_unread, h8.read_unread, h9.read_unread, h12.read_unread, h13.read_unread]
  refine (congrArg _ (only_row y)).trans ?_
  exact tail_of B _ (fun r k => N0 512 (by decide) _ r k) _ (View.ld_unit_zero zz2 _ _) (y 1) (y 2)

/-- The tail stored for the next row block. -/
theorem slotA (c0 : first_col i) (c1 : ¬later_col i) : ∃ w, (runA c i a2 h2 a3 h3 a4 h4 a5 h5 a6 h6 a7 h7 a8 h8 a9 h9 a10 h10 a11 h11 a12 h12 a13 h13 c0 c1 x0 x1 x2 x3 x4 x5 x6 x7 xs1).2.2.2.1 = [⟨Rect.unit (s := S43x8x256) (k0_off1 i) S1x8x256.size (k0_off1_inb i c0), w⟩]
    ∧ ∀ (e : Fin 8) (j : Fin 256), w (ix3 (0 : Fin 1) e j) = GG X g W (1024 * (i 0).val + 1016 + e) (256 * (i 1).val + j) := by
  have N0 := normed i x0 x1 x2 x3 x4 x5 x6 x7 xs1 B
  unfold runA
  refine ⟨_, rfl, ?_⟩
  intro e j
  sl_unfold_words
  simp only [View.readAt_eq_ld, h2.read_unread, h3.read_unread, h4.read_unread, h5.read_unread, h6.read_unread, h7.read_unread, h8.read_unread, h9.read_unread, h12.read_unread, h13.read_unread]
  exact slot_of B _ (fun r k => N0 512 (by decide) _ _ _ r k) _ (View.ld_unit_zero zz2 _ _) e j

/-- The tail stored for the next row block. -/
theorem slotB (c0 : ¬first_col i) (c1 : later_col i) (hs : ∀ (r : Fin 1024) (k : Fin 4096), xs0 (ix2 r k) = nrx (X (1024 * (i 0).val + r)) g k) : ∃ w, (runB c i a2 h2 a3 h3 a4 h4 a5 h5 a6 h6 a7 h7 a8 h8 a9 h9 a10 h10 a11 h11 a12 h12 a13 h13 c0 c1 x0 x1 x2 x3 x4 x5 x6 x7 xs0 xs1).2.2.1 = [⟨Rect.unit (s := S43x8x256) (k0_off2 i) S1x8x256.size (k0_off2_inb i c1), w⟩]
    ∧ ∀ (e : Fin 8) (j : Fin 256), w (ix3 (0 : Fin 1) e j) = GG X g W (1024 * (i 0).val + 1016 + e) (256 * (i 1).val + j) := by
  have N0 := held i xs0 hs
  unfold runB
  refine ⟨_, rfl, ?_⟩
  intro e j
  sl_unfold_words
  simp only [View.readAt_eq_ld, h2.read_unread, h3.read_unread, h4.read_unread, h5.read_unread, h6.read_unread, h7.read_unread, h8.read_unread, h9.read_unread, h12.read_unread, h13.read_unread]
  exact slot_of B _ (fun r k => N0 512 (by decide) _ r k) _ (View.ld_unit_zero zz2 _ _) e j

/-- The normalised rows the first column block leaves. -/
theorem rowsA (c0 : first_col i) (c1 : ¬later_col i) (y : S1024x4096.Idx) :
    sc_0.view.read (Elt Ideal) (sc_0.view.writes (Elt Ideal) sc_0.view.junk (runA c i a2 h2 a3 h3 a4 h4 a5 h5 a6 h6 a7 h7 a8 h8 a9 h9 a10 h10 a11 h11 a12 h12 a13 h13 c0 c1 x0 x1 x2 x3 x4 x5 x6 x7 xs1).2.2.1) y = nrx (X (1024 * (i 0).val + (y 0).val)) g (y 1).val := by
  have cov := coverA_s c i a2 h2 a3 h3 a4 h4 a5 h5 a6 h6 a7 h7 a8 h8 a9 h9 a10 h10 a11 h11 a12 h12 a13 h13 x0 x1 x2 x3 x4 x5 x6 x7 xs1 c0 c1
  rw [View.read_writes_eq_canon _ _ _ cov]
  refine View.canon_apply_of_pieces (fun y : S1024x4096.Idx => nrx (X (1024 * (i 0).val + (y 0).val)) g (y 1).val) _ ?_ y (cov y)
  clear cov
  have L0 : ∀ p : ℕ, p ≤ 768 → ∀ inb (r : Fin 256) (k : Fin 4096), View.ld x0 (Rect.unit (s := S1024x4096) ![p, 0] S256x4096.size inb) (ix2 r k) = X (1024 * (i 0).val + (p + r)) k :=
    fun p hp inb r k => (ldR_apply inb x0 r k hp).trans (B.e0 _ _)
  have L1 : ∀ inb (k : Fin 4096), View.ld x1 (Rect.unit (s := S1x4096) ![0, 0] S1x4096.size inb) (ix2 0 k) = g k :=
    fun inb k => by rw [View.ld_unit_zero zz2]; exact B.e1 k
  unfold runA
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  simp only [p8, p10, p22, p24]
  have key : ∀ (p : ℕ) (hp : p ≤ 768) (inb : ∀ a, (![p, 0] : Fin 2 → ℕ) a + (![256, 4096] : Fin 2 → ℕ) a ≤ (![1024, 4096] : Fin 2 → ℕ) a) (inb' inb'') (x : S256x4096.Idx),
      k0_pay7 (View.ld x0 (Rect.unit (s := S1024x4096) ![p, 0] S256x4096.size inb')) (View.ld x1 (Rect.unit (s := S1x4096) ![0, 0] S1x4096.size inb'')) x
        = nrx (X (1024 * (i 0).val + ((Rect.unit (s := S1024x4096) ![p, 0] ![256, 4096] inb).emb x 0).val)) g ((Rect.unit (s := S1024x4096) ![p, 0] ![256, 4096] inb).emb x 1).val := by
    intro p hp inb inb' inb'' x
    refine (congrArg _ (eq_ix2 x)).trans ((n7 _ _ g (X (1024 * (i 0).val + (p + (x 0).val))) (x 0) (L0 p hp _ _) (L1 _) (x 1)).trans ?_)
    rw [show ((Rect.unit (s := S1024x4096) ![p, 0] ![256, 4096] inb).emb x 0).val = p + (x 0).val from (Cert.InProjIdeal.Val.emb_row p inb x).1,
      show ((Rect.unit (s := S1024x4096) ![p, 0] ![256, 4096] inb).emb x 1).val = (x 1).val from (Cert.InProjIdeal.Val.emb_row p inb x).2]
  exact ⟨key 768 (by decide) _ _ _, key 512 (by decide) _ _ _, key 256 (by decide) _ _ _, key 0 (by decide) _ _ _⟩
end runs

end Cert.FfnUpIdeal.Val
end
-- ==== Proof.UpBlocks.lean ====
/- The first feed-forward call's arrays, at the ideal values: its blocks on the arguments, what is carried, and what it leaves. -/
module

public import proofs.«01_k».proof.Proof.UpVal
public import proofs.«01_k».proof.Proof.Gen.FfnUpIdeal.Frame

@[expose] public section

set_option maxRecDepth 65536

noncomputable section

namespace Cert.Band
open Idealize.ShloMosaic
/-- The entries of an array of three axes, read at natural numbers (0 outside the array). -/
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0
theorem rd3_eq {a b d : ℕ} (x : (⟨3, ![a, b, d]⟩ : Shape).Idx → EReal) (y : (⟨3, ![a, b, d]⟩ : Shape).Idx) (i j k : ℕ)
    (hi : (y 0).val = i) (hj : (y 1).val = j) (hk : (y 2).val = k) : x y = rd3 x i j k := by
  subst hi hj hk
  unfold rd3
  rw [dif_pos ⟨(y 0).isLt, (y 1).isLt, (y 2).isLt⟩]
  exact congrArg x (eq_ix3 y)
end Cert.Band

namespace Cert.FfnUpIdeal.Val
open Cert.FfnUpIdeal Cert.FfnUpIdeal.Gen Cert.FfnUpIdeal.Up Cert.Band Idealize.ShloMosaic Idealize.ShloMosaic.TcCoe Idealize.ShloMosaic.Tactic Idealize.SL.Sem
variable (m : (ℓ : Loc nD τ sig) → Buf (Elt Ideal) ℓ) (ρ : Dev nD → PrngReg)

abbrev xx (c : Dev nD) : ℕ → ℕ → EReal := rd2 (m ((c : Thread nD τ).loc main_arg0))
abbrev gg (c : Dev nD) : ℕ → EReal := rd1 (m ((c : Thread nD τ).loc main_arg1))
abbrev ww (c : Dev nD) : ℕ → ℕ → EReal := rd2 (m ((c : Thread nD τ).loc main_arg2))
abbrev kw (c : Dev nD) : ℕ → ℕ → EReal := rd2 (m ((c : Thread nD τ).loc main_arg3))
abbrev kb (c : Dev nD) : ℕ → EReal := rd1 (m ((c : Thread nD τ).loc main_arg4))
abbrev pp (c : Dev nD) : ℕ → ℕ → ℕ → EReal := rd3 (m ((c : Thread nD τ).loc main_arg5))

theorem idxA : ∀ t : Fin cfg0.N, win0_0.index t = ![t.val / 43, 0] ∧ win0_1.index t = ![0, 0] ∧
    win0_2.index t = ![0, t.val % 43] ∧ win0_3.index t = ![0, 43 + t.val % 43] ∧ win0_4.index t = ![0, t.val % 43] :=
  (by decide +kernel : ∀ t : Fin grid0.N, _)
theorem idxB : ∀ t : Fin cfg0.N, win0_5.index t = ![0, t.val % 43] ∧ win0_6.index t = ![t.val / 43 / 8, 0, t.val % 43] ∧
    win0_7.index t = ![t.val / 43 / 8, 0, t.val % 43] ∧ win0_8.index t = ![t.val / 43, t.val % 43] ∧ win0_9.index t = ![t.val / 43, 0, t.val % 43] :=
  (by decide +kernel : ∀ t : Fin grid0.N, _)

theorem w_eq (c : Dev nD) : V m c main_v0 = (m ((c : Thread nD τ).loc main_arg2) : S4096x22016.Idx → EReal) := by
  show StableHlo.after (List.flatten [hostOps0]) _ (Proc.devRef .tc main_v0) = _
  simp only [hostOps0, List.flatten_cons, List.flatten_nil, List.append_nil]
  after_results_simp <;> rfl
theorem b1_eq (c : Dev nD) : V m c main_v1 = extractStridedSlice S2x1x11008 ![0, 1, 0] (m ((c : Thread nD τ).loc main_arg5) : S2x2x11008.Idx → EReal) slices_S2x2x11008_S2x1x11008_0_1_0 := by
  show StableHlo.after (List.flatten [hostOps0]) _ (Proc.devRef .tc main_v1) = _
  simp only [hostOps0, List.flatten_cons, List.flatten_nil, List.append_nil]
  after_results_simp <;> rfl
theorem b2_eq (c : Dev nD) : V m c main_v2 = extractStridedSlice S2x1x11008 ![0, 0, 0] (m ((c : Thread nD τ).loc main_arg5) : S2x2x11008.Idx → EReal) slices_S2x2x11008_S2x1x11008_0_0_0 := by
  show StableHlo.after (List.flatten [hostOps0]) _ (Proc.devRef .tc main_v2) = _
  simp only [hostOps0, List.flatten_cons, List.flatten_nil, List.append_nil]
  after_results_simp <;> rfl
theorem g_eq (c : Dev nD) : V m c main_v3 = shapeCast S1x4096 (m ((c : Thread nD τ).loc main_arg1) : S4096.Idx → EReal) shapeCasts_S4096_S1x4096 := by
  show StableHlo.after (List.flatten [hostOps0]) _ (Proc.devRef .tc main_v3) = _
  simp only [hostOps0, List.flatten_cons, List.flatten_nil, List.append_nil]
  after_results_simp <;> rfl
theorem kb_eq (c : Dev nD) : V m c main_v4 = shapeCast S1x11008 (m ((c : Thread nD τ).loc main_arg4) : S11008.Idx → EReal) shapeCasts_S11008_S1x11008 := by
  show StableHlo.after (List.flatten [hostOps0]) _ (Proc.devRef .tc main_v4) = _
  simp only [hostOps0, List.flatten_cons, List.flatten_nil, List.append_nil]
  after_results_simp <;> rfl

theorem rowG (x : S4096.Idx → EReal) (y : S1x4096.Idx) (j : ℕ) (h1 : (y 1).val = j) :
    shapeCast S1x4096 x shapeCasts_S4096_S1x4096 y = rd1 x j := by
  subst h1
  refine Eq.trans ?_ (rd1_eq x (ix1 (y 1)) _ rfl)
  rw [eq_ix2 y]
  pointwise
theorem rowB (x : S11008.Idx → EReal) (y : S1x11008.Idx) (j : ℕ) (h1 : (y 1).val = j) :
    shapeCast S1x11008 x shapeCasts_S11008_S1x11008 y = rd1 x j := by
  subst h1
  refine Eq.trans ?_ (rd1_eq x (ix1 (y 1)) _ rfl)
  rw [eq_ix2 y]
  pointwise
theorem sl1' (x : S2x2x11008.Idx → EReal) (a : Fin 2) (z : Fin 1) (b : Fin 11008) :
    extractStridedSlice S2x1x11008 ![0, 1, 0] x slices_S2x2x11008_S2x1x11008_0_1_0 (ix3 a z b) = x (ix3 a 1 b) := by
  have hz : z = 0 := Subsingleton.elim _ _
  subst hz
  pointwise
theorem sl2' (x : S2x2x11008.Idx → EReal) (a : Fin 2) (z : Fin 1) (b : Fin 11008) :
    extractStridedSlice S2x1x11008 ![0, 0, 0] x slices_S2x2x11008_S2x1x11008_0_0_0 (ix3 a z b) = x (ix3 a 0 b) := by
  have hz : z = 0 := Subsingleton.elim _ _
  subst hz
  pointwise
theorem sl1 (x : S2x2x11008.Idx → EReal) (y : S2x1x11008.Idx) (i j : ℕ) (h0 : (y 0).val = i) (h2 : (y 2).val = j) :
    extractStridedSlice S2x1x11008 ![0, 1, 0] x slices_S2x2x11008_S2x1x11008_0_1_0 y = rd3 x i 1 j :=
  (congrArg _ (eq_ix3 y)).trans ((sl1' x (y 0) (y 1) (y 2)).trans (rd3_eq _ _ _ _ _ h0 rfl h2))
theorem sl2 (x : S2x2x11008.Idx → EReal) (y : S2x1x11008.Idx) (i j : ℕ) (h0 : (y 0).val = i) (h2 : (y 2).val = j) :
    extractStridedSlice S2x1x11008 ![0, 0, 0] x slices_S2x2x11008_S2x1x11008_0_0_0 y = rd3 x i 0 j :=
  (congrArg _ (eq_ix3 y)).trans ((sl2' x (y 0) (y 1) (y 2)).trans (rd3_eq _ _ _ _ _ h0 rfl h2))

theorem blk0 (c : Dev nD) (t : Fin cfg0.N) (r : Fin 1024) (k : Fin 4096) : iblk m c 0 t (ix2 r k) = xx m c (t.val / 43 * 1024 + r.val) k.val := by
  unfold iblk
  blk_simp
  refine (congrFun (V_main_arg0 m c) _).trans (rd2_eq _ _ _ _ ?_ ?_)
  · blk_simp; rw [(idxA t).1]; rfl
  · blk_simp; rw [(idxA t).1]; exact Nat.zero_add _
theorem blk1 (c : Dev nD) (t : Fin cfg0.N) (k : Fin 4096) : iblk m c 1 t (ix2 0 k) = gg m c k.val := by
  unfold iblk
  blk_simp
  refine (congrFun (g_eq m c) _).trans (rowG _ _ _ ?_)
  blk_simp; rw [(idxA t).2.1]; exact Nat.zero_add _
theorem blk2 (c : Dev nD) (t : Fin cfg0.N) (k : Fin 4096) (j : Fin 256) : iblk m c 2 t (ix2 k j) = ww m c k.val (t.val % 43 * 256 + j.val) := by
  unfold iblk
  blk_simp
  refine (congrFun (w_eq m c) _).trans (rd2_eq _ _ _ _ ?_ ?_)
  · blk_simp; rw [(idxA t).2.2.1]; exact Nat.zero_add _
  · blk_simp; rw [(idxA t).2.2.1]; rfl
theorem blk3 (c : Dev nD) (t : Fin cfg0.N) (k : Fin 4096) (j : Fin 256) : iblk m c 3 t (ix2 k j) = ww m c k.val ((43 + t.val % 43) * 256 + j.val) := by
  unfold iblk
  blk_simp
  refine (congrFun (w_eq m c) _).trans (rd2_eq _ _ _ _ ?_ ?_)
  · blk_simp; rw [(idxA t).2.2.2.1]; exact Nat.zero_add _
  · blk_simp; rw [(idxA t).2.2.2.1]; rfl
theorem blk4 (c : Dev nD) (t : Fin cfg0.N) (a : Fin 3) (j : Fin 256) : iblk m c 4 t (ix2 a j) = kw m c a.val (t.val % 43 * 256 + j.val) := by
  unfold iblk
  blk_simp
  refine (congrFun (V_main_arg3 m c) _).trans (rd2_eq _ _ _ _ ?_ ?_)
  · blk_simp; rw [(idxA t).2.2.2.2]; exact Nat.zero_add _
  · blk_simp; rw [(idxA t).2.2.2.2]; rfl
theorem blk5 (c : Dev nD) (t : Fin cfg0.N) (j : Fin 256) : iblk m c 5 t (ix2 0 j) = kb m c (t.val % 43 * 256 + j.val) := by
  unfold iblk
  blk_simp
  refine (congrFun (kb_eq m c) _).trans (rowB _ _ _ ?_)
  blk_simp; rw [(idxB t).1]; rfl
theorem blk6 (c : Dev nD) (t : Fin cfg0.N) (j : Fin 256) : iblk m c 6 t (ix3 0 0 j) = pp m c (t.val / 43 / 8) 1 (t.val % 43 * 256 + j.val) := by
  unfold iblk
  blk_simp
  refine (congrFun (b1_eq m c) _).trans (sl1 _ _ _ _ ?_ ?_)
  · blk_simp; rw [(idxB t).2.1]; exact Nat.add_zero _
  · blk_simp; rw [(idxB t).2.1]; rfl
theorem blk7 (c : Dev nD) (t : Fin cfg0.N) (j : Fin 256) : iblk m c 7 t (ix3 0 0 j) = pp m c (t.val / 43 / 8) 0 (t.val % 43 * 256 + j.val) := by
  unfold iblk
  blk_simp
  refine (congrFun (b2_eq m c) _).trans (sl2 _ _ _ _ ?_ ?_)
  · blk_simp; rw [(idxB t).2.2.1]; exact Nat.add_zero _
  · blk_simp; rw [(idxB t).2.2.1]; rfl

/-! ## What is carried -/

/-- Before point `n`: inside a row block its normalised rows, and each column block's tail where it was last visited. -/
def Carried (c : Dev nD) (n : ℕ) (s : Vec Ideal S1024x4096 .bf16 × Vec Ideal S43x8x256 .f32) : Prop :=
  (n % 43 ≠ 0 → ∀ (r : Fin 1024) (k : Fin 4096), s.1 (ix2 r k) = nrx (xx m c (1024 * (n / 43) + r)) (gg m c) k)
    ∧ ∀ (b : Fin 43) (e : Fin 8) (j : Fin 256), b.val < n → s.2 (ix3 b e j) = GG (xx m c) (gg m c) (ww m c) (1024 * ((n - 1 - b) / 43) + 1016 + e) (256 * b + j)

theorem blocks (c : Dev nD) (t : Fin cfg0.N) (s : Vec Ideal S1024x4096 .bf16 × Vec Ideal S43x8x256 .f32) (hs : Carried m c t.val s) :
    Blk (grid0.coords t) (xx m c) (gg m c) (ww m c) (kw m c) (kb m c) (pp m c) (iblk m c 0 t) (iblk m c 1 t) (iblk m c 2 t) (iblk m c 3 t) (iblk m c 4 t) (iblk m c 5 t)
      (iblk m c 6 t) (iblk m c 7 t) s.2 := by
  have hr := row_of t
  have hc := col_of t
  refine ⟨?_, ?_, ?_, ?_, ?_, ?_, ?_, ?_, ?_⟩
  · exact fun r k => (blk0 m c t r k).trans (congrArg (fun q => xx m c q k) (by omega))
  · exact fun k => blk1 m c t k
  · exact fun k j => (blk2 m c t k j).trans (congrArg (ww m c k) (by omega))
  · exact fun k j => (blk3 m c t k j).trans (congrArg (ww m c k) (by omega))
  · exact fun a j => (blk4 m c t a j).trans (congrArg (kw m c a) (by omega))
  · exact fun j => (blk5 m c t j).trans (congrArg (kb m c) (by omega))
  · exact fun j => (blk6 m c t j).trans (congrArg₂ (fun q q' => pp m c q 1 q') (by omega) (by omega))
  · exact fun j => (blk7 m c t j).trans (congrArg₂ (fun q q' => pp m c q 0 q') (by omega) (by omega))
  · intro h e j
    exact (hs.2 _ e j (by omega)).trans (congrArg (fun q => prj (xx m c) (gg m c) (ww m c) q _) (by omega))

/-- Storing a point's tail keeps the tails of the other column blocks. -/
theorem carry_step (t : Fin cfg0.N) (G : ℕ → ℕ → EReal) (C : Vec Ideal S43x8x256 .f32) {off : Fin 3 → ℕ} (hoff : off = ![((grid0.coords t) 1).val, 0, 0])
    (inb : ∀ a : Fin 3, off a + S1x8x256.size a ≤ S43x8x256.size a) (w : (Rect.unit (s := S43x8x256) off S1x8x256.size inb).shape.Idx → Elt Ideal .f32)
    (hw : ∀ (e : Fin 8) (j : Fin 256), w (ix3 (0 : Fin 1) e j) = G (1024 * ((grid0.coords t) 0).val + 1016 + e) (256 * ((grid0.coords t) 1).val + j))
    (hC : ∀ (b : Fin 43) (e : Fin 8) (j : Fin 256), b.val < t.val → C (ix3 b e j) = G (1024 * ((t.val - 1 - b) / 43) + 1016 + e) (256 * b + j))
    (b : Fin 43) (e : Fin 8) (j : Fin 256) (hb : b.val < t.val + 1) :
    sc_1.view.read (Elt Ideal) (sc_1.view.writes (Elt Ideal) (wh_1.unread C) [⟨Rect.unit (s := S43x8x256) off S1x8x256.size inb, w⟩]) (ix3 b e j)
      = G (1024 * ((t.val + 1 - 1 - b) / 43) + 1016 + e) (256 * b + j) := by
  have hr := row_of t
  have hc := col_of t
  have hb' := b.isLt
  by_cases h : b.val = ((grid0.coords t) 1).val
  · have hx : ∀ a : Fin 3, ((ix3 b e j : S43x8x256.Idx) a).val = (![((grid0.coords t) 1).val, 0, 0] : Fin 3 → ℕ) a + ((ix3 (0 : Fin 1) e j : S1x8x256.Idx) a).val := fun a => by
      match a with
      | 0 => exact h
      | 1 => exact (Nat.zero_add _).symm
      | 2 => exact (Nat.zero_add _).symm
    refine (View.read_writes_cons_unit_of_mem sc_1.view (wh_1.unread C) inb w [] (ix3 b e j) (ix3 (0 : Fin 1) e j) hoff hx).trans ((hw e j).trans ?_)
    exact congrArg₂ G (by omega) (by omega)
  · have hm : ((ix3 b e j : S43x8x256.Idx) (0 : Fin 3)).val < (![((grid0.coords t) 1).val, 0, 0] : Fin 3 → ℕ) 0
        ∨ (![((grid0.coords t) 1).val, 0, 0] : Fin 3 → ℕ) 0 + S1x8x256.size 0 ≤ ((ix3 b e j : S43x8x256.Idx) (0 : Fin 3)).val := by
      show b.val < ((grid0.coords t) 1).val ∨ ((grid0.coords t) 1).val + 1 ≤ b.val
      omega
    refine (View.read_writes_cons_unit_of_not_mem sc_1.view (wh_1.unread C) inb w [] (ix3 b e j) hoff 0 hm).trans ?_
    rw [View.writes_nil, wh_1.read_unread]
    exact (hC b e j (by omega)).trans (congrArg (fun q => G (1024 * q + 1016 + e) _) (by omega))

theorem carried_A (c : Dev nD) (t : Fin cfg0.N) (h : t.val % 43 = 0) (s : Vec Ideal S1024x4096 .bf16 × Vec Ideal S43x8x256 .f32) (hs : Carried m c t.val s) :
    Carried m c (t.val + 1) (step m c t s).2.2 := by
  have B := blocks m c t s hs
  have hr := row_of t
  rw [step_A m c t h s]
  refine ⟨fun _ r k => ?_, ?_⟩
  · dsimp only
    refine (rowsA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) _ B ((first_col_iff t).mpr h) (fun h' => (later_col_iff t).mp h' h) (ix2 r k)).trans ?_
    exact congrArg (fun q => nrx (xx m c q) (gg m c) k) (show 1024 * ((grid0.coords t) 0).val + r.val = _ by omega)
  · obtain ⟨w, hw, hv⟩ := slotA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 _ _ _ _ _ _ _ _ _ B
      ((first_col_iff t).mpr h) (fun h' => (later_col_iff t).mp h' h)
    dsimp only
    rw [hw]
    exact carry_step t _ s.2 (k0_off1_eq _) _ w hv hs.2
theorem carried_B (c : Dev nD) (t : Fin cfg0.N) (h : ¬t.val % 43 = 0) (s : Vec Ideal S1024x4096 .bf16 × Vec Ideal S43x8x256 .f32) (hs : Carried m c t.val s) :
    Carried m c (t.val + 1) (step m c t s).2.2 := by
  have B := blocks m c t s hs
  have hr := row_of t
  have hx : ∀ (r : Fin 1024) (k : Fin 4096), s.1 (ix2 r k) = nrx (xx m c (1024 * ((grid0.coords t) 0).val + r)) (gg m c) k :=
    fun r k => (hs.1 h r k).trans (congrArg (fun q => nrx (xx m c (1024 * q + r)) (gg m c) k) hr.symm)
  rw [step_B m c t h s]
  refine ⟨fun _ r k => ?_, ?_⟩
  · exact (hs.1 h r k).trans (congrArg (fun q => nrx (xx m c (1024 * q + r)) (gg m c) k) (by omega))
  · obtain ⟨w, hw, hv⟩ := slotB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 _ _ _ _ _ _ _ _ s.1 _ B
      (fun h' => h ((first_col_iff t).mp h')) ((later_col_iff t).mpr h) hx
    dsimp only
    rw [hw]
    exact carry_step t _ s.2 (k0_off2_eq _) _ w hv hs.2

theorem carried (c : Dev nD) : ∀ n : ℕ, n ≤ cfg0.N → Carried m c n (state m c n)
  | 0, _ => ⟨fun h => absurd rfl h, fun _ _ _ h => absurd h (Nat.not_lt_zero _)⟩
  | n + 1, h => by
    have ih := carried c n (Nat.le_of_succ_le h)
    have e := state_succ m c ⟨n, h⟩
    by_cases h0 : n % 43 = 0
    · exact (congrArg (Carried m c (n + 1)) e).mpr (carried_A m c ⟨n, h⟩ h0 _ ih)
    · exact (congrArg (Carried m c (n + 1)) e).mpr (carried_B m c ⟨n, h⟩ h0 _ ih)

/-! ## The blocks left and the arrays -/

theorem act_block (c : Dev nD) (t : Fin cfg0.N) (y : S1024x256.Idx) :
    (left m c t).1 y = act (xx m c) (gg m c) (ww m c) (kw m c) (kb m c) (pp m c) (t.val / 43 * 1024 + (y 0).val) (t.val % 43 * 256 + (y 1).val) := by
  have hs := carried m c t.val t.isLt.le
  have B := blocks m c t _ hs
  have hr := row_of t
  have hc := col_of t
  have e : act (xx m c) (gg m c) (ww m c) (kw m c) (kb m c) (pp m c) (1024 * ((grid0.coords t) 0).val + (y 0).val) (256 * ((grid0.coords t) 1).val + (y 1).val)
      = act (xx m c) (gg m c) (ww m c) (kw m c) (kb m c) (pp m c) (t.val / 43 * 1024 + (y 0).val) (t.val % 43 * 256 + (y 1).val) := congrArg₂ _ (by omega) (by omega)
  unfold left
  by_cases h : t.val % 43 = 0
  · rw [step_A m c t h]
    dsimp only
    exact (actA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) (state m c t.val).2 B ((first_col_iff t).mpr h) (fun h' => (later_col_iff t).mp h' h) y).trans e
  · rw [step_B m c t h]
    dsimp only
    exact (actB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) (state m c t.val).1 (state m c t.val).2 B (fun h' => h ((first_col_iff t).mp h')) ((later_col_iff t).mpr h)
      (fun r k => (hs.1 h r k).trans (congrArg (fun q => nrx (xx m c (1024 * q + r)) (gg m c) k) hr.symm)) y).trans e
theorem gate_block (c : Dev nD) (t : Fin cfg0.N) (y : S1x2x256.Idx) :
    (left m c t).2.1 y = GG (xx m c) (gg m c) (ww m c) (1024 * (t.val / 43) + 1022 + (y 1).val) (t.val % 43 * 256 + (y 2).val) := by
  have hs := carried m c t.val t.isLt.le
  have B := blocks m c t _ hs
  have hr := row_of t
  have hc := col_of t
  have e : GG (xx m c) (gg m c) (ww m c) (1024 * ((grid0.coords t) 0).val + 1022 + (y 1).val) (256 * ((grid0.coords t) 1).val + (y 2).val)
      = GG (xx m c) (gg m c) (ww m c) (1024 * (t.val / 43) + 1022 + (y 1).val) (t.val % 43 * 256 + (y 2).val) := congrArg₂ _ (by omega) (by omega)
  unfold left
  by_cases h : t.val % 43 = 0
  · rw [step_A m c t h]
    dsimp only
    exact (gateA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) (state m c t.val).2 B ((first_col_iff t).mpr h) (fun h' => (later_col_iff t).mp h' h) y).trans e
  · rw [step_B m c t h]
    dsimp only
    exact (gateB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc_0 wh_0 sc_1 wh_1 (iblk m c 0 t) (iblk m c 1 t) (iblk m c 2 t) (iblk m c 3 t) (iblk m c 4 t) (iblk m c 5 t) (iblk m c 6 t) (iblk m c 7 t) (state m c t.val).1 (state m c t.val).2 B (fun h' => h ((first_col_iff t).mp h')) ((later_col_iff t).mpr h)
      (fun r k => (hs.1 h r k).trans (congrArg (fun q => nrx (xx m c (1024 * q + r)) (gg m c) k) hr.symm)) y).trans e

/-- The activation the call leaves. -/
theorem act_array (c : Dev nD) : (dats m 0 c).arrAt 8 cfg0.N
    = fun x : S16384x11008.Idx => act (xx m c) (gg m c) (ww m c) (kw m c) (kb m c) (pp m c) (x 0).val (x 1).val := by
  refine (dats m 0 c).arrAt_eq_of_covers 8 _ (by decide +kernel) fun t hf y => ?_
  obtain ⟨-, -, -, i8, -⟩ := idxB t
  blk_simp
  rw [after_8, i8]
  exact act_block m c t y
/-- The gate's last two rows of each row block. -/
theorem gate_array (c : Dev nD) : (dats m 0 c).arrAt 9 cfg0.N
    = fun x : S16x2x11008.Idx => GG (xx m c) (gg m c) (ww m c) (1024 * (x 0).val + 1022 + (x 1).val) (x 2).val := by
  refine (dats m 0 c).arrAt_eq_of_covers 9 _ (by decide +kernel) fun t hf y => ?_
  obtain ⟨-, -, -, -, i9⟩ := idxB t
  blk_simp
  rw [after_9, i9]
  refine (gate_block m c t y).trans ?_
  exact congrArg₂ (GG (xx m c) (gg m c) (ww m c)) (show 1024 * (t.val / 43) + 1022 + (y 1).val = 1024 * (t.val / 43) + 1022 + (0 * 2 + (y 1).val) by omega) rfl

end Cert.FfnUpIdeal.Val
end
-- ==== Proof.UpRef.lean ====
/- The first feed-forward call's reference at its entries. -/
module

public import proofs.«01_k».proof.Proof.UpBlocks
public import proofs.«01_k».proof.Proof.Gen.FfnUpReferenceIdeal.Read

@[expose] public section

set_option maxRecDepth 65536

noncomputable section

namespace Cert.FfnUpReferenceIdeal.Val
open Cert.FfnUpReferenceIdeal Cert.FfnUpReferenceIdeal.Gen Cert.FfnUpReferenceIdeal.Read Cert.Band Idealize.ShloMosaic Idealize.ShloMosaic.TcCoe Idealize.SL.Sem

section cat
variable (a : S2x2x11008.Idx → EReal) (b : S2x8192x11008.Idx → EReal) (h : Shape.Concatenates [S2x2x11008, S2x8192x11008] S2x8194x11008 1) (i : Fin 2) (j : Fin 11008)
theorem cat0 (t : Fin 2) : concatenate S2x8194x11008 1 [⟨S2x2x11008, a⟩, ⟨S2x8192x11008, b⟩] h (ix3 i ⟨t.val, by omega⟩ j) = a (ix3 i t j) := by
  pointwise
theorem cat1 (t : Fin 8192) : concatenate S2x8194x11008 1 [⟨S2x2x11008, a⟩, ⟨S2x8192x11008, b⟩] h (ix3 i ⟨2 + t.val, by omega⟩ j) = b (ix3 i t j) := by
  pointwise
end cat

theorem bits0 : Ideal.ofBits .f32 0x00000000#32 = 0 := by pointwise

variable (x0 : (⟨S16384x4096, .f32⟩ : BufTy).Contents (Elt Ideal)) (x1 : (⟨S4096, .f32⟩ : BufTy).Contents (Elt Ideal)) (x2 : (⟨S4096x22016, .f32⟩ : BufTy).Contents (Elt Ideal))
  (x3 : (⟨S3x11008, .f32⟩ : BufTy).Contents (Elt Ideal)) (x4 : (⟨S11008, .f32⟩ : BufTy).Contents (Elt Ideal)) (x5 : (⟨S2x2x11008, .f32⟩ : BufTy).Contents (Elt Ideal))

theorem v0_at (i : S2x8192x4096.Idx) : val_main_v0 (F := Ideal) x0 i = rd2 x0 ((i 0).val * 8192 + (i 1).val) (i 2).val := by
  have h0 : (i 0).val < 2 := (i 0).isLt
  have h1 : (i 1).val < 8192 := (i 1).isLt
  have h2 : (i 2).val < 4096 := (i 2).isLt
  exact (val_main_v0_apply x0 i).trans (rd2_eq x0 (idx_main_v0 i) _ _
    (show (((i 0).val * 8192 + (i 1).val) * 4096 + (i 2).val) / 4096 = (i 0).val * 8192 + (i 1).val by omega)
    (show (((i 0).val * 8192 + (i 1).val) * 4096 + (i 2).val) % 4096 = (i 2).val by omega))

theorem v13_at (i : S2x8192x4096.Idx) : val_main_v13 (F := Ideal) x0 x1 i = nrx (rd2 x0 ((i 0).val * 8192 + (i 1).val)) (rd1 x1) (i 2).val := by
  rw [val_main_v13_apply, val_main_v10_apply, val_main_v9_apply, val_main_v8_apply, val_main_v7_apply, val_main_v6_apply, val_main_v5_apply, val_main_v4_apply,
    val_main_v3_apply, val_main_v2_apply, val_main_v12_apply, val_main_v11_apply]
  have s : ∀ k : Fin 4096, val_main_v1 (F := Ideal) x0 (idx_main_v2 (idx_main_v3 (idx_main_v9 i)) k)
      = rd2 x0 ((i 0).val * 8192 + (i 1).val) k.val * rd2 x0 ((i 0).val * 8192 + (i 1).val) k.val :=
    fun k => (val_main_v1_apply x0 _).trans (congrArg₂ (· * ·) (v0_at x0 _) (v0_at x0 _))
  simp only [s, val_main_cst_apply, val_main_cst_0_apply, val_main_cst_1_apply]
  rw [rd1_eq x1 (idx_main_v11 (idx_main_v12 i)) (i 2).val rfl, v0_at x0 i]
  show _ * Ideal.rsqrt (Ideal.div (Ideal.ofBits .f32 0x00000000#32 + _) _ + _) * _ = _
  rw [bits0, zero_add]
  rfl

theorem v14_at (i : S2x8192x22016.Idx) : val_main_v14 (F := Ideal) x0 x1 x2 i = prj (rd2 x0) (rd1 x1) (rd2 x2) ((i 0).val * 8192 + (i 1).val) (i 2).val := by
  rw [val_main_v14_apply]
  exact Finset.sum_congr rfl fun k _ => congrArg₂ (· * ·) (v13_at x0 x1 _) (rd2_eq x2 _ _ _ rfl rfl)

theorem v16_at (i : S2x8192x11008.Idx) : val_main_v16 (F := Ideal) x0 x1 x2 i = prj (rd2 x0) (rd1 x1) (rd2 x2) ((i 0).val * 8192 + (i 1).val) (11008 + (i 2).val) :=
  (val_main_v16_apply x0 x1 x2 i).trans (v14_at x0 x1 x2 _)

/-- The gate with the two earlier rows of its sequence before it, at row `t` of sequence `s`. -/
theorem v17_lo (i : S2x8194x11008.Idx) (h : (i 1).val < 2) : val_main_v17 (F := Ideal) x0 x1 x2 x5 i = rd3 x5 (i 0).val (i 1).val (i 2).val := by
  unfold val_main_v17
  exact (congrArg _ (eq_ix3 i)).trans ((cat0 _ _ _ (i 0) (i 2) ⟨(i 1).val, h⟩).trans (rd3_eq x5 _ _ _ _ rfl rfl rfl))
theorem v17_hi (i : S2x8194x11008.Idx) (t : ℕ) (h : (i 1).val = 2 + t) :
    val_main_v17 (F := Ideal) x0 x1 x2 x5 i = prj (rd2 x0) (rd1 x1) (rd2 x2) ((i 0).val * 8192 + t) (i 2).val := by
  have h1 : (i 1).val < 8194 := (i 1).isLt
  unfold val_main_v17
  refine (congrArg _ ((eq_ix3 i).trans (congrArg (fun z => ix3 (i 0) z (i 2)) (Fin.ext h)))).trans ((cat1 _ _ _ (i 0) (i 2) ⟨t, by omega⟩).trans ?_)
  exact (val_main_v15_apply x0 x1 x2 _).trans (v14_at x0 x1 x2 _)

section taps
variable (i : S2x8192x11008.Idx)
theorem v34_at : val_main_v34 (F := Ideal) x0 x1 x2 x5 i = prj (rd2 x0) (rd1 x1) (rd2 x2) ((i 0).val * 8192 + (i 1).val) (i 2).val :=
  (val_main_v34_apply x0 x1 x2 x5 i).trans (v17_hi x0 x1 x2 x5 _ (i 1).val rfl)
theorem v27_at : val_main_v27 (F := Ideal) x0 x1 x2 x5 i = sh1 (prj (rd2 x0) (rd1 x1) (rd2 x2)) (rd3 x5) ((i 0).val * 8192 + (i 1).val) (i 2).val := by
  have h1 : (i 1).val < 8192 := (i 1).isLt
  refine (val_main_v27_apply x0 x1 x2 x5 i).trans ?_
  unfold sh1
  by_cases h : (i 1).val = 0
  · rw [if_pos (by omega)]
    refine (v17_lo x0 x1 x2 x5 _ (show 1 + (i 1).val < 2 by omega)).trans ?_
    exact congrArg₂ (fun a b => rd3 x5 a b (i 2).val) (show (i 0).val = ((i 0).val * 8192 + (i 1).val) / 8192 by omega) (show 1 + (i 1).val = 1 by omega)
  · rw [if_neg (by omega)]
    refine (v17_hi x0 x1 x2 x5 _ ((i 1).val - 1) (show 1 + (i 1).val = 2 + ((i 1).val - 1) by omega)).trans ?_
    exact congrArg (fun a => prj (rd2 x0) (rd1 x1) (rd2 x2) a (i 2).val) (show (i 0).val * 8192 + ((i 1).val - 1) = (i 0).val * 8192 + (i 1).val - 1 by omega)
theorem v18_at : val_main_v18 (F := Ideal) x0 x1 x2 x5 i = sh2 (prj (rd2 x0) (rd1 x1) (rd2 x2)) (rd3 x5) ((i 0).val * 8192 + (i 1).val) (i 2).val := by
  have h1 : (i 1).val < 8192 := (i 1).isLt
  refine (val_main_v18_apply x0 x1 x2 x5 i).trans ?_
  unfold sh2
  by_cases h : (i 1).val < 2
  · refine (v17_lo x0 x1 x2 x5 _ h).trans ?_
    by_cases h' : (i 1).val = 0
    · rw [if_pos (by omega)]
      exact congrArg₂ (fun a b => rd3 x5 a b (i 2).val) (show (i 0).val = ((i 0).val * 8192 + (i 1).val) / 8192 by omega) h'
    · rw [if_neg (by omega), if_pos (by omega)]
      exact congrArg₂ (fun a b => rd3 x5 a b (i 2).val) (show (i 0).val = ((i 0).val * 8192 + (i 1).val) / 8192 by omega) (show (i 1).val = 1 by omega)
  · rw [if_neg (by omega), if_neg (by omega)]
    refine (v17_hi x0 x1 x2 x5 _ ((i 1).val - 2) (show (i 1).val = 2 + ((i 1).val - 2) by omega)).trans ?_
    exact congrArg (fun a => prj (rd2 x0) (rd1 x1) (rd2 x2) a (i 2).val) (show (i 0).val * 8192 + ((i 1).val - 2) = (i 0).val * 8192 + (i 1).val - 2 by omega)

theorem w0_at : val_main_v22 (F := Ideal) x3 i = rd2 x3 0 (i 2).val := by
  have h2 : (i 2).val < 11008 := (i 2).isLt
  rw [val_main_v22_apply, val_main_v21_apply, val_main_v20_apply, val_main_v19_apply]
  exact rd2_eq x3 _ _ _ rfl (Nat.mod_eq_of_lt h2)
theorem w1_at : val_main_v31 (F := Ideal) x3 i = rd2 x3 1 (i 2).val := by
  have h2 : (i 2).val < 11008 := (i 2).isLt
  rw [val_main_v31_apply, val_main_v30_apply, val_main_v29_apply, val_main_v28_apply]
  exact rd2_eq x3 _ _ _ rfl (Nat.mod_eq_of_lt h2)
theorem w2_at : val_main_v38 (F := Ideal) x3 i = rd2 x3 2 (i 2).val := by
  have h2 : (i 2).val < 11008 := (i 2).isLt
  rw [val_main_v38_apply, val_main_v37_apply, val_main_v36_apply, val_main_v35_apply]
  exact rd2_eq x3 _ _ _ rfl (Nat.mod_eq_of_lt h2)
theorem b_at : val_main_v25 (F := Ideal) x4 i = rd1 x4 (i 2).val := by
  rw [val_main_v25_apply, val_main_v24_apply]
  exact rd1_eq x4 _ _ rfl

/-- The convolution of the gate, before the activation. -/
theorem v40_at : val_main_v40 (F := Ideal) x0 x1 x2 x3 x4 x5 i
    = tap (rd1 x4 (i 2).val) (rd2 x3 0 (i 2).val) (rd2 x3 1 (i 2).val) (rd2 x3 2 (i 2).val)
      (sh2 (prj (rd2 x0) (rd1 x1) (rd2 x2)) (rd3 x5) ((i 0).val * 8192 + (i 1).val) (i 2).val)
      (sh1 (prj (rd2 x0) (rd1 x1) (rd2 x2)) (rd3 x5) ((i 0).val * 8192 + (i 1).val) (i 2).val)
      (prj (rd2 x0) (rd1 x1) (rd2 x2) ((i 0).val * 8192 + (i 1).val) (i 2).val) := by
  rw [val_main_v40_apply, val_main_v39_apply, val_main_v33_apply, val_main_v32_apply, val_main_v26_apply, val_main_v23_apply,
    v34_at, v27_at, v18_at, w0_at, w1_at, w2_at, b_at]
  rfl

theorem v42_at : val_main_v42 (F := Ideal) x0 x1 x2 x3 x4 x5 i
    = Cert.FfnUpIdeal.Val.act (rd2 x0) (rd1 x1) (rd2 x2) (rd2 x3) (rd1 x4) (rd3 x5) ((i 0).val * 8192 + (i 1).val) (i 2).val := by
  rw [val_main_v42_apply, val_main_v41_apply, val_main_call0_v5_apply, val_main_call0_v4_apply, val_main_call0_v3_apply, val_main_call0_v2_apply,
    val_main_call0_v1_apply, val_main_call0_v0_apply, val_main_call0_cst_apply, val_main_call0_cst_0_apply, v16_at, v40_at]
  unfold Cert.FfnUpIdeal.Val.act upa slu
  rw [bits0, zero_sub]
  rfl
end taps

theorem v44_at (x : S16384x11008.Idx) : val_main_v44 (F := Ideal) x0 x1 x2 x3 x4 x5 x
    = Cert.FfnUpIdeal.Val.act (rd2 x0) (rd1 x1) (rd2 x2) (rd2 x3) (rd1 x4) (rd3 x5) (x 0).val (x 1).val := by
  have h0 : (x 0).val < 16384 := (x 0).isLt
  have h1 : (x 1).val < 11008 := (x 1).isLt
  rw [val_main_v44_apply, val_main_v43_apply]
  refine (v42_at x0 x1 x2 x3 x4 x5 (idx_main_v43 x)).trans ?_
  exact congrArg₂ (Cert.FfnUpIdeal.Val.act (rd2 x0) (rd1 x1) (rd2 x2) (rd2 x3) (rd1 x4) (rd3 x5))
    (show ((x 0).val * 11008 + (x 1).val) / 90177536 * 8192 + ((x 0).val * 11008 + (x 1).val) / 11008 % 8192 = (x 0).val by omega)
    (show ((x 0).val * 11008 + (x 1).val) % 11008 = (x 1).val by omega)

theorem v45_at (x : S2x2x11008.Idx) : val_main_v45 (F := Ideal) x0 x1 x2 x5 x
    = Cert.FfnUpIdeal.Val.GG (rd2 x0) (rd1 x1) (rd2 x2) ((x 0).val * 8192 + (8190 + (x 1).val)) (x 2).val :=
  (val_main_v45_apply x0 x1 x2 x5 x).trans (v17_hi x0 x1 x2 x5 _ (8190 + (x 1).val) (show 8192 + (x 1).val = 2 + (8190 + (x 1).val) by omega))

end Cert.FfnUpReferenceIdeal.Val

end
-- ==== Proof.UpEnd.lean ====
/- The first feed-forward call against its reference. -/
module

public import proofs.«01_k».proof.Proof.UpRef
public import proofs.«01_k».proof.Defs

@[expose] public section

set_option maxRecDepth 65536

noncomputable section

namespace Cert.FfnUpIdeal.Val
open Cert.FfnUpIdeal Cert.FfnUpIdeal.Gen Cert.FfnUpIdeal.Up Cert.Band Idealize.ShloMosaic Idealize.ShloMosaic.TcCoe Idealize.SL.Sem
variable (m : (ℓ : Loc nD τ sig) → Buf (Elt Ideal) ℓ) (ρ : Dev nD → PrngReg)

/-- Blocks 7 and 15 of the gate's tails, the last of each sequence. -/
theorem ends (x : S16x2x11008.Idx → EReal) (s e : Fin 2) (j : Fin 11008) :
    Host.slice S2x2x11008 ![7, 0, 0] ![8, 1, 1] x slicesBy_S16x2x11008_S2x2x11008_7s8_0s1_0s1 (ix3 s e j) = x (ix3 ⟨7 + 8 * s.val, by omega⟩ e j) := by
  pointwise

theorem ends_eq (c : Dev nD) : Pipeline.afterTail₀ cfgs (dats m) 0 (V0 m) [hostOps1] c main_v6
    = Host.slice S2x2x11008 ![7, 0, 0] ![8, 1, 1] ((dats m 0 c).arrAt 9 cfg0.N : S16x2x11008.Idx → EReal) slicesBy_S16x2x11008_S2x2x11008_7s8_0s1_0s1 := by
  unfold Pipeline.afterTail₀
  simp only [hostOps1, List.flatten_cons, List.flatten_nil, List.append_nil]
  after_results_simp
  exact congrArg (fun x : S16x2x11008.Idx → EReal => Host.slice S2x2x11008 ![7, 0, 0] ![8, 1, 1] x slicesBy_S16x2x11008_S2x2x11008_7s8_0s1_0s1)
    (Pipeline.Dat.withArrays_arrAt (dats m 0 c) sharedIn0 (V0 m c) (A_eq m c) 9)

theorem ends_at (c : Dev nD) (x : S2x2x11008.Idx) : (Pipeline.afterTail₀ cfgs (dats m) 0 (V0 m) [hostOps1] c main_v6 : S2x2x11008.Idx → EReal) x
    = GG (xx m c) (gg m c) (ww m c) ((x 0).val * 8192 + (8190 + (x 1).val)) (x 2).val := by
  refine (congrFun (ends_eq m c) x).trans ((congrArg _ (eq_ix3 x)).trans ((ends _ (x 0) (x 1) (x 2)).trans ((congrFun (gate_array m c) _).trans ?_)))
  exact congrArg (fun i => GG (xx m c) (gg m c) (ww m c) i (x 2).val)
    (show 1024 * (7 + 8 * (x 0).val) + 1022 + (x 1).val = (x 0).val * 8192 + (8190 + (x 1).val) by omega)
end Cert.FfnUpIdeal.Val

namespace Cert.Proof
open Cert.Band Idealize.ShloMosaic Idealize.ShloMosaic.TcCoe Idealize.SL.Sem

/-- The reference's frame: its run read at its arguments; it has no semaphore. -/
theorem ffn_up_reference_frame : Cert.quiescent_FfnUpReferenceIdeal := fun m ρ _ =>
  (θ_run Cert.FfnUpReferenceIdeal.defs _ _).mono (fun r h => ⟨fun c => (h c).2.2, sem_eq_zero_of_no_sems (by decide) r.2⟩)
    (Cert.FfnUpReferenceIdeal.Value.run (F := Ideal) m ρ)

/-- The first feed-forward call: the activated gate times the value half, and the gate's last two rows of each sequence. -/
theorem ffn_up : Cert.algebraic_FfnUpIdeal_FfnUpReferenceIdeal := by
  intro m g m' g' _ hargs
  refine ⟨fun c => (Cert.FfnUpIdeal.Up.dats m 0 c).arrAt 8 Cert.FfnUpIdeal.cfg0.N,
    fun c => Pipeline.afterTail₀ Cert.FfnUpIdeal.cfgs (Cert.FfnUpIdeal.Up.dats m) 0 (Cert.FfnUpIdeal.Gen.V0 m) [Cert.FfnUpIdeal.Gen.hostOps1] c Cert.FfnUpIdeal.main_v6, ?_, ?_⟩
  · refine (θ_run Cert.FfnUpIdeal.defs _ _).mono (fun _ h c => ?_) (θ_run_and (Cert.FfnUpIdeal.Up.run_main m g) (Cert.FfnUpIdeal.Up.frame m g))
    exact ⟨(h.1 c).1 8, (h.1 c).2 Cert.FfnUpIdeal.main_v6 (Pipeline.mem_restRefs_of Cert.FfnUpIdeal.main_v6 (by decide) (by decide)), h.2.1 c⟩
  · refine (θ_run Cert.FfnUpReferenceIdeal.defs _ _).mono (fun _ h c => ?_) (Cert.FfnUpReferenceIdeal.Value.run (F := Ideal) m' g')
    obtain ⟨h0, h1, hr⟩ := h c
    obtain ⟨e0, e1, e2, e3, e4, e5⟩ := hargs c
    refine ⟨h0.trans ?_, h1.trans ?_, hr⟩
    · rw [Cert.FfnUpReferenceIdeal.Read.val_main_v44_eq, e0, e1, e2, e3, e4, e5]
      funext x
      refine Eq.trans ?_ (congrFun (Cert.FfnUpIdeal.Val.act_array m c) x).symm
      exact Cert.FfnUpReferenceIdeal.Val.v44_at _ _ _ _ _ _ x
    · rw [Cert.FfnUpReferenceIdeal.Read.val_main_v45_eq, e0, e1, e2, e5]
      funext x
      refine Eq.trans ?_ (Cert.FfnUpIdeal.Val.ends_at m c x).symm
      exact Cert.FfnUpReferenceIdeal.Val.v45_at _ _ _ _ x
end Cert.Proof

end
-- ==== Proof.UpS1.lean ====
/- The first feed-forward call at the sample's shapes: half a row block's activation, whose rows are 16 sequences of 32. -/
module

public import proofs.«01_k».proof.Proof.UpVal
public import proofs.«01_k».proof.Proof.Gen.FfnUpSampleIdeal.Frame

@[expose] public section

set_option maxRecDepth 65536

noncomputable section

namespace Cert.Band
open Idealize.ShloMosaic
section rows
variable (G : ℕ → ℕ → EReal) (P : ℕ → ℕ → ℕ → EReal)
/-- The gate one row earlier in the row's sequence of 32, the rows `P` standing before its first. -/
def ss1 (i j : ℕ) : EReal := if i % 32 = 0 then P (i / 32) 1 j else G (i - 1) j
/-- The gate two rows earlier. -/
def ss2 (i j : ℕ) : EReal := if i % 32 < 2 then P (i / 32) (i % 32) j else G (i - 2) j
/-- The layer's output at row `i`, column `j`. -/
def usa (V cw : ℕ → ℕ → EReal) (cb : ℕ → EReal) (i j : ℕ) : EReal :=
  slu (tap (cb j) (cw 0 j) (cw 1 j) (cw 2 j) (ss2 G P i j) (ss1 G P i j) (G i j)) (V i j)
end rows
end Cert.Band

namespace Cert.FfnUpSampleIdeal.Val
open Cert.FfnUpSampleIdeal Cert.FfnUpSampleIdeal.Gen Cert.Band Idealize.ShloMosaic Idealize.ShloMosaic.TcCoe Idealize.SL.Sem
open Cert.FfnUpIdeal.Val (rot1 rot2 conv0)

variable {F : FTy → Type} [FloatOps F]

/-- The gate one row earlier: rotated, the first row of each sequence replaced. -/
def near (G : FVec F S512x256 .f32) (b : Vec F S512x256 .f32) : FVec F S512x256 .f32 :=
  select (cmpi .eq k0_pay10 (broadcast S512x256 0#32)) (shapeCast S512x256 b shapeCasts_S512x256_S512x256) (rot1 G)
/-- The gate two rows earlier: rotated, the first two rows of each sequence replaced. -/
def far (G : FVec F S512x256 .f32) (b : Vec F S512x256 .f32) : FVec F S512x256 .f32 :=
  select (cmpi .slt k0_pay10 (broadcast S512x256 2#32)) (shapeCast S512x256 b shapeCasts_S512x256_S512x256) (rot2 G)
/-- The activation of half a row block. -/
def halfS (cb c0 c1 c2 : Vec F S1x256 .f32) (G V : FVec F S512x256 .f32) (b1 b2 : Vec F S512x256 .f32) : FVec F S512x256 .bf16 :=
  Cert.FfnUpIdeal.Gen.k0_pay1 V (conv0 cb c0 c1 (far G b2) (near G b1)) (mulf G (broadcastTo S512x256 c2 broadcasts_S1x256_S512x256))

section eqs
variable (cb c0 c1 c2 : Vec F S1x256 .f32) (w wv : Vec F S4096x256 .bf16) (b1 b2 : Vec F S512x256 .f32)
theorem pay13_half (N : FVec F S512x4096 .bf16) :
    k0_pay13 (k0_pay8 N w) (k0_pay9 N wv) (k0_pay11 N w b1) (k0_pay12 N w b2) cb c0 c1 c2 = halfS cb c0 c1 c2 (k0_pay8 N w) (k0_pay8 N wv) b1 b2 := rfl
theorem pay1_half (x : FVec F S256x4096 .f32) (y : Vec F S256x4096 .f32) (g : Vec F S1x4096 .f32) :
    k0_pay1 (k0_pay21 x y g wv) (k0_pay25 (k0_pay20 x y g w) (k0_pay22 x y g w) (k0_pay23 x y g w) (iota .tc S512x256 32 [0] iota_S512x256_d0_w32)
        (Scalar.select (Scalar.cmpi .eq 32#32 0#32) 1#32 32#32) k0_pay24 b1 b2 cb c0 c1 c2) (Scalar.ofBits .f32 0x00000000#32)
      = halfS cb c0 c1 c2 (k0_pay8 (k0_pay19 x y g) w) (k0_pay8 (k0_pay19 x y g) wv) b1 b2 := rfl
theorem pay31_half (N : Vec F S512x4096 .bf16) :
    k0_pay31 (k0_pay26 N w) (k0_pay27 N wv) (k0_pay29 N w b1) (k0_pay30 N w b2) cb c0 c1 c2 = halfS cb c0 c1 c2 (k0_pay8 N w) (k0_pay8 N wv) b1 b2 := rfl
theorem pay2_half (N : Vec F S512x4096 .bf16) :
    k0_pay2 (k0_pay32 N w) (k0_pay33 N wv) (k0_pay36 (k0_pay32 N w) 2#32 b2 cb c0) (k0_pay37 (k0_pay34 N w) b1 c1) c2
      = halfS cb c0 c1 c2 (k0_pay8 N w) (k0_pay8 N wv) b1 b2 := rfl
end eqs

theorem rows_eq (x y : Vec F S256x4096 .f32) (g g' : Vec F S1x4096 .f32) : k0_pay7 x g y g' = Cert.FfnUpIdeal.Gen.k0_pay11 x g y g' := rfl
theorem rows_eq' (x y : Vec F S256x4096 .f32) (g g' : Vec F S1x4096 .f32) : k0_pay19 (k0_pay14 x g) y g' = Cert.FfnUpIdeal.Gen.k0_pay11 x g y g' := rfl
theorem gate_eq (N : FVec F S512x4096 .bf16) (w : Vec F S4096x256 .bf16) : k0_pay8 N w = Cert.FfnUpIdeal.Gen.k0_pay12 N w := rfl
theorem st4 (x : Vec F S256x4096 .f32) (g : Vec F S1x4096 .f32) : k0_pay4 x g = Cert.FfnUpIdeal.Gen.k0_pay8 x g := rfl
theorem st6 (x : Vec F S256x4096 .f32) (g : Vec F S1x4096 .f32) : k0_pay6 x g = Cert.FfnUpIdeal.Gen.k0_pay8 x g := rfl
theorem st16 (x : Vec F S256x4096 .f32) (g : Vec F S1x4096 .f32) : k0_pay16 (k0_pay14 x g) = Cert.FfnUpIdeal.Gen.k0_pay8 x g := rfl
theorem st18 (x : Vec F S256x4096 .f32) (g : Vec F S1x4096 .f32) : k0_pay18 x g = Cert.FfnUpIdeal.Gen.k0_pay8 x g := rfl

/-! ## Read at an entry, at the ideal values -/

section read
variable (G V : FVec Ideal S512x256 .f32) (b1 b2 : Vec Ideal S512x256 .f32) (cb c0 c1 c2 : Vec Ideal S1x256 .f32)

theorem pay10_at (r : Fin 512) (j : Fin 256) : k0_pay10 (ix2 r j) = BitVec.ofNat 32 (r.val % 32) := by
  pointwise [k0_pay10]
  revert r; decide +kernel

/-- A row's number in its sequence against zero and two. -/
theorem at0 : ∀ r : Fin 32, r.val = 0 → IntOp.cmpi CmpIPredicate.eq (BitVec.ofNat 32 r.val) 0#32 = 1#1 := by decide
theorem at1 : ∀ r : Fin 32, ¬r.val = 0 → IntOp.cmpi CmpIPredicate.eq (BitVec.ofNat 32 r.val) 0#32 = 0#1 := by decide
theorem lt0 : ∀ r : Fin 32, r.val < 2 → IntOp.cmpi CmpIPredicate.slt (BitVec.ofNat 32 r.val) 2#32 = 1#1 := by decide
theorem lt1 : ∀ r : Fin 32, ¬r.val < 2 → IntOp.cmpi CmpIPredicate.slt (BitVec.ofNat 32 r.val) 2#32 = 0#1 := by decide
theorem same (r : Fin 512) (j : Fin 256) : shapeCast S512x256 b1 shapeCasts_S512x256_S512x256 (ix2 r j) = b1 (ix2 r j) := by
  pointwise
theorem near_step (r : Fin 512) (j : Fin 256) : near G b1 (ix2 r j)
    = Scalar.select (IntOp.cmpi CmpIPredicate.eq (BitVec.ofNat 32 (r.val % 32)) 0#32) (b1 (ix2 r j)) (rot1 G (ix2 r j)) := by
  rw [← pay10_at r j, ← same b1 r j]; rfl
theorem far_step (r : Fin 512) (j : Fin 256) : far G b2 (ix2 r j)
    = Scalar.select (IntOp.cmpi CmpIPredicate.slt (BitVec.ofNat 32 (r.val % 32)) 2#32) (b2 (ix2 r j)) (rot2 G (ix2 r j)) := by
  rw [← pay10_at r j, ← same b2 r j]; rfl

variable (GG VV cw : ℕ → ℕ → EReal) (PP : ℕ → ℕ → ℕ → EReal) (CB : ℕ → EReal) (i0 J : ℕ) (j : Fin 256)

theorem near_at (hi : i0 % 32 = 0) (hG : ∀ r : Fin 512, G (ix2 r j) = GG (i0 + r) J)
    (h1 : ∀ r : Fin 512, r.val % 32 = 0 → b1 (ix2 r j) = PP ((i0 + r) / 32) 1 J) (r : Fin 512) : near G b1 (ix2 r j) = ss1 GG PP (i0 + r) J := by
  have hr := r.isLt
  rw [near_step]
  unfold ss1
  by_cases h : r.val % 32 = 0
  · rw [Cert.FfnUpIdeal.Up.select_of_one (at0 ⟨r.val % 32, Nat.mod_lt _ (by decide)⟩ h), if_pos (by omega), h1 r h]
  · rw [Cert.FfnUpIdeal.Up.select_of_zero (at1 ⟨r.val % 32, Nat.mod_lt _ (by decide)⟩ h), if_neg (by omega), Cert.FfnUpIdeal.Val.rot1_apply]
    exact (hG _).trans (congrArg (fun k => GG k J) (show i0 + (r.val + 512 - 1) % 512 = i0 + r.val - 1 by omega))
theorem far_at (hi : i0 % 32 = 0) (hG : ∀ r : Fin 512, G (ix2 r j) = GG (i0 + r) J)
    (h2 : ∀ r : Fin 512, r.val % 32 < 2 → b2 (ix2 r j) = PP ((i0 + r) / 32) ((i0 + r) % 32) J) (r : Fin 512) : far G b2 (ix2 r j) = ss2 GG PP (i0 + r) J := by
  have hr := r.isLt
  rw [far_step]
  unfold ss2
  by_cases h : r.val % 32 < 2
  · rw [Cert.FfnUpIdeal.Up.select_of_one (lt0 ⟨r.val % 32, Nat.mod_lt _ (by decide)⟩ h), if_pos (by omega), h2 r h]
  · rw [Cert.FfnUpIdeal.Up.select_of_zero (lt1 ⟨r.val % 32, Nat.mod_lt _ (by decide)⟩ h), if_neg (by omega), Cert.FfnUpIdeal.Val.rot2_apply]
    exact (hG _).trans (congrArg (fun k => GG k J) (show i0 + (r.val + 512 - 2) % 512 = i0 + r.val - 2 by omega))

/-- Half a row block's activation is the layer's, its gate being the layer's and the rows before its sequences' first given. -/
theorem half_at (hi : i0 % 32 = 0) (hG : ∀ r : Fin 512, G (ix2 r j) = GG (i0 + r) J) (hV : ∀ r : Fin 512, V (ix2 r j) = VV (i0 + r) J)
    (h1 : ∀ r : Fin 512, r.val % 32 = 0 → b1 (ix2 r j) = PP ((i0 + r) / 32) 1 J) (h2 : ∀ r : Fin 512, r.val % 32 < 2 → b2 (ix2 r j) = PP ((i0 + r) / 32) ((i0 + r) % 32) J)
    (hb : cb (ix2 0 j) = CB J) (hc0 : c0 (ix2 0 j) = cw 0 J) (hc1 : c1 (ix2 0 j) = cw 1 J) (hc2 : c2 (ix2 0 j) = cw 2 J) (r : Fin 512) :
    halfS cb c0 c1 c2 G V b1 b2 (ix2 r j) = usa GG PP VV cw CB (i0 + r) J := by
  have hm : mulf G (broadcastTo S512x256 c2 broadcasts_S1x256_S512x256) (ix2 r j) = GG (i0 + r) J * cw 2 J := by
    rw [← hG, ← hc2]; pointwise
  unfold halfS
  refine (Cert.FfnUpIdeal.Val.pay1_apply V _ _ r j).trans ?_
  rw [Cert.FfnUpIdeal.Val.conv0_apply, hm, near_at G b1 GG PP i0 J j hi hG h1, far_at G b2 GG PP i0 J j hi hG h2, hV, hb, hc0, hc1]
  rfl
end read

section runs
open Cert.FfnUpIdeal.Val (ldR_apply ldH_apply ldT_apply n11 zz2 GG VV)

theorem ldE_apply {p : ℕ} (inb : ∀ a, (![p, 0] : Fin 2 → ℕ) a + S512x256.size a ≤ S1024x256.size a) (x : Vec Ideal S1024x256 .f32) (r : Fin 512) (k : Fin 256) (hp : p ≤ 512) :
    View.ld x (Rect.unit ![p, 0] S512x256.size inb) (ix2 r k) = x (ix2 ⟨p + r, by omega⟩ k) := by
  pointwise

/-- A point's blocks, entry by entry. -/
structure BlkS (n : ℕ) (X : ℕ → ℕ → EReal) (g : ℕ → EReal) (W cw : ℕ → ℕ → EReal) (cb : ℕ → EReal) (P : ℕ → ℕ → ℕ → EReal)
    (x0 : Vec Ideal S1024x4096 .f32) (x1 : Vec Ideal S1x4096 .f32) (x2 x3 : Vec Ideal S4096x256 .bf16) (x4 : Vec Ideal S3x256 .f32) (x5 : Vec Ideal S1x256 .f32)
    (x6 x7 : Vec Ideal S1024x256 .f32) : Prop where
  e0 : ∀ (r : Fin 1024) (k : Fin 4096), x0 (ix2 r k) = X r k
  e1 : ∀ k : Fin 4096, x1 (ix2 0 k) = g k
  e2 : ∀ (k : Fin 4096) (j : Fin 256), x2 (ix2 k j) = W k (256 * n + j)
  e3 : ∀ (k : Fin 4096) (j : Fin 256), x3 (ix2 k j) = W k (11008 + (256 * n + j))
  e4 : ∀ (a : Fin 3) (j : Fin 256), x4 (ix2 a j) = cw a (256 * n + j)
  e5 : ∀ j : Fin 256, x5 (ix2 0 j) = cb (256 * n + j)
  e6 : ∀ (r : Fin 1024) (j : Fin 256), r.val % 32 = 0 → x6 (ix2 r j) = P (r.val / 32) 1 (256 * n + j)
  e7 : ∀ (r : Fin 1024) (j : Fin 256), r.val % 32 < 2 → x7 (ix2 r j) = P (r.val / 32) (r.val % 32) (256 * n + j)

variable {n : ℕ} {X : ℕ → ℕ → EReal} {g : ℕ → EReal} {W cw : ℕ → ℕ → EReal} {cb : ℕ → EReal} {P : ℕ → ℕ → ℕ → EReal}
  {x0 : Vec Ideal S1024x4096 .f32} {x1 : Vec Ideal S1x4096 .f32} {x2 x3 : Vec Ideal S4096x256 .bf16} {x4 : Vec Ideal S3x256 .f32} {x5 : Vec Ideal S1x256 .f32}
  {x6 x7 : Vec Ideal S1024x256 .f32} (B : BlkS n X g W cw cb P x0 x1 x2 x3 x4 x5 x6 x7)
include B

/-- The normalised rows of two blocks of 256 rows, one on the other. -/
theorem normed (o : ℕ) (ho : o + 256 ≤ 768) (inb inb' inb'') (r : Fin 512) (k : Fin 4096) : Cert.FfnUpIdeal.Gen.k0_pay11 (View.ld x0 (Rect.unit (s := S1024x4096) ![o, 0] S256x4096.size inb)) (View.ld x1 (Rect.unit (s := S1x4096) ![0, 0] S1x4096.size inb''))
      (View.ld x0 (Rect.unit (s := S1024x4096) ![o + 256, 0] S256x4096.size inb')) (View.ld x1 (Rect.unit (s := S1x4096) ![0, 0] S1x4096.size inb'')) (ix2 r k) = nrx (X (o + r)) g k :=
  n11 _ _ _ X g _ (fun r k => (ldR_apply inb x0 r k (by omega)).trans (B.e0 _ _))
      (fun r k => (ldR_apply inb' x0 r k ho).trans (B.e0 _ _)) (fun k => by rw [View.ld_unit_zero zz2]; exact B.e1 k) r k

/-- The gate's half a row block. -/
theorem gateS (o : ℕ) (N : FVec Ideal S512x4096 .bf16) (hN : ∀ (r : Fin 512) (k : Fin 4096), N (ix2 r k) = nrx (X (o + r)) g k)
    (w : Vec Ideal S4096x256 .bf16) (hw : w = x2) (r : Fin 512) (j : Fin 256) : k0_pay8 N w (ix2 r j) = GG X g W (o + r) (256 * n + j) := by
  subst hw
  exact (Cert.FfnUpIdeal.Val.gate_at X g W o _ N w j hN (fun k => B.e2 k j) r)

/-- Half the block. -/
theorem halfB (o : ℕ) (ho : o % 32 = 0) (ho' : o ≤ 512) (N : FVec Ideal S512x4096 .bf16) (hN : ∀ (r : Fin 512) (k : Fin 4096), N (ix2 r k) = nrx (X (o + r)) g k)
    (w wv : Vec Ideal S4096x256 .bf16) (hw : w = x2) (hwv : wv = x3) (inb6 inb7)
    (b k0 k1 k2 : Vec Ideal S1x256 .f32) (hb : b = x5) (h0 : ∀ j : Fin 256, k0 (ix2 0 j) = x4 (ix2 0 j)) (h1 : ∀ j : Fin 256, k1 (ix2 0 j) = x4 (ix2 1 j)) (h2 : ∀ j : Fin 256, k2 (ix2 0 j) = x4 (ix2 2 j))
    (r : Fin 512) (j : Fin 256) :
    halfS b k0 k1 k2 (k0_pay8 N w) (k0_pay8 N wv) (View.ld x6 (Rect.unit (s := S1024x256) ![o, 0] S512x256.size inb6)) (View.ld x7 (Rect.unit (s := S1024x256) ![o, 0] S512x256.size inb7)) (ix2 r j)
      = usa (GG X g W) P (VV X g W) cw cb (o + r) (256 * n + j) := by
  have hG := gateS B o N hN w hw
  subst hw hwv hb
  exact half_at _ _ _ _ _ _ _ _ (GG X g W) (VV X g W) cw P cb o (256 * n + j) j ho (fun r => hG r j)
    (Cert.FfnUpIdeal.Val.gate_at X g W o _ N _ j hN (fun k => B.e3 k j))
    (fun r h => (ldE_apply inb6 x6 r j ho').trans (B.e6 _ j (by show (o + r.val) % 32 = 0; omega)))
    (fun r h => (ldE_apply inb7 x7 r j ho').trans (B.e7 _ j (by show (o + r.val) % 32 < 2; omega)))
    (B.e5 j) ((h0 j).trans (B.e4 0 j)) ((h1 j).trans (B.e4 1 j)) ((h2 j).trans (B.e4 2 j)) r
end runs
end Cert.FfnUpSampleIdeal.Val
end
-- ==== Proof.UpS2.lean ====
/- What a point's run leaves of the first feed-forward call at the sample's shapes, at the ideal values. -/
module

public import proofs.«01_k».proof.Proof.UpS1

@[expose] public section

set_option maxRecDepth 65536

noncomputable section

namespace Cert.FfnUpSampleIdeal.Val
open Cert.FfnUpSampleIdeal Cert.FfnUpSampleIdeal.Gen Cert.Band Idealize.ShloMosaic Idealize.ShloMosaic.TcCoe Idealize.ShloMosaic.Tactic Idealize.SL.Sem
open Cert.FfnUpIdeal.Val (ldR_apply ldH_apply ldT_apply n7 p8 zz2 emb_at GG VV)

variable (c : Dev nD) (i : grid0.Coords) (a2 : Memref sig .tc .vmem S1024x4096 .f32) (h2 : a2.IsWhole) (a3 : Memref sig .tc .vmem S1x4096 .f32) (h3 : a3.IsWhole) (a4 : Memref sig .tc .vmem S4096x256 .bf16) (h4 : a4.IsWhole) (a5 : Memref sig .tc .vmem S4096x256 .bf16) (h5 : a5.IsWhole) (a6 : Memref sig .tc .vmem S3x256 .f32) (h6 : a6.IsWhole) (a7 : Memref sig .tc .vmem S1x256 .f32) (h7 : a7.IsWhole) (a8 : Memref sig .tc .vmem S1024x256 .f32) (h8 : a8.IsWhole) (a9 : Memref sig .tc .vmem S1024x256 .f32) (h9 : a9.IsWhole) (a10 : Memref sig .tc .vmem S1024x256 .bf16) (h10 : a10.IsWhole) (a11 : Memref sig .tc .vmem S1024x256 .f32) (h11 : a11.IsWhole) (a12 : Memref sig .tc .vmem S1024x4096 .bf16) (h12 : a12.IsWhole) (a13 : Memref sig .tc .vmem S43x8x256 .f32) (h13 : a13.IsWhole)
  {n : ℕ} {X : ℕ → ℕ → EReal} {g : ℕ → EReal} {W cw : ℕ → ℕ → EReal} {cb : ℕ → EReal} {P : ℕ → ℕ → ℕ → EReal}
  (x0 : Vec Ideal S1024x4096 .f32) (x1 : Vec Ideal S1x4096 .f32) (x2 x3 : Vec Ideal S4096x256 .bf16) (x4 : Vec Ideal S3x256 .f32) (x5 : Vec Ideal S1x256 .f32)
  (x6 x7 : Vec Ideal S1024x256 .f32) (xs0 : Vec Ideal S1024x4096 .bf16) (B : BlkS n X g W cw cb P x0 x1 x2 x3 x4 x5 x6 x7)

/-- The normalised rows held since the first column block. -/
theorem held (hs : ∀ (r : Fin 1024) (k : Fin 4096), xs0 (ix2 r k) = nrx (X r) g k) (o : ℕ) (ho : o ≤ 512) (inb) (r : Fin 512) (k : Fin 4096) :
    View.ld xs0 (Rect.unit (s := S1024x4096) ![o, 0] S512x4096.size inb) (ix2 r k) = nrx (X (o + r)) g k :=
  (ldH_apply inb xs0 r k ho).trans (hs _ _)

include B

/-- A half's entry of the activation's block, and of the gate's. -/
theorem act_piece (o : ℕ) (ho : o % 32 = 0) (ho' : o ≤ 512) (N : FVec Ideal S512x4096 .bf16) (hN : ∀ (r : Fin 512) (k : Fin 4096), N (ix2 r k) = nrx (X (o + r)) g k)
    (inb : ∀ a, (![o, 0] : Fin 2 → ℕ) a + (![512, 256] : Fin 2 → ℕ) a ≤ (![1024, 256] : Fin 2 → ℕ) a) (i2 i3 i5 i6 i7 q0 q1 q2) (x : S512x256.Idx) :
    halfS (View.ld x5 (Rect.unit (s := S1x256) ![0, 0] S1x256.size i5)) (View.ld x4 (Rect.unit (s := S3x256) ![0, 0] S1x256.size q0)) (View.ld x4 (Rect.unit (s := S3x256) ![1, 0] S1x256.size q1))
        (View.ld x4 (Rect.unit (s := S3x256) ![2, 0] S1x256.size q2)) (k0_pay8 N (View.ld x2 (Rect.unit (s := S4096x256) ![0, 0] S4096x256.size i2)))
        (k0_pay8 N (View.ld x3 (Rect.unit (s := S4096x256) ![0, 0] S4096x256.size i3))) (View.ld x6 (Rect.unit (s := S1024x256) ![o, 0] S512x256.size i6)) (View.ld x7 (Rect.unit (s := S1024x256) ![o, 0] S512x256.size i7)) x
      = usa (GG X g W) P (VV X g W) cw cb ((Rect.unit (s := S1024x256) ![o, 0] ![512, 256] inb).emb x 0).val (256 * n + ((Rect.unit (s := S1024x256) ![o, 0] ![512, 256] inb).emb x 1).val) := by
  rw [show ((Rect.unit (s := S1024x256) ![o, 0] ![512, 256] inb).emb x 0).val = o + (x 0).val from (emb_at o inb x).1,
    show ((Rect.unit (s := S1024x256) ![o, 0] ![512, 256] inb).emb x 1).val = (x 1).val from (emb_at o inb x).2]
  exact (congrArg _ (eq_ix2 x)).trans (halfB B o ho ho' N hN _ _ (View.ld_unit_zero zz2 _ _) (View.ld_unit_zero zz2 _ _) _ _ _ _ _ _ (View.ld_unit_zero zz2 _ _) (fun j => ldT_apply _ x4 j (by decide)) (fun j => ldT_apply _ x4 j (by decide)) (fun j => ldT_apply _ x4 j (by decide)) (x 0) (x 1))
theorem gate_piece (o : ℕ) (N : FVec Ideal S512x4096 .bf16) (hN : ∀ (r : Fin 512) (k : Fin 4096), N (ix2 r k) = nrx (X (o + r)) g k)
    (inb : ∀ a, (![o, 0] : Fin 2 → ℕ) a + (![512, 256] : Fin 2 → ℕ) a ≤ (![1024, 256] : Fin 2 → ℕ) a) (i2) (x : S512x256.Idx) :
    k0_pay8 N (View.ld x2 (Rect.unit (s := S4096x256) ![0, 0] S4096x256.size i2)) x
      = GG X g W ((Rect.unit (s := S1024x256) ![o, 0] ![512, 256] inb).emb x 0).val (256 * n + ((Rect.unit (s := S1024x256) ![o, 0] ![512, 256] inb).emb x 1).val) := by
  rw [show ((Rect.unit (s := S1024x256) ![o, 0] ![512, 256] inb).emb x 0).val = o + (x 0).val from (emb_at o inb x).1,
    show ((Rect.unit (s := S1024x256) ![o, 0] ![512, 256] inb).emb x 1).val = (x 1).val from (emb_at o inb x).2]
  exact (congrArg _ (eq_ix2 x)).trans (gateS B o N hN _ (View.ld_unit_zero zz2 _ _) (x 0) (x 1))

/-- The activation's block, at the first column block. -/
theorem actA (c0 : cond0_0 i) (c1 : ¬cond0_1 i) (y : S1024x256.Idx) :
    out0_A_8 c i a2 h2 a3 h3 a4 h4 a5 h5 a6 h6 a7 h7 a8 h8 a9 h9 a10 h10 a11 h11 a12 h12 a13 h13 c0 c1 x0 x1 x2 x3 x4 x5 x6 x7 y = usa (GG X g W) P (VV X g W) cw cb (y 0).val (256 * n + (y 1).val) := by
  have cov := cover0_A_8 c i a2 h2 a3 h3 a4 h4 a5 h5 a6 h6 a7 h7 a8 h8 a9 h9 a10 h10 a11 h11 a12 h12 a13 h13 c0 c1 x0 x1 x2 x3 x4 x5 x6 x7
  unfold out0_A_8
  rw [View.read_writes_eq_canon _ _ _ cov]
  refine View.canon_apply_of_pieces (fun y : S1024x256.Idx => usa (GG X g W) P (VV X g W) cw cb (y 0).val (256 * n + (y 1).val)) _ ?_ y (cov y)
  clear cov
  have N0 := normed B
  unfold kernelRun0_A
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  refine ⟨?_, ?_⟩
  · intro x
    exact (congrFun (pay1_half _ _ _ _ _ _ _ _ _ _ _) _).trans (act_piece x0 x1 x2 x3 x4 x5 x6 x7 B 512 (by decide) (by decide) _ (fun r k => N0 512 (by decide) _ _ _ r k) _ _ _ _ _ _ _ _ _ x)
  · intro x
    exact (congrFun (pay13_half _ _ _ _ _ _ _ _ _) _).trans (act_piece x0 x1 x2 x3 x4 x5 x6 x7 B 0 (by decide) (by decide) _ (fun r k => N0 0 (by decide) _ _ _ r k) _ _ _ _ _ _ _ _ _ x)

/-- The activation's block, at a later column block. -/
theorem actB (c0 : ¬cond0_0 i) (c1 : cond0_1 i) (hs : ∀ (r : Fin 1024) (k : Fin 4096), xs0 (ix2 r k) = nrx (X r) g k) (y : S1024x256.Idx) :
    out0_B_8 c i a2 h2 a3 h3 a4 h4 a5 h5 a6 h6 a7 h7 a8 h8 a9 h9 a10 h10 a11 h11 a12 h12 a13 h13 c0 c1 x0 x1 x2 x3 x4 x5 x6 x7 xs0 y = usa (GG X g W) P (VV X g W) cw cb (y 0).val (256 * n + (y 1).val) := by
  have cov := cover0_B_8 c i a2 h2 a3 h3 a4 h4 a5 h5 a6 h6 a7 h7 a8 h8 a9 h9 a10 h10 a11 h11 a12 h12 a13 h13 c0 c1 x0 x1 x2 x3 x4 x5 x6 x7 xs0
  unfold out0_B_8
  rw [View.read_writes_eq_canon _ _ _ cov]
  refine View.canon_apply_of_pieces (fun y : S1024x256.Idx => usa (GG X g W) P (VV X g W) cw cb (y 0).val (256 * n + (y 1).val)) _ ?_ y (cov y)
  clear cov
  have N0 := held xs0 hs
  unfold kernelRun0_B
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  refine ⟨?_, ?_⟩
  · intro x
    exact (congrFun (pay2_half _ _ _ _ _ _ _ _ _) _).trans (act_piece x0 x1 x2 x3 x4 x5 x6 x7 B 512 (by decide) (by decide) _ (fun r k => N0 512 (by decide) _ r k) _ _ _ _ _ _ _ _ _ x)
  · intro x
    exact (congrFun (pay31_half _ _ _ _ _ _ _ _ _) _).trans (act_piece x0 x1 x2 x3 x4 x5 x6 x7 B 0 (by decide) (by decide) _ (fun r k => N0 0 (by decide) _ r k) _ _ _ _ _ _ _ _ _ x)

/-- The gate's block, at the first column block. -/
theorem gateA (c0 : cond0_0 i) (c1 : ¬cond0_1 i) (y : S1024x256.Idx) :
    out0_A_9 c i a2 h2 a3 h3 a4 h4 a5 h5 a6 h6 a7 h7 a8 h8 a9 h9 a10 h10 a11 h11 a12 h12 a13 h13 c0 c1 x0 x1 x2 x3 x4 x5 x6 x7 y = GG X g W (y 0).val (256 * n + (y 1).val) := by
  have cov := cover0_A_9 c i a2 h2 a3 h3 a4 h4 a5 h5 a6 h6 a7 h7 a8 h8 a9 h9 a10 h10 a11 h11 a12 h12 a13 h13 c0 c1 x0 x1 x2 x3 x4 x5 x6 x7
  unfold out0_A_9
  rw [View.read_writes_eq_canon _ _ _ cov]
  refine View.canon_apply_of_pieces (fun y : S1024x256.Idx => GG X g W (y 0).val (256 * n + (y 1).val)) _ ?_ y (cov y)
  clear cov
  have N0 := normed B
  unfold kernelRun0_A
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  exact ⟨gate_piece x0 x1 x2 x3 x4 x5 x6 x7 B 512 _ (fun r k => N0 512 (by decide) _ _ _ r k) _ _,
    gate_piece x0 x1 x2 x3 x4 x5 x6 x7 B 0 _ (fun r k => N0 0 (by decide) _ _ _ r k) _ _⟩

/-- The gate's block, at a later column block. -/
theorem gateB (c0 : ¬cond0_0 i) (c1 : cond0_1 i) (hs : ∀ (r : Fin 1024) (k : Fin 4096), xs0 (ix2 r k) = nrx (X r) g k) (y : S1024x256.Idx) :
    out0_B_9 c i a2 h2 a3 h3 a4 h4 a5 h5 a6 h6 a7 h7 a8 h8 a9 h9 a10 h10 a11 h11 a12 h12 a13 h13 c0 c1 x0 x1 x2 x3 x4 x5 x6 x7 xs0 y = GG X g W (y 0).val (256 * n + (y 1).val) := by
  have cov := cover0_B_9 c i a2 h2 a3 h3 a4 h4 a5 h5 a6 h6 a7 h7 a8 h8 a9 h9 a10 h10 a11 h11 a12 h12 a13 h13 c0 c1 x0 x1 x2 x3 x4 x5 x6 x7 xs0
  unfold out0_B_9
  rw [View.read_writes_eq_canon _ _ _ cov]
  refine View.canon_apply_of_pieces (fun y : S1024x256.Idx => GG X g W (y 0).val (256 * n + (y 1).val)) _ ?_ y (cov y)
  clear cov
  have N0 := held xs0 hs
  unfold kernelRun0_B
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  exact ⟨gate_piece x0 x1 x2 x3 x4 x5 x6 x7 B 512 _ (fun r k => N0 512 (by decide) _ r k) _ _,
    gate_piece x0 x1 x2 x3 x4 x5 x6 x7 B 0 _ (fun r k => N0 0 (by decide) _ r k) _ _⟩

/-- The normalised rows the first column block leaves. -/
theorem rowsA (c0 : cond0_0 i) (c1 : ¬cond0_1 i) (y : S1024x4096.Idx) :
    sout0_A_0 c i a2 h2 a3 h3 a4 h4 a5 h5 a6 h6 a7 h7 a8 h8 a9 h9 a10 h10 a11 h11 a12 h12 a13 h13 c0 c1 x0 x1 x2 x3 x4 x5 x6 x7 y = nrx (X (y 0).val) g (y 1).val := by
  have cov := scover0_A_0 c i a2 h2 a3 h3 a4 h4 a5 h5 a6 h6 a7 h7 a8 h8 a9 h9 a10 h10 a11 h11 a12 h12 a13 h13 c0 c1 x0 x1 x2 x3 x4 x5 x6 x7
  unfold sout0_A_0
  rw [View.read_writes_eq_canon _ _ _ cov]
  refine View.canon_apply_of_pieces (fun y : S1024x4096.Idx => nrx (X (y 0).val) g (y 1).val) _ ?_ y (cov y)
  clear cov
  have key : ∀ (p : ℕ) (hp : p ≤ 768) (inb : ∀ a, (![p, 0] : Fin 2 → ℕ) a + (![256, 4096] : Fin 2 → ℕ) a ≤ (![1024, 4096] : Fin 2 → ℕ) a) (inb' inb'') (x : S256x4096.Idx),
      Cert.FfnUpIdeal.Gen.k0_pay8 (View.ld x0 (Rect.unit (s := S1024x4096) ![p, 0] S256x4096.size inb')) (View.ld x1 (Rect.unit (s := S1x4096) ![0, 0] S1x4096.size inb'')) x
        = nrx (X ((Rect.unit (s := S1024x4096) ![p, 0] ![256, 4096] inb).emb x 0).val) g ((Rect.unit (s := S1024x4096) ![p, 0] ![256, 4096] inb).emb x 1).val := by
    intro p hp inb inb' inb'' x
    rw [p8]
    refine (congrArg _ (eq_ix2 x)).trans ((n7 _ _ g (X (p + (x 0).val)) (x 0) (fun k => (ldR_apply inb' x0 (x 0) k hp).trans (B.e0 _ _)) (fun k => by rw [View.ld_unit_zero zz2]; exact B.e1 k) (x 1)).trans ?_)
    rw [show ((Rect.unit (s := S1024x4096) ![p, 0] ![256, 4096] inb).emb x 0).val = p + (x 0).val from (Cert.InProjIdeal.Val.emb_row p inb x).1,
      show ((Rect.unit (s := S1024x4096) ![p, 0] ![256, 4096] inb).emb x 1).val = (x 1).val from (Cert.InProjIdeal.Val.emb_row p inb x).2]
  unfold kernelRun0_A
  dsimp only
  sl_unfold_words
  simp only [List.forall_mem_cons, List.not_mem_nil, false_imp_iff, implies_true, and_true, View.readAt_eq_ld, h2.read_unread, h3.read_unread, h4.read_unread, h5.read_unread, h6.read_unread, h7.read_unread, h8.read_unread, h9.read_unread, h12.read_unread, h13.read_unread]
  exact ⟨key 768 (by decide) _ _ _, key 512 (by decide) _ _ _, key 256 (by decide) _ _ _, key 0 (by decide) _ _ _⟩

end Cert.FfnUpSampleIdeal.Val
end
-- ==== Proof.UpS3.lean ====
/- The rows standing before each sequence of the first feed-forward call at the sample's shapes, as the host lays them out. -/
module

public import proofs.«01_k».proof.Proof.UpS2
public import proofs.«01_k».proof.Proof.UpBlocks
public import Idealize.ShloMosaic.Lib.Routing.OpsOne

@[expose] public section

set_option maxRecDepth 65536

noncomputable section

namespace Cert.FfnUpSampleIdeal.Val
open Cert.FfnUpSampleIdeal Cert.FfnUpSampleIdeal.Gen Cert.Band Idealize.ShloMosaic Idealize.ShloMosaic.TcCoe Idealize.ShloMosaic.Tactic Idealize.SL.Sem
variable (m : (ℓ : Loc nD τ sig) → Buf (Elt Ideal) ℓ)

/-! ## Setting one row of every sequence -/

abbrev dS : ScatterDims S32x32x11008 S1 S32x11008 := scatter_S32x32x11008_S1_S32x11008_01_1_1_0
/-- Row `w` of every sequence set to `u`. -/
abbrev setRow (w : BitVec 32) (x : S32x32x11008.Idx → EReal) (u : S32x11008.Idx → EReal) : S32x32x11008.Idx → EReal :=
  Host.scatter dS (fun _ b => b) x (broadcastInDim S1 ![] bcast_S_S1 (constantI S_ 32 w)) u

theorem lands (w : BitVec 32) (k : S32x11008.Idx) (ι : S32x32x11008.Idx) :
    dS.resultIdx? k (broadcastInDim S1 ![] bcast_S_S1 (constantI S_ 32 w)) = some ι
      ↔ (k 0).val = (ι 0).val ∧ w.toInt = ((ι 1).val : Int) ∧ (k 1).val = (ι 2).val := by
  rw [Routing.resultIdx?_eq_some]
  have w0 : dS.window k 0 = (k 0).val := rfl
  have w1 : dS.window k 1 = 0 := rfl
  have w2 : dS.window k 2 = (k 1).val := rfl
  have s0 : dS.start k (broadcastInDim S1 ![] bcast_S_S1 (constantI S_ 32 w)) 0 = 0 := rfl
  have s1 : dS.start k (broadcastInDim S1 ![] bcast_S_S1 (constantI S_ 32 w)) 1 = w.toInt := rfl
  have s2 : dS.start k (broadcastInDim S1 ![] bcast_S_S1 (constantI S_ 32 w)) 2 = 0 := rfl
  constructor
  · intro h
    have h0 := h 0
    have h1 := h 1
    have h2 := h 2
    rw [w0, s0] at h0
    rw [w1, s1] at h1
    rw [w2, s2] at h2
    exact ⟨by omega, by omega, by omega⟩
  · rintro ⟨h0, h1, h2⟩ a
    match a with
    | 0 => rw [w0, s0]; omega
    | 1 => rw [w1, s1]; omega
    | 2 => rw [w2, s2]; omega

theorem setRow_hit (w : BitVec 32) (x : S32x32x11008.Idx → EReal) (u : S32x11008.Idx → EReal) (a b : Fin 32) (j : Fin 11008) (h : w.toInt = (b.val : Int)) :
    setRow w x u (ix3 a b j) = u (ix2 a j) := by
  refine Routing.scatter_set_hit dS x _ u (ix3 a b j) _ (fun k hk => ?_) (ix2 a j) ((lands w _ _).mpr ⟨rfl, h, rfl⟩)
  obtain ⟨h0, -, h2⟩ := (lands w _ _).mp hk
  exact congrArg u ((eq_ix2 k).trans (congrArg₂ ix2 (Fin.ext h0) (Fin.ext h2)))
theorem setRow_miss (w : BitVec 32) (x : S32x32x11008.Idx → EReal) (u : S32x11008.Idx → EReal) (a b : Fin 32) (j : Fin 11008) (h : w.toInt ≠ (b.val : Int)) :
    setRow w x u (ix3 a b j) = x (ix3 a b j) :=
  Routing.scatter_set_miss dS x _ u (ix3 a b j) fun _ hk => h ((lands w _ _).mp hk).2.1

/-- The two rows held before each sequence. -/
abbrev slot1 (x : S32x2x11008.Idx → EReal) : S32x11008.Idx → EReal :=
  shapeCast S32x11008 (extractStridedSlice S32x1x11008 ![0, 1, 0] x slices_S32x2x11008_S32x1x11008_0_1_0) shapeCasts_S32x1x11008_S32x11008
abbrev slot0 (x : S32x2x11008.Idx → EReal) : S32x11008.Idx → EReal :=
  shapeCast S32x11008 (extractStridedSlice S32x1x11008 ![0, 0, 0] x slices_S32x2x11008_S32x1x11008_0_0_0) shapeCasts_S32x1x11008_S32x11008

theorem slot1_at (x : S32x2x11008.Idx → EReal) (a : Fin 32) (j : Fin 11008) : slot1 x (ix2 a j) = x (ix3 a 1 j) := by
  refine (shapeCast_apply _ _ (ix2 a j) (ix3 a 0 j) ?_).trans ?_
  · rewrite [Shape.rowMajor_val_three, Shape.rowMajor_val_two]
    show (a.val * 1 + 0) * 11008 + j.val = a.val * 11008 + j.val
    omega
  · pointwise
theorem slot0_at (x : S32x2x11008.Idx → EReal) (a : Fin 32) (j : Fin 11008) : slot0 x (ix2 a j) = x (ix3 a 0 j) := by
  refine (shapeCast_apply _ _ (ix2 a j) (ix3 a 0 j) ?_).trans ?_
  · rewrite [Shape.rowMajor_val_three, Shape.rowMajor_val_two]
    show (a.val * 1 + 0) * 11008 + j.val = a.val * 11008 + j.val
    omega
  · pointwise

/-- The sequences' rows one after another. -/
theorem flat (x : S32x32x11008.Idx → EReal) (r : Fin 1024) (j : Fin 11008) :
    shapeCast S1024x11008 x shapeCasts_S32x32x11008_S1024x11008 (ix2 r j) = x (ix3 ⟨r.val / 32, by omega⟩ ⟨r.val % 32, by omega⟩ j) := by
  refine shapeCast_apply x _ (ix2 r j) _ ?_
  rewrite [Shape.rowMajor_val_three, Shape.rowMajor_val_two]
  show (r.val / 32 * 32 + r.val % 32) * 11008 + j.val = r.val * 11008 + j.val
  omega

section rows
variable (z : S32x32x11008.Idx → EReal) (x : S32x2x11008.Idx → EReal) (y : S1024x11008.Idx) (r j : ℕ) (h0 : (y 0).val = r) (h1 : (y 1).val = j)
include h0 h1
/-- Before a sequence's first row stands the later of the two rows held. -/
theorem one_at (h : r % 32 = 0) :
    shapeCast S1024x11008 (setRow 0#32 z (slot1 x)) shapeCasts_S32x32x11008_S1024x11008 y = rd3 x (r / 32) 1 j := by
  subst h0 h1
  refine (congrArg _ (eq_ix2 y)).trans ((flat _ (y 0) (y 1)).trans ((setRow_hit 0#32 _ _ _ _ _ ?_).trans ((slot1_at x _ _).trans (rd3_eq x _ _ _ _ rfl rfl rfl))))
  show (0 : Int) = (((y 0).val % 32 : ℕ) : Int)
  rw [h]; rfl
/-- Two rows before a sequence's first and second rows stand the two rows held. -/
theorem two_at (h : r % 32 < 2) :
    shapeCast S1024x11008 (setRow 1#32 (setRow 0#32 z (slot0 x)) (slot1 x)) shapeCasts_S32x32x11008_S1024x11008 y = rd3 x (r / 32) (r % 32) j := by
  subst h0 h1
  refine (congrArg _ (eq_ix2 y)).trans ((flat _ (y 0) (y 1)).trans ?_)
  by_cases h' : (y 0).val % 32 = 0
  · refine (setRow_miss 1#32 _ _ _ _ _ ?_).trans ((setRow_hit 0#32 _ _ _ _ _ ?_).trans ((slot0_at x _ _).trans (rd3_eq x _ _ _ _ rfl h'.symm rfl)))
    · show (1 : Int) ≠ (((y 0).val % 32 : ℕ) : Int)
      omega
    · show (0 : Int) = (((y 0).val % 32 : ℕ) : Int)
      omega
  · refine (setRow_hit 1#32 _ _ _ _ _ ?_).trans ((slot1_at x _ _).trans (rd3_eq x _ _ _ _ rfl (show 1 = (y 0).val % 32 by omega) rfl))
    show (1 : Int) = (((y 0).val % 32 : ℕ) : Int)
    omega
end rows

/-! ## The host's arrays -/

theorem w_eq (c : Dev nD) : V m c main_v0 = (m ((c : Thread nD τ).loc main_arg2) : S4096x22016.Idx → EReal) := by
  show StableHlo.after (List.flatten [hostOps0]) _ (Proc.devRef .tc main_v0) = _
  simp only [hostOps0, List.flatten_cons, List.flatten_nil, List.append_nil]
  after_results_simp <;> rfl
theorem g_eq (c : Dev nD) : V m c main_v16 = shapeCast S1x4096 (m ((c : Thread nD τ).loc main_arg1) : S4096.Idx → EReal) shapeCasts_S4096_S1x4096 := by
  show StableHlo.after (List.flatten [hostOps0]) _ (Proc.devRef .tc main_v16) = _
  simp only [hostOps0, List.flatten_cons, List.flatten_nil, List.append_nil]
  after_results_simp <;> rfl
theorem kb_eq (c : Dev nD) : V m c main_v17 = shapeCast S1x11008 (m ((c : Thread nD τ).loc main_arg4) : S11008.Idx → EReal) shapeCasts_S11008_S1x11008 := by
  show StableHlo.after (List.flatten [hostOps0]) _ (Proc.devRef .tc main_v17) = _
  simp only [hostOps0, List.flatten_cons, List.flatten_nil, List.append_nil]
  after_results_simp <;> rfl
/-- The array the rows are set in. -/
abbrev zeros : S32x32x11008.Idx → EReal := broadcastInDim S32x32x11008 ![] bcast_S_S32x32x11008 (constant (F := Ideal) S_ .f32 0x00000000#32)
theorem b1_eq (c : Dev nD) : V m c main_v6
    = shapeCast S1024x11008 (setRow 0#32 zeros (slot1 (m ((c : Thread nD τ).loc main_arg5)))) shapeCasts_S32x32x11008_S1024x11008 := by
  show StableHlo.after (List.flatten [hostOps0]) _ (Proc.devRef .tc main_v6) = _
  simp only [hostOps0, List.flatten_cons, List.flatten_nil, List.append_nil]
  after_results_simp <;> rfl
theorem b2_eq (c : Dev nD) : V m c main_v15
    = shapeCast S1024x11008 (setRow 1#32 (setRow 0#32 zeros (slot0 (m ((c : Thread nD τ).loc main_arg5)))) (slot1 (m ((c : Thread nD τ).loc main_arg5)))) shapeCasts_S32x32x11008_S1024x11008 := by
  show StableHlo.after (List.flatten [hostOps0]) _ (Proc.devRef .tc main_v15) = _
  simp only [hostOps0, List.flatten_cons, List.flatten_nil, List.append_nil]
  after_results_simp <;> rfl

end Cert.FfnUpSampleIdeal.Val
end
-- ==== Proof.UpS4.lean ====
/- The first feed-forward call's arrays at the sample's shapes, at the ideal values: its blocks on the arguments, and what it leaves. -/
module

public import proofs.«01_k».proof.Proof.UpS3

@[expose] public section

set_option maxRecDepth 65536

noncomputable section

namespace Cert.FfnUpSampleIdeal.Val
open Cert.FfnUpSampleIdeal Cert.FfnUpSampleIdeal.Gen Cert.Band Idealize.ShloMosaic Idealize.ShloMosaic.TcCoe Idealize.ShloMosaic.Tactic Idealize.SL.Sem
open Cert.FfnUpIdeal.Val (GG VV rowG rowB)
variable (m : (ℓ : Loc nD τ sig) → Buf (Elt Ideal) ℓ)

abbrev xx (c : Dev nD) : ℕ → ℕ → EReal := rd2 (m ((c : Thread nD τ).loc main_arg0))
abbrev gg (c : Dev nD) : ℕ → EReal := rd1 (m ((c : Thread nD τ).loc main_arg1))
abbrev ww (c : Dev nD) : ℕ → ℕ → EReal := rd2 (m ((c : Thread nD τ).loc main_arg2))
abbrev kw (c : Dev nD) : ℕ → ℕ → EReal := rd2 (m ((c : Thread nD τ).loc main_arg3))
abbrev kb (c : Dev nD) : ℕ → EReal := rd1 (m ((c : Thread nD τ).loc main_arg4))
abbrev pp (c : Dev nD) : ℕ → ℕ → ℕ → EReal := rd3 (m ((c : Thread nD τ).loc main_arg5))
/-- The activation, of the arguments read at natural numbers. -/
abbrev actS (X : ℕ → ℕ → EReal) (g : ℕ → EReal) (W cw : ℕ → ℕ → EReal) (cb : ℕ → EReal) (P : ℕ → ℕ → ℕ → EReal) : ℕ → ℕ → EReal :=
  usa (GG X g W) P (VV X g W) cw cb

theorem idxA : ∀ t : Fin cfg0.N, win0_0.index t = ![0, 0] ∧ win0_1.index t = ![0, 0] ∧
    win0_2.index t = ![0, t.val] ∧ win0_3.index t = ![0, 43 + t.val] ∧ win0_4.index t = ![0, t.val] :=
  (by decide +kernel : ∀ t : Fin grid0.N, _)
theorem idxB : ∀ t : Fin cfg0.N, win0_5.index t = ![0, t.val] ∧ win0_6.index t = ![0, t.val] ∧
    win0_7.index t = ![0, t.val] ∧ win0_8.index t = ![0, t.val] ∧ win0_9.index t = ![0, t.val] :=
  (by decide +kernel : ∀ t : Fin grid0.N, _)

theorem blk0 (c : Dev nD) (t : Fin cfg0.N) (r : Fin 1024) (k : Fin 4096) : iblk m c 0 t (ix2 r k) = xx m c r.val k.val := by
  unfold iblk
  blk_simp
  refine (congrFun (V_main_arg0 m c) _).trans (rd2_eq _ _ _ _ ?_ ?_)
  · blk_simp; rw [(idxA t).1]; exact Nat.zero_add _
  · blk_simp; rw [(idxA t).1]; exact Nat.zero_add _
theorem blk1 (c : Dev nD) (t : Fin cfg0.N) (k : Fin 4096) : iblk m c 1 t (ix2 0 k) = gg m c k.val := by
  unfold iblk
  blk_simp
  refine (congrFun (g_eq m c) _).trans (rowG _ _ _ ?_)
  blk_simp; rw [(idxA t).2.1]; exact Nat.zero_add _
theorem blk2 (c : Dev nD) (t : Fin cfg0.N) (k : Fin 4096) (j : Fin 256) : iblk m c 2 t (ix2 k j) = ww m c k.val (t.val * 256 + j.val) := by
  unfold iblk
  blk_simp
  refine (congrFun (w_eq m c) _).trans (rd2_eq _ _ _ _ ?_ ?_)
  · blk_simp; rw [(idxA t).2.2.1]; exact Nat.zero_add _
  · blk_simp; rw [(idxA t).2.2.1]; rfl
theorem blk3 (c : Dev nD) (t : Fin cfg0.N) (k : Fin 4096) (j : Fin 256) : iblk m c 3 t (ix2 k j) = ww m c k.val ((43 + t.val) * 256 + j.val) := by
  unfold iblk
  blk_simp
  refine (congrFun (w_eq m c) _).trans (rd2_eq _ _ _ _ ?_ ?_)
  · blk_simp; rw [(idxA t).2.2.2.1]; exact Nat.zero_add _
  · blk_simp; rw [(idxA t).2.2.2.1]; rfl
theorem blk4 (c : Dev nD) (t : Fin cfg0.N) (a : Fin 3) (j : Fin 256) : iblk m c 4 t (ix2 a j) = kw m c a.val (t.val * 256 + j.val) := by
  unfold iblk
  blk_simp
  refine (congrFun (V_main_arg3 m c) _).trans (rd2_eq _ _ _ _ ?_ ?_)
  · blk_simp; rw [(idxA t).2.2.2.2]; exact Nat.zero_add _
  · blk_simp; rw [(idxA t).2.2.2.2]; rfl
theorem blk5 (c : Dev nD) (t : Fin cfg0.N) (j : Fin 256) : iblk m c 5 t (ix2 0 j) = kb m c (t.val * 256 + j.val) := by
  unfold iblk
  blk_simp
  refine (congrFun (kb_eq m c) _).trans (rowB _ _ _ ?_)
  blk_simp; rw [(idxB t).1]; rfl
/-- The rows standing one and two rows earlier, at the host's arrays. -/
theorem v6_at (c : Dev nD) (y : S1024x11008.Idx) (r j : ℕ) (h0 : (y 0).val = r) (h1 : (y 1).val = j) (h : r % 32 = 0) :
    (V m c main_v6 : S1024x11008.Idx → EReal) y = pp m c (r / 32) 1 j :=
  (congrFun (b1_eq m c) y).trans (one_at zeros (m ((c : Thread nD τ).loc main_arg5)) y r j h0 h1 h)
theorem v15_at (c : Dev nD) (y : S1024x11008.Idx) (r j : ℕ) (h0 : (y 0).val = r) (h1 : (y 1).val = j) (h : r % 32 < 2) :
    (V m c main_v15 : S1024x11008.Idx → EReal) y = pp m c (r / 32) (r % 32) j :=
  (congrFun (b2_eq m c) y).trans (two_at zeros (m ((c : Thread nD τ).loc main_arg5)) y r j h0 h1 h)
section reads
variable (A : S1024x11008.Idx → EReal) (q : EReal) (t : Fin cfg0.N) (r : Fin 1024) (j : Fin 256)
  (hA : ∀ y : S1024x11008.Idx, (y 0).val = r.val → (y 1).val = t.val * 256 + j.val → A y = q)
include hA
theorem read6 : View.read (Elt Ideal) ((cfg0.win 6).blk t).view A (ix2 r j) = q := by
  blk_simp
  refine hA _ ?_ ?_
  · blk_simp; rw [(idxB t).2.1]; exact Nat.zero_add _
  · blk_simp; rw [(idxB t).2.1]; rfl
theorem read7 : View.read (Elt Ideal) ((cfg0.win 7).blk t).view A (ix2 r j) = q := by
  blk_simp
  refine hA _ ?_ ?_
  · blk_simp; rw [(idxB t).2.2.1]; exact Nat.zero_add _
  · blk_simp; rw [(idxB t).2.2.1]; rfl
end reads
theorem blk6 (c : Dev nD) (t : Fin cfg0.N) (r : Fin 1024) (j : Fin 256) (h : r.val % 32 = 0) : iblk m c 6 t (ix2 r j) = pp m c (r.val / 32) 1 (t.val * 256 + j.val) :=
  read6 (V m c main_v6) _ t r j fun y h0 h1 => v6_at m c y _ _ h0 h1 h
theorem blk7 (c : Dev nD) (t : Fin cfg0.N) (r : Fin 1024) (j : Fin 256) (h : r.val % 32 < 2) : iblk m c 7 t (ix2 r j) = pp m c (r.val / 32) (r.val % 32) (t.val * 256 + j.val) :=
  read7 (V m c main_v15) _ t r j fun y h0 h1 => v15_at m c y _ _ h0 h1 h

theorem blocks (c : Dev nD) (t : Fin cfg0.N) :
    BlkS t.val (xx m c) (gg m c) (ww m c) (kw m c) (kb m c) (pp m c) (iblk m c 0 t) (iblk m c 1 t) (iblk m c 2 t) (iblk m c 3 t) (iblk m c 4 t) (iblk m c 5 t)
      (iblk m c 6 t) (iblk m c 7 t) := by
  refine ⟨?_, ?_, ?_, ?_, ?_, ?_, ?_, ?_⟩
  · exact fun r k => blk0 m c t r k
  · exact fun k => blk1 m c t k
  · exact fun k j => (blk2 m c t k j).trans (congrArg (ww m c k) (by omega))
  · exact fun k j => (blk3 m c t k j).trans (congrArg (ww m c k) (by omega))
  · exact fun a j => (blk4 m c t a j).trans (congrArg (kw m c a) (by omega))
  · exact fun j => (blk5 m c t j).trans (congrArg (kb m c) (by omega))
  · exact fun r j h => (blk6 m c t r j h).trans (congrArg (pp m c _ 1) (by omega))
  · exact fun r j h => (blk7 m c t r j h).trans (congrArg (pp m c _ _) (by omega))

/-- The scratch holds the normalised rows throughout. -/
theorem scratch (c : Dev nD) : ∀ (n : ℕ) (h : n < cfg0.N) (y : S1024x4096.Idx),
    (outsAt0 m c n h).2.2 y = nrx (xx m c (y 0).val) (gg m c) (y 1).val := by
  intro n
  induction n using Nat.strong_induction_on with
  | _ n ih =>
    intro h y
    have hN := lt_of_lt_of_eq h (show cfg0.N = 43 from N_0)
    by_cases h0 : n % 43 = 0
    · rw [outsAt0_A m c ⟨n, h⟩ h0 (by dsimp only; omega)]
      dsimp only
      exact rowsA _ _ _ _ _ _ _ _ _ _ _ _ _ _ _ _ _ _ _ _ _ _ _ _ _ _ _ _ _ _ _ _ _ _ (blocks m c ⟨n, h⟩) _ _ y
    · rw [outsAt0_B m c ⟨n, h⟩ h0 (by dsimp only; omega)]
      dsimp only
      unfold sout0_B_0
      exact ih (n - 1) (by omega) (by omega) y

theorem act_block (c : Dev nD) (t : Fin cfg0.N) (y : S1024x256.Idx) :
    (outsAt0 m c t.val t.isLt).1 y = actS (xx m c) (gg m c) (ww m c) (kw m c) (kb m c) (pp m c) (y 0).val (256 * t.val + (y 1).val) := by
  have hN := lt_of_lt_of_eq t.isLt (show cfg0.N = 43 from N_0)
  by_cases h0 : t.val % 43 = 0
  · rw [outsAt0_A m c t h0 (by omega)]
    dsimp only
    exact actA _ _ _ _ _ _ _ _ _ _ _ _ _ _ _ _ _ _ _ _ _ _ _ _ _ _ _ _ _ _ _ _ _ _ (blocks m c t) _ _ y
  · rw [outsAt0_B m c t h0 (by omega)]
    dsimp only
    exact actB _ _ _ _ _ _ _ _ _ _ _ _ _ _ _ _ _ _ _ _ _ _ _ _ _ _ _ _ _ _ _ _ _ _ _ (blocks m c t) _ _ (fun r k => scratch m c (t.val - 1) _ (ix2 r k)) y
theorem gate_block (c : Dev nD) (t : Fin cfg0.N) (y : S1024x256.Idx) :
    (outsAt0 m c t.val t.isLt).2.1 y = GG (xx m c) (gg m c) (ww m c) (y 0).val (256 * t.val + (y 1).val) := by
  have hN := lt_of_lt_of_eq t.isLt (show cfg0.N = 43 from N_0)
  by_cases h0 : t.val % 43 = 0
  · rw [outsAt0_A m c t h0 (by omega)]
    dsimp only
    exact gateA _ _ _ _ _ _ _ _ _ _ _ _ _ _ _ _ _ _ _ _ _ _ _ _ _ _ _ _ _ _ _ _ _ _ (blocks m c t) _ _ y
  · rw [outsAt0_B m c t h0 (by omega)]
    dsimp only
    exact gateB _ _ _ _ _ _ _ _ _ _ _ _ _ _ _ _ _ _ _ _ _ _ _ _ _ _ _ _ _ _ _ _ _ _ _ (blocks m c t) _ _ (fun r k => scratch m c (t.val - 1) _ (ix2 r k)) y

/-- The activation the call leaves. -/
theorem act_array (c : Dev nD) : (dats m 0 c).arrAt 8 cfg0.N
    = fun x : S1024x11008.Idx => actS (xx m c) (gg m c) (ww m c) (kw m c) (kb m c) (pp m c) (x 0).val (x 1).val := by
  refine (dats m 0 c).arrAt_eq_of_covers 8 _ (by decide +kernel) fun t hf y => ?_
  obtain ⟨-, -, -, i8, -⟩ := idxB t
  blk_simp
  rw [after0_8, i8]
  refine (act_block m c t y).trans ?_
  exact congrArg₂ (actS (xx m c) (gg m c) (ww m c) (kw m c) (kb m c) (pp m c)) (Nat.zero_add _).symm (show 256 * t.val + (y 1).val = t.val * 256 + (y 1).val by omega)
/-- The gate the call leaves. -/
theorem gate_array (c : Dev nD) : (dats m 0 c).arrAt 9 cfg0.N
    = fun x : S1024x11008.Idx => GG (xx m c) (gg m c) (ww m c) (x 0).val (x 1).val := by
  refine (dats m 0 c).arrAt_eq_of_covers 9 _ (by decide +kernel) fun t hf y => ?_
  obtain ⟨-, -, -, -, i9⟩ := idxB t
  blk_simp
  rw [after0_9, i9]
  refine (gate_block m c t y).trans ?_
  exact congrArg₂ (GG (xx m c) (gg m c) (ww m c)) (Nat.zero_add _).symm (show 256 * t.val + (y 1).val = t.val * 256 + (y 1).val by omega)

/-! ## The last two rows of each sequence -/

theorem ends (x : S1024x11008.Idx → EReal) (s : Fin 32) (e : Fin 2) (j : Fin 11008) :
    extractStridedSlice S32x2x11008 ![0, 30, 0] (shapeCast S32x32x11008 x shapeCasts_S1024x11008_S32x32x11008) slices_S32x32x11008_S32x2x11008_0_30_0 (ix3 s e j)
      = x (ix2 ⟨s.val * 32 + (30 + e.val), by omega⟩ j) := by
  refine Eq.trans (b := shapeCast S32x32x11008 x shapeCasts_S1024x11008_S32x32x11008 (ix3 s ⟨30 + e.val, by omega⟩ j)) (by pointwise) ?_
  refine shapeCast_apply x _ _ _ ?_
  rewrite [Shape.rowMajor_val_three, Shape.rowMajor_val_two]
  show (s.val * 32 + (30 + e.val)) * 11008 + j.val = (s.val * 32 + (30 + e.val)) * 11008 + j.val
  omega

theorem ends_eq (c : Dev nD) : Pipeline.afterTail₀ cfgs (dats m) 0 (V0 m) [hostOps1] c main_v20
    = extractStridedSlice S32x2x11008 ![0, 30, 0] (shapeCast S32x32x11008 ((dats m 0 c).arrAt 9 cfg0.N : S1024x11008.Idx → EReal) shapeCasts_S1024x11008_S32x32x11008) slices_S32x32x11008_S32x2x11008_0_30_0 := by
  unfold Pipeline.afterTail₀
  simp only [hostOps1, List.flatten_cons, List.flatten_nil, List.append_nil]
  after_results_simp
  refine congrArg (fun z : S32x32x11008.Idx → EReal => extractStridedSlice S32x2x11008 ![0, 30, 0] z slices_S32x32x11008_S32x2x11008_0_30_0) ?_
  refine congrArg (fun z : S1024x11008.Idx → EReal => shapeCast S32x32x11008 z shapeCasts_S1024x11008_S32x32x11008) ?_
  exact Pipeline.Dat.withArrays_arrAt (dats m 0 c) sharedIn0 (V0 m c) (A_eq m c) 9

theorem ends_at (c : Dev nD) (x : S32x2x11008.Idx) : (Pipeline.afterTail₀ cfgs (dats m) 0 (V0 m) [hostOps1] c main_v20 : S32x2x11008.Idx → EReal) x
    = GG (xx m c) (gg m c) (ww m c) ((x 0).val * 32 + (30 + (x 1).val)) (x 2).val :=
  (congrFun (ends_eq m c) x).trans ((congrArg _ (eq_ix3 x)).trans ((ends _ (x 0) (x 1) (x 2)).trans (congrFun (gate_array m c) _)))

end Cert.FfnUpSampleIdeal.Val
end
-- ==== Proof.UpS5.lean ====
/- The first feed-forward call at the sample's shapes against its reference. -/
module

public import proofs.«01_k».proof.Proof.UpS4
public import proofs.«01_k».proof.Proof.UpRef
public import proofs.«01_k».proof.Proof.Gen.FfnUpSampleReferenceIdeal.Read
public import proofs.«01_k».proof.Defs

@[expose] public section

set_option maxRecDepth 65536

noncomputable section

namespace Cert.FfnUpSampleReferenceIdeal.Val
open Cert.FfnUpSampleReferenceIdeal Cert.FfnUpSampleReferenceIdeal.Gen Cert.FfnUpSampleReferenceIdeal.Read Cert.Band Idealize.ShloMosaic Idealize.ShloMosaic.TcCoe Idealize.SL.Sem

section cat
variable (a : S32x2x11008.Idx → EReal) (b : S32x32x11008.Idx → EReal) (h : Shape.Concatenates [S32x2x11008, S32x32x11008] S32x34x11008 1) (i : Fin 32) (j : Fin 11008)
theorem cat0 (t : Fin 2) : concatenate S32x34x11008 1 [⟨S32x2x11008, a⟩, ⟨S32x32x11008, b⟩] h (ix3 i ⟨t.val, by omega⟩ j) = a (ix3 i t j) := by
  pointwise
theorem cat1 (t : Fin 32) : concatenate S32x34x11008 1 [⟨S32x2x11008, a⟩, ⟨S32x32x11008, b⟩] h (ix3 i ⟨2 + t.val, by omega⟩ j) = b (ix3 i t j) := by
  pointwise
end cat

open Cert.FfnUpReferenceIdeal.Val (bits0)

variable (x0 : (⟨S1024x4096, .f32⟩ : BufTy).Contents (Elt Ideal)) (x1 : (⟨S4096, .f32⟩ : BufTy).Contents (Elt Ideal)) (x2 : (⟨S4096x22016, .f32⟩ : BufTy).Contents (Elt Ideal))
  (x3 : (⟨S3x11008, .f32⟩ : BufTy).Contents (Elt Ideal)) (x4 : (⟨S11008, .f32⟩ : BufTy).Contents (Elt Ideal)) (x5 : (⟨S32x2x11008, .f32⟩ : BufTy).Contents (Elt Ideal))

theorem v0_at (i : S32x32x4096.Idx) : val_main_v0 (F := Ideal) x0 i = rd2 x0 ((i 0).val * 32 + (i 1).val) (i 2).val := by
  have h0 : (i 0).val < 32 := (i 0).isLt
  have h1 : (i 1).val < 32 := (i 1).isLt
  have h2 : (i 2).val < 4096 := (i 2).isLt
  exact (val_main_v0_apply x0 i).trans (rd2_eq x0 (idx_main_v0 i) _ _
    (show (((i 0).val * 32 + (i 1).val) * 4096 + (i 2).val) / 4096 = (i 0).val * 32 + (i 1).val by omega)
    (show (((i 0).val * 32 + (i 1).val) * 4096 + (i 2).val) % 4096 = (i 2).val by omega))

theorem v13_at (i : S32x32x4096.Idx) : val_main_v13 (F := Ideal) x0 x1 i = nrx (rd2 x0 ((i 0).val * 32 + (i 1).val)) (rd1 x1) (i 2).val := by
  rw [val_main_v13_apply, val_main_v10_apply, val_main_v9_apply, val_main_v8_apply, val_main_v7_apply, val_main_v6_apply, val_main_v5_apply, val_main_v4_apply,
    val_main_v3_apply, val_main_v2_apply, val_main_v12_apply, val_main_v11_apply]
  have s : ∀ k : Fin 4096, val_main_v1 (F := Ideal) x0 (idx_main_v2 (idx_main_v3 (idx_main_v9 i)) k)
      = rd2 x0 ((i 0).val * 32 + (i 1).val) k.val * rd2 x0 ((i 0).val * 32 + (i 1).val) k.val :=
    fun k => (val_main_v1_apply x0 _).trans (congrArg₂ (· * ·) (v0_at x0 _) (v0_at x0 _))
  simp only [s, val_main_cst_apply, val_main_cst_0_apply, val_main_cst_1_apply]
  rw [rd1_eq x1 (idx_main_v11 (idx_main_v12 i)) (i 2).val rfl, v0_at x0 i]
  show _ * Ideal.rsqrt (Ideal.div (Ideal.ofBits .f32 0x00000000#32 + _) _ + _) * _ = _
  rw [bits0, zero_add]
  rfl

theorem v14_at (i : S32x32x22016.Idx) : val_main_v14 (F := Ideal) x0 x1 x2 i = prj (rd2 x0) (rd1 x1) (rd2 x2) ((i 0).val * 32 + (i 1).val) (i 2).val := by
  rw [val_main_v14_apply]
  exact Finset.sum_congr rfl fun k _ => congrArg₂ (· * ·) (v13_at x0 x1 _) (rd2_eq x2 _ _ _ rfl rfl)

theorem v16_at (i : S32x32x11008.Idx) : val_main_v16 (F := Ideal) x0 x1 x2 i = prj (rd2 x0) (rd1 x1) (rd2 x2) ((i 0).val * 32 + (i 1).val) (11008 + (i 2).val) :=
  (val_main_v16_apply x0 x1 x2 i).trans (v14_at x0 x1 x2 _)

/-- The gate with the two earlier rows of its sequence before it, at row `t` of sequence `s`. -/
theorem v17_lo (i : S32x34x11008.Idx) (h : (i 1).val < 2) : val_main_v17 (F := Ideal) x0 x1 x2 x5 i = rd3 x5 (i 0).val (i 1).val (i 2).val := by
  unfold val_main_v17
  exact (congrArg _ (eq_ix3 i)).trans ((cat0 _ _ _ (i 0) (i 2) ⟨(i 1).val, h⟩).trans (rd3_eq x5 _ _ _ _ rfl rfl rfl))
theorem v17_hi (i : S32x34x11008.Idx) (t : ℕ) (h : (i 1).val = 2 + t) :
    val_main_v17 (F := Ideal) x0 x1 x2 x5 i = prj (rd2 x0) (rd1 x1) (rd2 x2) ((i 0).val * 32 + t) (i 2).val := by
  have h1 : (i 1).val < 34 := (i 1).isLt
  unfold val_main_v17
  refine (congrArg _ ((eq_ix3 i).trans (congrArg (fun z => ix3 (i 0) z (i 2)) (Fin.ext h)))).trans ((cat1 _ _ _ (i 0) (i 2) ⟨t, by omega⟩).trans ?_)
  exact (val_main_v15_apply x0 x1 x2 _).trans (v14_at x0 x1 x2 _)

section taps
variable (i : S32x32x11008.Idx)
theorem v34_at : val_main_v34 (F := Ideal) x0 x1 x2 x5 i = prj (rd2 x0) (rd1 x1) (rd2 x2) ((i 0).val * 32 + (i 1).val) (i 2).val :=
  (val_main_v34_apply x0 x1 x2 x5 i).trans (v17_hi x0 x1 x2 x5 _ (i 1).val rfl)
theorem v27_at : val_main_v27 (F := Ideal) x0 x1 x2 x5 i = ss1 (prj (rd2 x0) (rd1 x1) (rd2 x2)) (rd3 x5) ((i 0).val * 32 + (i 1).val) (i 2).val := by
  have h1 : (i 1).val < 32 := (i 1).isLt
  refine (val_main_v27_apply x0 x1 x2 x5 i).trans ?_
  unfold ss1
  by_cases h : (i 1).val = 0
  · rw [if_pos (by omega)]
    refine (v17_lo x0 x1 x2 x5 _ (show 1 + (i 1).val < 2 by omega)).trans ?_
    exact congrArg₂ (fun a b => rd3 x5 a b (i 2).val) (show (i 0).val = ((i 0).val * 32 + (i 1).val) / 32 by omega) (show 1 + (i 1).val = 1 by omega)
  · rw [if_neg (by omega)]
    refine (v17_hi x0 x1 x2 x5 _ ((i 1).val - 1) (show 1 + (i 1).val = 2 + ((i 1).val - 1) by omega)).trans ?_
    exact congrArg (fun a => prj (rd2 x0) (rd1 x1) (rd2 x2) a (i 2).val) (show (i 0).val * 32 + ((i 1).val - 1) = (i 0).val * 32 + (i 1).val - 1 by omega)
theorem v18_at : val_main_v18 (F := Ideal) x0 x1 x2 x5 i = ss2 (prj (rd2 x0) (rd1 x1) (rd2 x2)) (rd3 x5) ((i 0).val * 32 + (i 1).val) (i 2).val := by
  have h1 : (i 1).val < 32 := (i 1).isLt
  refine (val_main_v18_apply x0 x1 x2 x5 i).trans ?_
  unfold ss2
  by_cases h : (i 1).val < 2
  · rw [if_pos (by omega)]
    refine (v17_lo x0 x1 x2 x5 _ h).trans ?_
    exact congrArg₂ (fun a b => rd3 x5 a b (i 2).val) (show (i 0).val = ((i 0).val * 32 + (i 1).val) / 32 by omega) (show (i 1).val = ((i 0).val * 32 + (i 1).val) % 32 by omega)
  · rw [if_neg (by omega)]
    refine (v17_hi x0 x1 x2 x5 _ ((i 1).val - 2) (show (i 1).val = 2 + ((i 1).val - 2) by omega)).trans ?_
    exact congrArg (fun a => prj (rd2 x0) (rd1 x1) (rd2 x2) a (i 2).val) (show (i 0).val * 32 + ((i 1).val - 2) = (i 0).val * 32 + (i 1).val - 2 by omega)

theorem w0_at : val_main_v22 (F := Ideal) x3 i = rd2 x3 0 (i 2).val := by
  have h2 : (i 2).val < 11008 := (i 2).isLt
  rw [val_main_v22_apply, val_main_v21_apply, val_main_v20_apply, val_main_v19_apply]
  exact rd2_eq x3 _ _ _ rfl (Nat.mod_eq_of_lt h2)
theorem w1_at : val_main_v31 (F := Ideal) x3 i = rd2 x3 1 (i 2).val := by
  have h2 : (i 2).val < 11008 := (i 2).isLt
  rw [val_main_v31_apply, val_main_v30_apply, val_main_v29_apply, val_main_v28_apply]
  exact rd2_eq x3 _ _ _ rfl (Nat.mod_eq_of_lt h2)
theorem w2_at : val_main_v38 (F := Ideal) x3 i = rd2 x3 2 (i 2).val := by
  have h2 : (i 2).val < 11008 := (i 2).isLt
  rw [val_main_v38_apply, val_main_v37_apply, val_main_v36_apply, val_main_v35_apply]
  exact rd2_eq x3 _ _ _ rfl (Nat.mod_eq_of_lt h2)
theorem b_at : val_main_v25 (F := Ideal) x4 i = rd1 x4 (i 2).val := by
  rw [val_main_v25_apply, val_main_v24_apply]
  exact rd1_eq x4 _ _ rfl

/-- The convolution of the gate, before the activation. -/
theorem v40_at : val_main_v40 (F := Ideal) x0 x1 x2 x3 x4 x5 i
    = tap (rd1 x4 (i 2).val) (rd2 x3 0 (i 2).val) (rd2 x3 1 (i 2).val) (rd2 x3 2 (i 2).val)
      (ss2 (prj (rd2 x0) (rd1 x1) (rd2 x2)) (rd3 x5) ((i 0).val * 32 + (i 1).val) (i 2).val)
      (ss1 (prj (rd2 x0) (rd1 x1) (rd2 x2)) (rd3 x5) ((i 0).val * 32 + (i 1).val) (i 2).val)
      (prj (rd2 x0) (rd1 x1) (rd2 x2) ((i 0).val * 32 + (i 1).val) (i 2).val) := by
  rw [val_main_v40_apply, val_main_v39_apply, val_main_v33_apply, val_main_v32_apply, val_main_v26_apply, val_main_v23_apply,
    v34_at, v27_at, v18_at, w0_at, w1_at, w2_at, b_at]
  rfl

theorem v42_at : val_main_v42 (F := Ideal) x0 x1 x2 x3 x4 x5 i
    = Cert.FfnUpSampleIdeal.Val.actS (rd2 x0) (rd1 x1) (rd2 x2) (rd2 x3) (rd1 x4) (rd3 x5) ((i 0).val * 32 + (i 1).val) (i 2).val := by
  rw [val_main_v42_apply, val_main_v41_apply, val_main_call0_v5_apply, val_main_call0_v4_apply, val_main_call0_v3_apply, val_main_call0_v2_apply,
    val_main_call0_v1_apply, val_main_call0_v0_apply, val_main_call0_cst_apply, val_main_call0_cst_0_apply, v16_at, v40_at]
  unfold Cert.FfnUpSampleIdeal.Val.actS usa slu
  rw [bits0, zero_sub]
  rfl
end taps

theorem v44_at (x : S1024x11008.Idx) : val_main_v44 (F := Ideal) x0 x1 x2 x3 x4 x5 x
    = Cert.FfnUpSampleIdeal.Val.actS (rd2 x0) (rd1 x1) (rd2 x2) (rd2 x3) (rd1 x4) (rd3 x5) (x 0).val (x 1).val := by
  have h0 : (x 0).val < 1024 := (x 0).isLt
  have h1 : (x 1).val < 11008 := (x 1).isLt
  rw [val_main_v44_apply, val_main_v43_apply]
  refine (v42_at x0 x1 x2 x3 x4 x5 (idx_main_v43 x)).trans ?_
  exact congrArg₂ (Cert.FfnUpSampleIdeal.Val.actS (rd2 x0) (rd1 x1) (rd2 x2) (rd2 x3) (rd1 x4) (rd3 x5))
    (show ((x 0).val * 11008 + (x 1).val) / 352256 * 32 + ((x 0).val * 11008 + (x 1).val) / 11008 % 32 = (x 0).val by omega)
    (show ((x 0).val * 11008 + (x 1).val) % 11008 = (x 1).val by omega)

theorem v45_at (x : S32x2x11008.Idx) : val_main_v45 (F := Ideal) x0 x1 x2 x5 x
    = Cert.FfnUpIdeal.Val.GG (rd2 x0) (rd1 x1) (rd2 x2) ((x 0).val * 32 + (30 + (x 1).val)) (x 2).val :=
  (val_main_v45_apply x0 x1 x2 x5 x).trans (v17_hi x0 x1 x2 x5 _ (30 + (x 1).val) (show 32 + (x 1).val = 2 + (30 + (x 1).val) by omega))

end Cert.FfnUpSampleReferenceIdeal.Val

namespace Cert.Proof
open Cert.Band Idealize.ShloMosaic Idealize.ShloMosaic.TcCoe Idealize.SL.Sem

/-- The reference's frame: its run read at its arguments; it has no semaphore. -/
theorem ups_reference_frame : Cert.quiescent_FfnUpSampleReferenceIdeal := fun m ρ _ =>
  (θ_run Cert.FfnUpSampleReferenceIdeal.defs _ _).mono (fun r h => ⟨fun c => (h c).2.2, sem_eq_zero_of_no_sems (by decide) r.2⟩)
    (Cert.FfnUpSampleReferenceIdeal.Value.run (F := Ideal) m ρ)

/-- The first feed-forward call at the sample's shapes: the activated gate times the value half, and the gate's last two rows of each sequence. -/
theorem ups : Cert.algebraic_FfnUpSampleIdeal_FfnUpSampleReferenceIdeal := by
  intro m g m' g' _ hargs
  refine ⟨fun c => (Cert.FfnUpSampleIdeal.Gen.dats m 0 c).arrAt 8 Cert.FfnUpSampleIdeal.cfg0.N,
    fun c => Pipeline.afterTail₀ Cert.FfnUpSampleIdeal.cfgs (Cert.FfnUpSampleIdeal.Gen.dats m) 0 (Cert.FfnUpSampleIdeal.Gen.V0 m) [Cert.FfnUpSampleIdeal.Gen.hostOps1] c Cert.FfnUpSampleIdeal.main_v20, ?_, ?_⟩
  · refine (θ_run Cert.FfnUpSampleIdeal.defs _ _).mono (fun _ h c => ?_) (θ_run_and (Cert.FfnUpSampleIdeal.Gen.run_main m g) (Cert.FfnUpSampleIdeal.Gen.frame m g))
    exact ⟨(h.1 c).1 8, (h.1 c).2 Cert.FfnUpSampleIdeal.main_v20 (Pipeline.mem_restRefs_of Cert.FfnUpSampleIdeal.main_v20 (by decide) (by decide)), h.2.1 c⟩
  · refine (θ_run Cert.FfnUpSampleReferenceIdeal.defs _ _).mono (fun _ h c => ?_) (Cert.FfnUpSampleReferenceIdeal.Value.run (F := Ideal) m' g')
    obtain ⟨h0, h1, hr⟩ := h c
    obtain ⟨e0, e1, e2, e3, e4, e5⟩ := hargs c
    refine ⟨h0.trans ?_, h1.trans ?_, hr⟩
    · rw [Cert.FfnUpSampleReferenceIdeal.Read.val_main_v44_eq, e0, e1, e2, e3, e4, e5]
      funext x
      refine Eq.trans ?_ (congrFun (Cert.FfnUpSampleIdeal.Val.act_array m c) x).symm
      exact Cert.FfnUpSampleReferenceIdeal.Val.v44_at _ _ _ _ _ _ x
    · rw [Cert.FfnUpSampleReferenceIdeal.Read.val_main_v45_eq, e0, e1, e2, e5]
      funext x
      refine Eq.trans ?_ (Cert.FfnUpSampleIdeal.Val.ends_at m c x).symm
      exact Cert.FfnUpSampleReferenceIdeal.Val.v45_at _ _ _ _ x
end Cert.Proof

end
-- ==== Proof.lean ====
module

public import proofs.«01_k».proof.Proof.Gen.FfnUpIdeal.Frame
public import proofs.«01_k».proof.Proof.Gen.FfnUp.Frame
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUp.Skeleton
public import proofs.«01_k».proof.Proof.Gen.FfnUp.Launch
public import proofs.«01_k».proof.Proof.Gen.FfnUp.Points
public import proofs.«01_k».proof.Proof.Gen.FfnUpReferenceIdeal.Run
public import proofs.«01_k».proof.Proof.Gen.FfnUpReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.FfnDownSample
public import proofs.«01_k».proof.Proof.Gen.FfnDownSample.Skeleton
public import proofs.«01_k».proof.Proof.Gen.FfnDownSample.Launch
public import proofs.«01_k».proof.Proof.Gen.FfnDownSample.Points
public import proofs.«01_k».proof.Proof.Gen.FfnDownSample.Frame
public import proofs.«01_k».proof.Proof.Gen.FfnDownSampleIdeal
public import proofs.«01_k».proof.Proof.Gen.FfnDownSampleIdeal.Skeleton
public import proofs.«01_k».proof.Proof.Gen.FfnDownSampleIdeal.Launch
public import proofs.«01_k».proof.Proof.Gen.FfnDownSampleIdeal.Points
public import proofs.«01_k».proof.Proof.Gen.FfnDownSampleIdeal.Frame
public import proofs.«01_k».proof.Proof.Gen.FfnDownSampleIdeal.Value
public import proofs.«01_k».proof.Proof.Gen.FfnDownSampleReferenceIdeal
public import proofs.«01_k».proof.Proof.Gen.FfnDownSampleReferenceIdeal.Run
public import proofs.«01_k».proof.Proof.Gen.FfnDownSampleReferenceIdeal.Read
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleIdeal.Value
public import proofs.«01_k».proof.Proof.Gen.InProjSampleReferenceIdeal
public import proofs.«01_k».proof.Proof.Gen.InProjSampleReferenceIdeal.Run
public import proofs.«01_k».proof.Proof.Gen.InProjSampleReferenceIdeal.Read
public import proofs.«01_k».proof.Proof.Gen.FfnUpSample
public import proofs.«01_k».proof.Proof.Gen.FfnUpSample.Skeleton
public import proofs.«01_k».proof.Proof.Gen.FfnUpSample.Launch
public import proofs.«01_k».proof.Proof.Gen.FfnUpSample.Points
public import proofs.«01_k».proof.Proof.Gen.FfnUpSample.Frame
public import proofs.«01_k».proof.Proof.Gen.FfnUpSampleIdeal
public import proofs.«01_k».proof.Proof.Gen.FfnUpSampleIdeal.Skeleton
public import proofs.«01_k».proof.Proof.Gen.FfnUpSampleIdeal.Launch
public import proofs.«01_k».proof.Proof.Gen.FfnUpSampleIdeal.Points
public import proofs.«01_k».proof.Proof.Gen.FfnUpSampleIdeal.Frame
public import proofs.«01_k».proof.Proof.Gen.FfnUpSampleReferenceIdeal
public import proofs.«01_k».proof.Proof.Gen.FfnUpSampleReferenceIdeal.Run
public import proofs.«01_k».proof.Proof.Gen.FfnUpSampleReferenceIdeal.Read
public import proofs.«01_k».proof.Proof.Run
public import proofs.«01_k».proof.Proof.Outs
public import proofs.«01_k».proof.Proof.Outs1
public import proofs.«01_k».proof.Proof.RefQkv
public import proofs.«01_k».proof.Proof.RefBand
public import proofs.«01_k».proof.Proof.Join
public import proofs.«01_k».proof.Proof.Finite
public import proofs.«01_k».proof.Proof.Outp
public import proofs.«01_k».proof.Proof.Down
public import proofs.«01_k».proof.Proof.InPr3
public import proofs.«01_k».proof.Proof.DownS
public import proofs.«01_k».proof.Proof.InPrS
public import proofs.«01_k».proof.Proof.UpFrameBits
public import proofs.«01_k».proof.Proof.UpEnd
public import proofs.«01_k».proof.Proof.UpS5
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention: both programs leave the same attention rows and the same normalised keys. -/
theorem attention : algebraic_KernelIdeal_ReferenceIdeal_pre_finite := by
  intro m g m' g' hpre hargs
  refine ⟨fun c => Cert.KernelIdeal.Gen.W4 m g c (Proc.devRef .tc Cert.KernelIdeal.main_v5_0),
    fun c => Cert.KernelIdeal.Gen.W4 m g c (Proc.devRef .tc Cert.KernelIdeal.main_v5_1), Cert.KernelIdeal.Val.run m g, ?_⟩
  refine (θ_run Cert.ReferenceIdeal.defs _ _).mono (fun _ h c => ?_) (Cert.ReferenceIdeal.Value.run (F := Ideal) m' g')
  obtain ⟨h0, h1, hr⟩ := h c
  obtain ⟨e0, e1, e2, e3⟩ := hargs c
  obtain ⟨fP, fq, fk, fT⟩ := Cert.Band.pre_real _ _ _ _ (hpre c)
  refine ⟨h0.trans ?_, h1.trans ?_, hr⟩
  · rw [Cert.ReferenceIdeal.Read.val_main_v106_eq, e0, e1, e2, e3]
    funext x
    refine Eq.trans ?_ (congrFun (Cert.KernelIdeal.Val.out_array0 m g c) x).symm
    exact (Cert.ReferenceIdeal.Val.v106_at _ _ _ _ x).trans (Cert.Band.attO_eq _ _ _ _ fP fq fk fT _ _ (x 0).isLt (x 1).isLt).symm
  · rw [Cert.ReferenceIdeal.Read.val_main_v108_eq, e0, e2]
    funext x
    refine Eq.trans ?_ (congrFun (Cert.KernelIdeal.Val.out_array1 m g c) x).symm
    exact Cert.ReferenceIdeal.Val.v108_at _ _ x

/-- The reference's frame: its run read at its arguments; it has no semaphore. -/
theorem reference_frame : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.OutProj.Gen.facts, Cert.OutProjIdeal.Gen.facts, Cert.OutProjReferenceIdeal.Gen.facts,
    Cert.FfnDown.Gen.facts, Cert.FfnDownIdeal.Gen.facts, Cert.FfnDownReferenceIdeal.Gen.facts,
    Cert.InProj.Gen.facts, Cert.InProjIdeal.Gen.facts, Cert.InProjReferenceIdeal.Gen.facts,
    Cert.FfnUp.Gen.facts, Cert.FfnUpIdeal.Gen.facts, Cert.FfnUpReferenceIdeal.Gen.facts,
    Cert.FfnDownSample.Gen.facts, Cert.FfnDownSampleIdeal.Gen.facts, Cert.FfnDownSampleReferenceIdeal.Gen.facts,
    Cert.InProjSample.Gen.facts, Cert.InProjSampleIdeal.Gen.facts, Cert.InProjSampleReferenceIdeal.Gen.facts,
    Cert.FfnUpSample.Gen.facts, Cert.FfnUpSampleIdeal.Gen.facts, Cert.FfnUpSampleReferenceIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.OutProj.Gen.frame m ρ,
    fun m ρ _ => Cert.OutProjIdeal.Gen.frame m ρ,
    outp_reference_frame,
    fun m ρ _ => Cert.FfnDown.Gen.frame m ρ,
    fun m ρ _ => Cert.FfnDownIdeal.Gen.frame m ρ,
    down_reference_frame,
    fun m ρ _ => Cert.InProj.Gen.frame m ρ,
    fun m ρ _ => Cert.InProjIdeal.Gen.frame m ρ,
    inpr_reference_frame,
    Cert.FfnUp.Up.frame,
    fun m ρ _ => Cert.FfnUpIdeal.Up.frame m ρ,
    ffn_up_reference_frame,
    fun m ρ _ => Cert.FfnDownSample.Gen.frame m ρ,
    fun m ρ _ => Cert.FfnDownSampleIdeal.Gen.frame m ρ,
    downs_reference_frame,
    fun m ρ _ => Cert.InProjSample.Gen.frame m ρ,
    fun m ρ _ => Cert.InProjSampleIdeal.Gen.frame m ρ,
    inprs_reference_frame,
    fun m ρ _ => Cert.FfnUpSample.Gen.frame m ρ,
    fun m ρ _ => Cert.FfnUpSampleIdeal.Gen.frame m ρ,
    ups_reference_frame,
    IdealRules.named_const.statement Cert.KernelIdeal.κ "mask" .f32 0xF149F2CA#32 ⊥ rfl,
    attention,
    trivial, outp,
    trivial, down,
    trivial, inpr,
    trivial, ffn_up,
    trivial, downs,
    trivial, inprs,
    trivial, ups⟩

end Cert.Proof

end
